-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_swiglu [hPre_finite_swiglu : Cert.Pre_finite_swiglu.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_swiglu.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_swiglu [hPre_finite_swiglu : Cert.Pre_finite_swiglu.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_swiglu.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_swiglu [hKernel4Ideal : Cert.Kernel4Ideal.Facts] [hPre_finite_swiglu : Cert.Pre_finite_swiglu.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_swiglu m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_swiglu [hReference4Ideal : Cert.Reference4Ideal.Facts] [hPre_finite_swiglu : Cert.Pre_finite_swiglu.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_swiglu m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v132_0)) (v1 : (c : Dev Cert.KernelIdeal.nD) → Buf (Elt Ideal) ((c.tc : Thread Cert.KernelIdeal.nD Cert.KernelIdeal.τ).loc Cert.KernelIdeal.main_v132_1)) (v2 : (c : Dev Cert.KernelIdeal.nD) → Buf (Elt Ideal) ((c.tc : Thread Cert.KernelIdeal.nD Cert.KernelIdeal.τ).loc Cert.KernelIdeal.main_v132_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132_0) = v0 c
          ∧ r.2.mem ((c.tc : Thread Cert.KernelIdeal.nD Cert.KernelIdeal.τ).loc Cert.KernelIdeal.main_v132_1) = v1 c
          ∧ r.2.mem ((c.tc : Thread Cert.KernelIdeal.nD Cert.KernelIdeal.τ).loc Cert.KernelIdeal.main_v132_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_swiglu [hKernel4Ideal : Cert.Kernel4Ideal.Facts] [hReference4Ideal : Cert.Reference4Ideal.Facts] [hPre_finite_swiglu : Cert.Pre_finite_swiglu.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_swiglu m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v43) = v0 c
          ∧ r.2.mem ((c.tc : Thread Cert.Reference13Ideal.nD Cert.Reference13Ideal.τ).loc Cert.Reference13Ideal.main_v44) = v1 c
          ∧ r.2.mem ((c.tc : Thread Cert.Reference13Ideal.nD Cert.Reference13Ideal.τ).loc Cert.Reference13Ideal.main_v46) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v20)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v20) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v70) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v20)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v20) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v69) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite_swiglu : Cert.Pre_finite_swiglu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_swiglu (hKernel4Ideal := hKernel4Ideal) (hPre_finite_swiglu := hPre_finite_swiglu)
    ∧ quiescent_Reference4Ideal (hReference4Ideal := hReference4Ideal)
    ∧ quiescent_Reference4Ideal_pre_finite_swiglu (hReference4Ideal := hReference4Ideal) (hPre_finite_swiglu := hPre_finite_swiglu)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_swiglu (hKernel4Ideal := hKernel4Ideal) (hReference4Ideal := hReference4Ideal) (hPre_finite_swiglu := hPre_finite_swiglu)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2x2048x1024 : Shape := ⟨3, ![2, 2048, 1024]⟩
abbrev S2x2048x128 : Shape := ⟨3, ![2, 2048, 128]⟩
abbrev S2x2048 : Shape := ⟨2, ![2, 2048]⟩
abbrev S16 : Shape := ⟨1, ![16]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x128 : S_.BroadcastsInDim S2x2048x128 (![] : Fin 0 → Fin S2x2048x128.rank)
  reducesTo_S2x2048x128_S_d0_1_2 : S2x2048x128.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S2x2048x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2x2048x1024 .f32 := Host.absf main_arg5
  let main_cst_6 : FVec F S_ .f32 := constant S_ .f32 0x7F800000#32
  let main_v20 : FVec F S2x2048x1024 .f32 := broadcastInDim S2x2048x1024 ![] bcast_S_S2x2048x1024 main_cst_6
  let main_v21 : IVec S2x2048x1024 1 := cmpf .olt main_v19 main_v20
  let main_c_7 : IVec S_ 1 := constantI S_ 1 1#1
  let main_v22 : IVec S_ 1 := (fun x v => Host.reduce IntOp.andi x v reducesTo_S2x2048x1024_S_d0_1_2 h_S_) main_v21 main_c_7
  let main_v23 : IVec S_ 1 := andi main_v18 main_v22
  main_v23

def fn {F : FTy → Type} [FloatOps F] (main_arg0 : FVec F S2x2048x1024 .f32) (main_arg1 : FVec F S2x2048x128 .f32) (main_arg2 : FVec F S2x2048x128 .f32) (main_arg3 : IVec S2x2048 32) (main_arg4 : FVec F S16 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x128 .f32 := Host.absf main_arg1
  let main_cst_0 : FVec F S_ .f32 := constant S_ .f32 0x7F800000#32
  let main_v5 : FVec F S2x2048x128 .f32 := broadcastInDim S2x2048x128 ![] bcast_S_S2x2048x128 main_cst_0
  let main_v6 : IVec S2x2048x128 1 := cmpf .olt main_v4 main_v5
  let main_c_1 : IVec S_ 1 := constantI S_ 1 1#1
  let main_v7 : IVec S_ 1 := (fun x v => Host.reduce IntOp.andi x v reducesTo_S2x2048x128_S_d0_1_2 h_S_) main_v6 main_c_1
  let main_v8 : IVec S_ 1 := andi main_v3 main_v7
  let main_v9 : FVec F S2x2048x128 .f32 := Host.absf main_arg2
  let main_cst_2 : FVec F S_ .f32 := constant S_ .f32 0x7F800000#32
  let main_v10 : FVec F S2x2048x128 .f32 := broadcastInDim S2x2048x128 ![] bcast_S_S2x2048x128 main_cst_2
  let main_v11 : IVec S2x2048x128 1 := cmpf .olt main_v9 main_v10
  let main_c_3 : IVec S_ 1 := constantI S_ 1 1#1
  let main_v12 : IVec S_ 1 := (fun x v => Host.reduce IntOp.andi x v reducesTo_S2x2048x128_S_d0_1_2 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_v13 main_v16
-- ==== Pre_finite_swiglu.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x1024 .bf16) (main_arg1 : FVec F S2816x1024 .bf16) (main_arg2 : FVec F S4096x5632 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x5632 .f32 := (extf .f32 · bitsLt_bf16_f32) main_arg2
  let main_v12 : FVec F S4096x5632 .f32 := Host.absf main_v11
  let main_cst_2 : FVec F S_ .f32 := constant S_ .f32 0x7F800000#32
  let main_v13 : FVec F S4096x5632 .f32 := broadcastInDim S4096x5632 ![] bcast_S_S4096x5632 main_cst_2
  let main_v14 : IVec S4096x5632 1 := cmpf .olt main_v12 main_v13
  let main_c_3 : IVec S_ 1 := constantI S_ 1 1#1
  let main_v15 : IVec S_ 1 := (fun x v => Host.reduce IntOp.andi x v reducesTo_S4096x5632_S_d0_1 h_S_) main_v14 main_c_3
  let main_v16 : IVec S_ 1 := andi main_v10 main_v15
  main_v16
-- ==== Kernel.lean ====
abbrev S2x2048x1024 : Shape := ⟨3, ![2, 2048, 1024]⟩
abbrev S2x2048x128 : Shape := ⟨3, ![2, 2048, 128]⟩
abbrev S2x2048 : Shape := ⟨2, ![2, 2048]⟩
abbrev S16 : Shape := ⟨1, ![16]⟩
abbrev S2x2048x16x64 : Shape := ⟨4, ![2, 2048, 16, 64]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x1x32 : Shape := ⟨4, ![2, 2048, 1, 32]⟩
abbrev S2x2048x16x32 : Shape := ⟨4, ![2, 2048, 16, 32]⟩
abbrev S2x2048x2x8x64 : Shape := ⟨5, ![2, 2048, 2, 8, 64]⟩
abbrev S2x2048x2x64 : Shape := ⟨4, ![2, 2048, 2, 64]⟩
abbrev S2x2048x2x32 : Shape := ⟨4, ![2, 2048, 2, 32]⟩
abbrev S2x2x2048x2048x8 : Shape := ⟨5, ![2, 2, 2048, 2048, 8]⟩
abbrev S2x2x8x2048x2048 : Shape := ⟨5, ![2, 2, 8, 2048, 2048]⟩
abbrev S2048x2048 : Shape := ⟨2, ![2048, 2048]⟩
abbrev S1x1x1x2048x2048 : Shape := ⟨5, ![1, 1, 1, 2048, 2048]⟩
abbrev S2x8 : Shape := ⟨2, ![2, 8]⟩
abbrev S1x2x8x1 : Shape := ⟨4, ![1, 2, 8, 1]⟩
abbrev S2x2x8x2048 : Shape := ⟨4, ![2, 2, 8, 2048]⟩
abbrev S2x2x8x2048x1 : Shape := ⟨5, ![2, 2, 8, 2048, 1]⟩
abbrev S2x2x8x2048x64 : Shape := ⟨5, ![2, 2, 8, 2048, 64]⟩
abbrev S2x2048x1280 : Shape := ⟨3, ![2, 2048, 1280]⟩
abbrev S2x2048x2x8 : Shape := ⟨4, ![2, 2048, 2, 8]⟩
abbrev S2x2048x2x8x1 : Shape := ⟨5, ![2, 2048, 2, 8, 1]⟩
abbrev S1x128x128 : Shape := ⟨3, ![1, 128, 128]⟩
abbrev S1x128x1024 : Shape := ⟨3, ![1, 128, 1024]⟩
abbrev S128x1024 : Shape := ⟨2, ![128, 1024]⟩
abbrev S2x2x1024x128 : Shape := ⟨4, ![2, 2, 1024, 128]⟩
abbrev S1024x128 : Shape := ⟨2, ![1024, 128]⟩
abbrev S128x1 : Shape := ⟨2, ![128, 1]⟩
abbrev S1024x1 : Shape := ⟨2, ![1024, 1]⟩
abbrev S1x1x1024x128 : Shape := ⟨4, ![1, 1, 1024, 128]⟩
abbrev S128x128 : Shape := ⟨2, ![128, 128]⟩

abbrev nBuf : Space → Nat
  | .hbm => 157
  | .vmem => 32
  | .smem => 0
  | _ => 0

abbrev hbmTy0_0 (i : Nat) : BufTy := match i % 128 with
  | 0 => ⟨S2x2048x1024, .f32⟩
  | 1 => ⟨S2x2048x128, .f32⟩
  | 2 => ⟨S2x2048x128, .f32⟩
  | 3 => ⟨S2x2048, .i32⟩
  | 4 => ⟨S16, .f32⟩
  | 5 => ⟨S2x2048x1024, .f32⟩
  | 6 => ⟨S2x2048x16x64, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S2x2048, .f32⟩
  | 16 => ⟨S2x2048x1, .f32⟩
  | 17 => ⟨S1x1x32, .f32⟩
  | 18 => ⟨S2x2048x32, .f32⟩
  | 19 => ⟨S2x2048x32, .f32⟩
  | 20 => ⟨S2x2048x32, .f32⟩
  | 21 => ⟨S2x2048x32, .f32⟩
  | 22 => ⟨S2x2048x1x32, .f32⟩
  | 23 => ⟨S2x2048x32, .f32⟩
  | 24 => ⟨S2x2048x1x32, .f32⟩
  | 25 => ⟨S2x2048x16x32, .f32⟩
  | 26 => ⟨S2x2048x16x32, .f32⟩
  | 27 => ⟨S2x2048x16x32, .f32⟩
  | 28 => ⟨S2x2048x16x32, .f32⟩
  | 29 => ⟨S2x2048x16x32, .f32⟩
  | 30 => ⟨S2x2048x16x32, .f32⟩
  | 31 => ⟨S2x2048x16x32, .f32⟩
  | 32 => ⟨S2x2048x16x32, .f32⟩
  | 33 => ⟨S2x2048x16x32, .f32⟩
  | 34 => ⟨S2x2048x16x32, .f32⟩
  | 35 => ⟨S2x2048x16x32, .f32⟩
  | 36 => ⟨S2x2048x16x32, .f32⟩
  | 37 => ⟨S2x2048x16x64, .f32⟩
  | 38 => ⟨S2x2048x2x8x64, .f32⟩
  | 39 => ⟨S2x2048x2x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S2x2048, .f32⟩
  | 49 => ⟨S2x2048x1, .f32⟩
  | 50 => ⟨S1x1x32, .f32⟩
  | 51 => ⟨S2x2048x32, .f32⟩
  | 52 => ⟨S2x2048x32, .f32⟩
  | 53 => ⟨S2x2048x32, .f32⟩
  | 54 => ⟨S2x2048x32, .f32⟩
  | 55 => ⟨S2x2048x1x32, .f32⟩
  | 56 => ⟨S2x2048x32, .f32⟩
  | 57 => ⟨S2x2048x1x32, .f32⟩
  | 58 => ⟨S2x2048x2x32, .f32⟩
  | 59 => ⟨S2x2048x2x32, .f32⟩
  | 60 => ⟨S2x2048x2x32, .f32⟩
  | 61 => ⟨S2x2048x2x32, .f32⟩
  | 62 => ⟨S2x2048x2x32, .f32⟩
  | 63 => ⟨S2x2048x2x32, .f32⟩
  | 64 => ⟨S2x2048x2x32, .f32⟩
  | 65 => ⟨S2x2048x2x32, .f32⟩
  | 66 => ⟨S2x2048x2x32, .f32⟩
  | 67 => ⟨S2x2048x2x32, .f32⟩
  | 68 => ⟨S2x2048x2x32, .f32⟩
  | 69 => ⟨S2x2048x2x32, .f32⟩
  | 70 => ⟨S2x2048x2x64, .f32⟩
  | 71 => ⟨S2x2048x2x64, .f32⟩
  | 72 => ⟨S2x2x2048x2048x8, .f32⟩
  | 73 => ⟨S2x2x8x2048x2048, .f32⟩
  | 74 => ⟨S_, .f32⟩
  | 75 => ⟨S2x2x8x2048x2048, .f32⟩
  | 76 => ⟨S2x2x8x2048x2048, .f32⟩
  | 77 => ⟨S2048x2048, .i32⟩
  | 78 => ⟨S2048x2048, .i32⟩
  | 79 => ⟨S2048x2048, .i32⟩
  | 80 => ⟨S_, .i32⟩
  | 81 => ⟨S2048x2048, .i32⟩
  | 82 => ⟨S2048x2048, .i1⟩
  | 83 => ⟨S_, .i32⟩
  | 84 => ⟨S2048x2048, .i32⟩
  | 85 => ⟨S2048x2048, .i1⟩
  | 86 => ⟨S2048x2048, .i1⟩
  | 87 => ⟨S1x1x1x2048x2048, .i1⟩
  | 88 => ⟨S_, .f32⟩
  | 89 => ⟨S_, .f32⟩
  | 90 => ⟨S2x2x8x2048x2048, .i1⟩
  | 91 => ⟨S2x2x8x2048x2048, .f32⟩
  | 92 => ⟨S2x2x8x2048x2048, .f32⟩
  | 93 => ⟨S2x8, .f32⟩
  | 94 => ⟨S1x2x8x1, .f32⟩
  | 95 => ⟨S_, .f32⟩
  | 96 => ⟨S2x2x8x2048, .f32⟩
  | 97 => ⟨S2x2x8x2048, .f32⟩
  | 98 => ⟨S2x2x8x2048, .f32⟩
  | 99 => ⟨S2x2x8x2048x1, .f32⟩
  | 100 => ⟨S2x2x8x2048x2048, .f32⟩
  | 101 => ⟨S2x2x8x2048x2048, .f32⟩
  | 102 => ⟨S2x2x8x2048x2048, .f32⟩
  | 103 => ⟨S_, .f32⟩
  | 104 => ⟨S2x2x8x2048, .f32⟩
  | 105 => ⟨S2x2x8x2048, .f32⟩
  | 106 => ⟨S2x2x8x2048, .f32⟩
  | 107 => ⟨S2x2x8x2048, .f32⟩
  | 108 => ⟨S2x2x8x2048, .f32⟩
  | 109 => ⟨S2x2x8x2048x64, .f32⟩
  | 110 => ⟨S2x2x8x2048x1, .f32⟩
  | 111 => ⟨S2x2x8x2048x64, .f32⟩
  | 112 => ⟨S2x2x8x2048x64, .f32⟩
  | 113 => ⟨S2x2x8x2048, .f32⟩
  | 114 => ⟨S2x2x8x2048, .f32⟩
  | 115 => ⟨S2x2048x1024, .f32⟩
  | 116 => ⟨S2x2048x128, .f32⟩
  | 117 => ⟨S2x2048x1280, .f32⟩
  | 118 => ⟨S2x2048x1280, .bf16⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S2x2048, .f32⟩
  | _ => ⟨S2x2048x1024, .f32⟩

abbrev hbmTy0_1 (i : Nat) : BufTy := match i % 128 with
  | 0 => ⟨S2x2048x1, .f32⟩
  | 1 => ⟨S1x1x32, .f32⟩
  | 2 => ⟨S2x2048x32, .f32⟩
  | 3 => ⟨S2x2048x32, .f32⟩
  | 4 => ⟨S2x2048x32, .f32⟩
  | 5 => ⟨S2x2048x32, .f32⟩
  | 6 => ⟨S2x2048x32, .f32⟩
  | 7 => ⟨S2x2048x128, .f32⟩
  | 8 => ⟨S2x2048x32, .f32⟩
  | 9 => ⟨S2x2048x32, .f32⟩
  | 10 => ⟨S2x2048x128, .f32⟩
  | 11 => ⟨S2x2048x2x8x64, .f32⟩
  | 12 => ⟨S2x2x8x2048x64, .f32⟩
  | 13 => ⟨S2x2x8x2048x64, .f32⟩
  | 14 => ⟨S_, .f32⟩
  | 15 => ⟨S2x2x8x2048, .f32⟩
  | 16 => ⟨S2x2x8x2048, .f32⟩
  | 17 => ⟨S2x2048x1024, .bf16⟩
  | 18 => ⟨S2x2048x2x8, .f32⟩
  | 19 => ⟨S2x2048x2x8x1, .f32⟩
  | 20 => ⟨S2x2048x2x8x64, .f32⟩
  | 21 => ⟨S2x2048x1024, .f32⟩
  | 22 => ⟨S2x2048x2x8, .f32⟩
  | 23 => ⟨S2x2048x2x8x1, .f32⟩
  | 24 => ⟨S2x2048x2x8x64, .f32⟩
  | 25 => ⟨S2x2048x1024, .f32⟩
  | 26 => ⟨S2x2048x1024, .bf16⟩
  | 27 => ⟨S2x2048x128, .bf16⟩
  | 28 => ⟨S2x2048x128, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S1x128x128, .bf16⟩
  | .local _ .vmem, ⟨1, _⟩ => ⟨S1x128x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | .local _ .vmem, ⟨24, _⟩ => ⟨S1x128x1024, .bf16⟩
  | .local _ .vmem, ⟨25, _⟩ => ⟨S1x128x1024, .bf16⟩
  | .local _ .vmem, ⟨26, _⟩ => ⟨S1x128x128, .bf16⟩
  | .local _ .vmem, ⟨27, _⟩ => ⟨S1x128x128, .bf16⟩
  | .local _ .vmem, ⟨28, _⟩ => ⟨S1x128x128, .bf16⟩
  | .local _ .vmem, ⟨29, _⟩ => ⟨S1x128x128, .bf16⟩
  | .local _ .vmem, ⟨30, _⟩ => ⟨S128x1024, .f32⟩
  | .local _ .vmem, ⟨31, _⟩ => ⟨S2x2x1024x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_3 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c : Ref sig .tc := ⟨.hbm, 80, rfl⟩
abbrev main_v69 : Ref sig .tc := ⟨.hbm, 81, rfl⟩
abbrev main_v70 : Ref sig .tc := ⟨.hbm, 82, rfl⟩
abbrev main_c_4 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_5 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_6 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_7 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_8 : Ref sig .tc := ⟨.hbm, 121, rfl⟩
abbrev main_v102 : Ref sig .tc := ⟨.hbm, 122, rfl⟩
abbrev main_v103 : Ref sig .tc := ⟨.hbm, 123, rfl⟩
abbrev main_cst_9 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_10 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132_0 : Ref sig .tc := ⟨.hbm, 154, rfl⟩
abbrev main_v132_1 : Ref sig .tc := ⟨.hbm, 155, rfl⟩
abbrev main_v132_2 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c15_i32 : BitVec 32 := 15#32
  let v1 : BitVec 32 := Scalar.minsi v0 c15_i32
  let c8_i32 : BitVec 32 := 8#32
  let v2 : BitVec 32 := Scalar.addi c8_i32 arg1
  let c0_i32_0 : BitVec 32 := 0#32
  ![arg0.toNat, v1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c15_i32 : BitVec 32 := 15#32
  let v1 : BitVec 32 := Scalar.minsi v0 c15_i32
  let c9_i32 : BitVec 32 := 9#32
  let v2 : BitVec 32 := Scalar.addi c9_i32 arg1
  let c0_i32_0 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c15_i32 : BitVec 32 := 15#32
  let v1 : BitVec 32 := Scalar.minsi v0 c15_i32
  let c0_i32_0 : BitVec 32 := 0#32
  let v2 : BitVec 32 := Scalar.addi c0_i32_0 arg1
  let c0_i32_1 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c15_i32 : BitVec 32 := 15#32
  let v1 : BitVec 32 := Scalar.minsi v0 c15_i32
  let c0_i32_0 : BitVec 32 := 0#32
  let v2 : BitVec 32 := Scalar.addi c0_i32_0 arg1
  let c0_i32_1 : BitVec 32 := 0#32
  ![arg0.toNat, v1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c15_i32 : BitVec 32 := 15#32
  let v1 : BitVec 32 := Scalar.minsi v0 c15_i32
  let c0_i32_0 : BitVec 32 := 0#32
  let v2 : BitVec 32 := Scalar.addi c0_i32_0 arg1
  let c0_i32_1 : BitVec 32 := 0#32
  ![arg0.toNat, v1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c15_i32 : BitVec 32 := 15#32
  let v1 : BitVec 32 := Scalar.minsi v0 c15_i32
  let c0_i32_0 : BitVec 32 := 0#32
  let v2 : BitVec 32 := Scalar.addi c0_i32_0 arg1
  let c0_i32_1 : BitVec 32 := 0#32
  ![arg0.toNat, v1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let v2 : BitVec 32 := Scalar.addi c0_i32 arg1
  let c0_i32_0 : BitVec 32 := 0#32
  ![arg0.toNat, v1.toNat, v2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let v2 : BitVec 32 := Scalar.addi c0_i32 arg1
  let c0_i32_0 : BitVec 32 := 0#32
  ![arg0.toNat, v1.toNat, v2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let v2 : BitVec 32 := Scalar.addi c0_i32 arg1
  let c0_i32_0 : BitVec 32 := 0#32
  ![arg0.toNat, v1.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let v2 : BitVec 32 := Scalar.addi c0_i32 arg1
  let c0_i32_0 : BitVec 32 := 0#32
  ![arg0.toNat, v1.toNat, v2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S2x2048x128 : Shape := ⟨3, ![2, 2048, 128]⟩
abbrev S2x2048 : Shape := ⟨2, ![2, 2048]⟩
abbrev S16 : Shape := ⟨1, ![16]⟩
abbrev S2x2048x16x64 : Shape := ⟨4, ![2, 2048, 16, 64]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x1x32 : Shape := ⟨4, ![2, 2048, 1, 32]⟩
abbrev S2x2048x16x32 : Shape := ⟨4, ![2, 2048, 16, 32]⟩
abbrev S2x2048x2x8x64 : Shape := ⟨5, ![2, 2048, 2, 8, 64]⟩
abbrev S2x2048x2x64 : Shape := ⟨4, ![2, 2048, 2, 64]⟩
abbrev S2x2048x2x32 : Shape := ⟨4, ![2, 2048, 2, 32]⟩
abbrev S2x2x2048x2048x8 : Shape := ⟨5, ![2, 2, 2048, 2048, 8]⟩
abbrev S2x2x8x2048x2048 : Shape := ⟨5, ![2, 2, 8, 2048, 2048]⟩
abbrev S2048x2048 : Shape := ⟨2, ![2048, 2048]⟩
abbrev S1x1x1x2048x2048 : Shape := ⟨5, ![1, 1, 1, 2048, 2048]⟩
abbrev S2x8 : Shape := ⟨2, ![2, 8]⟩
abbrev S1x2x8x1 : Shape := ⟨4, ![1, 2, 8, 1]⟩
abbrev S2x2x8x2048 : Shape := ⟨4, ![2, 2, 8, 2048]⟩
abbrev S2x2x8x2048x1 : Shape := ⟨5, ![2, 2, 8, 2048, 1]⟩
abbrev S2x2x8x2048x64 : Shape := ⟨5, ![2, 2, 8, 2048, 64]⟩
abbrev S2x2x64x2048 : Shape := ⟨4, ![2, 2, 64, 2048]⟩
abbrev S2x2x2048x8x64 : Shape := ⟨5, ![2, 2, 2048, 8, 64]⟩
abbrev S2x2x2048x64 : Shape := ⟨4, ![2, 2, 2048, 64]⟩

abbrev nBuf : Space → Nat
  | .hbm => 228
  | .vmem => 0
  | .smem => 0
  | _ => 0

abbrev hbmTy0_0 (i : Nat) : BufTy := match i % 128 with
  | 0 => ⟨S2x2048x1024, .f32⟩
  | 1 => ⟨S2x2048x128, .f32⟩
  | 2 => ⟨S2x2048x128, .f32⟩
  | 3 => ⟨S2x2048, .i32⟩
  | 4 => ⟨S16, .f32⟩
  | 5 => ⟨S2x2048x1024, .f32⟩
  | 6 => ⟨S2x2048x16x64, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S2x2048, .f32⟩
  | 16 => ⟨S2x2048x1, .f32⟩
  | 17 => ⟨S1x1x32, .f32⟩
  | 18 => ⟨S2x2048x32, .f32⟩
  | 19 => ⟨S2x2048x32, .f32⟩
  | 20 => ⟨S2x2048x32, .f32⟩
  | 21 => ⟨S2x2048x32, .f32⟩
  | 22 => ⟨S2x2048x1x32, .f32⟩
  | 23 => ⟨S2x2048x32, .f32⟩
  | 24 => ⟨S2x2048x1x32, .f32⟩
  | 25 => ⟨S2x2048x16x32, .f32⟩
  | 26 => ⟨S2x2048x16x32, .f32⟩
  | 27 => ⟨S2x2048x16x32, .f32⟩
  | 28 => ⟨S2x2048x16x32, .f32⟩
  | 29 => ⟨S2x2048x16x32, .f32⟩
  | 30 => ⟨S2x2048x16x32, .f32⟩
  | 31 => ⟨S2x2048x16x32, .f32⟩
  | 32 => ⟨S2x2048x16x32, .f32⟩
  | 33 => ⟨S2x2048x16x32, .f32⟩
  | 34 => ⟨S2x2048x16x32, .f32⟩
  | 35 => ⟨S2x2048x16x32, .f32⟩
  | 36 => ⟨S2x2048x16x32, .f32⟩
  | 37 => ⟨S2x2048x16x64, .f32⟩
  | 38 => ⟨S2x2048x2x8x64, .f32⟩
  | 39 => ⟨S2x2048x2x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S2x2048, .f32⟩
  | 49 => ⟨S2x2048x1, .f32⟩
  | 50 => ⟨S1x1x32, .f32⟩
  | 51 => ⟨S2x2048x32, .f32⟩
  | 52 => ⟨S2x2048x32, .f32⟩
  | 53 => ⟨S2x2048x32, .f32⟩
  | 54 => ⟨S2x2048x32, .f32⟩
  | 55 => ⟨S2x2048x1x32, .f32⟩
  | 56 => ⟨S2x2048x32, .f32⟩
  | 57 => ⟨S2x2048x1x32, .f32⟩
  | 58 => ⟨S2x2048x2x32, .f32⟩
  | 59 => ⟨S2x2048x2x32, .f32⟩
  | 60 => ⟨S2x2048x2x32, .f32⟩
  | 61 => ⟨S2x2048x2x32, .f32⟩
  | 62 => ⟨S2x2048x2x32, .f32⟩
  | 63 => ⟨S2x2048x2x32, .f32⟩
  | 64 => ⟨S2x2048x2x32, .f32⟩
  | 65 => ⟨S2x2048x2x32, .f32⟩
  | 66 => ⟨S2x2048x2x32, .f32⟩
  | 67 => ⟨S2x2048x2x32, .f32⟩
  | 68 => ⟨S2x2048x2x32, .f32⟩
  | 69 => ⟨S2x2048x2x32, .f32⟩
  | 70 => ⟨S2x2048x2x64, .f32⟩
  | 71 => ⟨S2x2048x2x64, .f32⟩
  | 72 => ⟨S2x2x2048x2048x8, .f32⟩
  | 73 => ⟨S2x2x8x2048x2048, .f32⟩
  | 74 => ⟨S_, .f32⟩
  | 75 => ⟨S2x2x8x2048x2048, .f32⟩
  | 76 => ⟨S2x2x8x2048x2048, .f32⟩
  | 77 => ⟨S2048x2048, .i32⟩
  | 78 => ⟨S2048x2048, .i32⟩
  | 79 => ⟨S2048x2048, .i32⟩
  | 80 => ⟨S_, .i32⟩
  | 81 => ⟨S2048x2048, .i32⟩
  | 82 => ⟨S2048x2048, .i1⟩
  | 83 => ⟨S_, .i32⟩
  | 84 => ⟨S2048x2048, .i32⟩
  | 85 => ⟨S2048x2048, .i1⟩
  | 86 => ⟨S2048x2048, .i1⟩
  | 87 => ⟨S1x1x1x2048x2048, .i1⟩
  | 88 => ⟨S_, .f32⟩
  | 89 => ⟨S_, .f32⟩
  | 90 => ⟨S2x2x8x2048x2048, .i1⟩
  | 91 => ⟨S2x2x8x2048x2048, .f32⟩
  | 92 => ⟨S2x2x8x2048x2048, .f32⟩
  | 93 => ⟨S_, .f32⟩
  | 94 => ⟨S2x2x8x2048x2048, .f32⟩
  | 95 => ⟨S2x8, .f32⟩
  | 96 => ⟨S1x2x8x1, .f32⟩
  | 97 => ⟨S_, .f32⟩
  | 98 => ⟨S2x2x8x2048, .f32⟩
  | 99 => ⟨S2x2x8x2048x1, .f32⟩
  | 100 => ⟨S2x2x8x2048x2048, .f32⟩
  | 101 => ⟨S2x2x8x2048x2048, .i1⟩
  | 102 => ⟨S2x2x8x2048x2048, .f32⟩
  | 103 => ⟨S_, .f32⟩
  | 104 => ⟨S2x2x8x2048, .f32⟩
  | 105 => ⟨S2x2x8x2048, .f32⟩
  | 106 => ⟨S2x2x8x2048, .f32⟩
  | 107 => ⟨S2x2x8x2048, .f32⟩
  | 108 => ⟨S2x2x8x2048, .i1⟩
  | 109 => ⟨S2x2x8x2048, .f32⟩
  | 110 => ⟨S2x2x8x2048, .i1⟩
  | 111 => ⟨S_, .f32⟩
  | 112 => ⟨S2x2x8x2048, .f32⟩
  | 113 => ⟨S_, .f32⟩
  | 114 => ⟨S2x2x8x2048, .f32⟩
  | 115 => ⟨S_, .f32⟩
  | 116 => ⟨S2x2x8x2048, .f32⟩
  | 117 => ⟨S2x2x8x2048, .f32⟩
  | 118 => ⟨S2x2x8x2048, .f32⟩
  | 119 => ⟨S2x2x8x2048x1, .f32⟩
  | 120 => ⟨S2x2x8x2048x2048, .f32⟩
  | 121 => ⟨S2x2x8x2048x2048, .f32⟩
  | 122 => ⟨S2x2x8x2048x2048, .f32⟩
  | 123 => ⟨S_, .f32⟩
  | 124 => ⟨S2x2x8x2048, .f32⟩
  | 125 => ⟨S2x2x8x2048, .f32⟩
  | 126 => ⟨S2x2x8x2048, .f32⟩
  | 127 => ⟨S2x2x8x2048, .f32⟩
  | _ => ⟨S2x2048x1024, .f32⟩

abbrev hbmTy0_1 (i : Nat) : BufTy := match i % 128 with
  | 0 => ⟨S2x2x8x2048, .f32⟩
  | 1 => ⟨S2x2x8x2048x64, .f32⟩
  | 2 => ⟨S2x2x8x2048x1, .f32⟩
  | 3 => ⟨S2x2x8x2048x64, .f32⟩
  | 4 => ⟨S2x2x8x2048x64, .f32⟩
  | 5 => ⟨S2x2x8x2048x1, .f32⟩
  | 6 => ⟨S_, .f32⟩
  | 7 => ⟨S2x2x8x2048x1, .f32⟩
  | 8 => ⟨S2x2x8x2048x1, .f32⟩
  | 9 => ⟨S2x2x8x2048, .f32⟩
  | 10 => ⟨S2x2x8x2048, .f32⟩
  | 11 => ⟨S2x2048x2x8x64, .f32⟩
  | 12 => ⟨S2x2048x1024, .f32⟩
  | 13 => ⟨S2x2048x2x8x64, .f32⟩
  | 14 => ⟨S2x2x8x2048x64, .f32⟩
  | 15 => ⟨S2x2x8x2048x64, .f32⟩
  | 16 => ⟨S2x2x8x2048x64, .f32⟩
  | 17 => ⟨S2x2x8x2048x64, .f32⟩
  | 18 => ⟨S_, .f32⟩
  | 19 => ⟨S2x2x8x2048, .f32⟩
  | 20 => ⟨S2x2x8x2048x1, .f32⟩
  | 21 => ⟨S2x2x8x2048x1, .f32⟩
  | 22 => ⟨S2x2x8x2048x64, .f32⟩
  | 23 => ⟨S2x2x8x2048x64, .f32⟩
  | 24 => ⟨S_, .f32⟩
  | 25 => ⟨S2x2x8x2048, .f32⟩
  | 26 => ⟨S2x2x64x2048, .f32⟩
  | 27 => ⟨S2x2048x2x64, .f32⟩
  | 28 => ⟨S2x2x8x2048x2048, .f32⟩
  | 29 => ⟨S2x2x8x2048, .f32⟩
  | 30 => ⟨S2x2x8x2048, .f32⟩
  | 31 => ⟨S2x2x8x2048x2048, .f32⟩
  | 32 => ⟨S2x2x8x2048x2048, .f32⟩
  | 33 => ⟨S2x2x8x2048x2048, .f32⟩
  | 34 => ⟨S2x2x8x2048x2048, .f32⟩
  | 35 => ⟨S_, .f32⟩
  | 36 => ⟨S2x2x8x2048, .f32⟩
  | 37 => ⟨S2x2x8x2048x1, .f32⟩
  | 38 => ⟨S_, .f32⟩
  | 39 => ⟨S2x2x8x2048, .f32⟩
  | 40 => ⟨S2x2x8x2048, .f32⟩
  | 41 => ⟨S2x2x8x2048, .f32⟩
  | 42 => ⟨S2x2x8x2048, .f32⟩
  | 43 => ⟨S2x2x8x2048x2048, .f32⟩
  | 44 => ⟨S2x2x8x2048x2048, .f32⟩
  | 45 => ⟨S2x2x8x2048x2048, .f32⟩
  | 46 => ⟨S_, .f32⟩
  | 47 => ⟨S2x2x8x2048x2048, .f32⟩
  | 48 => ⟨S2x2x8x2048x2048, .f32⟩
  | 49 => ⟨S_, .f32⟩
  | 50 => ⟨S2x2x8x2048x2048, .f32⟩
  | 51 => ⟨S2x2x8x2048x2048, .f32⟩
  | 52 => ⟨S2x2x2048x2048x8, .f32⟩
  | 53 => ⟨S2x2x2048x8x64, .f32⟩
  | 54 => ⟨S2x2048x2x8x64, .f32⟩
  | 55 => ⟨S2x2x2048x64, .f32⟩
  | 56 => ⟨S2x2048x2x64, .f32⟩
  | 57 => ⟨S2x2048x128, .f32⟩
  | 58 => ⟨S2x2048x2x32, .f32⟩
  | 59 => ⟨S2x2048x2x32, .f32⟩
  | 60 => ⟨S2x2048x2x32, .f32⟩
  | 61 => ⟨S2x2048x2x32, .f32⟩
  | 62 => ⟨S2x2048x2x32, .f32⟩
  | 63 => ⟨S2x2048x2x32, .f32⟩
  | 64 => ⟨S2x2048x2x32, .f32⟩
  | 65 => ⟨S2x2048x2x32, .f32⟩
  | 66 => ⟨S2x2048x2x32, .f32⟩
  | 67 => ⟨S2x2048x2x32, .f32⟩
  | 68 => ⟨S2x2048x2x32, .f32⟩
  | 69 => ⟨S2x2048x2x32, .f32⟩
  | 70 => ⟨S2x2048x2x32, .f32⟩
  | 71 => ⟨S_, .f32⟩
  | 72 => ⟨S2x2048x2x64, .f32⟩
  | 73 => ⟨S_, .f32⟩
  | 74 => ⟨S2x2048x2x64, .f32⟩
  | 75 => ⟨S2x2048x2x64, .f32⟩
  | 76 => ⟨S2x2048x128, .f32⟩
  | 77 => ⟨S2x2048x16x64, .f32⟩
  | 78 => ⟨S2x2048x16x32, .f32⟩
  | 79 => ⟨S2x2048x16x32, .f32⟩
  | 80 => ⟨S2x2048x16x32, .f32⟩
  | 81 => ⟨S2x2048x16x32, .f32⟩
  | 82 => ⟨S2x2048x16x32, .f32⟩
  | 83 => ⟨S2x2048x16x32, .f32⟩
  | 84 => ⟨S2x2048x16x32, .f32⟩
  | 85 => ⟨S2x2048x16x32, .f32⟩
  | 86 => ⟨S2x2048x16x32, .f32⟩
  | 87 => ⟨S2x2048x16x32, .f32⟩
  | 88 => ⟨S2x2048x16x32, .f32⟩
  | 89 => ⟨S2x2048x16x32, .f32⟩
  | 90 => ⟨S2x2048x16x32, .f32⟩
  | 91 => ⟨S_, .f32⟩
  | 92 => ⟨S2x2048x16x64, .f32⟩
  | 93 => ⟨S_, .f32⟩
  | 94 => ⟨S2x2048x16x64, .f32⟩
  | 95 => ⟨S2x2048x16x64, .f32⟩
  | 96 => ⟨S2x2048x1024, .f32⟩
  | 97 => ⟨S2x2048x1024, .bf16⟩
  | 98 => ⟨S2x2048x128, .bf16⟩
  | 99 => ⟨S2x2048x128, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_3 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c : Ref sig .tc := ⟨.hbm, 80, rfl⟩
abbrev main_v69 : Ref sig .tc := ⟨.hbm, 81, rfl⟩
abbrev main_v70 : Ref sig .tc := ⟨.hbm, 82, rfl⟩
abbrev main_c_4 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_5 : Ref sig .tc := ⟨.hbm, 88, rfl⟩
abbrev main_call0_v0 : Ref sig .tc := ⟨.hbm, 89, rfl⟩
abbrev main_v75_1 : Ref sig .tc := ⟨.hbm, 90, rfl⟩
abbrev main_call0_v2 : Ref sig .tc := ⟨.hbm, 91, rfl⟩
abbrev main_v75_0 : Ref sig .tc := ⟨.hbm, 92, rfl⟩
abbrev main_call0_cst : Ref sig .tc := ⟨.hbm, 93, rfl⟩
abbrev main_v75_2 : Ref sig .tc := ⟨.hbm, 94, rfl⟩
abbrev main_v76 : Ref sig .tc := ⟨.hbm, 95, rfl⟩
abbrev main_v77 : Ref sig .tc := ⟨.hbm, 96, rfl⟩
abbrev main_cst_6 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_7 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_8 : Ref sig .tc := ⟨.hbm, 111, rfl⟩
abbrev main_v90 : Ref sig .tc := ⟨.hbm, 112, rfl⟩
abbrev main_cst_9 : Ref sig .tc := ⟨.hbm, 113, rfl⟩
abbrev main_v91 : Ref sig .tc := ⟨.hbm, 114, rfl⟩
abbrev main_cst_10 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_11 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_12 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_13 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_14 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_15 : Ref sig .tc := ⟨.hbm, 163, rfl⟩
abbrev main_v135 : Ref sig .tc := ⟨.hbm, 164, rfl⟩
abbrev main_v136 : Ref sig .tc := ⟨.hbm, 165, rfl⟩
abbrev main_cst_16 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_call1_cst : Ref sig .tc := ⟨.hbm, 174, rfl⟩
abbrev main_call1_v0 : Ref sig .tc := ⟨.hbm, 175, rfl⟩
abbrev main_v144 : Ref sig .tc := ⟨.hbm, 176, rfl⟩
abbrev main_cst_17 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_18 : Ref sig .tc := ⟨.hbm, 199, rfl⟩
abbrev main_v166 : Ref sig .tc := ⟨.hbm, 200, rfl⟩
abbrev main_cst_19 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_cst_20 : Ref sig .tc := ⟨.hbm, 219, rfl⟩
abbrev main_v184 : Ref sig .tc := ⟨.hbm, 220, rfl⟩
abbrev main_cst_21 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩

abbrev nD : Nat := 1
abbrev τ : Topo := Topo.v7x

variable {F : FTy → Type} [FloatOps F]

def κ : String → Option EReal := fun
  | "mask" => some ⊥
  | _ => none
-- ==== Kernel2.lean ====
abbrev S4096x7936 : Shape := ⟨2, ![4096, 7936]⟩
abbrev S7936x1024 : Shape := ⟨2, ![7936, 1024]⟩
abbrev S4096x1024 : Shape := ⟨2, ![4096, 1024]⟩
abbrev S2x8x1024 : Shape := ⟨3, ![2, 8, 1024]⟩
abbrev S512x7936 : Shape := ⟨2, ![512, 7936]⟩
abbrev S512x1024 : Shape := ⟨2, ![512, 1024]⟩
abbrev S1x8x1024 : Shape := ⟨3, ![1, 8, 1024]⟩
abbrev S8x128 : Shape := ⟨2, ![8, 128]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x7936, .bf16⟩
  | .hbm, ⟨1, _⟩ => ⟨S7936x1024, .bf16⟩
  | .hbm, ⟨2, _⟩ => ⟨S4096x1024, .f32⟩
  | .hbm, ⟨3, _⟩ => ⟨S4096x1024, .f32⟩
  | .hbm, ⟨4, _⟩ => ⟨S2x8x1024, .f32⟩
  | .hbm, ⟨5, _⟩ => ⟨S4096x1024, .f32⟩
  | .hbm, ⟨6, _⟩ => ⟨S2x8x1024, .f32⟩
  | .local _ .vmem, ⟨0, _⟩ => ⟨S512x7936, .bf16⟩
  | .local _ .vmem, ⟨1, _⟩ => ⟨S512x7936, .bf16⟩
  | .local _ .vmem, ⟨2, _⟩ => ⟨S7936x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x8x1024, .f32⟩
  | .local _ .vmem, ⟨8, _⟩ => ⟨S1x8x1024, .f32⟩
  | .local _ .vmem, ⟨9, _⟩ => ⟨S512x1024, .f32⟩
  | .local _ .vmem, ⟨10, _⟩ => ⟨S512x1024, .f32⟩
  | .local _ .vmem, ⟨11, _⟩ => ⟨S1x8x1024, .f32⟩
  | .local _ .vmem, ⟨12, _⟩ => ⟨S1x8x1024, .f32⟩
  | .local _ .vmem, ⟨13, _⟩ => ⟨S8x128, .f32⟩
  | _, _ => ⟨S4096x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x7936 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S7936x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference2Ideal.lean ====
abbrev S4096x7936 : Shape := ⟨2, ![4096, 7936]⟩
abbrev S7936x1024 : Shape := ⟨2, ![7936, 1024]⟩
abbrev S4096x1024 : Shape := ⟨2, ![4096, 1024]⟩
abbrev S2x8x1024 : Shape := ⟨3, ![2, 8, 1024]⟩
abbrev S2x1x1024 : Shape := ⟨3, ![2, 1, 1024]⟩
abbrev S2x2048x7936 : Shape := ⟨3, ![2, 2048, 7936]⟩
abbrev S2x2048x1024 : Shape := ⟨3, ![2, 2048, 1024]⟩
abbrev S_ : Shape := ⟨0, ![]⟩
abbrev S1024x7936 : Shape := ⟨2, ![1024, 7936]⟩
abbrev S2x1024 : Shape := ⟨2, ![2, 1024]⟩
abbrev S2x6x1024 : Shape := ⟨3, ![2, 6, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x7936, .bf16⟩
  | .hbm, ⟨1, _⟩ => ⟨S7936x1024, .bf16⟩
  | .hbm, ⟨2, _⟩ => ⟨S4096x1024, .f32⟩
  | .hbm, ⟨3, _⟩ => ⟨S4096x1024, .f32⟩
  | .hbm, ⟨4, _⟩ => ⟨S2x8x1024, .f32⟩
  | .hbm, ⟨5, _⟩ => ⟨S2x1x1024, .f32⟩
  | .hbm, ⟨6, _⟩ => ⟨S2x1x1024, .f32⟩
  | .hbm, ⟨7, _⟩ => ⟨S2x2048x7936, .bf16⟩
  | .hbm, ⟨8, _⟩ => ⟨S2x2048x7936, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S1024x7936, .bf16⟩
  | .hbm, ⟨19, _⟩ => ⟨S1024x7936, .f32⟩
  | .hbm, ⟨20, _⟩ => ⟨S2x2048x7936, .f32⟩
  | .hbm, ⟨21, _⟩ => ⟨S2x2048x1024, .f32⟩
  | .hbm, ⟨22, _⟩ => ⟨S_, .f32⟩
  | .hbm, ⟨23, _⟩ => ⟨S2x1024, .f32⟩
  | .hbm, ⟨24, _⟩ => ⟨S2x1x1024, .f32⟩
  | .hbm, ⟨25, _⟩ => ⟨S2x2048x1024, .f32⟩
  | .hbm, ⟨26, _⟩ => ⟨S_, .f32⟩
  | .hbm, ⟨27, _⟩ => ⟨S2x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S4096x1024, .f32⟩
  | .hbm, ⟨33, _⟩ => ⟨S_, .f32⟩
  | .hbm, ⟨34, _⟩ => ⟨S2x6x1024, .f32⟩
  | .hbm, ⟨35, _⟩ => ⟨S2x8x1024, .f32⟩
  | _, _ => ⟨S4096x7936, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S4096x2048 : Shape := ⟨2, ![4096, 2048]⟩
abbrev S512x1024 : Shape := ⟨2, ![512, 1024]⟩
abbrev S1024x512 : Shape := ⟨2, ![1024, 512]⟩
abbrev S8x128 : Shape := ⟨2, ![8, 128]⟩

abbrev nBuf : Space → Nat
  | .hbm => 9
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x2048, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference3Ideal.lean ====
abbrev S4096x1024 : Shape := ⟨2, ![4096, 1024]⟩
abbrev S1024x1024 : Shape := ⟨2, ![1024, 1024]⟩
abbrev S4096x2048 : Shape := ⟨2, ![4096, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x2048, .bf16⟩
  | .hbm, ⟨3, _⟩ => ⟨S4096x1024, .bf16⟩
  | .hbm, ⟨4, _⟩ => ⟨S4096x1024, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .bf16⟩
  | .hbm, ⟨49, _⟩ => ⟨S4096x1024, .bf16⟩
  | .hbm, ⟨50, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x5632 : Shape := ⟨2, ![4096, 5632]⟩
abbrev S512x1024 : Shape := ⟨2, ![512, 1024]⟩
abbrev S1408x1024 : Shape := ⟨2, ![1408, 1024]⟩
abbrev S512x2816 : Shape := ⟨2, ![512, 2816]⟩
abbrev S8x128 : Shape := ⟨2, ![8, 128]⟩
abbrev S512x1408 : Shape := ⟨2, ![512, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S2816x1024 : Shape := ⟨2, ![2816, 1024]⟩
abbrev S4096x5632 : Shape := ⟨2, ![4096, 5632]⟩
abbrev S4096x2x2x1408 : Shape := ⟨4, ![4096, 2, 2, 1408]⟩
abbrev S2x4096x2x1408 : Shape := ⟨4, ![2, 4096, 2, 1408]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .f32⟩
  | .hbm, ⟨4, _⟩ => ⟨S4096x2x2x1408, .f32⟩
  | .hbm, ⟨5, _⟩ => ⟨S2x4096x2x1408, .f32⟩
  | .hbm, ⟨6, _⟩ => ⟨S2x4096x2816, .f32⟩
  | .hbm, ⟨7, _⟩ => ⟨S1x4096x2816, .f32⟩
  | .hbm, ⟨8, _⟩ => ⟨S4096x2816, .f32⟩
  | .hbm, ⟨9, _⟩ => ⟨S1x4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S2816x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x4096x2816, .f32⟩
  | .hbm, ⟨36, _⟩ => ⟨S1x4096x2816, .f32⟩
  | .hbm, ⟨37, _⟩ => ⟨S2x4096x2816, .f32⟩
  | .hbm, ⟨38, _⟩ => ⟨S2x4096x2x1408, .f32⟩
  | .hbm, ⟨39, _⟩ => ⟨S4096x2x2x1408, .f32⟩
  | .hbm, ⟨40, _⟩ => ⟨S4096x5632, .f32⟩
  | .hbm, ⟨41, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Kernel5.lean ====
abbrev S4096x7936 : Shape := ⟨2, ![4096, 7936]⟩
abbrev S4096x1024 : Shape := ⟨2, ![4096, 1024]⟩
abbrev S7936x1024 : Shape := ⟨2, ![7936, 1024]⟩
abbrev S4096x256 : Shape := ⟨2, ![4096, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x7936, .bf16⟩
  | .hbm, ⟨1, _⟩ => ⟨S4096x1024, .bf16⟩
  | .hbm, ⟨2, _⟩ => ⟨S7936x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S4096x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![31, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x7936 : Shape := ⟨2, ![4096, 7936]⟩
abbrev S4096x1024 : Shape := ⟨2, ![4096, 1024]⟩
abbrev S_ : Shape := ⟨0, ![]⟩
abbrev S1024x7936 : Shape := ⟨2, ![1024, 7936]⟩
abbrev S7936x1024 : Shape := ⟨2, ![7936, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x7936, .bf16⟩
  | .hbm, ⟨1, _⟩ => ⟨S4096x1024, .bf16⟩
  | .hbm, ⟨2, _⟩ => ⟨S_, .f32⟩
  | .hbm, ⟨3, _⟩ => ⟨S1024x7936, .f32⟩
  | .hbm, ⟨4, _⟩ => ⟨S4096x1024, .f32⟩
  | .hbm, ⟨5, _⟩ => ⟨S4096x7936, .f32⟩
  | .hbm, ⟨6, _⟩ => ⟨S4096x7936, .f32⟩
  | .hbm, ⟨7, _⟩ => ⟨S7936x1024, .f32⟩
  | .hbm, ⟨8, _⟩ => ⟨S1024x7936, .f32⟩
  | .hbm, ⟨9, _⟩ => ⟨S7936x1024, .f32⟩
  | .hbm, ⟨10, _⟩ => ⟨S7936x1024, .bf16⟩
  | _, _ => ⟨S4096x7936, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x5632 : Shape := ⟨2, ![4096, 5632]⟩
abbrev S4096x1024 : Shape := ⟨2, ![4096, 1024]⟩
abbrev S5632x1024 : Shape := ⟨2, ![5632, 1024]⟩
abbrev S4096x256 : Shape := ⟨2, ![4096, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S4096x512 : Shape := ⟨2, ![4096, 512]⟩
abbrev S1024x512 : Shape := ⟨2, ![1024, 512]⟩
abbrev S4096x256 : Shape := ⟨2, ![4096, 256]⟩
abbrev S256x512 : Shape := ⟨2, ![256, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x256, .bf16⟩
  | .local _ .vmem, ⟨1, _⟩ => ⟨S4096x256, .bf16⟩
  | .local _ .vmem, ⟨2, _⟩ => ⟨S4096x512, .bf16⟩
  | .local _ .vmem, ⟨3, _⟩ => ⟨S256x512, .bf16⟩
  | .local _ .vmem, ⟨4, _⟩ => ⟨S256x512, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S5632x1024 : Shape := ⟨2, ![5632, 1024]⟩
abbrev S4096x5632 : Shape := ⟨2, ![4096, 5632]⟩
abbrev S4096x2816 : Shape := ⟨2, ![4096, 2816]⟩
abbrev S512x1024 : Shape := ⟨2, ![512, 1024]⟩
abbrev S2816x1024 : Shape := ⟨2, ![2816, 1024]⟩
abbrev S512x2816 : Shape := ⟨2, ![512, 2816]⟩
abbrev S512x1408 : Shape := ⟨2, ![512, 1408]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | .local _ .vmem, ⟨8, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x1024 : Shape := ⟨2, ![4096, 1024]⟩
abbrev S5632x1024 : Shape := ⟨2, ![5632, 1024]⟩
abbrev S4096x5632 : Shape := ⟨2, ![4096, 5632]⟩
abbrev S4096x2x2x1408 : Shape := ⟨4, ![4096, 2, 2, 1408]⟩
abbrev S2x4096x2x1408 : Shape := ⟨4, ![2, 4096, 2, 1408]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S4096x5632, .f32⟩
  | .hbm, ⟨5, _⟩ => ⟨S4096x2x2x1408, .f32⟩
  | .hbm, ⟨6, _⟩ => ⟨S2x4096x2x1408, .f32⟩
  | .hbm, ⟨7, _⟩ => ⟨S2x4096x2816, .f32⟩
  | .hbm, ⟨8, _⟩ => ⟨S1x4096x2816, .f32⟩
  | .hbm, ⟨9, _⟩ => ⟨S4096x2816, .f32⟩
  | .hbm, ⟨10, _⟩ => ⟨S1x4096x2816, .f32⟩
  | .hbm, ⟨11, _⟩ => ⟨S4096x2816, .f32⟩
  | .hbm, ⟨12, _⟩ => ⟨S4096x5632, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel11.lean ====
abbrev S4096x1024 : Shape := ⟨2, ![4096, 1024]⟩
abbrev S7936x1024 : Shape := ⟨2, ![7936, 1024]⟩
abbrev S4096x128 : Shape := ⟨2, ![4096, 128]⟩
abbrev S4096x2048 : Shape := ⟨2, ![4096, 2048]⟩
abbrev S2048x1024 : Shape := ⟨2, ![2048, 1024]⟩
abbrev S256x1024 : Shape := ⟨2, ![256, 1024]⟩
abbrev S2048x128 : Shape := ⟨2, ![2048, 128]⟩
abbrev S2048x256 : Shape := ⟨2, ![2048, 256]⟩
abbrev S128x128 : Shape := ⟨2, ![128, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S7936x1024, .bf16⟩
  | .hbm, ⟨2, _⟩ => ⟨S4096x128, .f32⟩
  | .hbm, ⟨3, _⟩ => ⟨S4096x128, .f32⟩
  | .hbm, ⟨4, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x256, .bf16⟩
  | .local _ .vmem, ⟨9, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v3 : BitVec 1 := Scalar.cmpi .slt arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sge arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi arg1 c23_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4096x1024 : Shape := ⟨2, ![4096, 1024]⟩
abbrev S7936x1024 : Shape := ⟨2, ![7936, 1024]⟩
abbrev S4096x128 : Shape := ⟨2, ![4096, 128]⟩
abbrev S4096x7936 : Shape := ⟨2, ![4096, 7936]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S7936x1024, .bf16⟩
  | .hbm, ⟨2, _⟩ => ⟨S4096x128, .f32⟩
  | .hbm, ⟨3, _⟩ => ⟨S4096x128, .f32⟩
  | .hbm, ⟨4, _⟩ => ⟨S4096x1024, .f32⟩
  | .hbm, ⟨5, _⟩ => ⟨S7936x1024, .f32⟩
  | .hbm, ⟨6, _⟩ => ⟨S4096x7936, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S2x8x1024 : Shape := ⟨3, ![2, 8, 1024]⟩
abbrev S1x1024 : Shape := ⟨2, ![1, 1024]⟩
abbrev S512x1024 : Shape := ⟨2, ![512, 1024]⟩
abbrev S1x8x1024 : Shape := ⟨3, ![1, 8, 1024]⟩
abbrev S8x128 : Shape := ⟨2, ![8, 128]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x8x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference13Ideal.lean ====
abbrev S4096x1024 : Shape := ⟨2, ![4096, 1024]⟩
abbrev S1024x1024 : Shape := ⟨2, ![1024, 1024]⟩
abbrev S2x8x1024 : Shape := ⟨3, ![2, 8, 1024]⟩
abbrev S1x1024 : Shape := ⟨2, ![1, 1024]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x8x1024, .f32⟩
  | .hbm, ⟨4, _⟩ => ⟨S1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x2048x1024, .bf16⟩
  | .hbm, ⟨10, _⟩ => ⟨S2x2048x1024, .f32⟩
  | .hbm, ⟨11, _⟩ => ⟨S1024x1024, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048, .f32⟩
  | .hbm, ⟨34, _⟩ => ⟨S2x2048x1, .f32⟩
  | .hbm, ⟨35, _⟩ => ⟨S_, .f32⟩
  | .hbm, ⟨36, _⟩ => ⟨S2x2048x1, .f32⟩
  | .hbm, ⟨37, _⟩ => ⟨S2x2048x1, .f32⟩
  | .hbm, ⟨38, _⟩ => ⟨S_, .f32⟩
  | .hbm, ⟨39, _⟩ => ⟨S2x2048x1, .f32⟩
  | .hbm, ⟨40, _⟩ => ⟨S2x2048x1, .f32⟩
  | .hbm, ⟨41, _⟩ => ⟨S2x2048x1, .f32⟩
  | .hbm, ⟨42, _⟩ => ⟨S2x2048x1024, .f32⟩
  | .hbm, ⟨43, _⟩ => ⟨S2x2048x1024, .f32⟩
  | .hbm, ⟨44, _⟩ => ⟨S1x1x1024, .f32⟩
  | .hbm, ⟨45, _⟩ => ⟨S2x2048x1024, .f32⟩
  | .hbm, ⟨46, _⟩ => ⟨S2x2048x1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x1x1024, .f32⟩
  | .hbm, ⟨52, _⟩ => ⟨S2x1x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel14.lean ====
abbrev S4096x1024 : Shape := ⟨2, ![4096, 1024]⟩
abbrev S7936x1024 : Shape := ⟨2, ![7936, 1024]⟩
abbrev S2x2048 : Shape := ⟨2, ![2, 2048]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x128 : Shape := ⟨3, ![2, 2048, 128]⟩
abbrev S4096x128 : Shape := ⟨2, ![4096, 128]⟩
abbrev S4096x1280 : Shape := ⟨2, ![4096, 1280]⟩
abbrev S2048x1024 : Shape := ⟨2, ![2048, 1024]⟩
abbrev S256x1024 : Shape := ⟨2, ![256, 1024]⟩
abbrev S2048x128 : Shape := ⟨2, ![2048, 128]⟩
abbrev S2048x256 : Shape := ⟨2, ![2048, 256]⟩
abbrev S128x128 : Shape := ⟨2, ![128, 128]⟩

abbrev nBuf : Space → Nat
  | .hbm => 26
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S7936x1024, .bf16⟩
  | .hbm, ⟨2, _⟩ => ⟨S2x2048, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2x2048, .f32⟩
  | .hbm, ⟨12, _⟩ => ⟨S2x2048x1, .f32⟩
  | .hbm, ⟨13, _⟩ => ⟨S1x1x32, .f32⟩
  | .hbm, ⟨14, _⟩ => ⟨S2x2048x32, .f32⟩
  | .hbm, ⟨15, _⟩ => ⟨S2x2048x32, .f32⟩
  | .hbm, ⟨16, _⟩ => ⟨S2x2048x32, .f32⟩
  | .hbm, ⟨17, _⟩ => ⟨S2x2048x32, .f32⟩
  | .hbm, ⟨18, _⟩ => ⟨S2x2048x32, .f32⟩
  | .hbm, ⟨19, _⟩ => ⟨S2x2048x128, .f32⟩
  | .hbm, ⟨20, _⟩ => ⟨S2x2048x32, .f32⟩
  | .hbm, ⟨21, _⟩ => ⟨S2x2048x32, .f32⟩
  | .hbm, ⟨22, _⟩ => ⟨S2x2048x128, .f32⟩
  | .hbm, ⟨23, _⟩ => ⟨S4096x128, .f32⟩
  | .hbm, ⟨24, _⟩ => ⟨S4096x128, .f32⟩
  | .hbm, ⟨25, _⟩ => ⟨S4096x1280, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x256, .bf16⟩
  | .local _ .vmem, ⟨9, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c4_i32_3 : BitVec 32 := 4#32
  let v6 : BitVec 1 := Scalar.cmpi .eq arg1 c4_i32_3
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c5_i32 : BitVec 32 := 5#32
  let v9 : BitVec 1 := Scalar.cmpi .sge arg1 c5_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S4096x1024 : Shape := ⟨2, ![4096, 1024]⟩
abbrev S7936x1024 : Shape := ⟨2, ![7936, 1024]⟩
abbrev S2x2048 : Shape := ⟨2, ![2, 2048]⟩
abbrev S4096x7936 : Shape := ⟨2, ![4096, 7936]⟩
abbrev S4096x1280 : Shape := ⟨2, ![4096, 1280]⟩
abbrev S4096x128 : Shape := ⟨2, ![4096, 128]⟩
abbrev S2x2048x16x64 : Shape := ⟨4, ![2, 2048, 16, 64]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x1x32 : Shape := ⟨4, ![2, 2048, 1, 32]⟩
abbrev S2x2048x16x32 : Shape := ⟨4, ![2, 2048, 16, 32]⟩
abbrev S2x2048x2x64 : Shape := ⟨4, ![2, 2048, 2, 64]⟩
abbrev S2x2048x2x32 : Shape := ⟨4, ![2, 2048, 2, 32]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S7936x1024, .bf16⟩
  | .hbm, ⟨2, _⟩ => ⟨S2x2048, .i32⟩
  | .hbm, ⟨3, _⟩ => ⟨S4096x1024, .f32⟩
  | .hbm, ⟨4, _⟩ => ⟨S7936x1024, .f32⟩
  | .hbm, ⟨5, _⟩ => ⟨S4096x7936, .f32⟩
  | .hbm, ⟨6, _⟩ => ⟨S4096x1280, .f32⟩
  | .hbm, ⟨7, _⟩ => ⟨S4096x1024, .f32⟩
  | .hbm, ⟨8, _⟩ => ⟨S4096x128, .f32⟩
  | .hbm, ⟨9, _⟩ => ⟨S4096x128, .f32⟩
  | .hbm, ⟨10, _⟩ => ⟨S2x2048x16x64, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2x2048, .f32⟩
  | .hbm, ⟨20, _⟩ => ⟨S2x2048x1, .f32⟩
  | .hbm, ⟨21, _⟩ => ⟨S1x1x32, .f32⟩
  | .hbm, ⟨22, _⟩ => ⟨S2x2048x32, .f32⟩
  | .hbm, ⟨23, _⟩ => ⟨S2x2048x32, .f32⟩
  | .hbm, ⟨24, _⟩ => ⟨S2x2048x32, .f32⟩
  | .hbm, ⟨25, _⟩ => ⟨S2x2048x32, .f32⟩
  | .hbm, ⟨26, _⟩ => ⟨S2x2048x1x32, .f32⟩
  | .hbm, ⟨27, _⟩ => ⟨S2x2048x32, .f32⟩
  | .hbm, ⟨28, _⟩ => ⟨S2x2048x1x32, .f32⟩
  | .hbm, ⟨29, _⟩ => ⟨S2x2048x16x32, .f32⟩
  | .hbm, ⟨30, _⟩ => ⟨S2x2048x16x32, .f32⟩
  | .hbm, ⟨31, _⟩ => ⟨S2x2048x16x32, .f32⟩
  | .hbm, ⟨32, _⟩ => ⟨S2x2048x16x32, .f32⟩
  | .hbm, ⟨33, _⟩ => ⟨S2x2048x16x32, .f32⟩
  | .hbm, ⟨34, _⟩ => ⟨S2x2048x16x32, .f32⟩
  | .hbm, ⟨35, _⟩ => ⟨S2x2048x16x32, .f32⟩
  | .hbm, ⟨36, _⟩ => ⟨S2x2048x16x32, .f32⟩
  | .hbm, ⟨37, _⟩ => ⟨S2x2048x16x32, .f32⟩
  | .hbm, ⟨38, _⟩ => ⟨S2x2048x16x32, .f32⟩
  | .hbm, ⟨39, _⟩ => ⟨S2x2048x16x32, .f32⟩
  | .hbm, ⟨40, _⟩ => ⟨S2x2048x16x32, .f32⟩
  | .hbm, ⟨41, _⟩ => ⟨S2x2048x16x64, .f32⟩
  | .hbm, ⟨42, _⟩ => ⟨S4096x1024, .f32⟩
  | .hbm, ⟨43, _⟩ => ⟨S2x2048x2x64, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S2x2048, .f32⟩
  | .hbm, ⟨53, _⟩ => ⟨S2x2048x1, .f32⟩
  | .hbm, ⟨54, _⟩ => ⟨S1x1x32, .f32⟩
  | .hbm, ⟨55, _⟩ => ⟨S2x2048x32, .f32⟩
  | .hbm, ⟨56, _⟩ => ⟨S2x2048x32, .f32⟩
  | .hbm, ⟨57, _⟩ => ⟨S2x2048x32, .f32⟩
  | .hbm, ⟨58, _⟩ => ⟨S2x2048x32, .f32⟩
  | .hbm, ⟨59, _⟩ => ⟨S2x2048x1x32, .f32⟩
  | .hbm, ⟨60, _⟩ => ⟨S2x2048x32, .f32⟩
  | .hbm, ⟨61, _⟩ => ⟨S2x2048x1x32, .f32⟩
  | .hbm, ⟨62, _⟩ => ⟨S2x2048x2x32, .f32⟩
  | .hbm, ⟨63, _⟩ => ⟨S2x2048x2x32, .f32⟩
  | .hbm, ⟨64, _⟩ => ⟨S2x2048x2x32, .f32⟩
  | .hbm, ⟨65, _⟩ => ⟨S2x2048x2x32, .f32⟩
  | .hbm, ⟨66, _⟩ => ⟨S2x2048x2x32, .f32⟩
  | .hbm, ⟨67, _⟩ => ⟨S2x2048x2x32, .f32⟩
  | .hbm, ⟨68, _⟩ => ⟨S2x2048x2x32, .f32⟩
  | .hbm, ⟨69, _⟩ => ⟨S2x2048x2x32, .f32⟩
  | .hbm, ⟨70, _⟩ => ⟨S2x2048x2x32, .f32⟩
  | .hbm, ⟨71, _⟩ => ⟨S2x2048x2x32, .f32⟩
  | .hbm, ⟨72, _⟩ => ⟨S2x2048x2x32, .f32⟩
  | .hbm, ⟨73, _⟩ => ⟨S2x2048x2x32, .f32⟩
  | .hbm, ⟨74, _⟩ => ⟨S2x2048x2x64, .f32⟩
  | .hbm, ⟨75, _⟩ => ⟨S4096x128, .f32⟩
  | .hbm, ⟨76, _⟩ => ⟨S4096x1280, .f32⟩
  | .hbm, ⟨77, _⟩ => ⟨S4096x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩

abbrev nD : Nat := 1
abbrev τ : Topo := Topo.v7x

variable {F : FTy → Type} [FloatOps F]
-- ==== Kernel15.lean ====
abbrev S4096x1024 : Shape := ⟨2, ![4096, 1024]⟩
abbrev S7936x1024 : Shape := ⟨2, ![7936, 1024]⟩
abbrev S2x2048 : Shape := ⟨2, ![2, 2048]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x128 : Shape := ⟨3, ![2, 2048, 128]⟩
abbrev S4096x128 : Shape := ⟨2, ![4096, 128]⟩
abbrev S4096x4608 : Shape := ⟨2, ![4096, 4608]⟩
abbrev S2048x1024 : Shape := ⟨2, ![2048, 1024]⟩
abbrev S256x1024 : Shape := ⟨2, ![256, 1024]⟩
abbrev S2048x128 : Shape := ⟨2, ![2048, 128]⟩
abbrev S2048x256 : Shape := ⟨2, ![2048, 256]⟩
abbrev S128x128 : Shape := ⟨2, ![128, 128]⟩

abbrev nBuf : Space → Nat
  | .hbm => 26
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S7936x1024, .bf16⟩
  | .hbm, ⟨2, _⟩ => ⟨S2x2048, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2x2048, .f32⟩
  | .hbm, ⟨12, _⟩ => ⟨S2x2048x1, .f32⟩
  | .hbm, ⟨13, _⟩ => ⟨S1x1x32, .f32⟩
  | .hbm, ⟨14, _⟩ => ⟨S2x2048x32, .f32⟩
  | .hbm, ⟨15, _⟩ => ⟨S2x2048x32, .f32⟩
  | .hbm, ⟨16, _⟩ => ⟨S2x2048x32, .f32⟩
  | .hbm, ⟨17, _⟩ => ⟨S2x2048x32, .f32⟩
  | .hbm, ⟨18, _⟩ => ⟨S2x2048x32, .f32⟩
  | .hbm, ⟨19, _⟩ => ⟨S2x2048x128, .f32⟩
  | .hbm, ⟨20, _⟩ => ⟨S2x2048x32, .f32⟩
  | .hbm, ⟨21, _⟩ => ⟨S2x2048x32, .f32⟩
  | .hbm, ⟨22, _⟩ => ⟨S2x2048x128, .f32⟩
  | .hbm, ⟨23, _⟩ => ⟨S4096x128, .f32⟩
  | .hbm, ⟨24, _⟩ => ⟨S4096x128, .f32⟩
  | .hbm, ⟨25, _⟩ => ⟨S4096x4608, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x256, .f32⟩
  | .local _ .vmem, ⟨9, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 18], ![false, false]⟩

def k0_cond1 (i : grid0.Coords) : BitVec 1 :=
  let arg1 : BitVec 32 := BitVec.ofNat 32 (i 1).val
  let c12_i32 : BitVec 32 := 12#32
  let v3 : BitVec 1 := Scalar.cmpi .slt arg1 c12_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c12_i32_3 : BitVec 32 := 12#32
  let v6 : BitVec 1 := Scalar.cmpi .sge arg1 c12_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4096x1024 : Shape := ⟨2, ![4096, 1024]⟩
abbrev S7936x1024 : Shape := ⟨2, ![7936, 1024]⟩
abbrev S2x2048 : Shape := ⟨2, ![2, 2048]⟩
abbrev S4096x7936 : Shape := ⟨2, ![4096, 7936]⟩
abbrev S4096x4608 : Shape := ⟨2, ![4096, 4608]⟩
abbrev S4096x1536 : Shape := ⟨2, ![4096, 1536]⟩
abbrev S2x2048x24x64 : Shape := ⟨4, ![2, 2048, 24, 64]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x1x32 : Shape := ⟨4, ![2, 2048, 1, 32]⟩
abbrev S2x2048x24x32 : Shape := ⟨4, ![2, 2048, 24, 32]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S7936x1024, .bf16⟩
  | .hbm, ⟨2, _⟩ => ⟨S2x2048, .i32⟩
  | .hbm, ⟨3, _⟩ => ⟨S4096x1024, .f32⟩
  | .hbm, ⟨4, _⟩ => ⟨S7936x1024, .f32⟩
  | .hbm, ⟨5, _⟩ => ⟨S4096x7936, .f32⟩
  | .hbm, ⟨6, _⟩ => ⟨S4096x4608, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S2x2048x24x64, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2x2048, .f32⟩
  | .hbm, ⟨20, _⟩ => ⟨S2x2048x1, .f32⟩
  | .hbm, ⟨21, _⟩ => ⟨S1x1x32, .f32⟩
  | .hbm, ⟨22, _⟩ => ⟨S2x2048x32, .f32⟩
  | .hbm, ⟨23, _⟩ => ⟨S2x2048x32, .f32⟩
  | .hbm, ⟨24, _⟩ => ⟨S2x2048x32, .f32⟩
  | .hbm, ⟨25, _⟩ => ⟨S2x2048x32, .f32⟩
  | .hbm, ⟨26, _⟩ => ⟨S2x2048x1x32, .f32⟩
  | .hbm, ⟨27, _⟩ => ⟨S2x2048x32, .f32⟩
  | .hbm, ⟨28, _⟩ => ⟨S2x2048x1x32, .f32⟩
  | .hbm, ⟨29, _⟩ => ⟨S2x2048x24x32, .f32⟩
  | .hbm, ⟨30, _⟩ => ⟨S2x2048x24x32, .f32⟩
  | .hbm, ⟨31, _⟩ => ⟨S2x2048x24x32, .f32⟩
  | .hbm, ⟨32, _⟩ => ⟨S2x2048x24x32, .f32⟩
  | .hbm, ⟨33, _⟩ => ⟨S2x2048x24x32, .f32⟩
  | .hbm, ⟨34, _⟩ => ⟨S2x2048x24x32, .f32⟩
  | .hbm, ⟨35, _⟩ => ⟨S2x2048x24x32, .f32⟩
  | .hbm, ⟨36, _⟩ => ⟨S2x2048x24x32, .f32⟩
  | .hbm, ⟨37, _⟩ => ⟨S2x2048x24x32, .f32⟩
  | .hbm, ⟨38, _⟩ => ⟨S2x2048x24x32, .f32⟩
  | .hbm, ⟨39, _⟩ => ⟨S2x2048x24x32, .f32⟩
  | .hbm, ⟨40, _⟩ => ⟨S2x2048x24x32, .f32⟩
  | .hbm, ⟨41, _⟩ => ⟨S2x2048x24x64, .f32⟩
  | .hbm, ⟨42, _⟩ => ⟨S4096x1536, .f32⟩
  | .hbm, ⟨43, _⟩ => ⟨S2x2048x24x64, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S2x2048, .f32⟩
  | .hbm, ⟨53, _⟩ => ⟨S2x2048x1, .f32⟩
  | .hbm, ⟨54, _⟩ => ⟨S1x1x32, .f32⟩
  | .hbm, ⟨55, _⟩ => ⟨S2x2048x32, .f32⟩
  | .hbm, ⟨56, _⟩ => ⟨S2x2048x32, .f32⟩
  | .hbm, ⟨57, _⟩ => ⟨S2x2048x32, .f32⟩
  | .hbm, ⟨58, _⟩ => ⟨S2x2048x32, .f32⟩
  | .hbm, ⟨59, _⟩ => ⟨S2x2048x1x32, .f32⟩
  | .hbm, ⟨60, _⟩ => ⟨S2x2048x32, .f32⟩
  | .hbm, ⟨61, _⟩ => ⟨S2x2048x1x32, .f32⟩
  | .hbm, ⟨62, _⟩ => ⟨S2x2048x24x32, .f32⟩
  | .hbm, ⟨63, _⟩ => ⟨S2x2048x24x32, .f32⟩
  | .hbm, ⟨64, _⟩ => ⟨S2x2048x24x32, .f32⟩
  | .hbm, ⟨65, _⟩ => ⟨S2x2048x24x32, .f32⟩
  | .hbm, ⟨66, _⟩ => ⟨S2x2048x24x32, .f32⟩
  | .hbm, ⟨67, _⟩ => ⟨S2x2048x24x32, .f32⟩
  | .hbm, ⟨68, _⟩ => ⟨S2x2048x24x32, .f32⟩
  | .hbm, ⟨69, _⟩ => ⟨S2x2048x24x32, .f32⟩
  | .hbm, ⟨70, _⟩ => ⟨S2x2048x24x32, .f32⟩
  | .hbm, ⟨71, _⟩ => ⟨S2x2048x24x32, .f32⟩
  | .hbm, ⟨72, _⟩ => ⟨S2x2048x24x32, .f32⟩
  | .hbm, ⟨73, _⟩ => ⟨S2x2048x24x32, .f32⟩
  | .hbm, ⟨74, _⟩ => ⟨S2x2048x24x64, .f32⟩
  | .hbm, ⟨75, _⟩ => ⟨S4096x1536, .f32⟩
  | .hbm, ⟨76, _⟩ => ⟨S4096x4608, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩

abbrev nD : Nat := 1
abbrev τ : Topo := Topo.v7x

variable {F : FTy → Type} [FloatOps F]
-- ==== Proof.Reals.lean ====
/-
  Finite sums and constants among the extended reals: sums of reals stay real, and the few literals the two programs
  print, as numbers.
-/
module

public import Idealize.ShloMosaic.Lib.Pointwise

@[expose] public section

namespace Cert.Attn

open Idealize.ShloMosaic
open scoped BigOperators

/-- A sum of reals over the first `n` numbers, taken among the extended reals. -/
theorem sum_coe (n : ℕ) (f : ℕ → ℝ) : (∑ x : Fin n, ((f x.val : ℝ) : EReal)) = ((∑ x ∈ Finset.range n, f x : ℝ) : EReal) := by
  induction n with
  | zero => simp
  | succ n ih => rw [Fin.sum_univ_castSucc, Finset.sum_range_succ, EReal.coe_add, ← ih]; rfl

/-- A sum whose terms are known reals. -/
theorem sum_eq_coe (n : ℕ) (F : Fin n → EReal) (f : ℕ → ℝ) (h : ∀ x, F x = ((f x.val : ℝ) : EReal)) :
    (∑ x : Fin n, F x) = ((∑ x ∈ Finset.range n, f x : ℝ) : EReal) := by
  rw [← sum_coe]; exact Finset.sum_congr rfl fun x _ => h x

theorem ofBits_eighth : Ideal.ofBits .f32 0x3E000000#32 = (((1 : ℝ) / 8 : ℝ) : EReal) := by
  simp [Ideal.ofBits, Ideal.ieee, -EReal.coe_mul]; norm_num
theorem ofBits_eighth_b : Ideal.ofBits .bf16 0x3E00#16 = (((1 : ℝ) / 8 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_half : Ideal.ofBits .f32 0x3F000000#32 = (((1 : ℝ) / 2 : ℝ) : EReal) := by
  simp [Ideal.ofBits, Ideal.ieee, -EReal.coe_mul]; norm_num
theorem ofBits_neg_inf : Ideal.ofBits .f32 0xFF800000#32 = ⊥ := by
  simp [Ideal.ofBits, Ideal.ieee]

/-- A sum over `m` groups of `n`. -/
theorem sum_groups (m n : ℕ) (hn : 0 < n) (f : ℕ → ℕ → ℝ) :
    ∑ r ∈ Finset.range (m * n), f (r / n) (r % n) = ∑ g ∈ Finset.range m, ∑ q ∈ Finset.range n, f g q := by
  induction m with
  | zero => simp
  | succ m ih =>
    rw [Nat.succ_mul, Finset.sum_range_add, ih, Finset.sum_range_succ]
    refine congrArg _ (Finset.sum_congr rfl fun q hq => ?_)
    have hq' := Finset.mem_range.mp hq
    rw [Nat.mul_comm m n, Nat.mul_add_div hn, Nat.mul_add_mod, Nat.div_eq_of_lt hq', Nat.mod_eq_of_lt hq', Nat.add_zero]

/-- Of two halves of a sum, the one that is not masked. -/
theorem sum_half (p : ℕ) (hp : p < 2) (A B : ℕ → ℝ) :
    ∑ d ∈ Finset.range 128, (if d / 64 = p then A d else 0) * B (d % 64) = ∑ d ∈ Finset.range 64, A (p * 64 + d) * B d := by
  rw [show (128 : ℕ) = 64 + 64 from rfl, Finset.sum_range_add, ← Finset.sum_add_distrib]
  refine Finset.sum_congr rfl fun d hd => ?_
  have hd' := Finset.mem_range.mp hd
  rw [show d / 64 = 0 by omega, show (64 + d) / 64 = 1 by omega, show d % 64 = d by omega, show (64 + d) % 64 = d by omega]
  obtain rfl | rfl : p = 0 ∨ p = 1 := by omega
  · simp
  · simp

end Cert.Attn
end
-- ==== Proof.Model.lean ====
/-
  The windowed attention with sinks and its gradients, over the reals: queries and keys rotated, scores, the softmax
  whose denominator also holds the sink, and the gradients of the queries, the keys and the values for a cotangent of
  the output. Lanes are numbered across heads: key head `h` has the 64 lanes from `64 h`, query head `g` of key head `h`
  the 64 lanes from `512 h + 64 g`.
-/
module

public import proofs.«01_k».proof.Proof.Reals

@[expose] public section

noncomputable section

namespace Cert.Attn

open Idealize.ShloMosaic
open scoped BigOperators

/-- The attention's inputs: queries, keys, values and cotangents by batch, position and lane; the rotation's angles by
batch, position and pair of lanes; a sink for each query head. -/
structure Ins where
  q : ℕ → ℕ → ℕ → ℝ
  k : ℕ → ℕ → ℕ → ℝ
  v : ℕ → ℕ → ℕ → ℝ
  ct : ℕ → ℕ → ℕ → ℝ
  ang : ℕ → ℕ → ℕ → ℝ
  sink : ℕ → ℝ

/-- The rotation of a head's lanes by the angles `a`. -/
def rot (x a : ℕ → ℝ) (l : ℕ) : ℝ :=
  if l % 64 < 32 then x l * Real.cos (a (l % 32)) - x (l + 32) * Real.sin (a (l % 32))
  else x l * Real.cos (a (l % 32)) + x (l - 32) * Real.sin (a (l % 32))
/-- The rotation back. -/
def unrot (x a : ℕ → ℝ) (l : ℕ) : ℝ :=
  if l % 64 < 32 then x l * Real.cos (a (l % 32)) + x (l + 32) * Real.sin (a (l % 32))
  else x l * Real.cos (a (l % 32)) - x (l - 32) * Real.sin (a (l % 32))
/-- Query `t` sees key `u`. -/
def Vis (t u : ℕ) : Prop := u ≤ t ∧ t ≤ u + 127
instance (t u : ℕ) : Decidable (Vis t u) := inferInstanceAs (Decidable (_ ∧ _))

variable (I : Ins) (b h g t u d l : ℕ)

/-- The rotated queries. -/
def Ins.qr : ℝ := rot (I.q b t) (I.ang b t) l
/-- The rotated keys. -/
def Ins.kr : ℝ := rot (I.k b t) (I.ang b t) l
/-- The score of query `t` against key `u`. -/
def Ins.S : ℝ := (∑ x ∈ Finset.range 64, I.kr b u (h * 64 + x) * I.qr b t (h * 512 + g * 64 + x)) * (1 / 8)
/-- The scores of a query, `-∞` where it does not see. -/
def Ins.row : EReal := if Vis t u then ((I.S b h g t u : ℝ) : EReal) else ⊥
/-- The greatest score a query sees. -/
def Ins.top : ℝ := ((Finset.range 2048).sup (I.row b h g t)).toReal
/-- The greatest of the scores and the sink. -/
def Ins.M : ℝ := max (I.top b h g t) (I.sink (h * 8 + g))
/-- The weight of a key. -/
def Ins.W : ℝ := if Vis t u then Real.exp (I.S b h g t u - I.M b h g t) else 0
/-- The weight of the sink. -/
def Ins.E : ℝ := Real.exp (I.sink (h * 8 + g) - I.M b h g t)
/-- The denominator. -/
def Ins.D : ℝ := (∑ u ∈ Finset.range 2048, I.W b h g t u) + I.E b h g t
/-- The numerator. -/
def Ins.N : ℝ := ∑ u ∈ Finset.range 2048, I.W b h g t u * I.v b u (h * 64 + d)
/-- The attention's output. -/
def Ins.O : ℝ := I.N b h g t d * (1 / I.D b h g t)
/-- The logarithm of the denominator. -/
def Ins.lse : ℝ := I.M b h g t + Real.log (I.D b h g t)
/-- The cotangent of a key's weight, before the softmax's own correction. -/
def Ins.G : ℝ := ∑ x ∈ Finset.range 64, I.ct b t (h * 512 + g * 64 + x) * I.v b u (h * 64 + x)
/-- The softmax's correction. -/
def Ins.dd : ℝ := -∑ x ∈ Finset.range 64, I.ct b t (h * 512 + g * 64 + x) * I.O b h g t x
/-- The probability of a key. -/
def Ins.P : ℝ := if Vis t u then Real.exp (I.S b h g t u - I.lse b h g t) else 0
/-- The cotangent of a score. -/
def Ins.DS : ℝ := I.P b h g t u * (I.G b h g t u + I.dd b h g t)

/-- The gradient of the rotated keys. -/
def Ins.dkr : ℝ := ∑ g ∈ Finset.range 8, ∑ t ∈ Finset.range 2048,
  I.DS b (l / 64) g t u * (I.qr b t (l / 64 * 512 + g * 64 + l % 64) * (1 / 8))
/-- The gradient of the rotated queries. -/
def Ins.dqr : ℝ := (∑ u ∈ Finset.range 2048, I.DS b (l / 512) (l % 512 / 64) t u * I.kr b u (l / 512 * 64 + l % 64)) * (1 / 8)
/-- The gradient of the queries. -/
def Ins.gradQ : ℝ := unrot (fun l => I.dqr b t l) (I.ang b t) l
/-- The gradient of the keys. -/
def Ins.gradK : ℝ := unrot (fun l => I.dkr b u l) (I.ang b u) l
/-- The gradient of the values. -/
def Ins.gradV : ℝ := ∑ g ∈ Finset.range 8, ∑ t ∈ Finset.range 2048,
  I.P b (l / 64) g t u * I.ct b t (l / 64 * 512 + g * 64 + l % 64)

/-! ## The greatest score -/

theorem Ins.sup_attained (ht : t < 2048) : ∃ u, u < 2048 ∧ Vis t u ∧ (Finset.range 2048).sup (I.row b h g t) = ((I.S b h g t u : ℝ) : EReal) := by
  obtain ⟨u, hu, e⟩ := Finset.exists_mem_eq_sup (Finset.range 2048) ⟨0, by simp⟩ (I.row b h g t)
  have hle : I.row b h g t t ≤ (Finset.range 2048).sup (I.row b h g t) := Finset.le_sup (f := I.row b h g t) (Finset.mem_range.mpr ht)
  have hv : Vis t u := by
    by_contra hn
    rw [e, Ins.row, Ins.row, if_neg hn, if_pos (show Vis t t from ⟨le_rfl, by omega⟩)] at hle
    exact absurd (le_bot_iff.mp hle) (EReal.coe_ne_bot _)
  exact ⟨u, Finset.mem_range.mp hu, hv, e.trans (if_pos hv)⟩
theorem Ins.sup_eq (ht : t < 2048) : (Finset.range 2048).sup (I.row b h g t) = ((I.top b h g t : ℝ) : EReal) := by
  obtain ⟨u, _, _, e⟩ := I.sup_attained b h g t ht
  rw [Ins.top, e, EReal.toReal_coe]
theorem Ins.top_attained (ht : t < 2048) : ∃ u, u < 2048 ∧ I.row b h g t u = ((I.top b h g t : ℝ) : EReal) := by
  obtain ⟨u, hu, hv, e⟩ := I.sup_attained b h g t ht
  exact ⟨u, hu, by rw [← I.sup_eq b h g t ht, e, Ins.row, if_pos hv]⟩

/-! ## The softmax -/

theorem Ins.W_nonneg : 0 ≤ I.W b h g t u := by
  unfold Ins.W; split
  · exact (Real.exp_pos _).le
  · exact le_rfl
theorem Ins.D_pos : 0 < I.D b h g t :=
  add_pos_of_nonneg_of_pos (Finset.sum_nonneg fun u _ => I.W_nonneg b h g t u) (Real.exp_pos _)
theorem Ins.P_eq : I.P b h g t u = I.W b h g t u * (1 / I.D b h g t) := by
  unfold Ins.P Ins.W
  split
  · rw [Ins.lse, ← sub_sub, Real.exp_sub, Real.exp_log (I.D_pos b h g t), mul_one_div]
  · rw [zero_mul]

/-- The correction as the quotient's derivative writes it. -/
def Ins.rdd : ℝ := -∑ x ∈ Finset.range 64, I.ct b t (h * 512 + g * 64 + x) * (1 * (1 / (I.D b h g t * I.D b h g t))) * I.N b h g t x
/-- The cotangent of a score as the quotient's derivative writes it. -/
def Ins.rds : ℝ := ((∑ x ∈ Finset.range 64, I.ct b t (h * 512 + g * 64 + x) * (1 / I.D b h g t) * I.v b u (h * 64 + x)) + I.rdd b h g t) * I.W b h g t u

theorem Ins.rdd_eq : I.rdd b h g t = I.dd b h g t * (1 / I.D b h g t) := by
  unfold Ins.rdd Ins.dd
  rw [neg_mul, Finset.sum_mul]
  refine congrArg _ (Finset.sum_congr rfl fun x _ => ?_)
  unfold Ins.O
  have := (I.D_pos b h g t).ne'
  field_simp
theorem Ins.rds_eq : I.rds b h g t u = I.DS b h g t u := by
  unfold Ins.rds Ins.DS
  rw [I.rdd_eq, I.P_eq, show (∑ x ∈ Finset.range 64, I.ct b t (h * 512 + g * 64 + x) * (1 / I.D b h g t) * I.v b u (h * 64 + x)) = I.G b h g t u * (1 / I.D b h g t) from ?_]
  · ring
  · unfold Ins.G
    rw [Finset.sum_mul]
    exact Finset.sum_congr rfl fun x _ => by ring

/-- The cotangent of the greatest score is zero. -/
theorem Ins.max_zero : -(I.rdd b h g t * I.E b h g t) + ∑ u ∈ Finset.range 2048, -I.rds b h g t u = 0 := by
  have hD := (I.D_pos b h g t).ne'
  have hW : ∑ u ∈ Finset.range 2048, I.W b h g t u = I.D b h g t - I.E b h g t := by rw [Ins.D]; ring
  have hG : ∑ u ∈ Finset.range 2048, I.W b h g t u * I.G b h g t u = -(I.dd b h g t * I.D b h g t) := by
    unfold Ins.dd Ins.G
    simp only [Finset.mul_sum]
    rw [Finset.sum_comm, neg_mul, neg_neg, Finset.sum_mul]
    refine Finset.sum_congr rfl fun x _ => ?_
    rw [Ins.O, mul_assoc, mul_assoc, one_div, inv_mul_cancel₀ hD, mul_one, Ins.N, Finset.mul_sum]
    exact Finset.sum_congr rfl fun u _ => by ring
  have hs : ∑ u ∈ Finset.range 2048, -I.rds b h g t u = -(1 / I.D b h g t) * (∑ u ∈ Finset.range 2048, I.W b h g t u * I.G b h g t u)
      - I.dd b h g t * (1 / I.D b h g t) * ∑ u ∈ Finset.range 2048, I.W b h g t u := by
    rw [Finset.mul_sum, Finset.mul_sum, ← Finset.sum_sub_distrib]
    refine Finset.sum_congr rfl fun u _ => ?_
    rw [I.rds_eq, Ins.DS, I.P_eq]
    ring
  rw [hs, hG, hW, I.rdd_eq]
  field_simp
  ring

/-! ## Sums that only two neighbouring blocks carry -/

theorem sum_blocks (F : ℕ → ℝ) : ∑ t ∈ Finset.range 2048, F t = ∑ i ∈ Finset.range 16, ∑ t ∈ Finset.range 128, F (128 * i + t) := by
  rw [← sum_groups 16 128 (by norm_num) fun i t => F (128 * i + t)]
  exact Finset.sum_congr rfl fun x _ => congrArg F (Nat.div_add_mod x 128).symm

theorem sum_two_blocks (F : ℕ → ℝ) (j : ℕ) (hj : j < 16) (hF : ∀ t, t < 2048 → t < 128 * j ∨ 128 * j + 256 ≤ t → F t = 0) :
    ∑ t ∈ Finset.range 2048, F t = (∑ t ∈ Finset.range 128, F (128 * j + t)) + if j < 15 then ∑ t ∈ Finset.range 128, F (128 * (j + 1) + t) else 0 := by
  have h0 : ∀ i ∈ Finset.range 16, i ≠ j → i ≠ j + 1 → ∑ t ∈ Finset.range 128, F (128 * i + t) = 0 := fun i hi h1 h2 =>
    Finset.sum_eq_zero fun t ht => hF _ (by have := Finset.mem_range.mp hi; have := Finset.mem_range.mp ht; omega)
      (by have := Finset.mem_range.mp ht; omega)
  rw [sum_blocks]
  by_cases h : j < 15
  · rw [if_pos h]
    exact Finset.sum_eq_add_of_mem j (j + 1) (Finset.mem_range.mpr hj) (Finset.mem_range.mpr (by omega)) (by omega)
      fun i hi hne => h0 i hi hne.1 hne.2
  · rw [if_neg h, add_zero]
    exact Finset.sum_eq_single_of_mem j (Finset.mem_range.mpr hj) fun i hi hne => h0 i hi hne (by have := Finset.mem_range.mp hi; omega)

theorem Ins.P_zero (hv : ¬Vis t u) : I.P b h g t u = 0 := if_neg hv
theorem Ins.DS_zero (hv : ¬Vis t u) : I.DS b h g t u = 0 := by rw [Ins.DS, I.P_zero b h g t u hv, zero_mul]

/-- The kernel's writing of the rotation back: the neighbour's sine carries the sign. -/
theorem unrot_eq (x a : ℕ → ℝ) (C N : ℝ) (hC : C = Real.cos (a (l % 32)))
    (hN : N = if l / 32 % 2 = 0 then -Real.sin (a (l % 32)) else Real.sin (a (l % 32))) :
    x l * C - x (if l % 64 < 32 then l + 32 else l - 32) * N = unrot x a l := by
  subst hC hN
  unfold unrot
  by_cases hl : l % 64 < 32
  · rw [if_pos hl, if_pos hl, if_pos (by omega)]; ring
  · rw [if_neg hl, if_neg hl, if_neg (by omega)]

end Cert.Attn
end
-- ==== Proof.Body.lean ====
/-
  The arithmetic of one grid point of the backward call, written out: helper functions of the kernel's source
  (the lane masks, the masked stacks, the doubled halves, the column statistics, the products of one unit, the
  folds and the rotation), each a function on vectors over any float operations.
-/
module

public import proofs.«01_k».proof.Proof.Gen.KernelIdeal

@[expose] public section

set_option synthInstance.maxSize 4096

noncomputable section

namespace Cert.KernelIdeal.Attn

open Idealize.ShloMosaic Idealize.SL.Sem Cert.KernelIdeal Cert.KernelIdeal.Gen

variable {F : FTy → Type} [FloatOps F] [Named F]

/-! ## Lanes and masks -/

/-- The lane number modulo `n`, of every element of a 128 by 128 tile. -/
def laneMod (n : BitVec 32) : IVec S128x128 32 :=
  let d : BitVec 32 := Scalar.select (Scalar.cmpi .eq n 0#32) 1#32 n
  have r : IVec S128x128 32 := remsi (iota .tc S128x128 32 [1] iota_S128x128_d1_w32) (broadcast S128x128 d)
  have neg : IVec S128x128 1 := cmpi .slt r (broadcast S128x128 0#32)
  have sgn : IVec S128x128 1 := broadcastTo S128x128 (broadcast S128x128 (Scalar.cmpi .slt d 0#32)) broadcasts_S128x128_S128x128
  select (andi (xori neg sgn) (cmpi .ne r (broadcast S128x128 0#32))) (addi r (broadcast S128x128 d)) r

/-- The lower 64 lanes of a pair of heads. -/
def loHalf : IVec S128x128 1 := cmpi .slt (laneMod 128#32) (broadcast S128x128 64#32)
/-- The upper 64 lanes of a pair of heads. -/
def hiHalf : IVec S128x128 1 := cmpi .sge (laneMod 128#32) (broadcast S128x128 64#32)
/-- The lower half of the lanes of each head. -/
def loQuarter : IVec S128x128 1 := cmpi .slt (laneMod 64#32) (broadcast S128x128 32#32)

/-- The row number within its head, of every element of a stacked tile. -/
def rowMod : IVec S1024x128 32 :=
  let d : BitVec 32 := Scalar.select (Scalar.cmpi .eq 128#32 0#32) 1#32 128#32
  have r : IVec S1024x128 32 := remsi (iota .tc S1024x128 32 [0] iota_S1024x128_d0_w32) (broadcast S1024x128 d)
  have neg : IVec S1024x128 1 := cmpi .slt r (broadcast S1024x128 0#32)
  have sgn : IVec S1024x128 1 := broadcastTo S1024x128 (broadcast S1024x128 (Scalar.cmpi .slt d 0#32)) broadcasts_S1024x128_S1024x128
  select (andi (xori neg sgn) (cmpi .ne r (broadcast S1024x128 0#32))) (addi r (broadcast S1024x128 d)) r

/-- Tile 0: a query sees the keys up to its own. -/
def valid0 : IVec S1024x128 1 := cmpi .sge rowMod (iota .tc S1024x128 32 [1] iota_S1024x128_d1_w32)
/-- Tile 1: a query of the next block sees the keys at most 127 back, and there is a next block. -/
def valid1 (i : grid0.Coords) : IVec S1024x128 1 :=
  andi (cmpi .sle (subi (addi rowMod (broadcast S1024x128 128#32)) (iota .tc S1024x128 32 [1] iota_S1024x128_d1_w32)) (broadcast S1024x128 127#32))
    (broadcast S1024x128 (Scalar.cmpi .slt (Scalar.addi (BitVec.ofNat 32 (i 2).val) 1#32) 16#32))

/-! ## Operands of a unit -/

/-- The bf16 zero a mask writes. -/
def zeroB : F .bf16 := Scalar.truncf .bf16 bitsLt_bf16_f32 (Scalar.ofBits .f32 0x00000000#32)
/-- A pair of heads with the upper one zeroed. -/
def keepLo (x : FVec F S128x128 .bf16) : FVec F S128x128 .bf16 := select loHalf x (broadcast S128x128 zeroB)
/-- A pair of heads with the lower one zeroed. -/
def keepHi (x : FVec F S128x128 .bf16) : FVec F S128x128 .bf16 := select hiHalf x (broadcast S128x128 zeroB)

/-- Eight tiles, one under another. -/
def stack8 (a b c d e f g h : FVec F S128x128 .bf16) : FVec F S1024x128 .bf16 :=
  concatenate S1024x128 0 [⟨S128x128, a⟩, ⟨S128x128, b⟩, ⟨S128x128, c⟩, ⟨S128x128, d⟩, ⟨S128x128, e⟩, ⟨S128x128, f⟩, ⟨S128x128, g⟩, ⟨S128x128, h⟩]
    concatenates_S128x128_S128x128_S128x128_S128x128_S128x128_S128x128_S128x128_S128x128_S1024x128_d0

/-- The eight heads of the first key head, stacked, each zero outside its own lanes. -/
def stackA (x : FVec F S128x1024 .bf16) : FVec F S1024x128 .bf16 :=
  stack8 (keepLo (extractStridedSlice S128x128 ![0, 0] x slices_S128x1024_o0_0_S128x128)) (keepHi (extractStridedSlice S128x128 ![0, 0] x slices_S128x1024_o0_0_S128x128))
    (keepLo (extractStridedSlice S128x128 ![0, 128] x slices_S128x1024_o0_128_S128x128)) (keepHi (extractStridedSlice S128x128 ![0, 128] x slices_S128x1024_o0_128_S128x128))
    (keepLo (extractStridedSlice S128x128 ![0, 256] x slices_S128x1024_o0_256_S128x128)) (keepHi (extractStridedSlice S128x128 ![0, 256] x slices_S128x1024_o0_256_S128x128))
    (keepLo (extractStridedSlice S128x128 ![0, 384] x slices_S128x1024_o0_384_S128x128)) (keepHi (extractStridedSlice S128x128 ![0, 384] x slices_S128x1024_o0_384_S128x128))
/-- The eight heads of the second key head, stacked. -/
def stackB (x : FVec F S128x1024 .bf16) : FVec F S1024x128 .bf16 :=
  stack8 (keepLo (extractStridedSlice S128x128 ![0, 512] x slices_S128x1024_o0_512_S128x128)) (keepHi (extractStridedSlice S128x128 ![0, 512] x slices_S128x1024_o0_512_S128x128))
    (keepLo (extractStridedSlice S128x128 ![0, 640] x slices_S128x1024_o0_640_S128x128)) (keepHi (extractStridedSlice S128x128 ![0, 640] x slices_S128x1024_o0_640_S128x128))
    (keepLo (extractStridedSlice S128x128 ![0, 768] x slices_S128x1024_o0_768_S128x128)) (keepHi (extractStridedSlice S128x128 ![0, 768] x slices_S128x1024_o0_768_S128x128))
    (keepLo (extractStridedSlice S128x128 ![0, 896] x slices_S128x1024_o0_896_S128x128)) (keepHi (extractStridedSlice S128x128 ![0, 896] x slices_S128x1024_o0_896_S128x128))

/-- Eight columns, one under another, along all lanes. -/
def cols8 (a b c d e f g h : FVec F S128x1 .f32) : FVec F S1024x128 .f32 :=
  broadcastTo S1024x128 (shapeCast S1024x1 (concatenate S1024x1 0 [⟨S128x1, a⟩, ⟨S128x1, b⟩, ⟨S128x1, c⟩, ⟨S128x1, d⟩, ⟨S128x1, e⟩, ⟨S128x1, f⟩, ⟨S128x1, g⟩, ⟨S128x1, h⟩]
    concatenates_S128x1_S128x1_S128x1_S128x1_S128x1_S128x1_S128x1_S128x1_S1024x1_d0) shapeCasts_S1024x1_S1024x1) broadcasts_S1024x1_S1024x128
/-- A statistic of the eight heads of the first key head, stacked. -/
def colsA (x : FVec F S128x1024 .f32) : FVec F S1024x128 .f32 :=
  cols8 (extractStridedSlice S128x1 ![0, 0] x slices_S128x1024_o0_0_S128x1) (extractStridedSlice S128x1 ![0, 64] x slices_S128x1024_o0_64_S128x1)
    (extractStridedSlice S128x1 ![0, 128] x slices_S128x1024_o0_128_S128x1) (extractStridedSlice S128x1 ![0, 192] x slices_S128x1024_o0_192_S128x1)
    (extractStridedSlice S128x1 ![0, 256] x slices_S128x1024_o0_256_S128x1) (extractStridedSlice S128x1 ![0, 320] x slices_S128x1024_o0_320_S128x1)
    (extractStridedSlice S128x1 ![0, 384] x slices_S128x1024_o0_384_S128x1) (extractStridedSlice S128x1 ![0, 448] x slices_S128x1024_o0_448_S128x1)
/-- A statistic of the eight heads of the second key head, stacked. -/
def colsB (x : FVec F S128x1024 .f32) : FVec F S1024x128 .f32 :=
  cols8 (extractStridedSlice S128x1 ![0, 512] x slices_S128x1024_o0_512_S128x1) (extractStridedSlice S128x1 ![0, 576] x slices_S128x1024_o0_576_S128x1)
    (extractStridedSlice S128x1 ![0, 640] x slices_S128x1024_o0_640_S128x1) (extractStridedSlice S128x1 ![0, 704] x slices_S128x1024_o0_704_S128x1)
    (extractStridedSlice S128x1 ![0, 768] x slices_S128x1024_o0_768_S128x1) (extractStridedSlice S128x1 ![0, 832] x slices_S128x1024_o0_832_S128x1)
    (extractStridedSlice S128x1 ![0, 896] x slices_S128x1024_o0_896_S128x1) (extractStridedSlice S128x1 ![0, 960] x slices_S128x1024_o0_960_S128x1)

/-- The first key head in both halves of the lanes. -/
def dupA (x : FVec F S128x128 .bf16) : FVec F S128x128 .bf16 := select loHalf x (dynamicRotate 1 64#32 none x rotates_S128x128_d1)
/-- The second key head in both halves of the lanes. -/
def dupB (x : FVec F S128x128 .bf16) : FVec F S128x128 .bf16 := select hiHalf x (dynamicRotate 1 64#32 none x rotates_S128x128_d1)

/-! ## The products of a unit -/

/-- Rows against keys: scores, and the cotangent of the probabilities. -/
def scores (q : FVec F S1024x128 .bf16) (k : FVec F S128x128 .bf16) : FVec F S1024x128 .f32 :=
  matmul dot_S1024x128_S128x128_S1024x128_1_1_0_0_n_n none q k (constant S1024x128 .f32 0x00000000#32)
/-- The probabilities from the scores and the saved logarithms. -/
def probs (valid : IVec S1024x128 1) (s l : FVec F S1024x128 .f32) : FVec F S1024x128 .f32 :=
  exp (subf (select valid s (broadcast S1024x128 (Named.named κ "mask" 0xF149F2CA#32))) l)
/-- The cotangent of the scores. -/
def dscores (p dp d : FVec F S1024x128 .f32) : FVec F S1024x128 .bf16 := truncf .bf16 (mulf p (addf dp d)) bitsLt_bf16_f32
/-- The part of a value or key gradient a unit adds. -/
def toKeys (w x : FVec F S1024x128 .bf16) : FVec F S128x128 .f32 :=
  matmul dot_S1024x128_S1024x128_S128x128_0_0_1_1_n_n none w x (constant S128x128 .f32 0x00000000#32)
/-- The query gradient of a unit, scaled. -/
def toRows (w : FVec F S1024x128 .bf16) (k : FVec F S128x128 .bf16) : FVec F S1024x128 .f32 :=
  mulf (matmul dot_S1024x128_S128x128_S1024x128_1_0_0_1_n_n none w k (constant S1024x128 .f32 0x00000000#32))
    (broadcast S1024x128 (Scalar.ofBits .f32 0x3E000000#32))

/-! ## Folding back to lanes -/

/-- The two halves of the lanes added. -/
def fold (x : FVec F S128x128 .f32) : FVec F S128x128 .f32 := addf x (dynamicRotate 1 64#32 none x rotates_S128x128_d1)
/-- The lower lanes of one tile and the upper lanes of the other. -/
def pick (lo hi : FVec F S128x128 .f32) : FVec F S128x128 .f32 := select loHalf lo hi

def pick0 (x : FVec F S1024x128 .f32) : FVec F S128x128 .f32 :=
  pick (extractStridedSlice S128x128 ![0, 0] x slices_S1024x128_o0_0_S128x128) (extractStridedSlice S128x128 ![128, 0] x slices_S1024x128_o128_0_S128x128)
def pick1 (x : FVec F S1024x128 .f32) : FVec F S128x128 .f32 :=
  pick (extractStridedSlice S128x128 ![256, 0] x slices_S1024x128_o256_0_S128x128) (extractStridedSlice S128x128 ![384, 0] x slices_S1024x128_o384_0_S128x128)
def pick2 (x : FVec F S1024x128 .f32) : FVec F S128x128 .f32 :=
  pick (extractStridedSlice S128x128 ![512, 0] x slices_S1024x128_o512_0_S128x128) (extractStridedSlice S128x128 ![640, 0] x slices_S1024x128_o640_0_S128x128)
def pick3 (x : FVec F S1024x128 .f32) : FVec F S128x128 .f32 :=
  pick (extractStridedSlice S128x128 ![768, 0] x slices_S1024x128_o768_0_S128x128) (extractStridedSlice S128x128 ![896, 0] x slices_S1024x128_o896_0_S128x128)

/-- Eight tiles, side by side. -/
def beside8 (a b c d e f g h : FVec F S128x128 .f32) : FVec F S128x1024 .f32 :=
  concatenate S128x1024 1 [⟨S128x128, a⟩, ⟨S128x128, b⟩, ⟨S128x128, c⟩, ⟨S128x128, d⟩, ⟨S128x128, e⟩, ⟨S128x128, f⟩, ⟨S128x128, g⟩, ⟨S128x128, h⟩]
    concatenates_S128x128_S128x128_S128x128_S128x128_S128x128_S128x128_S128x128_S128x128_S128x1024_d1

/-- The query gradients of the two units of a tile, back in lanes. -/
def rowsToLanes (a b : FVec F S1024x128 .f32) : FVec F S128x1024 .f32 :=
  beside8 (pick0 a) (pick1 a) (pick2 a) (pick3 a) (pick0 b) (pick1 b) (pick2 b) (pick3 b)

/-! ## The inverse rotation -/

/-- The matrix that swaps the halves of each head. -/
def swapMat : FVec F S128x128 .bf16 :=
  have ln : IVec S128x128 32 := iota .tc S128x128 32 [1] iota_S128x128_d1_w32
  truncf .bf16 (select (cmpi .eq (iota .tc S128x128 32 [0] iota_S128x128_d0_w32)
      (select loQuarter (addi ln (broadcast S128x128 32#32)) (subi ln (broadcast S128x128 32#32))))
    (broadcast S128x128 (Scalar.ofBits .f32 0x3F800000#32)) (broadcast S128x128 (Scalar.ofBits .f32 0x00000000#32)) : FVec F S128x128 .f32) bitsLt_bf16_f32

/-- A tile rotated back by its angles. -/
def unrope (x cs sn : FVec F S128x128 .f32) : FVec F S128x128 .f32 :=
  addf (mulf x cs) (mulf (broadcast S128x128 (Scalar.ofBits .f32 0xBF800000#32))
    (mulf (matmul dot_S128x128_S128x128_S128x128_1_0_0_1_n_n none (truncf .bf16 x bitsLt_bf16_f32) swapMat (constant S128x128 .f32 0x00000000#32)) sn))

/-- All query heads rotated back. -/
def unropeAll (x : FVec F S128x1024 .f32) (cs sn : FVec F S128x128 .f32) : FVec F S128x1024 .f32 :=
  beside8 (unrope (extractStridedSlice S128x128 ![0, 0] x slices_S128x1024_o0_0_S128x128) cs sn)
    (unrope (extractStridedSlice S128x128 ![0, 128] x slices_S128x1024_o0_128_S128x128) cs sn)
    (unrope (extractStridedSlice S128x128 ![0, 256] x slices_S128x1024_o0_256_S128x128) cs sn)
    (unrope (extractStridedSlice S128x128 ![0, 384] x slices_S128x1024_o0_384_S128x128) cs sn)
    (unrope (extractStridedSlice S128x128 ![0, 512] x slices_S128x1024_o0_512_S128x128) cs sn)
    (unrope (extractStridedSlice S128x128 ![0, 640] x slices_S128x1024_o0_640_S128x128) cs sn)
    (unrope (extractStridedSlice S128x128 ![0, 768] x slices_S128x1024_o0_768_S128x128) cs sn)
    (unrope (extractStridedSlice S128x128 ![0, 896] x slices_S128x1024_o0_896_S128x128) cs sn)

/-! ## One grid point -/

/-- A wide bf16 block without its leading axis. -/
def wideB (x : FVec F S1x128x1024 .bf16) : FVec F S128x1024 .bf16 := shapeCast S128x1024 x shapeCasts_S1x128x1024_S128x1024
/-- A wide f32 block without its leading axis. -/
def wideF (x : FVec F S1x128x1024 .f32) : FVec F S128x1024 .f32 := shapeCast S128x1024 x shapeCasts_S1x128x1024_S128x1024
/-- A narrow bf16 block without its leading axis. -/
def tileB (x : FVec F S1x128x128 .bf16) : FVec F S128x128 .bf16 := shapeCast S128x128 x shapeCasts_S1x128x128_S128x128
/-- A narrow f32 block without its leading axis. -/
def tileF (x : FVec F S1x128x128 .f32) : FVec F S128x128 .f32 := shapeCast S128x128 x shapeCasts_S1x128x128_S128x128
/-- The queries, scaled. -/
def scaled (x : FVec F S1x128x1024 .bf16) : FVec F S128x1024 .bf16 := mulf (wideB x) (broadcast S128x1024 (Scalar.ofBits .bf16 0x3E00#16))

/-- The probabilities of one unit: rows `q`, doubled keys `k`, saved logarithms `l`. -/
abbrev unitP (valid : IVec S1024x128 1) (q : FVec F S1024x128 .bf16) (k : FVec F S128x128 .bf16) (l : FVec F S1024x128 .f32) : FVec F S1024x128 .f32 :=
  probs valid (scores q k) l
/-- The score cotangents of one unit. -/
abbrev unitDS (valid : IVec S1024x128 1) (q o : FVec F S1024x128 .bf16) (k v : FVec F S128x128 .bf16) (l d : FVec F S1024x128 .f32) : FVec F S1024x128 .bf16 :=
  dscores (unitP valid q k l) (scores o v) d

/-- One key head's value gradient: both tiles, folded. -/
def headDV (v0 v1 : IVec S1024x128 1) (q0 o0 q1 o1 : FVec F S1024x128 .bf16) (k : FVec F S128x128 .bf16) (l0 l1 : FVec F S1024x128 .f32) : FVec F S128x128 .f32 :=
  fold (addf (toKeys (truncf .bf16 (unitP v0 q0 k l0) bitsLt_bf16_f32) o0) (toKeys (truncf .bf16 (unitP v1 q1 k l1) bitsLt_bf16_f32) o1))
/-- One key head's key gradient: both tiles, folded. -/
def headDK (v0 v1 : IVec S1024x128 1) (q0 o0 q1 o1 : FVec F S1024x128 .bf16) (k v : FVec F S128x128 .bf16) (l0 d0 l1 d1 : FVec F S1024x128 .f32) : FVec F S128x128 .f32 :=
  fold (addf (toKeys (unitDS v0 q0 o0 k v l0 d0) q0) (toKeys (unitDS v1 q1 o1 k v l1 d1) q1))

/-- The value gradient a grid point stores; `la`, `lb` are the saved logarithms of its own queries, stacked. -/
def outDV (i : grid0.Coords) (x0 : FVec F S1x128x128 .bf16) (x4 x5 x8 x9 : FVec F S1x128x1024 .bf16) (x10 : FVec F S1x128x1024 .f32)
    (la lb : FVec F S1024x128 .f32) : FVec F S1x128x128 .bf16 :=
  shapeCast S1x128x128 (truncf .bf16 (pick
    (headDV valid0 (valid1 i) (stackA (scaled x4)) (stackA (wideB x5)) (stackA (scaled x8)) (stackA (wideB x9)) (dupA (tileB x0)) la (colsA (wideF x10)))
    (headDV valid0 (valid1 i) (stackB (scaled x4)) (stackB (wideB x5)) (stackB (scaled x8)) (stackB (wideB x9)) (dupB (tileB x0)) lb (colsB (wideF x10))))
    bitsLt_bf16_f32) shapeCasts_S128x128_S1x128x128

/-- The key gradient a grid point stores. -/
def outDK (i : grid0.Coords) (x0 x1 : FVec F S1x128x128 .bf16) (x2 x3 : FVec F S1x128x128 .f32) (x4 x5 x8 x9 : FVec F S1x128x1024 .bf16) (x10 x11 : FVec F S1x128x1024 .f32)
    (la lb da db : FVec F S1024x128 .f32) : FVec F S1x128x128 .bf16 :=
  shapeCast S1x128x128 (truncf .bf16 (unrope (pick
    (headDK valid0 (valid1 i) (stackA (scaled x4)) (stackA (wideB x5)) (stackA (scaled x8)) (stackA (wideB x9)) (dupA (tileB x0)) (dupA (tileB x1)) la da (colsA (wideF x10)) (colsA (wideF x11)))
    (headDK valid0 (valid1 i) (stackB (scaled x4)) (stackB (wideB x5)) (stackB (scaled x8)) (stackB (wideB x9)) (dupB (tileB x0)) (dupB (tileB x1)) lb db (colsB (wideF x10)) (colsB (wideF x11))))
    (tileF x2) (tileF x3)) bitsLt_bf16_f32) shapeCasts_S128x128_S1x128x128

/-- What a grid point's keys add to the query gradient of its own queries, before the rotation. -/
def curDQ (x0 x1 : FVec F S1x128x128 .bf16) (x4 x5 : FVec F S1x128x1024 .bf16) (la lb da db : FVec F S1024x128 .f32) : FVec F S128x1024 .f32 :=
  rowsToLanes (toRows (unitDS valid0 (stackA (scaled x4)) (stackA (wideB x5)) (dupA (tileB x0)) (dupA (tileB x1)) la da) (dupA (tileB x0)))
    (toRows (unitDS valid0 (stackB (scaled x4)) (stackB (wideB x5)) (dupB (tileB x0)) (dupB (tileB x1)) lb db) (dupB (tileB x0)))

/-- What a grid point's keys add to the query gradient of the next block's queries, before the rotation. -/
def nextDQ (i : grid0.Coords) (x0 x1 : FVec F S1x128x128 .bf16) (x8 x9 : FVec F S1x128x1024 .bf16) (x10 x11 : FVec F S1x128x1024 .f32) : FVec F S128x1024 .f32 :=
  rowsToLanes (toRows (unitDS (valid1 i) (stackA (scaled x8)) (stackA (wideB x9)) (dupA (tileB x0)) (dupA (tileB x1)) (colsA (wideF x10)) (colsA (wideF x11))) (dupA (tileB x0)))
    (toRows (unitDS (valid1 i) (stackB (scaled x8)) (stackB (wideB x9)) (dupB (tileB x0)) (dupB (tileB x1)) (colsB (wideF x10)) (colsB (wideF x11))) (dupB (tileB x0)))

/-- The query gradient a grid point stores: its own part plus what the point before left. -/
def outDQ (x0 x1 : FVec F S1x128x128 .bf16) (x2 x3 : FVec F S1x128x128 .f32) (x4 x5 : FVec F S1x128x1024 .bf16) (la lb da db : FVec F S1024x128 .f32)
    (carry : FVec F S128x1024 .f32) : FVec F S1x128x1024 .bf16 :=
  shapeCast S1x128x1024 (truncf .bf16 (unropeAll (addf (curDQ x0 x1 x4 x5 la lb da db) carry) (tileF x2) (tileF x3)) bitsLt_bf16_f32) shapeCasts_S128x1024_S1x128x1024

end Cert.KernelIdeal.Attn

end
-- ==== Proof.BodyAt.lean ====
/-
  The helpers of one grid point read at an index, over the reals: where an operand is an array of reals, so is the
  result, and each element is the sum, product or choice of elements written here.
-/
module

public import proofs.«01_k».proof.Proof.Body
public import proofs.«01_k».proof.Proof.Reals
public import Idealize.ShloMosaic.Lib.Pointwise
public import Idealize.ShloMosaic.Lib.WordCmp
public import Idealize.ShloMosaic.Lib.Tactic.WordOmega

@[expose] public section

set_option maxRecDepth 16384

noncomputable section

namespace Cert.KernelIdeal.Attn

open Idealize.ShloMosaic Idealize.SL.Sem Cert.KernelIdeal Cert.KernelIdeal.Gen Cert.Attn
open scoped BigOperators

/-- The array `x` holds the reals `X`. -/
def Holds {a b : ℕ} (x : (⟨2, ![a, b]⟩ : Shape).Idx → EReal) (X : ℕ → ℕ → ℝ) : Prop :=
  ∀ (r : Fin a) (l : Fin b), x (ix2 r l) = ((X r.val l.val : ℝ) : EReal)

/-- The block `x`, of one leading index, holds the reals `X`. -/
def Holds3 {a b : ℕ} (x : (⟨3, ![1, a, b]⟩ : Shape).Idx → EReal) (X : ℕ → ℕ → ℝ) : Prop :=
  ∀ (r : Fin a) (l : Fin b), x (ix3 (0 : Fin 1) r l) = ((X r.val l.val : ℝ) : EReal)

/-! ## Masks -/

theorem loHalf_at (r l : Fin 128) : loHalf (ix2 r l) = if l.val < 64 then 1#1 else 0#1 := by
  pointwise [loHalf, laneMod]
  revert l; decide +kernel
theorem hiHalf_at (r l : Fin 128) : hiHalf (ix2 r l) = if l.val < 64 then 0#1 else 1#1 := by
  pointwise [hiHalf, laneMod]
  revert l; decide +kernel
theorem loQuarter_at (r l : Fin 128) : loQuarter (ix2 r l) = if l.val % 64 < 32 then 1#1 else 0#1 := by
  pointwise [loQuarter, laneMod]
  revert l; decide +kernel
theorem rowMod_at (r : Fin 1024) (l : Fin 128) : rowMod (ix2 r l) = BitVec.ofNat 32 (r.val % 128) := by
  pointwise [rowMod]
  revert r; decide +kernel

theorem cmp_sge (a b : ℕ) (ha : a < 1024) (hb : b < 1024) :
    IntOp.cmpi .sge (BitVec.ofNat 32 a) (BitVec.ofNat 32 b) = if b ≤ a then 1#1 else 0#1 := by
  word_cmp
  by_cases h : b ≤ a <;> simp [h]

theorem valid0_at (r : Fin 1024) (l : Fin 128) : valid0 (ix2 r l) = if l.val ≤ r.val % 128 then 1#1 else 0#1 := by
  pointwise [valid0]
  rw [rowMod_at]
  exact cmp_sge _ _ (by first | omega | (simp only []; omega)) (by first | omega | (simp only []; omega))

theorem valid1_at (i : grid0.Coords) (r : Fin 1024) (l : Fin 128) :
    valid1 i (ix2 r l) = if r.val % 128 < l.val ∧ (i 2).val < 15 then 1#1 else 0#1 := by
  pointwise [valid1]
  rw [rowMod_at]
  have h1 : IntOp.cmpi .sle (IntOp.subi (IntOp.addi (BitVec.ofNat 32 (r.val % 128)) 128#32) (BitVec.ofNat 32 l.val)) 127#32
      = if r.val % 128 < l.val then 1#1 else 0#1 := by
    have : ∀ (a b : Fin 128), IntOp.cmpi .sle (IntOp.subi (IntOp.addi (BitVec.ofNat 32 a.val) 128#32) (BitVec.ofNat 32 b.val)) 127#32
      = if a.val < b.val then 1#1 else 0#1 := by decide +kernel
    exact this ⟨r.val % 128, by omega⟩ l
  have h2 : Scalar.cmpi .slt (Scalar.addi (BitVec.ofNat 32 (i 2).val) 1#32) 16#32 = if (i 2).val < 15 then 1#1 else 0#1 := by
    have : ∀ (a : Fin 16), Scalar.cmpi .slt (Scalar.addi (BitVec.ofNat 32 a.val) 1#32) 16#32 = if a.val < 15 then 1#1 else 0#1 := by decide +kernel
    exact this (i 2)
  refine (congrArg₂ IntOp.andi h1 h2).trans ?_
  split_ifs <;> first | rfl | (exfalso; omega)

/-! ## Operands of a unit -/

theorem zeroB_eq : (zeroB : Ideal .bf16) = 0 := Ideal.ofBits_zero_f32

theorem keepLo_at (x : FVec Ideal S128x128 .bf16) (r l : Fin 128) : keepLo x (ix2 r l) = if l.val < 64 then x (ix2 r l) else 0 := by
  pointwise [keepLo]
  rw [loHalf_at, zeroB_eq]
  split_ifs <;> rfl
theorem keepHi_at (x : FVec Ideal S128x128 .bf16) (r l : Fin 128) : keepHi x (ix2 r l) = if l.val < 64 then 0 else x (ix2 r l) := by
  pointwise [keepHi]
  rw [hiHalf_at, zeroB_eq]
  split_ifs <;> rfl

/-- A pair of heads cut out of eight pairs. -/
theorem slice_holds {c : ℕ} {φ : FTy} {x : FVec Ideal S128x1024 φ} {X : ℕ → ℕ → ℝ} (h : Holds x X) (hs : S128x1024.Slices ![0, c] S128x128) :
    Holds (extractStridedSlice S128x128 ![0, c] x hs) fun r l => X r (c + l) := by
  intro r l
  pointwise []
  rw [h]

theorem keepLo_holds {x : FVec Ideal S128x128 .bf16} {X : ℕ → ℕ → ℝ} (h : Holds x X) : Holds (keepLo x) fun r l => if l / 64 = 0 then X r l else 0 := by
  intro r l
  rw [keepLo_at, h]
  show _ = ((if l.val / 64 = 0 then X r.val l.val else 0 : ℝ) : EReal)
  split_ifs <;> first | rfl | (exfalso; omega)
theorem keepHi_holds {x : FVec Ideal S128x128 .bf16} {X : ℕ → ℕ → ℝ} (h : Holds x X) : Holds (keepHi x) fun r l => if l / 64 = 1 then X r l else 0 := by
  intro r l
  rw [keepHi_at, h]
  show _ = ((if l.val / 64 = 1 then X r.val l.val else 0 : ℝ) : EReal)
  split_ifs <;> first | rfl | (exfalso; omega)

theorem stack8_holds {a b c d e f g h : FVec Ideal S128x128 .bf16} {Y : ℕ → ℕ → ℕ → ℝ} (h0 : Holds a (Y 0)) (h1 : Holds b (Y 1))
    (h2 : Holds c (Y 2)) (h3 : Holds d (Y 3)) (h4 : Holds e (Y 4)) (h5 : Holds f (Y 5)) (h6 : Holds g (Y 6)) (h7 : Holds h (Y 7)) :
    Holds (stack8 a b c d e f g h) fun r l => Y (r / 128) (r % 128) l := by
  intro r l
  have hr := r.isLt
  pointwise [stack8]
  simp only [h0 _ _, h1 _ _, h2 _ _, h3 _ _, h4 _ _, h5 _ _, h6 _ _, h7 _ _]
  split_ifs
  all_goals exact (congrArg₂ (fun k m => ((Y k m l.val : ℝ) : EReal)) (by first | omega | (simp only []; omega)) (by first | omega | (simp only []; omega)))

/-- The rows of eight stacked heads of a wide block, beginning at lane `c`. -/
def stacked (X : ℕ → ℕ → ℝ) (c : ℕ) (r l : ℕ) : ℝ := if l / 64 = r / 128 % 2 then X (r % 128) (c + r / 256 * 128 + l) else 0

theorem stackA_holds {x : FVec Ideal S128x1024 .bf16} {X : ℕ → ℕ → ℝ} (h : Holds x X) : Holds (stackA x) (stacked X 0) := by
  refine fun r l => (stack8_holds (Y := fun g r l => if l / 64 = g % 2 then X r (0 + g / 2 * 128 + l) else 0) ?_ ?_ ?_ ?_ ?_ ?_ ?_ ?_ r l).trans
    (congrArg (fun k => ((if l.val / 64 = r.val / 128 % 2 then X (r.val % 128) (0 + k * 128 + l.val) else 0 : ℝ) : EReal)) (by first | omega | (simp only []; omega)))
  · exact keepLo_holds (slice_holds h _)
  · exact keepHi_holds (slice_holds h _)
  · exact keepLo_holds (slice_holds h _)
  · exact keepHi_holds (slice_holds h _)
  · exact keepLo_holds (slice_holds h _)
  · exact keepHi_holds (slice_holds h _)
  · exact keepLo_holds (slice_holds h _)
  · exact keepHi_holds (slice_holds h _)
theorem stackB_holds {x : FVec Ideal S128x1024 .bf16} {X : ℕ → ℕ → ℝ} (h : Holds x X) : Holds (stackB x) (stacked X 512) := by
  refine fun r l => (stack8_holds (Y := fun g r l => if l / 64 = g % 2 then X r (512 + g / 2 * 128 + l) else 0) ?_ ?_ ?_ ?_ ?_ ?_ ?_ ?_ r l).trans
    (congrArg (fun k => ((if l.val / 64 = r.val / 128 % 2 then X (r.val % 128) (512 + k * 128 + l.val) else 0 : ℝ) : EReal)) (by first | omega | (simp only []; omega)))
  · exact keepLo_holds (slice_holds h _)
  · exact keepHi_holds (slice_holds h _)
  · exact keepLo_holds (slice_holds h _)
  · exact keepHi_holds (slice_holds h _)
  · exact keepLo_holds (slice_holds h _)
  · exact keepHi_holds (slice_holds h _)
  · exact keepLo_holds (slice_holds h _)
  · exact keepHi_holds (slice_holds h _)

theorem cols8_at (a b c d e f g h : FVec Ideal S128x1 .f32) (Y : ℕ → ℕ → ℝ) (h0 : Holds a fun r _ => Y 0 r) (h1 : Holds b fun r _ => Y 1 r)
    (h2 : Holds c fun r _ => Y 2 r) (h3 : Holds d fun r _ => Y 3 r) (h4 : Holds e fun r _ => Y 4 r) (h5 : Holds f fun r _ => Y 5 r)
    (h6 : Holds g fun r _ => Y 6 r) (h7 : Holds h fun r _ => Y 7 r) : Holds (cols8 a b c d e f g h) fun r _ => Y (r / 128) (r % 128) := by
  intro r l
  have hr := r.isLt
  pointwise [cols8]
  simp only [h0 _ _, h1 _ _, h2 _ _, h3 _ _, h4 _ _, h5 _ _, h6 _ _, h7 _ _]
  split_ifs
  all_goals exact (congrArg₂ (fun k m => ((Y k m : ℝ) : EReal)) (by first | omega | (simp only []; omega)) (by first | omega | (simp only []; omega)))

theorem colsA_holds {x : FVec Ideal S128x1024 .f32} {X : ℕ → ℕ → ℝ} (h : Holds x X) : Holds (colsA x) fun r _ => X (r % 128) (0 + r / 128 * 64) := by
  refine cols8_at _ _ _ _ _ _ _ _ (fun g r => X r (0 + g * 64)) ?_ ?_ ?_ ?_ ?_ ?_ ?_ ?_
  all_goals
    intro r l
    pointwise []
    rw [h]
    exact congrArg (fun m => ((X r.val m : ℝ) : EReal)) (by first | omega | (simp only []; omega))
theorem colsB_holds {x : FVec Ideal S128x1024 .f32} {X : ℕ → ℕ → ℝ} (h : Holds x X) : Holds (colsB x) fun r _ => X (r % 128) (512 + r / 128 * 64) := by
  refine cols8_at _ _ _ _ _ _ _ _ (fun g r => X r (512 + g * 64)) ?_ ?_ ?_ ?_ ?_ ?_ ?_ ?_
  all_goals
    intro r l
    pointwise []
    rw [h]
    exact congrArg (fun m => ((X r.val m : ℝ) : EReal)) (by first | omega | (simp only []; omega))

theorem dupA_holds {x : FVec Ideal S128x128 .bf16} {X : ℕ → ℕ → ℝ} (h : Holds x X) : Holds (dupA x) fun r l => X r (0 + l % 64) := by
  intro r l
  pointwise [dupA]
  rw [loHalf_at, h, h]
  split_ifs with hl
  · exact congrArg (fun k => ((X r.val k : ℝ) : EReal)) (by first | omega | (simp only []; omega))
  · exact congrArg (fun k => ((X r.val k : ℝ) : EReal)) (by first | omega | (simp only []; omega))
theorem dupB_holds {x : FVec Ideal S128x128 .bf16} {X : ℕ → ℕ → ℝ} (h : Holds x X) : Holds (dupB x) fun r l => X r (64 + l % 64) := by
  intro r l
  pointwise [dupB]
  rw [hiHalf_at, h, h]
  split_ifs with hl
  · exact congrArg (fun k => ((X r.val k : ℝ) : EReal)) (by first | omega | (simp only []; omega))
  · exact congrArg (fun k => ((X r.val k : ℝ) : EReal)) (by first | omega | (simp only []; omega))

/-! ## The products of a unit -/

theorem scores_holds {q : FVec Ideal S1024x128 .bf16} {k : FVec Ideal S128x128 .bf16} {Q K : ℕ → ℕ → ℝ} (hq : Holds q Q) (hk : Holds k K) :
    Holds (scores q k) fun r u => ∑ d ∈ Finset.range 128, Q r d * K u d := by
  intro r u
  pointwise [scores]
  refine sum_eq_coe 128 _ _ fun d => ?_
  rw [hq, hk, EReal.coe_mul]

theorem probs_holds {v : IVec S1024x128 1} {s l : FVec Ideal S1024x128 .f32} {V : ℕ → ℕ → Prop} [∀ r u, Decidable (V r u)] {S L : ℕ → ℕ → ℝ}
    (hv : ∀ (r : Fin 1024) (u : Fin 128), v (ix2 r u) = if V r u then 1#1 else 0#1) (hs : Holds s S) (hl : Holds l L) :
    Holds (probs v s l) fun r u => if V r u then Real.exp (S r u - L r u) else 0 := by
  intro r u
  pointwise [probs]
  rw [hv, hs, hl, IdealRules.named_const.ideal_named_scalar κ "mask" _ ⊥ rfl]
  split_ifs with h
  · rw [show Scalar.select 1#1 ((S r.val u.val : ℝ) : EReal) ⊥ = ((S r.val u.val : ℝ) : EReal) from rfl, ← EReal.coe_sub, Ideal.exp_coe]
  · rw [show Scalar.select 0#1 ((S r.val u.val : ℝ) : EReal) ⊥ = ⊥ from rfl, EReal.bot_sub, Ideal.exp_bot]; rfl

theorem dscores_holds {p dp d : FVec Ideal S1024x128 .f32} {P DP D : ℕ → ℕ → ℝ} (hp : Holds p P) (hdp : Holds dp DP) (hd : Holds d D) :
    Holds (dscores p dp d) fun r u => P r u * (DP r u + D r u) := by
  intro r u
  pointwise [dscores]
  rw [hp, hdp, hd, EReal.coe_mul, EReal.coe_add]

theorem toKeys_holds {w x : FVec Ideal S1024x128 .bf16} {W X : ℕ → ℕ → ℝ} (hw : Holds w W) (hx : Holds x X) :
    Holds (toKeys w x) fun u l => ∑ r ∈ Finset.range 1024, W r u * X r l := by
  intro r u
  pointwise [toKeys]
  refine sum_eq_coe 1024 _ _ fun d => ?_
  rw [hw, hx, EReal.coe_mul]

theorem toRows_holds {w : FVec Ideal S1024x128 .bf16} {k : FVec Ideal S128x128 .bf16} {W K : ℕ → ℕ → ℝ} (hw : Holds w W) (hk : Holds k K) :
    Holds (toRows w k) fun r l => (∑ u ∈ Finset.range 128, W r u * K u l) * (1 / 8) := by
  intro r u
  pointwise [toRows]
  rw [ofBits_eighth, EReal.coe_mul]
  congr 1
  refine sum_eq_coe 128 _ _ fun d => ?_
  rw [hw, hk, EReal.coe_mul]

/-! ## Folding back to lanes -/

theorem add_holds {a b : ℕ} {φ : FTy} {x y : FVec Ideal (⟨2, ![a, b]⟩ : Shape) φ} {X Y : ℕ → ℕ → ℝ} (hx : Holds x X) (hy : Holds y Y) :
    Holds (addf x y) fun r l => X r l + Y r l := by
  intro r l
  show x _ + y _ = _
  rw [hx, hy, EReal.coe_add]

theorem fold_holds {x : FVec Ideal S128x128 .f32} {X : ℕ → ℕ → ℝ} (h : Holds x X) : Holds (fold x) fun r l => X r l + X r ((l + 64) % 128) := by
  intro r l
  pointwise [fold]
  rw [h, h, EReal.coe_add]
  exact congrArg (fun k => ((X r.val l.val : ℝ) : EReal) + ((X r.val k : ℝ) : EReal)) (by first | omega | (simp only []; omega))

theorem pick_holds {x y : FVec Ideal S128x128 .f32} {X Y : ℕ → ℕ → ℝ} (hx : Holds x X) (hy : Holds y Y) :
    Holds (pick x y) fun r l => if l < 64 then X r l else Y r l := by
  intro r l
  pointwise [pick]
  rw [hx, hy, loHalf_at]
  split_ifs <;> rfl

/-- The lanes of the pair of heads `k` out of eight stacked tiles. -/
theorem pick0_holds {x : FVec Ideal S1024x128 .f32} {X : ℕ → ℕ → ℝ} (h : Holds x X) : Holds (pick0 x) fun r l => X (l / 64 * 128 + r) l := by
  intro r l
  pointwise [pick0, pick]
  rw [loHalf_at, h, h]
  split_ifs <;> exact (congrArg (fun k => ((X k l.val : ℝ) : EReal)) (by first | omega | (simp only []; omega)))
theorem pick1_holds {x : FVec Ideal S1024x128 .f32} {X : ℕ → ℕ → ℝ} (h : Holds x X) : Holds (pick1 x) fun r l => X (256 + l / 64 * 128 + r) l := by
  intro r l
  pointwise [pick1, pick]
  rw [loHalf_at, h, h]
  split_ifs <;> exact (congrArg (fun k => ((X k l.val : ℝ) : EReal)) (by first | omega | (simp only []; omega)))
theorem pick2_holds {x : FVec Ideal S1024x128 .f32} {X : ℕ → ℕ → ℝ} (h : Holds x X) : Holds (pick2 x) fun r l => X (512 + l / 64 * 128 + r) l := by
  intro r l
  pointwise [pick2, pick]
  rw [loHalf_at, h, h]
  split_ifs <;> exact (congrArg (fun k => ((X k l.val : ℝ) : EReal)) (by first | omega | (simp only []; omega)))
theorem pick3_holds {x : FVec Ideal S1024x128 .f32} {X : ℕ → ℕ → ℝ} (h : Holds x X) : Holds (pick3 x) fun r l => X (768 + l / 64 * 128 + r) l := by
  intro r l
  pointwise [pick3, pick]
  rw [loHalf_at, h, h]
  split_ifs <;> exact (congrArg (fun k => ((X k l.val : ℝ) : EReal)) (by first | omega | (simp only []; omega)))

theorem beside8_holds {a b c d e f g h : FVec Ideal S128x128 .f32} {Y : ℕ → ℕ → ℕ → ℝ} (h0 : Holds a (Y 0)) (h1 : Holds b (Y 1))
    (h2 : Holds c (Y 2)) (h3 : Holds d (Y 3)) (h4 : Holds e (Y 4)) (h5 : Holds f (Y 5)) (h6 : Holds g (Y 6)) (h7 : Holds h (Y 7)) :
    Holds (beside8 a b c d e f g h) fun r l => Y (l / 128) r (l % 128) := by
  intro r l
  have hl := l.isLt
  pointwise [beside8]
  simp only [h0 _ _, h1 _ _, h2 _ _, h3 _ _, h4 _ _, h5 _ _, h6 _ _, h7 _ _]
  split_ifs
  all_goals exact (congrArg₂ (fun k m => ((Y k r.val m : ℝ) : EReal)) (by first | omega | (simp only []; omega)) (by first | omega | (simp only []; omega)))

theorem rowsToLanes_holds {a b : FVec Ideal S1024x128 .f32} {Y : ℕ → ℕ → ℕ → ℝ} (ha : Holds a (Y 0)) (hb : Holds b (Y 1)) :
    Holds (rowsToLanes a b) fun r l => Y (l / 512) (l % 512 / 64 * 128 + r) (l % 128) := by
  refine fun r l => (beside8_holds (Y := fun m r l => Y (m / 4) (m % 4 * 256 + l / 64 * 128 + r) l)
    ?_ ?_ ?_ ?_ ?_ ?_ ?_ ?_ r l).trans ?_
  · exact fun r l => (pick0_holds ha r l).trans (congrArg (fun k => ((Y 0 k l.val : ℝ) : EReal)) (by first | omega | (simp only []; omega)))
  · exact fun r l => (pick1_holds ha r l).trans (congrArg (fun k => ((Y 0 k l.val : ℝ) : EReal)) (by first | omega | (simp only []; omega)))
  · exact fun r l => (pick2_holds ha r l).trans (congrArg (fun k => ((Y 0 k l.val : ℝ) : EReal)) (by first | omega | (simp only []; omega)))
  · exact fun r l => (pick3_holds ha r l).trans (congrArg (fun k => ((Y 0 k l.val : ℝ) : EReal)) (by first | omega | (simp only []; omega)))
  · exact fun r l => (pick0_holds hb r l).trans (congrArg (fun k => ((Y 1 k l.val : ℝ) : EReal)) (by first | omega | (simp only []; omega)))
  · exact fun r l => (pick1_holds hb r l).trans (congrArg (fun k => ((Y 1 k l.val : ℝ) : EReal)) (by first | omega | (simp only []; omega)))
  · exact fun r l => (pick2_holds hb r l).trans (congrArg (fun k => ((Y 1 k l.val : ℝ) : EReal)) (by first | omega | (simp only []; omega)))
  · exact fun r l => (pick3_holds hb r l).trans (congrArg (fun k => ((Y 1 k l.val : ℝ) : EReal)) (by first | omega | (simp only []; omega)))
  · have hl := l.isLt
    exact congrArg₂ (fun k m => ((Y k m (l.val % 128) : ℝ) : EReal)) (by first | omega | (simp only []; omega)) (by first | omega | (simp only []; omega))

/-! ## The inverse rotation -/

theorem swap_word (x l : Fin 128) :
    IntOp.cmpi .eq (BitVec.ofNat 32 x.val) (Scalar.select (if l.val % 64 < 32 then 1#1 else 0#1) (IntOp.addi (BitVec.ofNat 32 l.val) 32#32)
      (IntOp.subi (BitVec.ofNat 32 l.val) 32#32)) = if x.val = (if l.val % 64 < 32 then l.val + 32 else l.val - 32) then 1#1 else 0#1 := by
  revert x l; decide +kernel

theorem unrope_holds {x cs sn : FVec Ideal S128x128 .f32} {X C N : ℕ → ℕ → ℝ} (hx : Holds x X) (hc : Holds cs C) (hn : Holds sn N) :
    Holds (unrope x cs sn) fun r l => X r l * C r l - X r (if l % 64 < 32 then l + 32 else l - 32) * N r l := by
  intro r l
  have hl := l.isLt
  pointwise [unrope, swapMat]
  simp only [loQuarter_at, swap_word]
  obtain ⟨s, hs⟩ : ∃ s : Fin 128, s.val = (if l.val % 64 < 32 then l.val + 32 else l.val - 32) :=
    ⟨⟨if l.val % 64 < 32 then l.val + 32 else l.val - 32, by split_ifs <;> omega⟩, rfl⟩
  rw [Finset.sum_eq_single s]
  · rw [if_pos hs, hx, hc, hn, ofBits_neg_one, ← hs]
    rw [show Scalar.select 1#1 (x (ix2 r s)) 0 = x (ix2 r s) from rfl, hx, ← EReal.coe_mul, ← EReal.coe_mul, ← EReal.coe_mul, ← EReal.coe_add]
    congr 1; ring
  · intro y _ hy
    rw [if_neg fun e => hy (Fin.ext (e.trans hs.symm))]; rfl
  · intro hh; exact absurd (Finset.mem_univ s) hh

theorem unropeAll_holds {x : FVec Ideal S128x1024 .f32} {cs sn : FVec Ideal S128x128 .f32} {X C N : ℕ → ℕ → ℝ} (hx : Holds x X) (hc : Holds cs C)
    (hn : Holds sn N) : Holds (unropeAll x cs sn) fun r l =>
      X r l * C r (l % 128) - X r (if l % 64 < 32 then l + 32 else l - 32) * N r (l % 128) := by
  refine fun r l => (beside8_holds (Y := fun m r l => X r (m * 128 + l) * C r l - X r (m * 128 + (if l % 64 < 32 then l + 32 else l - 32)) * N r l)
    ?_ ?_ ?_ ?_ ?_ ?_ ?_ ?_ r l).trans ?_
  · exact unrope_holds (X := fun r l => X r (0 * 128 + l)) (slice_holds hx _) hc hn
  · exact unrope_holds (X := fun r l => X r (1 * 128 + l)) (slice_holds hx _) hc hn
  · exact unrope_holds (X := fun r l => X r (2 * 128 + l)) (slice_holds hx _) hc hn
  · exact unrope_holds (X := fun r l => X r (3 * 128 + l)) (slice_holds hx _) hc hn
  · exact unrope_holds (X := fun r l => X r (4 * 128 + l)) (slice_holds hx _) hc hn
  · exact unrope_holds (X := fun r l => X r (5 * 128 + l)) (slice_holds hx _) hc hn
  · exact unrope_holds (X := fun r l => X r (6 * 128 + l)) (slice_holds hx _) hc hn
  · exact unrope_holds (X := fun r l => X r (7 * 128 + l)) (slice_holds hx _) hc hn
  · have hl := l.isLt
    have e1 : l.val / 128 * 128 + l.val % 128 = l.val := by omega
    have e2 : (l.val / 128 * 128 + if l.val % 128 % 64 < 32 then l.val % 128 + 32 else l.val % 128 - 32)
      = if l.val % 64 < 32 then l.val + 32 else l.val - 32 := by
      rw [show l.val % 128 % 64 = l.val % 64 by omega]
      split_ifs <;> omega
    simp only [e1, e2]

end Cert.KernelIdeal.Attn
end
-- ==== Proof.BodyOut.lean ====
/-
  What one grid point stores, over the reals: the probabilities and score cotangents of a tile as sums over a head's
  lanes, and the three gradients a grid point writes as sums of them.
-/
module

public import proofs.«01_k».proof.Proof.BodyAt

@[expose] public section

set_option maxRecDepth 16384

noncomputable section

namespace Cert.KernelIdeal.Attn

open Idealize.ShloMosaic Idealize.SL.Sem Cert.KernelIdeal Cert.KernelIdeal.Gen Cert.Attn
open scoped BigOperators

/-- A tile's blocks: queries, cotangents, their saved logarithms and row sums; keys, values; who sees whom. -/
structure Tile where
  q : ℕ → ℕ → ℝ
  o : ℕ → ℕ → ℝ
  l : ℕ → ℕ → ℝ
  d : ℕ → ℕ → ℝ
  k : ℕ → ℕ → ℝ
  v : ℕ → ℕ → ℝ
  sees : ℕ → ℕ → Prop

open Classical in
/-- The probability with which query `t` of head `g` of key head `h` attends to key `u`. -/
def Tile.p (T : Tile) (h g t u : ℕ) : ℝ :=
  if T.sees t u then
    Real.exp ((∑ x ∈ Finset.range 64, T.q t (h * 512 + g * 64 + x) * (1 / 8) * T.k u (h * 64 + x)) - T.l t (h * 512 + g * 64))
  else 0
/-- The cotangent of that query's score. -/
def Tile.s (T : Tile) (h g t u : ℕ) : ℝ :=
  T.p h g t u * ((∑ x ∈ Finset.range 64, T.o t (h * 512 + g * 64 + x) * T.v u (h * 64 + x)) + T.d t (h * 512 + g * 64))

theorem stacked_lanes (X : ℕ → ℕ → ℝ) (c r x : ℕ) :
    X (r % 128) (c + r / 256 * 128 + (r / 128 % 2 * 64 + x)) = X (r % 128) (c + r / 128 * 64 + x) :=
  congrArg (X (r % 128)) (by omega)

/-- Rows of stacked heads against doubled keys. -/
theorem scores_stacked {q : FVec Ideal S1024x128 .bf16} {k : FVec Ideal S128x128 .bf16} {Q K : ℕ → ℕ → ℝ} {c o : ℕ}
    (hq : Holds q (stacked Q c)) (hk : Holds k fun u x => K u (o + x % 64)) :
    Holds (scores q k) fun r u => ∑ x ∈ Finset.range 64, Q (r % 128) (c + r / 128 * 64 + x) * K u (o + x) := by
  intro r u
  rw [scores_holds hq hk r u]
  refine congrArg _ ((sum_half (r.val / 128 % 2) (Nat.mod_lt _ (by decide)) (fun x => Q (r.val % 128) (c + r.val / 256 * 128 + x))
    fun x => K u (o + x)).trans ?_)
  exact Finset.sum_congr rfl fun x _ => congrArg (· * K u.val (o + x)) (stacked_lanes Q c r.val x)

open Classical in
theorem unitP_holds (T : Tile) (h : ℕ) {v : IVec S1024x128 1} {q : FVec Ideal S1024x128 .bf16} {k : FVec Ideal S128x128 .bf16}
    {l : FVec Ideal S1024x128 .f32}
    (hv : ∀ (r : Fin 1024) (u : Fin 128), v (ix2 r u) = if T.sees (r.val % 128) u.val then 1#1 else 0#1)
    (hq : Holds q (stacked (fun t x => T.q t x * (1 / 8)) (h * 512))) (hk : Holds k fun u x => T.k u (h * 64 + x % 64))
    (hl : Holds l fun r _ => T.l (r % 128) (h * 512 + r / 128 * 64)) :
    Holds (unitP v q k l) fun r u => T.p h (r / 128) (r % 128) u :=
  probs_holds (V := fun r u => T.sees (r % 128) u) hv (scores_stacked hq hk) hl

open Classical in
theorem unitDS_holds (T : Tile) (h : ℕ) {m : IVec S1024x128 1} {q o : FVec Ideal S1024x128 .bf16} {k v : FVec Ideal S128x128 .bf16}
    {l d : FVec Ideal S1024x128 .f32}
    (hm : ∀ (r : Fin 1024) (u : Fin 128), m (ix2 r u) = if T.sees (r.val % 128) u.val then 1#1 else 0#1)
    (hq : Holds q (stacked (fun t x => T.q t x * (1 / 8)) (h * 512))) (ho : Holds o (stacked T.o (h * 512)))
    (hk : Holds k fun u x => T.k u (h * 64 + x % 64)) (hv : Holds v fun u x => T.v u (h * 64 + x % 64))
    (hl : Holds l fun r _ => T.l (r % 128) (h * 512 + r / 128 * 64)) (hd : Holds d fun r _ => T.d (r % 128) (h * 512 + r / 128 * 64)) :
    Holds (unitDS m q o k v l d) fun r u => T.s h (r / 128) (r % 128) u :=
  dscores_holds (unitP_holds T h hm hq hk hl) (scores_stacked ho hv) hd

/-- The stacked heads' two halves of the lanes added: each head's own lanes. -/
theorem stacked_both (X : ℕ → ℕ → ℝ) (c r l : ℕ) (hl : l < 128) :
    stacked X c r l + stacked X c r ((l + 64) % 128) = X (r % 128) (c + r / 128 * 64 + l % 64) := by
  unfold stacked
  obtain hp | hp : r / 128 % 2 = l / 64 ∨ r / 128 % 2 = ((l + 64) % 128) / 64 := by omega
  · rw [if_pos hp.symm, if_neg (by omega), add_zero]
    exact congrArg (X (r % 128)) (by omega)
  · rw [if_neg (by omega), if_pos hp.symm, zero_add]
    exact congrArg (X (r % 128)) (by omega)

/-- Both tiles' products with stacked heads, folded. -/
theorem foldKeys_holds {w w' x x' : FVec Ideal S1024x128 .bf16} {W W' : ℕ → ℕ → ℕ → ℝ} {X X' : ℕ → ℕ → ℝ} {c : ℕ}
    (hw : Holds w fun r u => W (r / 128) (r % 128) u) (hw' : Holds w' fun r u => W' (r / 128) (r % 128) u)
    (hx : Holds x (stacked X c)) (hx' : Holds x' (stacked X' c)) :
    Holds (fold (addf (toKeys w x) (toKeys w' x'))) fun u l => ∑ g ∈ Finset.range 8, ∑ t ∈ Finset.range 128,
      (W g t u * X t (c + g * 64 + l % 64) + W' g t u * X' t (c + g * 64 + l % 64)) := by
  intro u l
  rw [fold_holds (add_holds (toKeys_holds hw hx) (toKeys_holds hw' hx')) u l]
  refine congrArg _ ?_
  beta_reduce
  rw [← sum_groups 8 128 (by decide) (fun g t => W g t u * X t (c + g * 64 + l % 64) + W' g t u * X' t (c + g * 64 + l % 64))]
  rw [← Finset.sum_add_distrib, ← Finset.sum_add_distrib, ← Finset.sum_add_distrib]
  refine Finset.sum_congr rfl fun r _ => ?_
  rw [← stacked_both X c r l l.isLt, ← stacked_both X' c r l l.isLt]
  ring

/-! ## Blocks -/

theorem wideB_holds {x : FVec Ideal S1x128x1024 .bf16} {X : ℕ → ℕ → ℝ} (h : Holds3 x X) : Holds (wideB x) X := by
  intro r l
  pointwise [wideB]
  exact h r l
theorem wideF_holds {x : FVec Ideal S1x128x1024 .f32} {X : ℕ → ℕ → ℝ} (h : Holds3 x X) : Holds (wideF x) X := by
  intro r l
  pointwise [wideF]
  exact h r l
theorem tileB_holds {x : FVec Ideal S1x128x128 .bf16} {X : ℕ → ℕ → ℝ} (h : Holds3 x X) : Holds (tileB x) X := by
  intro r l
  pointwise [tileB]
  exact h r l
theorem tileF_holds {x : FVec Ideal S1x128x128 .f32} {X : ℕ → ℕ → ℝ} (h : Holds3 x X) : Holds (tileF x) X := by
  intro r l
  pointwise [tileF]
  exact h r l
theorem scaled_holds {x : FVec Ideal S1x128x1024 .bf16} {X : ℕ → ℕ → ℝ} (h : Holds3 x X) : Holds (scaled x) fun t l => X t l * (1 / 8) := by
  intro r l
  pointwise [scaled]
  rw [wideB_holds h, ofBits_eighth_b, EReal.coe_mul]

/-! ## What a grid point stores -/

/-- The blocks of a grid point hold the reals of its two tiles: `T` its own queries, `U` the next block's. -/
structure Blocks (i : grid0.Coords) (T U : Tile) (x0 x1 : FVec Ideal S1x128x128 .bf16) (x4 x5 x8 x9 : FVec Ideal S1x128x1024 .bf16)
    (x10 x11 : FVec Ideal S1x128x1024 .f32) (la lb da db : FVec Ideal S1024x128 .f32) : Prop where
  k : Holds3 x0 T.k
  v : Holds3 x1 T.v
  k' : Holds3 x0 U.k
  v' : Holds3 x1 U.v
  q : Holds3 x4 T.q
  o : Holds3 x5 T.o
  q' : Holds3 x8 U.q
  o' : Holds3 x9 U.o
  l' : Holds3 x10 U.l
  d' : Holds3 x11 U.d
  la : Holds la fun r _ => T.l (r % 128) (0 * 512 + r / 128 * 64)
  lb : Holds lb fun r _ => T.l (r % 128) (1 * 512 + r / 128 * 64)
  da : Holds da fun r _ => T.d (r % 128) (0 * 512 + r / 128 * 64)
  db : Holds db fun r _ => T.d (r % 128) (1 * 512 + r / 128 * 64)
  sees : ∀ t u, T.sees t u ↔ u ≤ t
  sees' : ∀ t u, U.sees t u ↔ t < u ∧ (i 2).val < 15

section Point

variable {i : grid0.Coords} {T U : Tile} {x0 x1 : FVec Ideal S1x128x128 .bf16} {x4 x5 x8 x9 : FVec Ideal S1x128x1024 .bf16}
  {x10 x11 : FVec Ideal S1x128x1024 .f32} {la lb da db : FVec Ideal S1024x128 .f32}
  (B : Blocks i T U x0 x1 x4 x5 x8 x9 x10 x11 la lb da db)

include B

open Classical in
theorem Blocks.mask : ∀ (r : Fin 1024) (u : Fin 128), valid0 (ix2 r u) = if T.sees (r.val % 128) u.val then 1#1 else 0#1 := fun r u => by
  rw [valid0_at, if_congr (B.sees _ _).symm rfl rfl]
open Classical in
theorem Blocks.mask' : ∀ (r : Fin 1024) (u : Fin 128), valid1 i (ix2 r u) = if U.sees (r.val % 128) u.val then 1#1 else 0#1 := fun r u => by
  rw [valid1_at, if_congr (B.sees' _ _).symm rfl rfl]

theorem outDV_holds : Holds3 (outDV i x0 x4 x5 x8 x9 x10 la lb) fun u l => ∑ g ∈ Finset.range 8, ∑ t ∈ Finset.range 128,
      (T.p (l / 64) g t u * T.o t (l / 64 * 512 + g * 64 + l % 64) + U.p (l / 64) g t u * U.o t (l / 64 * 512 + g * 64 + l % 64)) := by
  intro u l
  pointwise [outDV, headDV]
  refine (pick_holds
    (foldKeys_holds (c := 0) (unitP_holds T 0 B.mask (stackA_holds (scaled_holds B.q)) (dupA_holds (tileB_holds B.k)) B.la)
      (unitP_holds U 0 B.mask' (stackA_holds (scaled_holds B.q')) (dupA_holds (tileB_holds B.k')) (colsA_holds (wideF_holds B.l')))
      (stackA_holds (wideB_holds B.o)) (stackA_holds (wideB_holds B.o')))
    (foldKeys_holds (c := 512) (unitP_holds T 1 B.mask (stackB_holds (scaled_holds B.q)) (dupB_holds (tileB_holds B.k)) B.lb)
      (unitP_holds U 1 B.mask' (stackB_holds (scaled_holds B.q')) (dupB_holds (tileB_holds B.k')) (colsB_holds (wideF_holds B.l')))
      (stackB_holds (wideB_holds B.o)) (stackB_holds (wideB_holds B.o'))) u l).trans ?_
  have hl := l.isLt
  refine congrArg _ ?_
  beta_reduce
  obtain h | h : l.val / 64 = 0 ∨ l.val / 64 = 1 := by omega
  · rw [if_pos (by omega), h]
  · rw [if_neg (by omega), h]

/-- The key gradient before the rotation. -/
def keyGrad (T U : Tile) (u l : ℕ) : ℝ := ∑ g ∈ Finset.range 8, ∑ t ∈ Finset.range 128,
      (T.s (l / 64) g t u * (T.q t (l / 64 * 512 + g * 64 + l % 64) * (1 / 8)) + U.s (l / 64) g t u * (U.q t (l / 64 * 512 + g * 64 + l % 64) * (1 / 8)))

theorem pickDK_holds : Holds (pick
    (headDK valid0 (valid1 i) (stackA (scaled x4)) (stackA (wideB x5)) (stackA (scaled x8)) (stackA (wideB x9)) (dupA (tileB x0)) (dupA (tileB x1)) la da (colsA (wideF x10)) (colsA (wideF x11)))
    (headDK valid0 (valid1 i) (stackB (scaled x4)) (stackB (wideB x5)) (stackB (scaled x8)) (stackB (wideB x9)) (dupB (tileB x0)) (dupB (tileB x1)) lb db (colsB (wideF x10)) (colsB (wideF x11))))
    (keyGrad T U) := by
  intro u l
  refine (pick_holds
    (foldKeys_holds (c := 0)
      (unitDS_holds T 0 B.mask (stackA_holds (scaled_holds B.q)) (stackA_holds (wideB_holds B.o)) (dupA_holds (tileB_holds B.k)) (dupA_holds (tileB_holds B.v)) B.la B.da)
      (unitDS_holds U 0 B.mask' (stackA_holds (scaled_holds B.q')) (stackA_holds (wideB_holds B.o')) (dupA_holds (tileB_holds B.k')) (dupA_holds (tileB_holds B.v'))
        (colsA_holds (wideF_holds B.l')) (colsA_holds (wideF_holds B.d')))
      (stackA_holds (scaled_holds B.q)) (stackA_holds (scaled_holds B.q')))
    (foldKeys_holds (c := 512)
      (unitDS_holds T 1 B.mask (stackB_holds (scaled_holds B.q)) (stackB_holds (wideB_holds B.o)) (dupB_holds (tileB_holds B.k)) (dupB_holds (tileB_holds B.v)) B.lb B.db)
      (unitDS_holds U 1 B.mask' (stackB_holds (scaled_holds B.q')) (stackB_holds (wideB_holds B.o')) (dupB_holds (tileB_holds B.k')) (dupB_holds (tileB_holds B.v'))
        (colsB_holds (wideF_holds B.l')) (colsB_holds (wideF_holds B.d')))
      (stackB_holds (scaled_holds B.q)) (stackB_holds (scaled_holds B.q'))) u l).trans ?_
  have hl := l.isLt
  refine congrArg _ ?_
  unfold keyGrad
  beta_reduce
  obtain h | h : l.val / 64 = 0 ∨ l.val / 64 = 1 := by omega
  · rw [if_pos (by omega), h]
  · rw [if_neg (by omega), h]

theorem outDK_holds {x2 x3 : FVec Ideal S1x128x128 .f32} {C N : ℕ → ℕ → ℝ} (hc : Holds3 x2 C) (hn : Holds3 x3 N) :
    Holds3 (outDK i x0 x1 x2 x3 x4 x5 x8 x9 x10 x11 la lb da db) fun u l =>
      keyGrad T U u l * C u l - keyGrad T U u (if l % 64 < 32 then l + 32 else l - 32) * N u l := by
  intro u l
  pointwise [outDK]
  exact unrope_holds (pickDK_holds B) (tileF_holds hc) (tileF_holds hn) u l

/-- The part of the query gradient one tile adds, before the rotation. -/
def rowGrad (T : Tile) (t l : ℕ) : ℝ :=
  (∑ u ∈ Finset.range 128, T.s (l / 512) (l % 512 / 64) t u * T.k u (l / 512 * 64 + l % 64)) * (1 / 8)

omit B in
theorem rows_holds (T : Tile) {a b : FVec Ideal S1024x128 .bf16} {ka kb : FVec Ideal S128x128 .bf16}
    (ha : Holds a fun r u => T.s 0 (r / 128) (r % 128) u) (hb : Holds b fun r u => T.s 1 (r / 128) (r % 128) u)
    (hka : Holds ka fun u x => T.k u (0 * 64 + x % 64)) (hkb : Holds kb fun u x => T.k u (1 * 64 + x % 64)) :
    Holds (rowsToLanes (toRows a ka) (toRows b kb)) (rowGrad T) := by
  intro t l
  refine (rowsToLanes_holds (Y := fun h r x => (∑ u ∈ Finset.range 128, T.s h (r / 128) (r % 128) u * T.k u (h * 64 + x % 64)) * (1 / 8))
    (toRows_holds ha hka) (toRows_holds hb hkb) t l).trans ?_
  refine congrArg (fun z : ℝ => (z : EReal)) ?_
  beta_reduce
  have ht := t.isLt
  rw [show (l.val % 512 / 64 * 128 + t.val) / 128 = l.val % 512 / 64 by omega,
    show (l.val % 512 / 64 * 128 + t.val) % 128 = t.val by omega, show l.val % 128 % 64 = l.val % 64 by omega]
  rfl

theorem curDQ_holds : Holds (curDQ x0 x1 x4 x5 la lb da db) (rowGrad T) :=
  rows_holds T
    (unitDS_holds T 0 B.mask (stackA_holds (scaled_holds B.q)) (stackA_holds (wideB_holds B.o)) (dupA_holds (tileB_holds B.k)) (dupA_holds (tileB_holds B.v)) B.la B.da)
    (unitDS_holds T 1 B.mask (stackB_holds (scaled_holds B.q)) (stackB_holds (wideB_holds B.o)) (dupB_holds (tileB_holds B.k)) (dupB_holds (tileB_holds B.v)) B.lb B.db)
    (dupA_holds (tileB_holds B.k)) (dupB_holds (tileB_holds B.k))

theorem nextDQ_holds : Holds (nextDQ i x0 x1 x8 x9 x10 x11) (rowGrad U) :=
  rows_holds U
    (unitDS_holds U 0 B.mask' (stackA_holds (scaled_holds B.q')) (stackA_holds (wideB_holds B.o')) (dupA_holds (tileB_holds B.k')) (dupA_holds (tileB_holds B.v'))
        (colsA_holds (wideF_holds B.l')) (colsA_holds (wideF_holds B.d')))
    (unitDS_holds U 1 B.mask' (stackB_holds (scaled_holds B.q')) (stackB_holds (wideB_holds B.o')) (dupB_holds (tileB_holds B.k')) (dupB_holds (tileB_holds B.v'))
        (colsB_holds (wideF_holds B.l')) (colsB_holds (wideF_holds B.d')))
    (dupA_holds (tileB_holds B.k')) (dupB_holds (tileB_holds B.k'))

theorem outDQ_holds {x2 x3 : FVec Ideal S1x128x128 .f32} {carry : FVec Ideal S128x1024 .f32} {C N R : ℕ → ℕ → ℝ} (hc : Holds3 x2 C) (hn : Holds3 x3 N)
    (hr : Holds carry R) : Holds3 (outDQ x0 x1 x2 x3 x4 x5 la lb da db carry) fun t l =>
      (rowGrad T t l + R t l) * C t (l % 128)
        - (rowGrad T t (if l % 64 < 32 then l + 32 else l - 32) + R t (if l % 64 < 32 then l + 32 else l - 32)) * N t (l % 128) := by
  intro t l
  pointwise [outDQ]
  exact unropeAll_holds (add_holds (curDQ_holds B) hr) (tileF_holds hc) (tileF_holds hn) t l

end Point

end Cert.KernelIdeal.Attn
end
-- ==== Proof.Tiles.lean ====
/-
  The two tiles of a grid point, in terms of the attention: a block of queries against the block of keys at the same
  place, and the next block of queries against it.
-/
module

public import proofs.«01_k».proof.Proof.Model
public import proofs.«01_k».proof.Proof.BodyOut

@[expose] public section

noncomputable section

namespace Cert.Attn

open Cert.KernelIdeal.Attn
open scoped BigOperators

variable (I : Ins) (b j : ℕ)

/-- The tile of the query block `i` against the key block `j`. -/
def Ins.tile (i : ℕ) (sees : ℕ → ℕ → Prop) : Tile where
  q t l := I.qr b (128 * i + t) l
  o t l := I.ct b (128 * i + t) l
  l t l := I.lse b (l / 512) (l % 512 / 64) (128 * i + t)
  d t l := I.dd b (l / 512) (l % 512 / 64) (128 * i + t)
  k u l := I.kr b (128 * j + u) l
  v u l := I.v b (128 * j + u) l
  sees := sees

/-- The block at hand against itself. -/
def Ins.cur : Tile := I.tile b j j fun t u => u ≤ t
/-- The next block against the block at hand; the last block has no next. -/
def Ins.next : Tile := I.tile b j (min (j + 1) 15) fun t u => t < u ∧ j < 15

variable {h g t u l : ℕ}

theorem Ins.tile_score (i : ℕ) (hh : h < 2) (hg : g < 8) :
    (∑ x ∈ Finset.range 64, I.qr b (128 * i + t) (h * 512 + g * 64 + x) * (1 / 8) * I.kr b (128 * j + u) (h * 64 + x))
      - I.lse b ((h * 512 + g * 64) / 512) ((h * 512 + g * 64) % 512 / 64) (128 * i + t)
      = I.S b h g (128 * i + t) (128 * j + u) - I.lse b h g (128 * i + t) := by
  rw [show (h * 512 + g * 64) / 512 = h by omega, show (h * 512 + g * 64) % 512 / 64 = g by omega, Ins.S, Finset.sum_mul]
  exact congrArg (· - _) (Finset.sum_congr rfl fun x _ => by ring)

open Classical in
theorem Ins.cur_p (hh : h < 2) (hg : g < 8) (ht : t < 128) (hu : u < 128) :
    (I.cur b j).p h g t u = I.P b h g (128 * j + t) (128 * j + u) := by
  unfold Tile.p Ins.P
  have e : (I.cur b j).sees t u ↔ Vis (128 * j + t) (128 * j + u) := by show u ≤ t ↔ Vis _ _; unfold Vis; omega
  by_cases hs : (I.cur b j).sees t u
  · rw [if_pos hs, if_pos (e.mp hs)]; exact congrArg Real.exp (I.tile_score b j j hh hg)
  · rw [if_neg hs, if_neg fun hv => hs (e.mpr hv)]
theorem Ins.cur_s (hh : h < 2) (hg : g < 8) (ht : t < 128) (hu : u < 128) :
    (I.cur b j).s h g t u = I.DS b h g (128 * j + t) (128 * j + u) := by
  unfold Tile.s Ins.DS
  rw [I.cur_p b j hh hg ht hu]
  show _ * (I.G b h g (128 * j + t) (128 * j + u) + I.dd b ((h * 512 + g * 64) / 512) ((h * 512 + g * 64) % 512 / 64) (128 * j + t)) = _
  rw [show (h * 512 + g * 64) / 512 = h by omega, show (h * 512 + g * 64) % 512 / 64 = g by omega]
open Classical in
theorem Ins.next_p (hh : h < 2) (hg : g < 8) (ht : t < 128) (hu : u < 128) :
    (I.next b j).p h g t u = if j < 15 then I.P b h g (128 * (j + 1) + t) (128 * j + u) else 0 := by
  by_cases hj : j < 15
  · rw [if_pos hj]
    unfold Tile.p Ins.P
    have e : (I.next b j).sees t u ↔ Vis (128 * (j + 1) + t) (128 * j + u) := by show t < u ∧ j < 15 ↔ Vis _ _; unfold Vis; omega
    have e' : min (j + 1) 15 = j + 1 := by omega
    by_cases hs : (I.next b j).sees t u
    · rw [if_pos hs, if_pos (e.mp hs)]
      refine congrArg Real.exp ?_
      have := I.tile_score (t := t) (u := u) b j (min (j + 1) 15) hh hg
      rw [← e']; exact this
    · rw [if_neg hs, if_neg fun hv => hs (e.mpr hv)]
  · rw [if_neg hj]; exact if_neg fun hs => hj hs.2
theorem Ins.next_s (hh : h < 2) (hg : g < 8) (ht : t < 128) (hu : u < 128) :
    (I.next b j).s h g t u = if j < 15 then I.DS b h g (128 * (j + 1) + t) (128 * j + u) else 0 := by
  unfold Tile.s Ins.DS
  rw [I.next_p b j hh hg ht hu]
  by_cases hj : j < 15
  · rw [if_pos hj, if_pos hj]
    show _ * (I.G b h g (128 * (min (j + 1) 15) + t) (128 * j + u) + I.dd b ((h * 512 + g * 64) / 512) ((h * 512 + g * 64) % 512 / 64) (128 * (min (j + 1) 15) + t)) = _
    rw [show (h * 512 + g * 64) / 512 = h by omega, show (h * 512 + g * 64) % 512 / 64 = g by omega, show min (j + 1) 15 = j + 1 by omega]
  · rw [if_neg hj, if_neg hj, zero_mul]

/-- A sum over the two tiles of a key, of terms that vanish where a query does not see it. -/
theorem sum_tiles (A B : ℕ → ℝ) (F : ℕ → ℝ) (hj : j < 16) (hF : ∀ t, t < 2048 → t < 128 * j ∨ 128 * j + 256 ≤ t → F t = 0)
    (hA : ∀ t, t < 128 → A t = F (128 * j + t)) (hB : ∀ t, t < 128 → B t = if j < 15 then F (128 * (j + 1) + t) else 0) :
    ∑ t ∈ Finset.range 128, (A t + B t) = ∑ t ∈ Finset.range 2048, F t := by
  rw [sum_two_blocks F j hj hF, Finset.sum_add_distrib]
  refine congrArg₂ (· + ·) (Finset.sum_congr rfl fun t ht => hA t (Finset.mem_range.mp ht)) ?_
  refine (Finset.sum_congr rfl fun t ht => hB t (Finset.mem_range.mp ht)).trans ?_
  split <;> simp

theorem not_vis_of_far (hu : u < 128) (h : t < 128 * j ∨ 128 * j + 256 ≤ t) : ¬Vis t (128 * j + u) := by unfold Vis; omega

/-- The value gradient of a key, from its two tiles. -/
theorem Ins.gradV_tiles (hj : j < 16) (hu : u < 128) (hl : l < 128) :
    (∑ g ∈ Finset.range 8, ∑ t ∈ Finset.range 128,
      ((I.cur b j).p (l / 64) g t u * (I.cur b j).o t (l / 64 * 512 + g * 64 + l % 64)
        + (I.next b j).p (l / 64) g t u * (I.next b j).o t (l / 64 * 512 + g * 64 + l % 64))) = I.gradV b (128 * j + u) l := by
  unfold Ins.gradV
  refine Finset.sum_congr rfl fun g hg => ?_
  have hg := Finset.mem_range.mp hg
  refine sum_tiles j _ _ (fun t => I.P b (l / 64) g t (128 * j + u) * I.ct b t (l / 64 * 512 + g * 64 + l % 64)) hj (fun t _ ht => ?_) (fun t ht => ?_) fun t ht => ?_
  · beta_reduce; rw [I.P_zero _ _ _ _ _ (not_vis_of_far j hu ht), zero_mul]
  · beta_reduce; rw [I.cur_p b j (by omega) hg ht hu]; rfl
  · beta_reduce
    rw [I.next_p b j (by omega) hg ht hu]
    by_cases h : j < 15
    · rw [if_pos h, if_pos h]
      show _ * I.ct b (128 * (min (j + 1) 15) + t) _ = _
      rw [show min (j + 1) 15 = j + 1 by omega]
    · rw [if_neg h, if_neg h, zero_mul]

/-- The gradient of a rotated key, from its two tiles. -/
theorem Ins.dkr_tiles (hj : j < 16) (hu : u < 128) (hl : l < 128) : keyGrad (I.cur b j) (I.next b j) u l = I.dkr b (128 * j + u) l := by
  unfold keyGrad Ins.dkr
  refine Finset.sum_congr rfl fun g hg => ?_
  have hg := Finset.mem_range.mp hg
  refine sum_tiles j _ _ (fun t => I.DS b (l / 64) g t (128 * j + u) * (I.qr b t (l / 64 * 512 + g * 64 + l % 64) * (1 / 8))) hj (fun t _ ht => ?_) (fun t ht => ?_) fun t ht => ?_
  · beta_reduce; rw [I.DS_zero _ _ _ _ _ (not_vis_of_far j hu ht), zero_mul]
  · beta_reduce; rw [I.cur_s b j (by omega) hg ht hu]; rfl
  · beta_reduce
    rw [I.next_s b j (by omega) hg ht hu]
    by_cases h : j < 15
    · rw [if_pos h, if_pos h]
      show _ * (I.qr b (128 * (min (j + 1) 15) + t) _ * _) = _
      rw [show min (j + 1) 15 = j + 1 by omega]
    · rw [if_neg h, if_neg h, zero_mul]

/-- What the block before adds to the gradient of the queries of block `j`. -/
def Ins.carried (j t l : ℕ) : ℝ := if j = 0 then 0 else rowGrad (I.next b (j - 1)) t l

/-- The gradient of a rotated query, from its two tiles. -/
theorem Ins.dqr_tiles (hj : j < 16) (ht : t < 128) (hl : l < 1024) :
    rowGrad (I.cur b j) t l + I.carried b j t l = I.dqr b (128 * j + t) l := by
  have hcur : ∀ u, u < 128 → (I.cur b j).s (l / 512) (l % 512 / 64) t u * (I.cur b j).k u (l / 512 * 64 + l % 64)
      = I.DS b (l / 512) (l % 512 / 64) (128 * j + t) (128 * j + u) * I.kr b (128 * j + u) (l / 512 * 64 + l % 64) := fun u hu => by
    rw [I.cur_s b j (by omega) (by omega) ht hu]; rfl
  unfold Ins.dqr Ins.carried rowGrad
  by_cases h : j = 0
  · subst h
    rw [if_pos rfl, add_zero, sum_blocks, Finset.sum_eq_single_of_mem (s := Finset.range 16) 0 (by simp)]
    · exact congrArg (· * _) (Finset.sum_congr rfl fun u hu => hcur u (Finset.mem_range.mp hu))
    · intro i hi hne
      refine Finset.sum_eq_zero fun u hu => ?_
      rw [I.DS_zero _ _ _ _ _ (by unfold Vis; omega), zero_mul]
  · rw [if_neg h, ← add_mul, sum_two_blocks _ (j - 1) (by omega), if_pos (by omega), show j - 1 + 1 = j by omega,
      add_comm (∑ t ∈ Finset.range 128, I.DS _ _ _ _ _ * _)]
    · refine congrArg (· * _) (congrArg₂ (· + ·) (Finset.sum_congr rfl fun u hu => hcur u (Finset.mem_range.mp hu)) (Finset.sum_congr rfl fun u hu => ?_))
      rw [I.next_s b (j - 1) (by omega) (by omega) ht (Finset.mem_range.mp hu), if_pos (by omega), show j - 1 + 1 = j by omega]; rfl
    · intro u _ hu
      rw [I.DS_zero _ _ _ _ _ (by unfold Vis; omega), zero_mul]

end Cert.Attn
end
-- ==== Proof.BodyRun.lean ====
/-
  What one grid point of the kernel's run leaves in its output blocks and in its two scratch buffers, as the
  functions of its input blocks: the found writes of the run read back, in the case of the first key block of a
  batch row (the scratch buffers are initialised) and in the case of the others (they carry).
-/
module

public import proofs.«01_k».proof.Proof.Body
public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384
set_option synthInstance.maxSize 4096

noncomputable section

namespace Cert.KernelIdeal.Attn

open Idealize.ShloMosaic Idealize.ShloMosaic.TcCoe Idealize.SL.Sem Cert.KernelIdeal Cert.KernelIdeal.Gen

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## Loads of whole buffers -/

/-- A load of a whole narrow bf16 buffer. -/
abbrev ldK (a : Memref sig .tc .vmem S1x128x128 .bf16) (h : a.IsWhole) (x : Vec F S1x128x128 .bf16) : Vec F S1x128x128 .bf16 :=
  View.readAt (Elt F) a.view (Rect.unit (s := S1x128x128) ![0, 0, 0] S1x128x128.size inb_S1x128x128_S1x128x128_0_0_0).toLoadRect (h.unread x)
/-- A load of a whole narrow f32 buffer. -/
abbrev ldC (a : Memref sig .tc .vmem S1x128x128 .f32) (h : a.IsWhole) (x : Vec F S1x128x128 .f32) : Vec F S1x128x128 .f32 :=
  View.readAt (Elt F) a.view (Rect.unit (s := S1x128x128) ![0, 0, 0] S1x128x128.size inb_S1x128x128_S1x128x128_0_0_0).toLoadRect (h.unread x)
/-- A load of a whole wide bf16 buffer. -/
abbrev ldQ (a : Memref sig .tc .vmem S1x128x1024 .bf16) (h : a.IsWhole) (x : Vec F S1x128x1024 .bf16) : Vec F S1x128x1024 .bf16 :=
  View.readAt (Elt F) a.view (Rect.unit (s := S1x128x1024) ![0, 0, 0] S1x128x1024.size inb_S1x128x1024_S1x128x1024_0_0_0).toLoadRect (h.unread x)
/-- A load of a whole wide f32 buffer. -/
abbrev ldS (a : Memref sig .tc .vmem S1x128x1024 .f32) (h : a.IsWhole) (x : Vec F S1x128x1024 .f32) : Vec F S1x128x1024 .f32 :=
  View.readAt (Elt F) a.view (Rect.unit (s := S1x128x1024) ![0, 0, 0] S1x128x1024.size inb_S1x128x1024_S1x128x1024_0_0_0).toLoadRect (h.unread x)
/-- A load of the whole carry. -/
abbrev ldR (a : Memref sig .tc .vmem S128x1024 .f32) (h : a.IsWhole) (x : Vec F S128x1024 .f32) : Vec F S128x1024 .f32 :=
  View.readAt (Elt F) a.view (Rect.unit (s := S128x1024) ![0, 0] S128x1024.size inb_S128x1024_S128x1024_0_0).toLoadRect (h.unread x)

theorem ldK_eq (a : Memref sig .tc .vmem S1x128x128 .bf16) (h : a.IsWhole) (x : Vec F S1x128x128 .bf16) : ldK a h x = x := by
  simp only [View.readAt_eq_ld, h.read_unread, View.ld_unit_zero (S := S1x128x128) hz3]
theorem ldC_eq (a : Memref sig .tc .vmem S1x128x128 .f32) (h : a.IsWhole) (x : Vec F S1x128x128 .f32) : ldC a h x = x := by
  simp only [View.readAt_eq_ld, h.read_unread, View.ld_unit_zero (S := S1x128x128) hz3]
theorem ldQ_eq (a : Memref sig .tc .vmem S1x128x1024 .bf16) (h : a.IsWhole) (x : Vec F S1x128x1024 .bf16) : ldQ a h x = x := by
  simp only [View.readAt_eq_ld, h.read_unread, View.ld_unit_zero (S := S1x128x1024) hz3]
theorem ldS_eq (a : Memref sig .tc .vmem S1x128x1024 .f32) (h : a.IsWhole) (x : Vec F S1x128x1024 .f32) : ldS a h x = x := by
  simp only [View.readAt_eq_ld, h.read_unread, View.ld_unit_zero (S := S1x128x1024) hz3]
theorem ldR_eq (a : Memref sig .tc .vmem S128x1024 .f32) (h : a.IsWhole) (x : Vec F S128x1024 .f32) : ldR a h x = x := by
  simp only [View.readAt_eq_ld, h.read_unread, View.ld_unit_zero (S := S128x1024) hz2]

/-! ## The four statistics of the second scratch buffer -/

theorem slot_inb (a b : ℕ) (ha : a < 2) (hb : b < 2) : ∀ k, (![a, b, 0, 0] : Fin 4 → Nat) k + S1x1x1024x128.size k ≤ S2x2x1024x128.size k := by
  intro k
  match k with
  | ⟨0, _⟩ => show a + 1 ≤ 2; omega
  | ⟨1, _⟩ => show b + 1 ≤ 2; omega
  | ⟨2, _⟩ => show 0 + 1024 ≤ 1024; omega
  | ⟨3, _⟩ => show 0 + 128 ≤ 128; omega
/-- The slot of statistic `a` of key head `b`. -/
abbrev slot (a b : ℕ) (ha : a < 2 := by decide) (hb : b < 2 := by decide) : Rect S2x2x1024x128 :=
  Rect.unit (s := S2x2x1024x128) ![a, b, 0, 0] S1x1x1024x128.size (slot_inb a b ha hb)

theorem slot_disjoint {a b a' b' : ℕ} (ha : a < 2) (hb : b < 2) (ha' : a' < 2) (hb' : b' < 2) (h : a ≠ a' ∨ b ≠ b') :
    Disjoint (slot a b ha hb).set (slot a' b' ha' hb').set := by
  refine Finset.disjoint_left.mpr fun y hy hy' => ?_
  rw [Rect.mem_set_unit] at hy hy'
  have h0 : a ≤ (y 0).val ∧ (y 0).val < a + 1 := hy 0
  have h1 : b ≤ (y 1).val ∧ (y 1).val < b + 1 := hy 1
  have h0' : a' ≤ (y 0).val ∧ (y 0).val < a' + 1 := hy' 0
  have h1' : b' ≤ (y 1).val ∧ (y 1).val < b' + 1 := hy' 1
  clear hy hy'
  omega

/-- A statistic as it is stored. -/
abbrev put (x : Vec F S1024x128 .f32) : Vec F S1x1x1024x128 .f32 := shapeCast S1x1x1024x128 x shapeCasts_S1024x128_S1x1x1024x128
/-- A statistic as it is loaded. -/
abbrev get (x : Vec F S1x1x1024x128 .f32) : Vec F S1024x128 .f32 := shapeCast S1024x128 x shapeCasts_S1x1x1024x128_S1024x128

theorem get_put (x : Vec F S1024x128 .f32) : get (put x) = x := by
  funext j
  idx_vars j
  pointwise [get, put]

theorem ld_here (r : Rect S2x2x1024x128) (w : r.shape.Idx → Elt F .f32) (L : List (View.Piece (Elt F) S2x2x1024x128 .f32)) :
    View.ld (View.canon (⟨r, w⟩ :: L)) r = w := funext fun x => View.canon_cons_emb r w L x
theorem ld_skip (a b a' b' : ℕ) (ha : a < 2) (hb : b < 2) (ha' : a' < 2) (hb' : b' < 2) (h : a' ≠ a ∨ b' ≠ b) (w : Vec F S1x1x1024x128 .f32)
    (L : List (View.Piece (Elt F) S2x2x1024x128 .f32)) :
    View.ld (View.canon (⟨slot a' b' ha' hb', w⟩ :: L)) (slot a b ha hb) = View.ld (View.canon L) (slot a b ha hb) :=
  funext fun x => View.canon_cons_of_not_mem _ L (Finset.disjoint_right.mp (slot_disjoint ha' hb' ha hb h) ((slot a b ha hb).idx_mem x))

/-- What the first key block of a batch row writes there before anything else. -/
abbrev statsFirst (x6 x7 : Vec F S1x128x1024 .f32) : List (View.Piece (Elt F) S2x2x1024x128 .f32) :=
  [⟨slot 1 1, put (colsB (wideF x7))⟩, ⟨slot 1 0, put (colsA (wideF x7))⟩, ⟨slot 0 1, put (colsB (wideF x6))⟩, ⟨slot 0 0, put (colsA (wideF x6))⟩]
/-- What every key block leaves there for the next. -/
abbrev statsLast (x10 x11 : Vec F S1x128x1024 .f32) (L : List (View.Piece (Elt F) S2x2x1024x128 .f32)) : List (View.Piece (Elt F) S2x2x1024x128 .f32) :=
  ⟨slot 1 1, put (colsB (wideF x11))⟩ :: ⟨slot 0 1, put (colsB (wideF x10))⟩ :: ⟨slot 1 0, put (colsA (wideF x11))⟩ :: ⟨slot 0 0, put (colsA (wideF x10))⟩ :: L

/-- The contents `s` of the second scratch buffer are the statistics `x`, `y`. -/
structure Stats (s : Vec F S2x2x1024x128 .f32) (x y : Vec F S1x128x1024 .f32) : Prop where
  la : get (View.ld s (slot 0 0)) = colsA (wideF x)
  lb : get (View.ld s (slot 0 1)) = colsB (wideF x)
  da : get (View.ld s (slot 1 0)) = colsA (wideF y)
  db : get (View.ld s (slot 1 1)) = colsB (wideF y)

theorem stats_first (x y : Vec F S1x128x1024 .f32) : Stats (View.canon (statsFirst x y)) x y where
  la := by
    rw [ld_skip 0 0 1 1 (by decide) (by decide) (by decide) (by decide) (by decide), ld_skip 0 0 1 0 (by decide) (by decide) (by decide) (by decide) (by decide), ld_skip 0 0 0 1 (by decide) (by decide) (by decide) (by decide) (by decide), ld_here]
    exact get_put _
  lb := by
    rw [ld_skip 0 1 1 1 (by decide) (by decide) (by decide) (by decide) (by decide), ld_skip 0 1 1 0 (by decide) (by decide) (by decide) (by decide) (by decide), ld_here]
    exact get_put _
  da := by
    rw [ld_skip 1 0 1 1 (by decide) (by decide) (by decide) (by decide) (by decide), ld_here]
    exact get_put _
  db := by
    rw [ld_here]
    exact get_put _

theorem stats_last (x y : Vec F S1x128x1024 .f32) (L : List (View.Piece (Elt F) S2x2x1024x128 .f32)) : Stats (View.canon (statsLast x y L)) x y where
  la := by
    rw [ld_skip 0 0 1 1 (by decide) (by decide) (by decide) (by decide) (by decide), ld_skip 0 0 0 1 (by decide) (by decide) (by decide) (by decide) (by decide), ld_skip 0 0 1 0 (by decide) (by decide) (by decide) (by decide) (by decide), ld_here]
    exact get_put _
  lb := by
    rw [ld_skip 0 1 1 1 (by decide) (by decide) (by decide) (by decide) (by decide), ld_here]
    exact get_put _
  da := by
    rw [ld_skip 1 0 1 1 (by decide) (by decide) (by decide) (by decide) (by decide), ld_skip 1 0 0 1 (by decide) (by decide) (by decide) (by decide) (by decide), ld_here]
    exact get_put _
  db := by
    rw [ld_here]
    exact get_put _

theorem stats_of {s : Vec F S2x2x1024x128 .f32} {x y : Vec F S1x128x1024 .f32} {L : List (View.Piece (Elt F) S2x2x1024x128 .f32)}
    (h : s = View.canon (statsLast x y L)) : Stats s x y := by
  rw [h]; exact stats_last x y L

/-- A statistic loaded from carried contents. -/
abbrev ldT (a : Memref sig .tc .vmem S2x2x1024x128 .f32) (h : a.IsWhole) (s : Vec F S2x2x1024x128 .f32) (p q : ℕ) (hp : p < 2 := by decide) (hq : q < 2 := by decide) :
    Vec F S1024x128 .f32 := get (View.readAt (Elt F) a.view (slot p q hp hq).toLoadRect (h.unread s))
/-- A statistic loaded after the writes of the same point. -/
abbrev ldN (a : Memref sig .tc .vmem S2x2x1024x128 .f32) (L : List (View.Piece (Elt F) S2x2x1024x128 .f32)) (p q : ℕ) (hp : p < 2 := by decide) (hq : q < 2 := by decide) :
    Vec F S1024x128 .f32 := get (a.view.readCov L (slot p q hp hq).toLoadRect)

theorem ldT_eq (a : Memref sig .tc .vmem S2x2x1024x128 .f32) (h : a.IsWhole) (s : Vec F S2x2x1024x128 .f32) (p q : ℕ) (hp : p < 2) (hq : q < 2) :
    ldT a h s p q hp hq = get (View.ld s (slot p q hp hq)) := by
  unfold ldT; rw [View.readAt_eq_ld, h.read_unread]
theorem ldN_eq (a : Memref sig .tc .vmem S2x2x1024x128 .f32) (L : List (View.Piece (Elt F) S2x2x1024x128 .f32)) (p q : ℕ) (hp : p < 2) (hq : q < 2) :
    ldN a L p q hp hq = get (View.ld (View.canon L) (slot p q hp hq)) := by
  unfold ldN; rw [View.readCov_eq_canon']

theorem ldN_la (a : Memref sig .tc .vmem S2x2x1024x128 .f32) (x y : Vec F S1x128x1024 .f32) : ldN a (statsFirst x y) 0 0 = colsA (wideF x) :=
  (ldN_eq a _ 0 0 _ _).trans (stats_first x y).la
theorem ldN_lb (a : Memref sig .tc .vmem S2x2x1024x128 .f32) (x y : Vec F S1x128x1024 .f32) : ldN a (statsFirst x y) 0 1 = colsB (wideF x) :=
  (ldN_eq a _ 0 1 _ _).trans (stats_first x y).lb
theorem ldN_da (a : Memref sig .tc .vmem S2x2x1024x128 .f32) (x y : Vec F S1x128x1024 .f32) : ldN a (statsFirst x y) 1 0 = colsA (wideF y) :=
  (ldN_eq a _ 1 0 _ _).trans (stats_first x y).da
theorem ldN_db (a : Memref sig .tc .vmem S2x2x1024x128 .f32) (x y : Vec F S1x128x1024 .f32) : ldN a (statsFirst x y) 1 1 = colsB (wideF y) :=
  (ldN_eq a _ 1 1 _ _).trans (stats_first x y).db

/-- The carry read right after it is zeroed. -/
abbrev zeroCarry : Vec F S128x1024 .f32 := broadcast S128x1024 (Scalar.ofBits .f32 0x00000000#32)

/-! ## The stores of a point -/

section Point

variable (c : Dev nD) (i : grid0.Coords) (a3 : Memref sig .tc .vmem S1x128x128 .bf16) (h3 : a3.IsWhole) (a4 : Memref sig .tc .vmem S1x128x128 .bf16) (h4 : a4.IsWhole) (a5 : Memref sig .tc .vmem S1x128x128 .f32) (h5 : a5.IsWhole) (a6 : Memref sig .tc .vmem S1x128x128 .f32) (h6 : a6.IsWhole) (a7 : Memref sig .tc .vmem S1x128x1024 .bf16) (h7 : a7.IsWhole) (a8 : Memref sig .tc .vmem S1x128x1024 .bf16) (h8 : a8.IsWhole) (a9 : Memref sig .tc .vmem S1x128x1024 .f32) (h9 : a9.IsWhole) (a10 : Memref sig .tc .vmem S1x128x1024 .f32) (h10 : a10.IsWhole) (a11 : Memref sig .tc .vmem S1x128x1024 .bf16) (h11 : a11.IsWhole) (a12 : Memref sig .tc .vmem S1x128x1024 .bf16) (h12 : a12.IsWhole) (a13 : Memref sig .tc .vmem S1x128x1024 .f32) (h13 : a13.IsWhole) (a14 : Memref sig .tc .vmem S1x128x1024 .f32) (h14 : a14.IsWhole) (a15 : Memref sig .tc .vmem S1x128x1024 .bf16) (h15 : a15.IsWhole) (a16 : Memref sig .tc .vmem S1x128x128 .bf16) (h16 : a16.IsWhole) (a17 : Memref sig .tc .vmem S1x128x128 .bf16) (h17 : a17.IsWhole) (a18 : Memref sig .tc .vmem S128x1024 .f32) (h18 : a18.IsWhole) (a19 : Memref sig .tc .vmem S2x2x1024x128 .f32) (h19 : a19.IsWhole)
  (x0 x1 : Vec F S1x128x128 .bf16) (x2 x3 : Vec F S1x128x128 .f32) (x4 x5 : Vec F S1x128x1024 .bf16) (x6 x7 : Vec F S1x128x1024 .f32) (x8 x9 : Vec F S1x128x1024 .bf16) (x10 x11 : Vec F S1x128x1024 .f32)
  (xs0 : Vec F S128x1024 .f32) (xs1 : Vec F S2x2x1024x128 .f32)

theorem out_B_12 (hc0 : ¬cond0_0 i) (hc1 : ¬cond0_1 i) :
    out0_B_12 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1 =
      outDQ x0 x1 x2 x3 x4 x5 (get (View.ld xs1 (slot 0 0))) (get (View.ld xs1 (slot 0 1))) (get (View.ld xs1 (slot 1 0))) (get (View.ld xs1 (slot 1 1))) xs0 := by
  unfold out0_B_12
  rw [View.read_writes_eq_canon _ _ _ (cover0_B_12 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1)]
  unfold kernelRun0_B
  dsimp only
  rw [View.canon_unit_zero hz3]
  refine Eq.trans (b := outDQ (ldK a3 h3 x0) (ldK a4 h4 x1) (ldC a5 h5 x2) (ldC a6 h6 x3) (ldQ a7 h7 x4) (ldQ a8 h8 x5) (ldT a19 h19 xs1 0 0) (ldT a19 h19 xs1 0 1) (ldT a19 h19 xs1 1 0) (ldT a19 h19 xs1 1 1) (ldR a18 h18 xs0)) (by sl_kernel_rfl) ?_
  simp only [ldK_eq, ldC_eq, ldQ_eq, ldS_eq, ldR_eq]
  rw [ldT_eq, ldT_eq, ldT_eq, ldT_eq]

theorem out_B_13 (hc0 : ¬cond0_0 i) (hc1 : ¬cond0_1 i) :
    out0_B_13 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1 =
      outDK i x0 x1 x2 x3 x4 x5 x8 x9 x10 x11 (get (View.ld xs1 (slot 0 0))) (get (View.ld xs1 (slot 0 1))) (get (View.ld xs1 (slot 1 0))) (get (View.ld xs1 (slot 1 1))) := by
  unfold out0_B_13
  rw [View.read_writes_eq_canon _ _ _ (cover0_B_13 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1)]
  unfold kernelRun0_B
  dsimp only
  rw [View.canon_unit_zero hz3]
  refine Eq.trans (b := outDK i (ldK a3 h3 x0) (ldK a4 h4 x1) (ldC a5 h5 x2) (ldC a6 h6 x3) (ldQ a7 h7 x4) (ldQ a8 h8 x5) (ldQ a11 h11 x8) (ldQ a12 h12 x9) (ldS a13 h13 x10) (ldS a14 h14 x11) (ldT a19 h19 xs1 0 0) (ldT a19 h19 xs1 0 1) (ldT a19 h19 xs1 1 0) (ldT a19 h19 xs1 1 1)) (by sl_kernel_rfl) ?_
  simp only [ldK_eq, ldC_eq, ldQ_eq, ldS_eq]
  rw [ldT_eq, ldT_eq, ldT_eq, ldT_eq]

theorem out_B_14 (hc0 : ¬cond0_0 i) (hc1 : ¬cond0_1 i) :
    out0_B_14 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1 =
      outDV i x0 x4 x5 x8 x9 x10 (get (View.ld xs1 (slot 0 0))) (get (View.ld xs1 (slot 0 1))) := by
  unfold out0_B_14
  rw [View.read_writes_eq_canon _ _ _ (cover0_B_14 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1)]
  unfold kernelRun0_B
  dsimp only
  rw [View.canon_unit_zero hz3]
  refine Eq.trans (b := outDV i (ldK a3 h3 x0) (ldQ a7 h7 x4) (ldQ a8 h8 x5) (ldQ a11 h11 x8) (ldQ a12 h12 x9) (ldS a13 h13 x10) (ldT a19 h19 xs1 0 0) (ldT a19 h19 xs1 0 1)) (by sl_kernel_rfl) ?_
  simp only [ldK_eq, ldC_eq, ldQ_eq, ldS_eq]
  rw [ldT_eq, ldT_eq]

theorem sout_B_0 (hc0 : ¬cond0_0 i) (hc1 : ¬cond0_1 i) :
    sout0_B_0 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1 = nextDQ i x0 x1 x8 x9 x10 x11 := by
  unfold sout0_B_0
  rw [View.read_writes_eq_canon _ _ _ (scover0_B_0 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1)]
  unfold kernelRun0_B
  dsimp only
  rw [View.canon_cons_unit_zero (S := S128x1024) hz2]
  refine Eq.trans (b := shapeCast S128x1024 (nextDQ i (ldK a3 h3 x0) (ldK a4 h4 x1) (ldQ a11 h11 x8) (ldQ a12 h12 x9) (ldS a13 h13 x10) (ldS a14 h14 x11)) rfl) (by sl_kernel_rfl) ?_
  rw [shapeCast_self]
  simp only [ldK_eq, ldC_eq, ldQ_eq, ldS_eq, ldR_eq]

theorem sout_B_1 (hc0 : ¬cond0_0 i) (hc1 : ¬cond0_1 i) :
    Stats (sout0_B_1 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1) x10 x11 := by
  unfold sout0_B_1
  rw [View.read_writes_eq_canon _ _ _ (scover0_B_1 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 xs0 xs1)]
  unfold kernelRun0_B
  dsimp only
  refine stats_of (L := []) (Eq.trans (b := View.canon (statsLast (ldS a13 h13 x10) (ldS a14 h14 x11) [])) (by sl_kernel_rfl) ?_)
  simp only [ldS_eq]

theorem out_A_12 (hc0 : cond0_0 i) (hc1 : cond0_1 i) :
    out0_A_12 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 =
      outDQ x0 x1 x2 x3 x4 x5 (colsA (wideF x6)) (colsB (wideF x6)) (colsA (wideF x7)) (colsB (wideF x7)) zeroCarry := by
  unfold out0_A_12
  rw [View.read_writes_eq_canon _ _ _ (cover0_A_12 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11)]
  unfold kernelRun0_A
  dsimp only
  rw [View.canon_unit_zero hz3]
  refine Eq.trans (b := outDQ (ldK a3 h3 x0) (ldK a4 h4 x1) (ldC a5 h5 x2) (ldC a6 h6 x3) (ldQ a7 h7 x4) (ldQ a8 h8 x5) (ldN a19 (statsFirst (ldS a9 h9 x6) (ldS a10 h10 x7)) 0 0) (ldN a19 (statsFirst (ldS a9 h9 x6) (ldS a10 h10 x7)) 0 1) (ldN a19 (statsFirst (ldS a9 h9 x6) (ldS a10 h10 x7)) 1 0) (ldN a19 (statsFirst (ldS a9 h9 x6) (ldS a10 h10 x7)) 1 1) (a18.view.readCov [⟨Rect.unit (s := S128x1024) ![0, 0] S128x1024.size inb_S128x1024_S128x1024_0_0, zeroCarry⟩] (Rect.unit (s := S128x1024) ![0, 0] S128x1024.size inb_S128x1024_S128x1024_0_0).toLoadRect)) (by sl_kernel_rfl) ?_
  simp only [ldK_eq, ldC_eq, ldQ_eq, ldS_eq, View.readCov_cons_toLoadRect]
  rw [ldN_la, ldN_lb, ldN_da, ldN_db]

theorem out_A_13 (hc0 : cond0_0 i) (hc1 : cond0_1 i) :
    out0_A_13 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 =
      outDK i x0 x1 x2 x3 x4 x5 x8 x9 x10 x11 (colsA (wideF x6)) (colsB (wideF x6)) (colsA (wideF x7)) (colsB (wideF x7)) := by
  unfold out0_A_13
  rw [View.read_writes_eq_canon _ _ _ (cover0_A_13 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11)]
  unfold kernelRun0_A
  dsimp only
  rw [View.canon_unit_zero hz3]
  refine Eq.trans (b := outDK i (ldK a3 h3 x0) (ldK a4 h4 x1) (ldC a5 h5 x2) (ldC a6 h6 x3) (ldQ a7 h7 x4) (ldQ a8 h8 x5) (ldQ a11 h11 x8) (ldQ a12 h12 x9) (ldS a13 h13 x10) (ldS a14 h14 x11) (ldN a19 (statsFirst (ldS a9 h9 x6) (ldS a10 h10 x7)) 0 0) (ldN a19 (statsFirst (ldS a9 h9 x6) (ldS a10 h10 x7)) 0 1) (ldN a19 (statsFirst (ldS a9 h9 x6) (ldS a10 h10 x7)) 1 0) (ldN a19 (statsFirst (ldS a9 h9 x6) (ldS a10 h10 x7)) 1 1)) (by sl_kernel_rfl) ?_
  simp only [ldK_eq, ldC_eq, ldQ_eq, ldS_eq, View.readCov_cons_toLoadRect]
  rw [ldN_la, ldN_lb, ldN_da, ldN_db]

theorem out_A_14 (hc0 : cond0_0 i) (hc1 : cond0_1 i) :
    out0_A_14 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 =
      outDV i x0 x4 x5 x8 x9 x10 (colsA (wideF x6)) (colsB (wideF x6)) := by
  unfold out0_A_14
  rw [View.read_writes_eq_canon _ _ _ (cover0_A_14 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11)]
  unfold kernelRun0_A
  dsimp only
  rw [View.canon_unit_zero hz3]
  refine Eq.trans (b := outDV i (ldK a3 h3 x0) (ldQ a7 h7 x4) (ldQ a8 h8 x5) (ldQ a11 h11 x8) (ldQ a12 h12 x9) (ldS a13 h13 x10) (ldN a19 (statsFirst (ldS a9 h9 x6) (ldS a10 h10 x7)) 0 0) (ldN a19 (statsFirst (ldS a9 h9 x6) (ldS a10 h10 x7)) 0 1)) (by sl_kernel_rfl) ?_
  simp only [ldK_eq, ldC_eq, ldQ_eq, ldS_eq, View.readCov_cons_toLoadRect]
  rw [ldN_la, ldN_lb]

theorem sout_A_0 (hc0 : cond0_0 i) (hc1 : cond0_1 i) :
    sout0_A_0 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11 = nextDQ i x0 x1 x8 x9 x10 x11 := by
  unfold sout0_A_0
  rw [View.read_writes_eq_canon _ _ _ (scover0_A_0 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11)]
  unfold kernelRun0_A
  dsimp only
  rw [View.canon_cons_unit_zero (S := S128x1024) hz2]
  refine Eq.trans (b := shapeCast S128x1024 (nextDQ i (ldK a3 h3 x0) (ldK a4 h4 x1) (ldQ a11 h11 x8) (ldQ a12 h12 x9) (ldS a13 h13 x10) (ldS a14 h14 x11)) rfl) (by sl_kernel_rfl) ?_
  rw [shapeCast_self]
  simp only [ldK_eq, ldC_eq, ldQ_eq, ldS_eq, ldR_eq]

theorem sout_A_1 (hc0 : cond0_0 i) (hc1 : cond0_1 i) :
    Stats (sout0_A_1 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11) x10 x11 := by
  unfold sout0_A_1
  rw [View.read_writes_eq_canon _ _ _ (scover0_A_1 c i a3 h3 a4 h4 a5 h5 a6 h6 a7 h7 a8 h8 a9 h9 a10 h10 a11 h11 a12 h12 a13 h13 a14 h14 a15 h15 a16 h16 a17 h17 a18 h18 a19 h19 hc0 hc1 x0 x1 x2 x3 x4 x5 x6 x7 x8 x9 x10 x11)]
  unfold kernelRun0_A
  dsimp only
  refine stats_of (L := (statsFirst x6 x7)) (Eq.trans (b := View.canon (statsLast (ldS a13 h13 x10) (ldS a14 h14 x11) (statsFirst (ldS a9 h9 x6) (ldS a10 h10 x7)))) (by sl_kernel_rfl) ?_)
  simp only [ldS_eq]

end Point

end Cert.KernelIdeal.Attn
end
-- ==== Proof.HostCut.lean ====
/-
  What the kernel program's host operations before its call leave in the buffers the call reads, one group of
  operations at a time: each named buffer as the term of the named buffers before it.
-/
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo

variable {F : FTy → Type} [FloatOps F] [Named F]

/-- The kernel program's host operations before its call. -/
abbrev pre : List (HloOp τ sig (Elt F)) := List.flatten [hostOps0, hostOps0_1, hostOps0_2]

/-- The buffers they write, in order. -/
def preW : List (Ref sig .tc) :=
  [main_v0, main_v1, main_v2, main_cst, main_v3, main_v4, main_cst_0, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_cst_1, main_v34, main_v35, main_cst_2, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_cst_3, main_v64, main_v65, main_v66, main_v67, main_v68, main_c, main_v69, main_v70, main_c_4, main_v71, main_v72, main_v73, main_v74, main_cst_5, main_call0_v0, main_call0_v1, main_call0_v2, main_v75, main_v76, main_v77, main_cst_6, main_v78, main_v79, main_v80, main_v81, main_v82, main_v83, main_v84, main_cst_7, main_v85, main_v86, main_v87, main_v88, main_v89, main_v90, main_v91, main_v92, main_v93, main_v94, main_v95, main_v96, main_v97, main_v98, main_v99, main_v100, main_v101, main_cst_8, main_v102, main_v103, main_cst_9, main_v104, main_v105, main_v106, main_v107, main_v108, main_v109, main_v110, main_v111, main_v112, main_v113, main_v114, main_v115, main_v116, main_v117, main_v118, main_v119, main_v120, main_cst_10, main_v121, main_v122, main_v123, main_v124, main_v125, main_v126, main_v127, main_v128, main_v129, main_v130, main_v131]

theorem pre_writes : (pre : List (HloOp τ sig (Elt F))).map HloOp.writes = preW.map fun w => {Proc.devRef (τ := τ) .tc w} := rfl

/-- Reading after all of them is reading after the operations from `i` on, from the contents before those. -/
theorem cut (i : ℕ) (V0 : Valuation τ sig (Elt F)) (r : DevRef τ sig) : after pre V0 r = after (pre.drop i) (upto pre V0 i) r := by
  unfold upto
  rw [← after_append, List.take_append_drop]

/-- A buffer that no operation from `i` on writes already holds its final contents there. -/
theorem stay (i : ℕ) (V0 : Valuation τ sig (Elt F)) {r : Ref sig .tc} (h : r ∉ preW.drop i) :
    upto pre V0 i (Proc.devRef .tc r) = after pre V0 (Proc.devRef .tc r) := by
  rw [cut i]
  refine (after_unwritten (preW.drop i) ?_ h _).symm
  rw [List.map_drop, List.map_drop, pre_writes]

/-- A buffer written last within the `n` operations from `i` on is read off those alone. -/
theorem window (i n : ℕ) (V0 : Valuation τ sig (Elt F)) {r : Ref sig .tc} (h : r ∉ preW.drop (i + n)) :
    after pre V0 (Proc.devRef .tc r) = after ((pre.drop i).take n) (upto pre V0 i) (Proc.devRef .tc r) := by
  rw [← stay (i + n) V0 h]
  unfold upto
  rw [List.take_add, after_append]

variable (m : (ℓ : Loc nD τ sig) → Buf (Elt F) ℓ) (c : Dev nD)

/-- `stay`, of the buffers as the call finds them. -/
theorem stayV (i : ℕ) (r : Ref sig .tc) (h : r ∉ preW.drop i) : V m c r = upto pre (fun b => m (c, b)) i (Proc.devRef .tc r) := (stay i _ h).symm
/-- `window`, of the buffers as the call finds them. -/
theorem windowV (i n : ℕ) (r : Ref sig .tc) (h : r ∉ preW.drop (i + n)) :
    V m c r = after ((pre.drop i).take n) (upto pre (fun b => m (c, b)) i) (Proc.devRef .tc r) := window i n _ h

end Cert.KernelIdeal.Attn

end
-- ==== Proof.HostReads.lean ====
/-
  What the kernel program's host operations before its call leave in the buffers the call reads: each named buffer as
  the term of the named buffers before it.
-/
module

public import proofs.«01_k».proof.Proof.HostCut

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo

variable {F : FTy → Type} [FloatOps F] [Named F]

/-- The two rotated halves of the queries' heads, side by side. -/
def join16 (a b : Vec F S2x2048x16x32 .f32) : Vec F S2x2048x16x64 .f32 :=
  concatenate S2x2048x16x64 3 [⟨S2x2048x16x32, a⟩, ⟨S2x2048x16x32, b⟩] concatenates_S2x2048x16x32_S2x2048x16x32_S2x2048x16x64_d3
/-- The two rotated halves of the keys' heads, side by side. -/
def join2 (a b : Vec F S2x2048x2x32 .f32) : Vec F S2x2048x2x64 .f32 :=
  concatenate S2x2048x2x64 3 [⟨S2x2048x2x32, a⟩, ⟨S2x2048x2x32, b⟩] concatenates_S2x2048x2x32_S2x2048x2x32_S2x2048x2x64_d3
/-- Queries, keys and values side by side. -/
def joinQkv (a : Vec F S2x2048x1024 .f32) (b d : Vec F S2x2048x128 .f32) : Vec F S2x2048x1280 .f32 :=
  concatenate S2x2048x1280 2 [⟨S2x2048x1024, a⟩, ⟨S2x2048x128, b⟩, ⟨S2x2048x128, d⟩] concatenates_S2x2048x1024_S2x2048x128_S2x2048x128_S2x2048x1280_d2
/-- Four tables of a rotation side by side. -/
def joinTable (a b d e : Vec F S2x2048x32 .f32) : Vec F S2x2048x128 .f32 :=
  concatenate S2x2048x128 2 [⟨S2x2048x32, a⟩, ⟨S2x2048x32, b⟩, ⟨S2x2048x32, d⟩, ⟨S2x2048x32, e⟩] concatenates_S2x2048x32_S2x2048x32_S2x2048x32_S2x2048x32_S2x2048x128_d2

/-- The angles of the rotation, by position and pair of lanes. -/
def angles (p : IVec S2x2048 32) : Vec F S2x2048x32 .f32 :=
  mulf (broadcastInDim S2x2048x32 ![0, 1, 2] bcast_S2x2048x1_S2x2048x32_0_1_2 (broadcastInDim S2x2048x1 ![0, 1] bcast_S2x2048_S2x2048x1_0_1 (sitofp .f32 p)))
    (broadcastInDim S2x2048x32 ![0, 1, 2] bcast_S1x1x32_S2x2048x32_0_1_2 (broadcastInDim S1x1x32 ![2] bcast_S32_S1x1x32_2
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))
/-- A table of the rotation, for each of the query heads. -/
def wide16 (t : Vec F S2x2048x32 .f32) : Vec F S2x2048x16x32 .f32 :=
  broadcastInDim S2x2048x16x32 ![0, 1, 2, 3] bcast_S2x2048x1x32_S2x2048x16x32_0_1_2_3 (broadcastInDim S2x2048x1x32 ![0, 1, 3] bcast_S2x2048x32_S2x2048x1x32_0_1_3 t)
/-- A table of the rotation, for each of the key heads. -/
def wide2 (t : Vec F S2x2048x32 .f32) : Vec F S2x2048x2x32 .f32 :=
  broadcastInDim S2x2048x2x32 ![0, 1, 2, 3] bcast_S2x2048x1x32_S2x2048x2x32_0_1_2_3 (broadcastInDim S2x2048x1x32 ![0, 1, 3] bcast_S2x2048x32_S2x2048x1x32_0_1_3 t)
/-- The rotation of the query heads. -/
def rope16 (x : Vec F S2x2048x16x64 .f32) (t : Vec F S2x2048x32 .f32) : Vec F S2x2048x16x64 .f32 :=
  join16 (subf (mulf (extractStridedSlice S2x2048x16x32 ![0, 0, 0, 0] x slices_S2x2048x16x64_S2x2048x16x32_0_0_0_0) (wide16 (Host.cos t)))
      (mulf (extractStridedSlice S2x2048x16x32 ![0, 0, 0, 32] x slices_S2x2048x16x64_S2x2048x16x32_0_0_0_32) (wide16 (Host.sin t))))
    (addf (mulf (extractStridedSlice S2x2048x16x32 ![0, 0, 0, 32] x slices_S2x2048x16x64_S2x2048x16x32_0_0_0_32) (wide16 (Host.cos t)))
      (mulf (extractStridedSlice S2x2048x16x32 ![0, 0, 0, 0] x slices_S2x2048x16x64_S2x2048x16x32_0_0_0_0) (wide16 (Host.sin t))))
/-- The rotation of the key heads. -/
def rope2 (x : Vec F S2x2048x2x64 .f32) (t : Vec F S2x2048x32 .f32) : Vec F S2x2048x2x64 .f32 :=
  join2 (subf (mulf (extractStridedSlice S2x2048x2x32 ![0, 0, 0, 0] x slices_S2x2048x2x64_S2x2048x2x32_0_0_0_0) (wide2 (Host.cos t)))
      (mulf (extractStridedSlice S2x2048x2x32 ![0, 0, 0, 32] x slices_S2x2048x2x64_S2x2048x2x32_0_0_0_32) (wide2 (Host.sin t))))
    (addf (mulf (extractStridedSlice S2x2048x2x32 ![0, 0, 0, 32] x slices_S2x2048x2x64_S2x2048x2x32_0_0_0_32) (wide2 (Host.cos t)))
      (mulf (extractStridedSlice S2x2048x2x32 ![0, 0, 0, 0] x slices_S2x2048x2x64_S2x2048x2x32_0_0_0_0) (wide2 (Host.sin t))))
/-- Which keys a query sees. -/
def seen : IVec S2x2x8x2048x2048 1 :=
  broadcastInDim S2x2x8x2048x2048 ![0, 1, 2, 3, 4] bcast_S1x1x1x2048x2048_S2x2x8x2048x2048_0_1_2_3_4 (broadcastInDim S1x1x1x2048x2048 ![3, 4] bcast_S2048x2048_S1x1x1x2048x2048_3_4
    (andi (cmpi .sge (subi (iotaInDim S2048x2048 32 0) (iotaInDim S2048x2048 32 1)) (broadcastInDim S2048x2048 ![] bcast_S_S2048x2048 (constantI S_ 32 0#32)))
      (cmpi .sle (subi (iotaInDim S2048x2048 32 0) (iotaInDim S2048x2048 32 1)) (broadcastInDim S2048x2048 ![] bcast_S_S2048x2048 (constantI S_ 32 127#32)))))
/-- The scores of the queries `q` against the keys `k`. -/
def score (q : Vec F S2x2048x2x8x64 .f32) (k : Vec F S2x2048x2x64 .f32) : Vec F S2x2x8x2048x2048 .f32 :=
  mulf (transpose S2x2x8x2048x2048 [0, 1, 4, 3, 2] (Host.dotGeneral dot_S2x2048x2x64_S2x2048x2x8x64_S2x2x2048x2048x8_3_4_1_13_02_02 none k q) transposes_S2x2x2048x2048x8_S2x2x8x2048x2048_0_1_4_3_2)
    (broadcastInDim S2x2x8x2048x2048 ![] bcast_S_S2x2x8x2048x2048 (constant S_ .f32 0x3E000000#32))
/-- The scores of the keys a query sees, the others at `-∞`. -/
def masked (x : Vec F S2x2x8x2048x2048 .f32) : Vec F S2x2x8x2048x2048 .f32 :=
  select seen x (broadcastInDim S2x2x8x2048x2048 ![] bcast_S_S2x2x8x2048x2048 (constant S_ .f32 0xFF800000#32))
/-- A sink of each head, for every query. -/
def sinkOf (x : Vec F S1x2x8x1 .f32) : Vec F S2x2x8x2048 .f32 :=
  broadcastInDim S2x2x8x2048 ![0, 1, 2, 3] bcast_S1x2x8x1_S2x2x8x2048_0_1_2_3 x
/-- A query's number, for every lane of its head, heads side by side. -/
def lanesOf (x : Vec F S2x2x8x2048 .f32) : Vec F S2x2048x1024 .f32 :=
  shapeCast S2x2048x1024 (broadcastInDim S2x2048x2x8x64 ![0, 1, 2, 3, 4] bcast_S2x2048x2x8x1_S2x2048x2x8x64_0_1_2_3_4 (broadcastInDim S2x2048x2x8x1 ![0, 1, 2, 3] bcast_S2x2048x2x8_S2x2048x2x8x1_0_1_2_3
    (transpose S2x2048x2x8 [0, 3, 1, 2] x transposes_S2x2x8x2048_S2x2048x2x8_0_3_1_2))) shapeCasts_S2x2048x2x8x64_S2x2048x1024

variable (m : (ℓ : Loc nD τ sig) → Buf (Elt F) ℓ) (c : Dev nD)

/-- The buffer `main_arg0` as the call finds it. -/
def arg0 : Vec F S2x2048x1024 .f32 := V m c main_arg0
/-- The buffer `main_arg1` as the call finds it. -/
def arg1 : Vec F S2x2048x128 .f32 := V m c main_arg1
/-- The buffer `main_arg2` as the call finds it. -/
def arg2 : Vec F S2x2048x128 .f32 := V m c main_arg2
/-- The buffer `main_arg3` as the call finds it. -/
def arg3 : Vec F S2x2048 .i32 := V m c main_arg3
/-- The buffer `main_arg4` as the call finds it. -/
def arg4 : Vec F S16 .f32 := V m c main_arg4
/-- The buffer `main_arg5` as the call finds it. -/
def arg5 : Vec F S2x2048x1024 .f32 := V m c main_arg5
/-- The buffer `main_v30` as the call finds it. -/
def k30 : Vec F S2x2048x2x8x64 .f32 := V m c main_v30
/-- The buffer `main_v60` as the call finds it. -/
def k60 : Vec F S2x2048x2x64 .f32 := V m c main_v60
/-- The buffer `main_v61` as the call finds it. -/
def k61 : Vec F S2x2048x2x64 .f32 := V m c main_v61
/-- The buffer `main_v65` as the call finds it. -/
def k65 : Vec F S2x2x8x2048x2048 .f32 := V m c main_v65
/-- The buffer `main_v75` as the call finds it. -/
def k75 : Vec F S2x2x8x2048x2048 .f32 := V m c main_v75
/-- The buffer `main_v77` as the call finds it. -/
def k77 : Vec F S1x2x8x1 .f32 := V m c main_v77
/-- The buffer `main_v80` as the call finds it. -/
def k80 : Vec F S2x2x8x2048 .f32 := V m c main_v80
/-- The buffer `main_v84` as the call finds it. -/
def k84 : Vec F S2x2x8x2048x2048 .f32 := V m c main_v84
/-- The buffer `main_v89` as the call finds it. -/
def k89 : Vec F S2x2x8x2048 .f32 := V m c main_v89
/-- The buffer `main_v90` as the call finds it. -/
def k90 : Vec F S2x2x8x2048x64 .f32 := V m c main_v90
/-- The buffer `main_v93` as the call finds it. -/
def k93 : Vec F S2x2x8x2048x64 .f32 := V m c main_v93
/-- The buffer `main_v95` as the call finds it. -/
def k95 : Vec F S2x2x8x2048 .f32 := V m c main_v95
/-- The buffer `main_v98` as the call finds it. -/
def k98 : Vec F S2x2048x1280 .f32 := V m c main_v98
/-- The buffer `main_v112` as the call finds it. -/
def k112 : Vec F S2x2048x32 .f32 := V m c main_v112
/-- The buffer `main_v113` as the call finds it. -/
def k113 : Vec F S2x2048x32 .f32 := V m c main_v113
/-- The buffer `main_v114` as the call finds it. -/
def k114 : Vec F S2x2048x128 .f32 := V m c main_v114
/-- The buffer `main_v117` as the call finds it. -/
def k117 : Vec F S2x2048x128 .f32 := V m c main_v117
/-- The buffer `main_v119` as the call finds it. -/
def k119 : Vec F S2x2x8x2048x64 .f32 := V m c main_v119
/-- The buffer `main_v122` as the call finds it. -/
def k122 : Vec F S2x2x8x2048 .f32 := V m c main_v122
/-- The buffer `main_v127` as the call finds it. -/
def k127 : Vec F S2x2048x1024 .f32 := V m c main_v127
/-- The buffer `main_v131` as the call finds it. -/
def k131 : Vec F S2x2048x1024 .f32 := V m c main_v131
/-- The buffer `main_v99` as the call finds it. -/
def k99 : Vec F S2x2048x1280 .bf16 := V m c main_v99
/-- The buffer `main_v123` as the call finds it. -/
def k123 : Vec F S2x2048x1024 .bf16 := V m c main_v123
/-- The buffer `main_v23` as the call finds it. -/
def k23 : Vec F S2x2048x16x32 .f32 := V m c main_v23
/-- The buffer `main_v28` as the call finds it. -/
def k28 : Vec F S2x2048x16x32 .f32 := V m c main_v28
/-- The buffer `main_v54` as the call finds it. -/
def k54 : Vec F S2x2048x2x32 .f32 := V m c main_v54
/-- The buffer `main_v59` as the call finds it. -/
def k59 : Vec F S2x2048x2x32 .f32 := V m c main_v59
/-- The buffer `main_v78` as the call finds it. -/
def k78 : Vec F S2x2x8x2048 .f32 := V m c main_v78
/-- The buffer `main_v115` as the call finds it. -/
def k115 : Vec F S2x2048x32 .f32 := V m c main_v115
/-- The buffer `main_v116` as the call finds it. -/
def k116 : Vec F S2x2048x32 .f32 := V m c main_v116
/-- The buffer `main_v96` as the call finds it. -/
def k96 : Vec F S2x2048x1024 .f32 := V m c main_v96
/-- The buffer `main_v97` as the call finds it. -/
def k97 : Vec F S2x2048x128 .f32 := V m c main_v97

theorem k23_eq : k23 m c = subf (mulf (extractStridedSlice S2x2048x16x32 ![0, 0, 0, 0] (shapeCast S2x2048x16x64 (arg0 m c) shapeCasts_S2x2048x1024_S2x2048x16x64) slices_S2x2048x16x64_S2x2048x16x32_0_0_0_0) (wide16 (Host.cos (angles (arg3 m c))))) (mulf (extractStridedSlice S2x2048x16x32 ![0, 0, 0, 32] (shapeCast S2x2048x16x64 (arg0 m c) shapeCasts_S2x2048x1024_S2x2048x16x64) slices_S2x2048x16x64_S2x2048x16x32_0_0_0_32) (wide16 (Host.sin (angles (arg3 m c))))) := by
  unfold k23 arg0 arg3
  rw [stayV m c 0 main_arg0 (by decide), stayV m c 0 main_arg3 (by decide), windowV m c 0 26 main_v23 (by decide)]
  generalize upto pre (fun b => m (c, b)) 0 = U
  after_reads_simp
  all_goals rfl

theorem k28_eq : k28 m c = addf (mulf (extractStridedSlice S2x2048x16x32 ![0, 0, 0, 32] (shapeCast S2x2048x16x64 (arg0 m c) shapeCasts_S2x2048x1024_S2x2048x16x64) slices_S2x2048x16x64_S2x2048x16x32_0_0_0_32) (wide16 (Host.cos (angles (arg3 m c))))) (mulf (extractStridedSlice S2x2048x16x32 ![0, 0, 0, 0] (shapeCast S2x2048x16x64 (arg0 m c) shapeCasts_S2x2048x1024_S2x2048x16x64) slices_S2x2048x16x64_S2x2048x16x32_0_0_0_0) (wide16 (Host.sin (angles (arg3 m c))))) := by
  unfold k28 arg0 arg3
  rw [stayV m c 0 main_arg0 (by decide), stayV m c 0 main_arg3 (by decide), windowV m c 0 31 main_v28 (by decide)]
  generalize upto pre (fun b => m (c, b)) 0 = U
  after_reads_simp
  all_goals rfl

theorem k54_eq : k54 m c = subf (mulf (extractStridedSlice S2x2048x2x32 ![0, 0, 0, 0] (shapeCast S2x2048x2x64 (arg1 m c) shapeCasts_S2x2048x128_S2x2048x2x64) slices_S2x2048x2x64_S2x2048x2x32_0_0_0_0) (wide2 (Host.cos (angles (arg3 m c))))) (mulf (extractStridedSlice S2x2048x2x32 ![0, 0, 0, 32] (shapeCast S2x2048x2x64 (arg1 m c) shapeCasts_S2x2048x128_S2x2048x2x64) slices_S2x2048x2x64_S2x2048x2x32_0_0_0_32) (wide2 (Host.sin (angles (arg3 m c))))) := by
  unfold k54 arg1 arg3
  rw [stayV m c 33 main_arg1 (by decide), stayV m c 33 main_arg3 (by decide), windowV m c 33 26 main_v54 (by decide)]
  generalize upto pre (fun b => m (c, b)) 33 = U
  after_reads_simp
  all_goals rfl

theorem k59_eq : k59 m c = addf (mulf (extractStridedSlice S2x2048x2x32 ![0, 0, 0, 32] (shapeCast S2x2048x2x64 (arg1 m c) shapeCasts_S2x2048x128_S2x2048x2x64) slices_S2x2048x2x64_S2x2048x2x32_0_0_0_32) (wide2 (Host.cos (angles (arg3 m c))))) (mulf (extractStridedSlice S2x2048x2x32 ![0, 0, 0, 0] (shapeCast S2x2048x2x64 (arg1 m c) shapeCasts_S2x2048x128_S2x2048x2x64) slices_S2x2048x2x64_S2x2048x2x32_0_0_0_0) (wide2 (Host.sin (angles (arg3 m c))))) := by
  unfold k59 arg1 arg3
  rw [stayV m c 33 main_arg1 (by decide), stayV m c 33 main_arg3 (by decide), windowV m c 33 31 main_v59 (by decide)]
  generalize upto pre (fun b => m (c, b)) 33 = U
  after_reads_simp
  all_goals rfl

theorem k30_eq : k30 m c = shapeCast S2x2048x2x8x64 (join16 (k23 m c) (k28 m c)) shapeCasts_S2x2048x16x64_S2x2048x2x8x64 := by
  unfold k30 k23 k28
  rw [stayV m c 31 main_v23 (by decide), stayV m c 31 main_v28 (by decide), windowV m c 31 2 main_v30 (by decide)]
  generalize upto pre (fun b => m (c, b)) 31 = U
  after_reads_simp
  all_goals rfl

theorem k60_eq : k60 m c = join2 (k54 m c) (k59 m c) := by
  unfold k60 k54 k59
  rw [stayV m c 64 main_v54 (by decide), stayV m c 64 main_v59 (by decide), windowV m c 64 1 main_v60 (by decide)]
  generalize upto pre (fun b => m (c, b)) 64 = U
  after_reads_simp
  all_goals rfl

theorem k61_eq : k61 m c = shapeCast S2x2048x2x64 (arg2 m c) shapeCasts_S2x2048x128_S2x2048x2x64 := by
  unfold k61 arg2
  rw [stayV m c 65 main_arg2 (by decide), windowV m c 65 1 main_v61 (by decide)]
  generalize upto pre (fun b => m (c, b)) 65 = U
  after_reads_simp
  all_goals rfl

theorem k65_eq : k65 m c = score (k30 m c) (k60 m c) := by
  unfold k65 k30 k60
  rw [stayV m c 66 main_v30 (by decide), stayV m c 66 main_v60 (by decide), windowV m c 66 5 main_v65 (by decide)]
  generalize upto pre (fun b => m (c, b)) 66 = U
  after_reads_simp
  all_goals rfl

theorem k75_eq : k75 m c = masked (k65 m c) := by
  unfold k75 k65
  rw [stayV m c 71 main_v65 (by decide), windowV m c 71 16 main_v75 (by decide)]
  generalize upto pre (fun b => m (c, b)) 71 = U
  after_reads_simp
  simp -implicitDefEqProofs only [StableHlo.TRef.toBuf, StableHlo.TRef.ofBuf, cast_cast, cast_eq, id]
  all_goals rfl

theorem k77_eq : k77 m c = broadcastInDim S1x2x8x1 ![1, 2] bcast_S2x8_S1x2x8x1_1_2 (shapeCast S2x8 (arg4 m c) shapeCasts_S16_S2x8) := by
  unfold k77 arg4
  rw [stayV m c 87 main_arg4 (by decide), windowV m c 87 2 main_v77 (by decide)]
  generalize upto pre (fun b => m (c, b)) 87 = U
  after_reads_simp
  all_goals rfl

theorem k78_eq : k78 m c = Host.reduce FloatOps.maximumf (k75 m c) (constant S_ .f32 0xFF800000#32) reducesTo_S2x2x8x2048x2048_S2x2x8x2048_d4 h_S_ := by
  unfold k78 k75
  rw [stayV m c 89 main_v75 (by decide), windowV m c 89 2 main_v78 (by decide)]
  generalize upto pre (fun b => m (c, b)) 89 = U
  after_reads_simp
  all_goals rfl

theorem k80_eq : k80 m c = maximumf (k78 m c) (sinkOf (k77 m c)) := by
  unfold k80 k78 k77
  rw [stayV m c 91 main_v78 (by decide), stayV m c 91 main_v77 (by decide), windowV m c 91 2 main_v80 (by decide)]
  generalize upto pre (fun b => m (c, b)) 91 = U
  after_reads_simp
  all_goals rfl

theorem k84_eq : k84 m c = Host.exp (subf (k75 m c) (broadcastInDim S2x2x8x2048x2048 ![0, 1, 2, 3, 4] bcast_S2x2x8x2048x1_S2x2x8x2048x2048_0_1_2_3_4 (broadcastInDim S2x2x8x2048x1 ![0, 1, 2, 3] bcast_S2x2x8x2048_S2x2x8x2048x1_0_1_2_3 (k80 m c)))) := by
  unfold k84 k75 k80
  rw [stayV m c 93 main_v75 (by decide), stayV m c 93 main_v80 (by decide), windowV m c 93 4 main_v84 (by decide)]
  generalize upto pre (fun b => m (c, b)) 93 = U
  after_reads_simp

theorem k89_eq : k89 m c = addf (Host.reduceAdd (k84 m c) (constant S_ .f32 0x00000000#32) reducesTo_S2x2x8x2048x2048_S2x2x8x2048_d4 h_S_) (Host.exp (subf (sinkOf (k77 m c)) (k80 m c))) := by
  unfold k89 k84 k77 k80
  rw [stayV m c 97 main_v84 (by decide), stayV m c 97 main_v77 (by decide), stayV m c 97 main_v80 (by decide), windowV m c 97 6 main_v89 (by decide)]
  generalize upto pre (fun b => m (c, b)) 97 = U
  after_reads_simp
  all_goals rfl

theorem k90_eq : k90 m c = Host.dotGeneral dot_S2x2x8x2048x2048_S2x2048x2x64_S2x2x8x2048x64_4_1_23_3_01_02 none (k84 m c) (k61 m c) := by
  unfold k90 k84 k61
  rw [stayV m c 103 main_v84 (by decide), stayV m c 103 main_v61 (by decide), windowV m c 103 1 main_v90 (by decide)]
  generalize upto pre (fun b => m (c, b)) 103 = U
  after_reads_simp

theorem k93_eq : k93 m c = Host.divf (k90 m c) (broadcastInDim S2x2x8x2048x64 ![0, 1, 2, 3, 4] bcast_S2x2x8x2048x1_S2x2x8x2048x64_0_1_2_3_4 (broadcastInDim S2x2x8x2048x1 ![0, 1, 2, 3] bcast_S2x2x8x2048_S2x2x8x2048x1_0_1_2_3 (k89 m c))) := by
  unfold k93 k90 k89
  rw [stayV m c 104 main_v90 (by decide), stayV m c 104 main_v89 (by decide), windowV m c 104 3 main_v93 (by decide)]
  generalize upto pre (fun b => m (c, b)) 104 = U
  after_reads_simp

theorem k95_eq : k95 m c = addf (k80 m c) (Host.log (k89 m c)) := by
  unfold k95 k80 k89
  rw [stayV m c 107 main_v80 (by decide), stayV m c 107 main_v89 (by decide), windowV m c 107 2 main_v95 (by decide)]
  generalize upto pre (fun b => m (c, b)) 107 = U
  after_reads_simp

theorem k96_eq : k96 m c = shapeCast S2x2048x1024 (k30 m c) shapeCasts_S2x2048x2x8x64_S2x2048x1024 := by
  unfold k96 k30
  rw [stayV m c 109 main_v30 (by decide), windowV m c 109 1 main_v96 (by decide)]
  generalize upto pre (fun b => m (c, b)) 109 = U
  after_reads_simp
  all_goals rfl

theorem k97_eq : k97 m c = shapeCast S2x2048x128 (k60 m c) shapeCasts_S2x2048x2x64_S2x2048x128 := by
  unfold k97 k60
  rw [stayV m c 110 main_v60 (by decide), windowV m c 110 1 main_v97 (by decide)]
  generalize upto pre (fun b => m (c, b)) 110 = U
  after_reads_simp
  all_goals rfl

theorem k98_eq : k98 m c = joinQkv (k96 m c) (k97 m c) (arg2 m c) := by
  unfold k98 k96 k97 arg2
  rw [stayV m c 111 main_v96 (by decide), stayV m c 111 main_v97 (by decide), stayV m c 111 main_arg2 (by decide), windowV m c 111 1 main_v98 (by decide)]
  generalize upto pre (fun b => m (c, b)) 111 = U
  after_reads_simp
  all_goals rfl

theorem k99_eq : k99 m c = truncf .bf16 (k98 m c) bitsLt_bf16_f32 := by
  unfold k99 k98
  rw [stayV m c 112 main_v98 (by decide), windowV m c 112 1 main_v99 (by decide)]
  generalize upto pre (fun b => m (c, b)) 112 = U
  after_reads_simp

theorem k112_eq : k112 m c = Host.cos (angles (arg3 m c)) := by
  unfold k112 arg3
  rw [stayV m c 113 main_arg3 (by decide), windowV m c 113 15 main_v112 (by decide)]
  generalize upto pre (fun b => m (c, b)) 113 = U
  after_reads_simp
  all_goals rfl

theorem k113_eq : k113 m c = Host.sin (angles (arg3 m c)) := by
  unfold k113 arg3
  rw [stayV m c 113 main_arg3 (by decide), windowV m c 113 16 main_v113 (by decide)]
  generalize upto pre (fun b => m (c, b)) 113 = U
  after_reads_simp
  all_goals rfl

theorem k114_eq : k114 m c = joinTable (k112 m c) (k112 m c) (k112 m c) (k112 m c) := by
  unfold k114 k112
  rw [stayV m c 129 main_v112 (by decide), windowV m c 129 1 main_v114 (by decide)]
  generalize upto pre (fun b => m (c, b)) 129 = U
  after_reads_simp
  all_goals rfl

theorem k115_eq : k115 m c = Host.negf (k113 m c) := by
  unfold k115 k113
  rw [stayV m c 130 main_v113 (by decide), windowV m c 130 1 main_v115 (by decide)]
  generalize upto pre (fun b => m (c, b)) 130 = U
  after_reads_simp

theorem k116_eq : k116 m c = Host.negf (k113 m c) := by
  unfold k116 k113
  rw [stayV m c 131 main_v113 (by decide), windowV m c 131 1 main_v116 (by decide)]
  generalize upto pre (fun b => m (c, b)) 131 = U
  after_reads_simp

theorem k117_eq : k117 m c = joinTable (k115 m c) (k113 m c) (k116 m c) (k113 m c) := by
  unfold k117 k115 k113 k116
  rw [stayV m c 132 main_v115 (by decide), stayV m c 132 main_v113 (by decide), stayV m c 132 main_v116 (by decide), windowV m c 132 1 main_v117 (by decide)]
  generalize upto pre (fun b => m (c, b)) 132 = U
  after_reads_simp
  all_goals rfl

theorem k119_eq : k119 m c = transpose S2x2x8x2048x64 [0, 2, 3, 1, 4] (shapeCast S2x2048x2x8x64 (arg5 m c) shapeCasts_S2x2048x1024_S2x2048x2x8x64) transposes_S2x2048x2x8x64_S2x2x8x2048x64_0_2_3_1_4 := by
  unfold k119 arg5
  rw [stayV m c 133 main_arg5 (by decide), windowV m c 133 2 main_v119 (by decide)]
  generalize upto pre (fun b => m (c, b)) 133 = U
  after_reads_simp
  all_goals rfl

theorem k122_eq : k122 m c = Host.negf (Host.reduceAdd (mulf (k119 m c) (k93 m c)) (constant S_ .f32 0x00000000#32) reducesTo_S2x2x8x2048x64_S2x2x8x2048_d4 h_S_) := by
  unfold k122 k119 k93
  rw [stayV m c 135 main_v119 (by decide), stayV m c 135 main_v93 (by decide), windowV m c 135 4 main_v122 (by decide)]
  generalize upto pre (fun b => m (c, b)) 135 = U
  after_reads_simp

theorem k123_eq : k123 m c = truncf .bf16 (arg5 m c) bitsLt_bf16_f32 := by
  unfold k123 arg5
  rw [stayV m c 139 main_arg5 (by decide), windowV m c 139 1 main_v123 (by decide)]
  generalize upto pre (fun b => m (c, b)) 139 = U
  after_reads_simp

theorem k127_eq : k127 m c = lanesOf (k95 m c) := by
  unfold k127 k95
  rw [stayV m c 140 main_v95 (by decide), windowV m c 140 4 main_v127 (by decide)]
  generalize upto pre (fun b => m (c, b)) 140 = U
  after_reads_simp
  all_goals rfl

theorem k131_eq : k131 m c = lanesOf (k122 m c) := by
  unfold k131 k122
  rw [stayV m c 144 main_v122 (by decide), windowV m c 144 4 main_v131 (by decide)]
  generalize upto pre (fun b => m (c, b)) 144 = U
  after_reads_simp
  all_goals rfl

end Cert.KernelIdeal.Attn

end
-- ==== Proof.Forward.lean ====
/-
  The attention's forward pass on the host, read at an index over the reals: each step on arrays of reals gives the
  array of the reals the attention names.
-/
module

public import proofs.«01_k».proof.Proof.Model
public import proofs.«01_k».proof.Proof.HostReads
public import Idealize.ShloMosaic.Lib.Pointwise
public import Idealize.ShloMosaic.Lib.WordCmp
public import Idealize.ShloMosaic.Lib.Tactic.WordOmega

@[expose] public section

set_option maxRecDepth 16384

noncomputable section

namespace Cert.KernelIdeal.Attn

open Cert.KernelIdeal Cert.KernelIdeal.Gen Idealize.ShloMosaic Idealize.ShloMosaic.TcCoe Cert.Attn
open scoped BigOperators

/-- The array `x` of three axes holds the reals `X`. -/
def Is3 {n0 n1 n2 : ℕ} (x : (⟨3, ![n0, n1, n2]⟩ : Shape).Idx → EReal) (X : ℕ → ℕ → ℕ → ℝ) : Prop :=
  ∀ (b : Fin n0) (t : Fin n1) (l : Fin n2), x (ix3 b t l) = ((X b.val t.val l.val : ℝ) : EReal)
/-- The array `x` of four axes holds the reals `X`. -/
def Is4 {n0 n1 n2 n3 : ℕ} (x : (⟨4, ![n0, n1, n2, n3]⟩ : Shape).Idx → EReal) (X : ℕ → ℕ → ℕ → ℕ → ℝ) : Prop :=
  ∀ (b : Fin n0) (h : Fin n1) (g : Fin n2) (t : Fin n3), x (ix4 b h g t) = ((X b.val h.val g.val t.val : ℝ) : EReal)
/-- The array `x` of five axes holds the reals `X`. -/
def Is5 {n0 n1 n2 n3 n4 : ℕ} (x : (⟨5, ![n0, n1, n2, n3, n4]⟩ : Shape).Idx → EReal) (X : ℕ → ℕ → ℕ → ℕ → ℕ → ℝ) : Prop :=
  ∀ (b : Fin n0) (h : Fin n1) (g : Fin n2) (t : Fin n3) (u : Fin n4), x (ix5 b h g t u) = ((X b.val h.val g.val t.val u.val : ℝ) : EReal)

/-- The reals an array of three axes holds. -/
def reals3 {n0 n1 n2 : ℕ} (x : (⟨3, ![n0, n1, n2]⟩ : Shape).Idx → EReal) (b t l : ℕ) : ℝ :=
  if h : b < n0 ∧ t < n1 ∧ l < n2 then (x (ix3 ⟨b, h.1⟩ ⟨t, h.2.1⟩ ⟨l, h.2.2⟩)).toReal else 0
theorem reals3_is {n0 n1 n2 : ℕ} {x : (⟨3, ![n0, n1, n2]⟩ : Shape).Idx → EReal} (hx : ∀ b t l, x (ix3 b t l) ≠ ⊤ ∧ x (ix3 b t l) ≠ ⊥) :
    Is3 x (reals3 x) := by
  intro b t l
  rw [reals3, dif_pos ⟨b.isLt, t.isLt, l.isLt⟩]
  exact (EReal.coe_toReal (hx b t l).1 (hx b t l).2).symm

/-! ## Rotation -/

theorem ofBits_theta : Ideal.ofBits .f32 0x461C4000#32 = ((10000 : ℝ) : EReal) := by
  simp [Ideal.ofBits, Ideal.ieee, -EReal.coe_mul]; norm_num
theorem ofBits_half_head : Ideal.ofBits .f32 0x42000000#32 = ((32 : ℝ) : EReal) := by
  simp [Ideal.ofBits, Ideal.ieee, -EReal.coe_mul]; norm_num

theorem angles_real (p : IVec S2x2048 32) (b : Fin 2) (t : Fin 2048) (a : Fin 32) : ∃ r : ℝ, angles (F := Ideal) p (ix3 b t a) = (r : EReal) := by
  pointwise [angles]
  rw [ofBits_theta, ofBits_half_head, Ideal.div_coe (by norm_num)]
  refine ⟨((p (ix2 b t)).toInt : ℝ) * Real.rpow 10000 (-((BitVec.ofNat 32 a.val).toInt : ℝ) * (1 / 32)), ?_⟩
  rw [EReal.coe_mul, ← Ideal.pow_coe_coe, EReal.coe_mul, EReal.coe_neg]
  rfl
theorem angles_is (p : IVec S2x2048 32) : Is3 (angles (F := Ideal) p) (reals3 (angles (F := Ideal) p)) :=
  reals3_is fun b t l => by
    obtain ⟨r, h⟩ := angles_real p b t l
    rw [h]; exact ⟨EReal.coe_ne_top r, EReal.coe_ne_bot r⟩

/-- The rotated queries, by head and lane of the head. -/
def queries (x : FVec Ideal S2x2048x1024 .f32) (a : FVec Ideal S2x2048x32 .f32) : FVec Ideal S2x2048x2x8x64 .f32 :=
  shapeCast S2x2048x2x8x64 (rope16 (F := Ideal) (shapeCast S2x2048x16x64 x shapeCasts_S2x2048x1024_S2x2048x16x64) a) shapeCasts_S2x2048x16x64_S2x2048x2x8x64
/-- The rotated keys, by head and lane of the head. -/
def keys (x : FVec Ideal S2x2048x128 .f32) (a : FVec Ideal S2x2048x32 .f32) : FVec Ideal S2x2048x2x64 .f32 :=
  rope2 (F := Ideal) (shapeCast S2x2048x2x64 x shapeCasts_S2x2048x128_S2x2048x2x64) a

theorem rot_lo (x a : ℕ → ℝ) {l l' p n : ℕ} (h : l % 64 < 32) (e : l' = l) (hp : p = l + 32) (hn : n = l % 32) :
    x l' * Real.cos (a n) - x p * Real.sin (a n) = rot x a l := by subst e hp hn; exact (if_pos h).symm
theorem rot_hi (x a : ℕ → ℝ) {l l' p n : ℕ} (h : ¬l % 64 < 32) (e : l' = l) (hp : p = l - 32) (hn : n = l % 32) :
    x l' * Real.cos (a n) + x p * Real.sin (a n) = rot x a l := by subst e hp hn; exact (if_neg h).symm

theorem rot_lo_coe {x y c s : EReal} {X Y C S : ℝ} (hx : x = (X : EReal)) (hc : c = (C : EReal)) (hy : y = (Y : EReal)) (hs : s = (S : EReal)) :
    x * Ideal.cos c - y * Ideal.sin s = ((X * Real.cos C - Y * Real.sin S : ℝ) : EReal) := by
  rw [hx, hc, hy, hs, Ideal.cos_coe, Ideal.sin_coe, ← EReal.coe_mul, ← EReal.coe_mul, ← EReal.coe_sub]
theorem rot_hi_coe {x y c s : EReal} {X Y C S : ℝ} (hx : x = (X : EReal)) (hc : c = (C : EReal)) (hy : y = (Y : EReal)) (hs : s = (S : EReal)) :
    x * Ideal.cos c + y * Ideal.sin s = ((X * Real.cos C + Y * Real.sin S : ℝ) : EReal) := by
  rw [hx, hc, hy, hs, Ideal.cos_coe, Ideal.sin_coe, ← EReal.coe_mul, ← EReal.coe_mul, ← EReal.coe_add]

theorem queries_is {x : FVec Ideal S2x2048x1024 .f32} {a : FVec Ideal S2x2048x32 .f32} {X A : ℕ → ℕ → ℕ → ℝ} (hx : Is3 x X) (ha : Is3 a A) :
    Is5 (queries x a) fun b t h g d => rot (X b t) (A b t) (h * 512 + g * 64 + d) := by
  intro b t h g d
  have hd := d.isLt
  pointwise [queries, rope16, join16, wide16]
  by_cases hl : d.val < 32
  · rw [dif_pos hl]
    refine (rot_lo_coe (hx _ _ _) (ha _ _ _) (hx _ _ _) (ha _ _ _)).trans ?_
    refine congrArg (fun r : ℝ => (r : EReal)) ?_
    beta_reduce
    refine rot_lo (X b.val t.val) (A b.val t.val) ?_ ?_ ?_ ?_ <;> first | omega | (simp only [] <;> omega)
  · rw [dif_neg hl]
    refine (rot_hi_coe (hx _ _ _) (ha _ _ _) (hx _ _ _) (ha _ _ _)).trans ?_
    refine congrArg (fun r : ℝ => (r : EReal)) ?_
    beta_reduce
    refine rot_hi (X b.val t.val) (A b.val t.val) ?_ ?_ ?_ ?_ <;> first | omega | (simp only [] <;> omega)

theorem keys_is {x : FVec Ideal S2x2048x128 .f32} {a : FVec Ideal S2x2048x32 .f32} {X A : ℕ → ℕ → ℕ → ℝ} (hx : Is3 x X) (ha : Is3 a A) :
    Is4 (keys x a) fun b t h d => rot (X b t) (A b t) (h * 64 + d) := by
  intro b t h d
  have hd := d.isLt
  pointwise [keys, rope2, join2, wide2]
  by_cases hl : d.val < 32
  · rw [dif_pos hl]
    refine (rot_lo_coe (hx _ _ _) (ha _ _ _) (hx _ _ _) (ha _ _ _)).trans ?_
    refine congrArg (fun r : ℝ => (r : EReal)) ?_
    beta_reduce
    refine rot_lo (X b.val t.val) (A b.val t.val) ?_ ?_ ?_ ?_ <;> first | omega | (simp only [] <;> omega)
  · rw [dif_neg hl]
    refine (rot_hi_coe (hx _ _ _) (ha _ _ _) (hx _ _ _) (ha _ _ _)).trans ?_
    refine congrArg (fun r : ℝ => (r : EReal)) ?_
    beta_reduce
    refine rot_hi (X b.val t.val) (A b.val t.val) ?_ ?_ ?_ ?_ <;> first | omega | (simp only [] <;> omega)

/-- The values, by head and lane of the head. -/
def values (x : FVec Ideal S2x2048x128 .f32) : FVec Ideal S2x2048x2x64 .f32 := shapeCast S2x2048x2x64 x shapeCasts_S2x2048x128_S2x2048x2x64
theorem values_is {x : FVec Ideal S2x2048x128 .f32} {X : ℕ → ℕ → ℕ → ℝ} (hx : Is3 x X) : Is4 (values x) fun b t h d => X b t (h * 64 + d) := by
  intro b t h d
  pointwise [values]
  exact hx _ _ _
/-- The cotangents, by head, position and lane of the head. -/
def cots (x : FVec Ideal S2x2048x1024 .f32) : FVec Ideal S2x2x8x2048x64 .f32 :=
  transpose S2x2x8x2048x64 [0, 2, 3, 1, 4] (shapeCast S2x2048x2x8x64 x shapeCasts_S2x2048x1024_S2x2048x2x8x64) transposes_S2x2048x2x8x64_S2x2x8x2048x64_0_2_3_1_4
theorem cots_is {x : FVec Ideal S2x2048x1024 .f32} {X : ℕ → ℕ → ℕ → ℝ} (hx : Is3 x X) : Is5 (cots x) fun b h g t d => X b t (h * 512 + g * 64 + d) := by
  intro b h g t d
  pointwise [cots]
  exact hx _ _ _

/-! ## Scores -/

theorem seen_word (t u : Fin 2048) :
    IntOp.andi (IntOp.cmpi CmpIPredicate.sge (IntOp.subi (BitVec.ofNat 32 t.val) (BitVec.ofNat 32 u.val)) 0#32)
        (IntOp.cmpi CmpIPredicate.sle (IntOp.subi (BitVec.ofNat 32 t.val) (BitVec.ofNat 32 u.val)) 127#32) = if Vis t.val u.val then 1#1 else 0#1 := by
  have ht := t.isLt
  have hu := u.isLt
  have e : (BitVec.ofNat 32 t.val - BitVec.ofNat 32 u.val).toInt = (t.val : ℤ) - u.val := by
    rw [BitVec.toInt_sub, BitVec.toInt_ofNat', BitVec.toInt_ofNat']
    simp only [Int.bmod_def]
    split_ifs <;> omega
  have h1 : IntOp.cmpi CmpIPredicate.sge (IntOp.subi (BitVec.ofNat 32 t.val) (BitVec.ofNat 32 u.val)) 0#32 = if u.val ≤ t.val then 1#1 else 0#1 := by
    show BitVec.ofBool (BitVec.sle 0#32 (BitVec.ofNat 32 t.val - BitVec.ofNat 32 u.val)) = _
    rw [BitVec.sle, e, show (0#32).toInt = 0 from rfl]
    by_cases h : u.val ≤ t.val
    · rw [if_pos h, decide_eq_true (by omega)]; rfl
    · rw [if_neg h, decide_eq_false (by omega)]; rfl
  have h2 : IntOp.cmpi CmpIPredicate.sle (IntOp.subi (BitVec.ofNat 32 t.val) (BitVec.ofNat 32 u.val)) 127#32 = if t.val ≤ u.val + 127 then 1#1 else 0#1 := by
    show BitVec.ofBool (BitVec.sle (BitVec.ofNat 32 t.val - BitVec.ofNat 32 u.val) 127#32) = _
    rw [BitVec.sle, e, show (127#32).toInt = 127 from rfl]
    by_cases h : t.val ≤ u.val + 127
    · rw [if_pos h, decide_eq_true (by omega)]; rfl
    · rw [if_neg h, decide_eq_false (by omega)]; rfl
  rw [h1, h2]
  by_cases a : u.val ≤ t.val
  · by_cases c : t.val ≤ u.val + 127
    · rw [if_pos a, if_pos c, if_pos (show Vis t.val u.val from ⟨a, c⟩)]; rfl
    · rw [if_pos a, if_neg c, if_neg (show ¬Vis t.val u.val from fun h => c h.2)]; rfl
  · rw [if_neg a, if_neg (show ¬Vis t.val u.val from fun h => a h.1)]
    split_ifs <;> rfl

variable {I : Ins}

theorem masked_at {q : FVec Ideal S2x2048x2x8x64 .f32} {k : FVec Ideal S2x2048x2x64 .f32}
    (hq : Is5 q fun b t h g d => I.qr b t (h * 512 + g * 64 + d)) (hk : Is4 k fun b t h d => I.kr b t (h * 64 + d))
    (b : Fin 2) (h : Fin 2) (g : Fin 8) (t u : Fin 2048) :
    masked (F := Ideal) (score (F := Ideal) q k) (ix5 b h g t u) = I.row b.val h.val g.val t.val u.val := by
  pointwise [masked, score, seen]
  rw [seen_word, sum_eq_coe 64 _ (fun d => I.kr b u (h * 64 + d) * I.qr b t (h * 512 + g * 64 + d)) (fun d => by rw [hk, hq, ← EReal.coe_mul]),
    ofBits_eighth, ← EReal.coe_mul, ofBits_neg_inf, Ins.row]
  split_ifs <;> rfl

theorem sup_fin (n : ℕ) (f : ℕ → EReal) : (Finset.univ : Finset (Fin n)).sup (fun x => f x.val) = (Finset.range n).sup f :=
  le_antisymm (Finset.sup_le fun x _ => Finset.le_sup (f := f) (Finset.mem_range.mpr x.isLt))
    (Finset.sup_le fun x hx => Finset.le_sup (f := fun x : Fin n => f x.val) (Finset.mem_univ ⟨x, Finset.mem_range.mp hx⟩))

/-- The greatest of each query's scores. -/
def tops (x : FVec Ideal S2x2x8x2048x2048 .f32) : FVec Ideal S2x2x8x2048 .f32 :=
  Host.reduce (α := Ideal .f32) FloatOps.maximumf x (constant (F := Ideal) S_ .f32 0xFF800000#32) reducesTo_S2x2x8x2048x2048_S2x2x8x2048_d4 h_S_

theorem tops_is {x : FVec Ideal S2x2x8x2048x2048 .f32} (hx : ∀ (b : Fin 2) (h : Fin 2) (g : Fin 8) (t u : Fin 2048), x (ix5 b h g t u) = I.row b.val h.val g.val t.val u.val) :
    Is4 (tops x) fun b h g t => I.top b h g t := by
  intro b h g t
  pointwise [tops]
  simp only [hx]
  rw [ofBits_neg_inf, ← I.sup_eq b h g t t.isLt, ← sup_fin 2048]
  rfl

/-- A sink of each head, for every query. -/
def sinks (x : FVec Ideal S16 .f32) : FVec Ideal S2x2x8x2048 .f32 :=
  sinkOf (F := Ideal) (broadcastInDim S1x2x8x1 ![1, 2] bcast_S2x8_S1x2x8x1_1_2 (shapeCast S2x8 x shapeCasts_S16_S2x8))
theorem sinks_is {x : FVec Ideal S16 .f32} (hx : ∀ n : Fin 16, x (ix1 n) = ((I.sink n.val : ℝ) : EReal)) : Is4 (sinks x) fun _ h g _ => I.sink (h * 8 + g) := by
  intro b h g t
  pointwise [sinks, sinkOf]
  exact hx _

/-! ## The softmax -/

theorem bigs_is {x y : FVec Ideal S2x2x8x2048 .f32} (hx : Is4 x fun b h g t => I.top b h g t) (hy : Is4 y fun _ h g _ => I.sink (h * 8 + g)) :
    Is4 (maximumf x y) fun b h g t => I.M b h g t := by
  intro b h g t
  pointwise []
  rw [hx, hy]
  exact (EReal.coe_strictMono.monotone.map_max).symm

/-- The weights of the keys. -/
def weights (x : FVec Ideal S2x2x8x2048x2048 .f32) (y : FVec Ideal S2x2x8x2048 .f32) : FVec Ideal S2x2x8x2048x2048 .f32 :=
  Host.exp (subf x (broadcastInDim S2x2x8x2048x2048 ![0, 1, 2, 3, 4] bcast_S2x2x8x2048x1_S2x2x8x2048x2048_0_1_2_3_4 (broadcastInDim S2x2x8x2048x1 ![0, 1, 2, 3] bcast_S2x2x8x2048_S2x2x8x2048x1_0_1_2_3 y)))
theorem weights_is {x : FVec Ideal S2x2x8x2048x2048 .f32} {y : FVec Ideal S2x2x8x2048 .f32}
    (hx : ∀ (b : Fin 2) (h : Fin 2) (g : Fin 8) (t u : Fin 2048), x (ix5 b h g t u) = I.row b.val h.val g.val t.val u.val)
    (hy : Is4 y fun b h g t => I.M b h g t) : Is5 (weights x y) fun b h g t u => I.W b h g t u := by
  intro b h g t u
  pointwise [weights]
  rw [hx, hy, Ins.row, Ins.W]
  by_cases hv : Vis t.val u.val
  · rw [if_pos hv, if_pos hv, ← EReal.coe_sub, Ideal.exp_coe]
  · rw [if_neg hv, if_neg hv, EReal.bot_sub, Ideal.exp_bot]; rfl

theorem sinkWeights_is {y s : FVec Ideal S2x2x8x2048 .f32} (hy : Is4 y fun b h g t => I.M b h g t) (hs : Is4 s fun _ h g _ => I.sink (h * 8 + g)) :
    Is4 (Host.exp (subf s y)) fun b h g t => I.E b h g t := by
  intro b h g t
  pointwise []
  rw [hy, hs, ← EReal.coe_sub, Ideal.exp_coe]
  rfl

/-- The denominators. -/
def dens (x : FVec Ideal S2x2x8x2048x2048 .f32) (e : FVec Ideal S2x2x8x2048 .f32) : FVec Ideal S2x2x8x2048 .f32 :=
  addf (Host.reduceAdd x (constant S_ .f32 0x00000000#32) reducesTo_S2x2x8x2048x2048_S2x2x8x2048_d4 h_S_) e
theorem dens_is {x : FVec Ideal S2x2x8x2048x2048 .f32} {e : FVec Ideal S2x2x8x2048 .f32}
    (hx : Is5 x fun b h g t u => I.W b h g t u) (he : Is4 e fun b h g t => I.E b h g t) : Is4 (dens x e) fun b h g t => I.D b h g t := by
  intro b h g t
  pointwise [dens]
  rw [sum_eq_coe 2048 _ (fun u => I.W b h g t u) (fun u => hx b h g t u), he, ← EReal.coe_add]
  rfl

/-- The numerators. -/
def nums (x : FVec Ideal S2x2x8x2048x2048 .f32) (v : FVec Ideal S2x2048x2x64 .f32) : FVec Ideal S2x2x8x2048x64 .f32 :=
  Host.dotGeneral dot_S2x2x8x2048x2048_S2x2048x2x64_S2x2x8x2048x64_4_1_23_3_01_02 none x v
theorem nums_is {x : FVec Ideal S2x2x8x2048x2048 .f32} {v : FVec Ideal S2x2048x2x64 .f32}
    (hx : Is5 x fun b h g t u => I.W b h g t u) (hv : Is4 v fun b t h d => I.v b t (h * 64 + d)) : Is5 (nums x v) fun b h g t d => I.N b h g t d := by
  intro b h g t d
  pointwise [nums]
  rw [sum_eq_coe 2048 _ (fun u => I.W b h g t u * I.v b u (h * 64 + d)) (fun u => by rw [hx, hv, ← EReal.coe_mul])]
  rfl

/-- A number of each query, for every lane of the head. -/
def perLane (x : FVec Ideal S2x2x8x2048 .f32) : FVec Ideal S2x2x8x2048x64 .f32 :=
  broadcastInDim S2x2x8x2048x64 ![0, 1, 2, 3, 4] bcast_S2x2x8x2048x1_S2x2x8x2048x64_0_1_2_3_4 (broadcastInDim S2x2x8x2048x1 ![0, 1, 2, 3] bcast_S2x2x8x2048_S2x2x8x2048x1_0_1_2_3 x)
theorem perLane_is {x : FVec Ideal S2x2x8x2048 .f32} {X : ℕ → ℕ → ℕ → ℕ → ℝ} (hx : Is4 x X) : Is5 (perLane x) fun b h g t _ => X b h g t := by
  intro b h g t d
  pointwise [perLane]
  exact hx b h g t

theorem quotient_is {x y : FVec Ideal S2x2x8x2048x64 .f32} {X Y : ℕ → ℕ → ℕ → ℕ → ℕ → ℝ} (hx : Is5 x X) (hy : Is5 y Y) (h0 : ∀ b h g t d, Y b h g t d ≠ 0) :
    Is5 (Host.divf x y) fun b h g t d => X b h g t d * (1 / Y b h g t d) := by
  intro b h g t d
  pointwise []
  rw [hx, hy, Ideal.div_coe (h0 _ _ _ _ _), ← EReal.coe_mul]

theorem lses_is {m d : FVec Ideal S2x2x8x2048 .f32} (hm : Is4 m fun b h g t => I.M b h g t) (hd : Is4 d fun b h g t => I.D b h g t) :
    Is4 (addf m (Host.log d)) fun b h g t => I.lse b h g t := by
  intro b h g t
  pointwise []
  rw [hm, hd, Ideal.log_coe, if_neg (not_le.mpr (I.D_pos _ _ _ _)), ← EReal.coe_add]
  rfl

/-- The softmax's corrections. -/
def corrs (x y : FVec Ideal S2x2x8x2048x64 .f32) : FVec Ideal S2x2x8x2048 .f32 :=
  Host.negf (Host.reduceAdd (mulf x y) (constant S_ .f32 0x00000000#32) reducesTo_S2x2x8x2048x64_S2x2x8x2048_d4 h_S_)
theorem corrs_is {x y : FVec Ideal S2x2x8x2048x64 .f32} {X Y : ℕ → ℕ → ℕ → ℕ → ℕ → ℝ} (hx : Is5 x X) (hy : Is5 y Y) :
    Is4 (corrs x y) fun b h g t => -∑ d ∈ Finset.range 64, X b h g t d * Y b h g t d := by
  intro b h g t
  pointwise [corrs]
  rw [sum_eq_coe 64 _ (fun d => X b h g t d * Y b h g t d) (fun d => by rw [hx, hy, ← EReal.coe_mul]), ← EReal.coe_neg]

/-! ## What the call is handed -/

theorem lanesOf_is {x : FVec Ideal S2x2x8x2048 .f32} {X : ℕ → ℕ → ℕ → ℕ → ℝ} (hx : Is4 x X) :
    Is3 (lanesOf (F := Ideal) x) fun b t l => X b (l / 512) (l % 512 / 64) t := by
  intro b t l
  have hl := l.isLt
  pointwise [lanesOf]
  rw [hx]
  simp only []
  rw [show l.val / 64 % 8 = l.val % 512 / 64 by omega]

/-- Queries, keys and values side by side, narrowed. -/
def packed (x : FVec Ideal S2x2048x2x8x64 .f32) (y : FVec Ideal S2x2048x2x64 .f32) (z : FVec Ideal S2x2048x128 .f32) : FVec Ideal S2x2048x1280 .bf16 :=
  truncf .bf16 (joinQkv (F := Ideal) (shapeCast S2x2048x1024 x shapeCasts_S2x2048x2x8x64_S2x2048x1024) (shapeCast S2x2048x128 y shapeCasts_S2x2048x2x64_S2x2048x128) z) bitsLt_bf16_f32
theorem packed_is {x : FVec Ideal S2x2048x2x8x64 .f32} {y : FVec Ideal S2x2048x2x64 .f32} {z : FVec Ideal S2x2048x128 .f32} {X Y Z : ℕ → ℕ → ℕ → ℝ}
    (hx : Is5 x fun b t h g d => X b t (h * 512 + g * 64 + d)) (hy : Is4 y fun b t h d => Y b t (h * 64 + d)) (hz : Is3 z Z) :
    Is3 (packed x y z) fun b t l => if l < 1024 then X b t l else if l < 1152 then Y b t (l - 1024) else Z b t (l - 1152) := by
  intro b t l
  have hl := l.isLt
  pointwise [packed, joinQkv]
  by_cases h : l.val < 1024
  · rw [dif_pos h, if_pos h, hx]
    simp only []
    rw [show l.val / 512 * 512 + l.val / 64 % 8 * 64 + l.val % 64 = l.val by omega]
  · rw [dif_neg h, if_neg h]
    by_cases h' : l.val - 1024 < 128
    · rw [dif_pos h', if_pos (show l.val < 1152 by omega), hy]
      simp only []
      rw [show (l.val - 1024) / 64 * 64 + (l.val - 1024) % 64 = l.val - 1024 by omega]
    · rw [dif_neg h', if_neg (show ¬l.val < 1152 by omega), hz]
      simp only []
      rw [show l.val - 1024 - 128 = l.val - 1152 by omega]

theorem tables_is {x y z w : FVec Ideal S2x2048x32 .f32} {X Y : ℕ → ℕ → ℕ → ℝ} (hx : Is3 x X) (hy : Is3 y Y) (hz : Is3 z X) (hw : Is3 w Y) :
    Is3 (joinTable (F := Ideal) x y z w) fun b t l => if l / 32 % 2 = 0 then X b t (l % 32) else Y b t (l % 32) := by
  intro b t l
  have hl := l.isLt
  pointwise [joinTable]
  by_cases h0 : l.val < 32
  · rw [dif_pos h0, if_pos (show l.val / 32 % 2 = 0 by omega), hx]
    simp only []
    rw [show l.val % 32 = l.val by omega]
  rw [dif_neg h0]
  by_cases h1 : l.val - 32 < 32
  · rw [dif_pos h1, if_neg (show ¬l.val / 32 % 2 = 0 by omega), hy]
    simp only []
    rw [show l.val % 32 = l.val - 32 by omega]
  rw [dif_neg h1]
  by_cases h2 : l.val - 32 - 32 < 32
  · rw [dif_pos h2, if_pos (show l.val / 32 % 2 = 0 by omega), hz]
    simp only []
    rw [show l.val % 32 = l.val - 32 - 32 by omega]
  · rw [dif_neg h2, if_neg (show ¬l.val / 32 % 2 = 0 by omega), hw]
    simp only []
    rw [show l.val % 32 = l.val - 32 - 32 - 32 by omega]

theorem cos_is {x : FVec Ideal S2x2048x32 .f32} {X : ℕ → ℕ → ℕ → ℝ} (hx : Is3 x X) : Is3 (Host.cos x) fun b t l => Real.cos (X b t l) := by
  intro b t l
  pointwise []
  rw [hx, Ideal.cos_coe]
theorem sin_is {x : FVec Ideal S2x2048x32 .f32} {X : ℕ → ℕ → ℕ → ℝ} (hx : Is3 x X) : Is3 (Host.sin x) fun b t l => Real.sin (X b t l) := by
  intro b t l
  pointwise []
  rw [hx, Ideal.sin_coe]
theorem neg_is {x : FVec Ideal S2x2048x32 .f32} {X : ℕ → ℕ → ℕ → ℝ} (hx : Is3 x X) : Is3 (Host.negf x) fun b t l => -X b t l := by
  intro b t l
  pointwise []
  rw [hx, ← EReal.coe_neg]
theorem narrow_is {x : FVec Ideal S2x2048x1024 .f32} {X : ℕ → ℕ → ℕ → ℝ} (hx : Is3 x X) : Is3 (truncf .bf16 x bitsLt_bf16_f32) X := by
  intro b t l
  pointwise []
  exact hx b t l

end Cert.KernelIdeal.Attn
end
-- ==== Proof.HostVals.lean ====
/-
  The buffers the call reads, over the reals.
-/
module

public import proofs.«01_k».proof.Proof.Forward

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo Cert.Attn
open scoped BigOperators

/-- The six arrays of the call's arguments hold the attention's inputs. -/
structure Args (I : Ins) (q : FVec Ideal S2x2048x1024 .f32) (k v : FVec Ideal S2x2048x128 .f32) (p : IVec S2x2048 32) (s : FVec Ideal S16 .f32)
    (ct : FVec Ideal S2x2048x1024 .f32) : Prop where
  q : Is3 q I.q
  k : Is3 k I.k
  v : Is3 v I.v
  ang : Is3 (angles (F := Ideal) p) I.ang
  sink : ∀ n : Fin 16, s (ix1 n) = ((I.sink n.val : ℝ) : EReal)
  ct : Is3 ct I.ct

/-- The attention's inputs, of six arrays. -/
def insOf (q : FVec Ideal S2x2048x1024 .f32) (k v : FVec Ideal S2x2048x128 .f32) (p : IVec S2x2048 32) (s : FVec Ideal S16 .f32)
    (ct : FVec Ideal S2x2048x1024 .f32) : Ins where
  q := reals3 q
  k := reals3 k
  v := reals3 v
  ct := reals3 ct
  ang := reals3 (angles (F := Ideal) p)
  sink n := if h : n < 16 then (s (ix1 ⟨n, h⟩)).toReal else 0

theorem insOf_args {q : FVec Ideal S2x2048x1024 .f32} {k v : FVec Ideal S2x2048x128 .f32} {p : IVec S2x2048 32} {s : FVec Ideal S16 .f32}
    {ct : FVec Ideal S2x2048x1024 .f32} (hq : ∀ b t l, q (ix3 b t l) ≠ ⊤ ∧ q (ix3 b t l) ≠ ⊥) (hk : ∀ b t l, k (ix3 b t l) ≠ ⊤ ∧ k (ix3 b t l) ≠ ⊥)
    (hv : ∀ b t l, v (ix3 b t l) ≠ ⊤ ∧ v (ix3 b t l) ≠ ⊥) (hs : ∀ n, s (ix1 n) ≠ ⊤ ∧ s (ix1 n) ≠ ⊥)
    (hct : ∀ b t l, ct (ix3 b t l) ≠ ⊤ ∧ ct (ix3 b t l) ≠ ⊥) : Args (insOf q k v p s ct) q k v p s ct where
  q := reals3_is hq
  k := reals3_is hk
  v := reals3_is hv
  ang := angles_is p
  sink n := by
    show _ = ((if h : n.val < 16 then (s (ix1 ⟨n.val, h⟩)).toReal else 0 : ℝ) : EReal)
    rw [dif_pos n.isLt]
    exact (EReal.coe_toReal (hs n).1 (hs n).2).symm
  ct := reals3_is hct

variable {I : Ins} {m : (ℓ : Loc nD τ sig) → Buf (Elt Ideal) ℓ} {c : Dev nD}
  (A : Args I (arg0 m c) (arg1 m c) (arg2 m c) (arg3 m c) (arg4 m c) (arg5 m c))

include A

theorem k30_is : Is5 (k30 m c) fun b t h g d => I.qr b t (h * 512 + g * 64 + d) := by
  rw [k30_eq, k23_eq, k28_eq]; exact queries_is A.q A.ang
theorem k60_is : Is4 (k60 m c) fun b t h d => I.kr b t (h * 64 + d) := by
  rw [k60_eq, k54_eq, k59_eq]; exact keys_is A.k A.ang
theorem k61_is : Is4 (k61 m c) fun b t h d => I.v b t (h * 64 + d) := by
  rw [k61_eq]; exact values_is A.v
theorem k75_at (b : Fin 2) (h : Fin 2) (g : Fin 8) (t u : Fin 2048) : k75 m c (ix5 b h g t u) = I.row b.val h.val g.val t.val u.val := by
  rw [k75_eq, k65_eq]; exact masked_at (k30_is A) (k60_is A) b h g t u
theorem k78_is : Is4 (k78 m c) fun b h g t => I.top b h g t := by
  rw [k78_eq]; exact tops_is (k75_at A)
theorem sink77_is : Is4 (sinkOf (k77 m c)) fun _ h g _ => I.sink (h * 8 + g) := by
  rw [k77_eq]; exact sinks_is A.sink
theorem k80_is : Is4 (k80 m c) fun b h g t => I.M b h g t := by
  rw [k80_eq]; exact bigs_is (k78_is A) (sink77_is A)
theorem k84_is : Is5 (k84 m c) fun b h g t u => I.W b h g t u := by
  rw [k84_eq]; exact weights_is (k75_at A) (k80_is A)
theorem k89_is : Is4 (k89 m c) fun b h g t => I.D b h g t := by
  rw [k89_eq]; exact dens_is (k84_is A) (sinkWeights_is (k80_is A) (sink77_is A))
theorem k90_is : Is5 (k90 m c) fun b h g t d => I.N b h g t d := by
  rw [k90_eq]; exact nums_is (k84_is A) (k61_is A)
theorem k93_is : Is5 (k93 m c) fun b h g t d => I.O b h g t d := by
  rw [k93_eq]; exact quotient_is (k90_is A) (perLane_is (k89_is A)) fun b h g t _ => (I.D_pos b h g t).ne'
theorem k95_is : Is4 (k95 m c) fun b h g t => I.lse b h g t := by
  rw [k95_eq]; exact lses_is (k80_is A) (k89_is A)
theorem k122_is : Is4 (k122 m c) fun b h g t => I.dd b h g t := by
  rw [k122_eq, k119_eq]; exact corrs_is (cots_is A.ct) (k93_is A)

/-- The queries, keys and values the call reads. -/
theorem k99_is : Is3 (k99 m c) fun b t l => if l < 1024 then I.qr b t l else if l < 1152 then I.kr b t (l - 1024) else I.v b t (l - 1152) := by
  rw [k99_eq, k98_eq, k96_eq, k97_eq]; exact packed_is (k30_is A) (k60_is A) A.v
/-- The cosines the call reads. -/
theorem k114_is : Is3 (k114 m c) fun b t l => Real.cos (I.ang b t (l % 32)) := by
  rw [k114_eq, k112_eq]
  intro b t l
  exact (tables_is (cos_is A.ang) (cos_is A.ang) (cos_is A.ang) (cos_is A.ang) b t l).trans (congrArg _ (ite_self _))
/-- The sines the call reads. -/
theorem k117_is : Is3 (k117 m c) fun b t l => if l / 32 % 2 = 0 then -Real.sin (I.ang b t (l % 32)) else Real.sin (I.ang b t (l % 32)) := by
  rw [k117_eq, k115_eq, k116_eq, k113_eq]
  exact tables_is (neg_is (sin_is A.ang)) (sin_is A.ang) (neg_is (sin_is A.ang)) (sin_is A.ang)
/-- The cotangents the call reads. -/
theorem k123_is : Is3 (k123 m c) I.ct := by
  rw [k123_eq]; exact narrow_is A.ct
/-- The logarithms the call reads. -/
theorem k127_is : Is3 (k127 m c) fun b t l => I.lse b (l / 512) (l % 512 / 64) t := by
  rw [k127_eq]; exact lanesOf_is (k95_is A)
/-- The corrections the call reads. -/
theorem k131_is : Is3 (k131 m c) fun b t l => I.dd b (l / 512) (l % 512 / 64) t := by
  rw [k131_eq]; exact lanesOf_is (k122_is A)

end Cert.KernelIdeal.Attn
end
-- ==== Proof.Points.lean ====
/-
  The blocks each grid point of the kernel's run works on, in terms of the attention, and what the run leaves in its
  three results: the gradients of the attention.
-/
module

public import proofs.«01_k».proof.Proof.Tiles
public import proofs.«01_k».proof.Proof.BodyRun
public import proofs.«01_k».proof.Proof.HostVals
public import proofs.«01_k».proof.Proof.Gen.KernelIdeal.Value

@[expose] public section

set_option maxRecDepth 16384
set_option synthInstance.maxSize 4096

noncomputable section

namespace Cert.KernelIdeal.Attn

open Idealize.ShloMosaic Idealize.ShloMosaic.TcCoe Idealize.SL.Sem Cert.KernelIdeal Cert.KernelIdeal.Gen Cert.Attn

variable (m : (r : Loc nD τ sig) → Buf (Elt Ideal) r) (c : Dev nD)

/-! ## Where the blocks lie -/

theorem at_place {n : ℕ} {A : (⟨3, ![2, 2048, n]⟩ : Shape).Idx → EReal} {X : ℕ → ℕ → ℕ → ℝ}
    (h : ∀ (b : Fin 2) (t : Fin 2048) (l : Fin n), A (ix3 b t l) = ((X b.val t.val l.val : ℝ) : EReal))
    (i : (⟨3, ![2, 2048, n]⟩ : Shape).Idx) {b t l : ℕ} (hb : (i 0).val = b) (ht : (i 1).val = t) (hl : (i 2).val = l) :
    A i = ((X b t l : ℝ) : EReal) := by
  subst hb ht hl
  refine Eq.trans (congrArg A ?_) (h (i 0) (i 1) (i 2))
  funext a
  match a with
  | ⟨0, _⟩ => rfl
  | ⟨1, _⟩ => rfl
  | ⟨2, _⟩ => rfl

/-- The batch row of a point. -/
abbrev row (t : Fin cfg0.N) : ℕ := t.val / 16
/-- The key block of a point. -/
abbrev col (t : Fin cfg0.N) : ℕ := t.val % 16
/-- The query block after it. -/
abbrev nxt (t : Fin cfg0.N) : ℕ := min (t.val % 16 + 1) 15

theorem index_k : ∀ t : Fin cfg0.N, win0_0.index t = ![row t, col t, 8] := (by decide +kernel : ∀ t : Fin grid0.N, _)
theorem index_v : ∀ t : Fin cfg0.N, win0_1.index t = ![row t, col t, 9] := (by decide +kernel : ∀ t : Fin grid0.N, _)
theorem index_cur : ∀ t : Fin cfg0.N, win0_2.index t = ![row t, col t, 0] ∧ win0_3.index t = ![row t, col t, 0] ∧ win0_4.index t = ![row t, col t, 0]
    ∧ win0_5.index t = ![row t, col t, 0] ∧ win0_6.index t = ![row t, col t, 0] ∧ win0_7.index t = ![row t, col t, 0] := (by decide +kernel : ∀ t : Fin grid0.N, _)
theorem index_nxt : ∀ t : Fin cfg0.N, win0_8.index t = ![row t, nxt t, 0] ∧ win0_9.index t = ![row t, nxt t, 0] ∧ win0_10.index t = ![row t, nxt t, 0]
    ∧ win0_11.index t = ![row t, nxt t, 0] := (by decide +kernel : ∀ t : Fin grid0.N, _)

/-- The coordinate of an index inside a block, from the block's own. -/
theorem coord {n : Fin 3 → ℕ} {b j s : ℕ} (h : n = ![b, j, s]) (size r : ℕ) :
    n 0 * 1 + 1 * 0 = b ∧ n 1 * 128 + 1 * r = 128 * j + r ∧ n 2 * size + 1 * r = s * size + r := by
  subst h
  refine ⟨?_, ?_, ?_⟩
  · show b * 1 + 1 * 0 = b; omega
  · show j * 128 + 1 * r = _; omega
  · show s * size + 1 * r = _; omega

section Reads

variable {X : ℕ → ℕ → ℕ → ℝ} (W : (b : Ref sig .tc) → Buf (Elt Ideal) ((c : Thread nD τ).loc b)) (t : Fin cfg0.N)

theorem read0 (h : Is3 (n0 := 2) (n1 := 2048) (n2 := 1280) (W main_v99) X) : Holds3 (a := 128) (b := 128) (((cfg0.win 0).blk t).view.read (Elt Ideal) (W (Pipeline.arrRef spec0 0)))
    fun r l => X (row t) (128 * col t + r) (8 * 128 + l) :=
  fun r l => at_place h (((cfg0.win 0).blk t).view.emb (ix3 (0 : Fin 1) r l)) (coord (index_k t) 128 r.val).1 (coord (index_k t) 128 r.val).2.1 (coord (index_k t) 128 l.val).2.2
theorem read1 (h : Is3 (n0 := 2) (n1 := 2048) (n2 := 1280) (W main_v99) X) : Holds3 (a := 128) (b := 128) (((cfg0.win 1).blk t).view.read (Elt Ideal) (W (Pipeline.arrRef spec0 1)))
    fun r l => X (row t) (128 * col t + r) (9 * 128 + l) :=
  fun r l => at_place h (((cfg0.win 1).blk t).view.emb (ix3 (0 : Fin 1) r l)) (coord (index_v t) 128 r.val).1 (coord (index_v t) 128 r.val).2.1 (coord (index_v t) 128 l.val).2.2
theorem read2 (h : Is3 (n0 := 2) (n1 := 2048) (n2 := 128) (W main_v114) X) : Holds3 (a := 128) (b := 128) (((cfg0.win 2).blk t).view.read (Elt Ideal) (W (Pipeline.arrRef spec0 2)))
    fun r l => X (row t) (128 * col t + r) (0 * 128 + l) :=
  fun r l => at_place h (((cfg0.win 2).blk t).view.emb (ix3 (0 : Fin 1) r l)) (coord (index_cur t).1 128 r.val).1 (coord (index_cur t).1 128 r.val).2.1 (coord (index_cur t).1 128 l.val).2.2
theorem read3 (h : Is3 (n0 := 2) (n1 := 2048) (n2 := 128) (W main_v117) X) : Holds3 (a := 128) (b := 128) (((cfg0.win 3).blk t).view.read (Elt Ideal) (W (Pipeline.arrRef spec0 3)))
    fun r l => X (row t) (128 * col t + r) (0 * 128 + l) :=
  fun r l => at_place h (((cfg0.win 3).blk t).view.emb (ix3 (0 : Fin 1) r l)) (coord (index_cur t).2.1 128 r.val).1 (coord (index_cur t).2.1 128 r.val).2.1 (coord (index_cur t).2.1 128 l.val).2.2
theorem read5 (h : Is3 (n0 := 2) (n1 := 2048) (n2 := 1024) (W main_v123) X) : Holds3 (a := 128) (b := 1024) (((cfg0.win 5).blk t).view.read (Elt Ideal) (W (Pipeline.arrRef spec0 5)))
    fun r l => X (row t) (128 * col t + r) (0 * 1024 + l) :=
  fun r l => at_place h (((cfg0.win 5).blk t).view.emb (ix3 (0 : Fin 1) r l)) (coord (index_cur t).2.2.2.1 1024 r.val).1 (coord (index_cur t).2.2.2.1 1024 r.val).2.1 (coord (index_cur t).2.2.2.1 1024 l.val).2.2
theorem read6 (h : Is3 (n0 := 2) (n1 := 2048) (n2 := 1024) (W main_v127) X) : Holds3 (a := 128) (b := 1024) (((cfg0.win 6).blk t).view.read (Elt Ideal) (W (Pipeline.arrRef spec0 6)))
    fun r l => X (row t) (128 * col t + r) (0 * 1024 + l) :=
  fun r l => at_place h (((cfg0.win 6).blk t).view.emb (ix3 (0 : Fin 1) r l)) (coord (index_cur t).2.2.2.2.1 1024 r.val).1 (coord (index_cur t).2.2.2.2.1 1024 r.val).2.1 (coord (index_cur t).2.2.2.2.1 1024 l.val).2.2
theorem read7 (h : Is3 (n0 := 2) (n1 := 2048) (n2 := 1024) (W main_v131) X) : Holds3 (a := 128) (b := 1024) (((cfg0.win 7).blk t).view.read (Elt Ideal) (W (Pipeline.arrRef spec0 7)))
    fun r l => X (row t) (128 * col t + r) (0 * 1024 + l) :=
  fun r l => at_place h (((cfg0.win 7).blk t).view.emb (ix3 (0 : Fin 1) r l)) (coord (index_cur t).2.2.2.2.2 1024 r.val).1 (coord (index_cur t).2.2.2.2.2 1024 r.val).2.1 (coord (index_cur t).2.2.2.2.2 1024 l.val).2.2
theorem read9 (h : Is3 (n0 := 2) (n1 := 2048) (n2 := 1024) (W main_v123) X) : Holds3 (a := 128) (b := 1024) (((cfg0.win 9).blk t).view.read (Elt Ideal) (W (Pipeline.arrRef spec0 9)))
    fun r l => X (row t) (128 * nxt t + r) (0 * 1024 + l) :=
  fun r l => at_place h (((cfg0.win 9).blk t).view.emb (ix3 (0 : Fin 1) r l)) (coord (index_nxt t).2.1 1024 r.val).1 (coord (index_nxt t).2.1 1024 r.val).2.1 (coord (index_nxt t).2.1 1024 l.val).2.2
theorem read10 (h : Is3 (n0 := 2) (n1 := 2048) (n2 := 1024) (W main_v127) X) : Holds3 (a := 128) (b := 1024) (((cfg0.win 10).blk t).view.read (Elt Ideal) (W (Pipeline.arrRef spec0 10)))
    fun r l => X (row t) (128 * nxt t + r) (0 * 1024 + l) :=
  fun r l => at_place h (((cfg0.win 10).blk t).view.emb (ix3 (0 : Fin 1) r l)) (coord (index_nxt t).2.2.1 1024 r.val).1 (coord (index_nxt t).2.2.1 1024 r.val).2.1 (coord (index_nxt t).2.2.1 1024 l.val).2.2
theorem read11 (h : Is3 (n0 := 2) (n1 := 2048) (n2 := 1024) (W main_v131) X) : Holds3 (a := 128) (b := 1024) (((cfg0.win 11).blk t).view.read (Elt Ideal) (W (Pipeline.arrRef spec0 11)))
    fun r l => X (row t) (128 * nxt t + r) (0 * 1024 + l) :=
  fun r l => at_place h (((cfg0.win 11).blk t).view.emb (ix3 (0 : Fin 1) r l)) (coord (index_nxt t).2.2.2 1024 r.val).1 (coord (index_nxt t).2.2.2 1024 r.val).2.1 (coord (index_nxt t).2.2.2 1024 l.val).2.2

end Reads

section Blocks

variable {X : ℕ → ℕ → ℕ → ℝ} (t : Fin cfg0.N)

theorem block0 (h : Is3 (k99 m c) X) : Holds3 (a := 128) (b := 128) (iblk m c 0 t) fun r l => X (row t) (128 * col t + r) (8 * 128 + l) :=
  read0 c (V m c) t h
theorem block1 (h : Is3 (k99 m c) X) : Holds3 (a := 128) (b := 128) (iblk m c 1 t) fun r l => X (row t) (128 * col t + r) (9 * 128 + l) :=
  read1 c (V m c) t h
theorem block2 (h : Is3 (k114 m c) X) : Holds3 (a := 128) (b := 128) (iblk m c 2 t) fun r l => X (row t) (128 * col t + r) (0 * 128 + l) :=
  read2 c (V m c) t h
theorem block3 (h : Is3 (k117 m c) X) : Holds3 (a := 128) (b := 128) (iblk m c 3 t) fun r l => X (row t) (128 * col t + r) (0 * 128 + l) :=
  read3 c (V m c) t h
theorem block5 (h : Is3 (k123 m c) X) : Holds3 (a := 128) (b := 1024) (iblk m c 5 t) fun r l => X (row t) (128 * col t + r) (0 * 1024 + l) :=
  read5 c (V m c) t h
theorem block6 (h : Is3 (k127 m c) X) : Holds3 (a := 128) (b := 1024) (iblk m c 6 t) fun r l => X (row t) (128 * col t + r) (0 * 1024 + l) :=
  read6 c (V m c) t h
theorem block7 (h : Is3 (k131 m c) X) : Holds3 (a := 128) (b := 1024) (iblk m c 7 t) fun r l => X (row t) (128 * col t + r) (0 * 1024 + l) :=
  read7 c (V m c) t h
theorem block9 (h : Is3 (k123 m c) X) : Holds3 (a := 128) (b := 1024) (iblk m c 9 t) fun r l => X (row t) (128 * nxt t + r) (0 * 1024 + l) :=
  read9 c (V m c) t h
theorem block10 (h : Is3 (k127 m c) X) : Holds3 (a := 128) (b := 1024) (iblk m c 10 t) fun r l => X (row t) (128 * nxt t + r) (0 * 1024 + l) :=
  read10 c (V m c) t h
theorem block11 (h : Is3 (k131 m c) X) : Holds3 (a := 128) (b := 1024) (iblk m c 11 t) fun r l => X (row t) (128 * nxt t + r) (0 * 1024 + l) :=
  read11 c (V m c) t h
theorem block4 (h : Is3 (k99 m c) X) : Holds3 (a := 128) (b := 1024) (X0_4 m c t) fun r l => X (row t) (128 * col t + r) (0 * 1024 + l) := by
  intro r l
  unfold X0_4 Pipeline.Window.fill
  rw [dif_pos (moved0_4 t _)]
  exact at_place h (((cfg0.win 4).blk t).view.emb _) (coord (index_cur t).2.2.1 1024 r.val).1 (coord (index_cur t).2.2.1 1024 r.val).2.1 (coord (index_cur t).2.2.1 1024 l.val).2.2
theorem block8 (h : Is3 (k99 m c) X) : Holds3 (a := 128) (b := 1024) (X0_8 m c t) fun r l => X (row t) (128 * nxt t + r) (0 * 1024 + l) := by
  intro r l
  unfold X0_8 Pipeline.Window.fill
  rw [dif_pos (moved0_8 t _)]
  exact at_place h (((cfg0.win 8).blk t).view.emb _) (coord (index_nxt t).1 1024 r.val).1 (coord (index_nxt t).1 1024 r.val).2.1 (coord (index_nxt t).1 1024 l.val).2.2

end Blocks

end Cert.KernelIdeal.Attn
end
-- ==== Proof.PointTiles.lean ====
/-
  The blocks each grid point of the kernel's run works on, in terms of the attention, and what the run leaves in its
  three results: the gradients of the attention.
-/
module

public import proofs.«01_k».proof.Proof.Points

@[expose] public section

set_option maxRecDepth 16384
set_option synthInstance.maxSize 4096

noncomputable section

namespace Cert.KernelIdeal.Attn

open Idealize.ShloMosaic Idealize.ShloMosaic.TcCoe Idealize.SL.Sem Cert.KernelIdeal Cert.KernelIdeal.Gen Cert.Attn

variable (m : (r : Loc nD τ sig) → Buf (Elt Ideal) r) (c : Dev nD)

/-! ## A point's two tiles -/

theorem holds3_congr {a b : ℕ} {x : (⟨3, ![1, a, b]⟩ : Shape).Idx → EReal} {X Y : ℕ → ℕ → ℝ} (h : Holds3 x X)
    (e : ∀ r, r < a → ∀ l, l < b → X r l = Y r l) : Holds3 x Y :=
  fun r l => (h r l).trans (congrArg _ (e r.val r.isLt l.val l.isLt))
theorem holds_congr {a b : ℕ} {x : (⟨2, ![a, b]⟩ : Shape).Idx → EReal} {X Y : ℕ → ℕ → ℝ} (h : Holds x X)
    (e : ∀ r, r < a → ∀ l, l < b → X r l = Y r l) : Holds x Y :=
  fun r l => (h r l).trans (congrArg _ (e r.val r.isLt l.val l.isLt))

/-- The four statistics a point works with, of the blocks `x` and `y`. -/
structure Own (x y : FVec Ideal S1x128x1024 .f32) (la lb da db : FVec Ideal S1024x128 .f32) : Prop where
  la : la = colsA (wideF x)
  lb : lb = colsB (wideF x)
  da : da = colsA (wideF y)
  db : db = colsB (wideF y)

theorem coords_col : ∀ t : Fin cfg0.N, ((grid0.coords t) 2).val = col t := (by decide +kernel : ∀ t : Fin grid0.N, _)
theorem row_col (t : Fin cfg0.N) : row t < 2 ∧ col t < 16 := by
  have h : t.val < 32 := lt_of_lt_of_eq t.isLt N_0
  unfold row col
  omega

section Point

variable {I : Ins} (A : Args I (arg0 m c) (arg1 m c) (arg2 m c) (arg3 m c) (arg4 m c) (arg5 m c)) (t : Fin cfg0.N)

include A

theorem cos_block : Holds3 (a := 128) (b := 128) (iblk m c 2 t) fun r l => Real.cos (I.ang (row t) (128 * col t + r) (l % 32)) :=
  holds3_congr (block2 m c t (k114_is A)) fun r _ l _ => by beta_reduce; rw [show (0 * 128 + l) % 32 = l % 32 by omega]
theorem sin_block : Holds3 (a := 128) (b := 128) (iblk m c 3 t) fun r l =>
    if l / 32 % 2 = 0 then -Real.sin (I.ang (row t) (128 * col t + r) (l % 32)) else Real.sin (I.ang (row t) (128 * col t + r) (l % 32)) :=
  holds3_congr (block3 m c t (k117_is A)) fun r _ l _ => by beta_reduce; rw [show 0 * 128 + l = l by omega]

theorem key_block : Holds3 (a := 128) (b := 128) (iblk m c 0 t) fun u l => I.kr (row t) (128 * col t + u) l :=
  holds3_congr (block0 m c t (k99_is A)) fun r _ l hl => by
    beta_reduce; rw [if_neg (show ¬8 * 128 + l < 1024 by omega), if_pos (show 8 * 128 + l < 1152 by omega), show 8 * 128 + l - 1024 = l by omega]
theorem value_block : Holds3 (a := 128) (b := 128) (iblk m c 1 t) fun u l => I.v (row t) (128 * col t + u) l :=
  holds3_congr (block1 m c t (k99_is A)) fun r _ l hl => by
    beta_reduce; rw [if_neg (show ¬9 * 128 + l < 1024 by omega), if_neg (show ¬9 * 128 + l < 1152 by omega), show 9 * 128 + l - 1152 = l by omega]
theorem query_block : Holds3 (a := 128) (b := 1024) (X0_4 m c t) (I.cur (row t) (col t)).q :=
  holds3_congr (block4 m c t (k99_is A)) fun r _ l hl => by
    beta_reduce; rw [if_pos (show 0 * 1024 + l < 1024 by omega), show 0 * 1024 + l = l by omega]; rfl
theorem query_block' : Holds3 (a := 128) (b := 1024) (X0_8 m c t) (I.next (row t) (col t)).q :=
  holds3_congr (block8 m c t (k99_is A)) fun r _ l hl => by
    beta_reduce; rw [if_pos (show 0 * 1024 + l < 1024 by omega), show 0 * 1024 + l = l by omega]; rfl
theorem cot_block : Holds3 (a := 128) (b := 1024) (iblk m c 5 t) (I.cur (row t) (col t)).o :=
  holds3_congr (block5 m c t (k123_is A)) fun r _ l hl => by rw [show 0 * 1024 + l = l by omega]; rfl
theorem cot_block' : Holds3 (a := 128) (b := 1024) (iblk m c 9 t) (I.next (row t) (col t)).o :=
  holds3_congr (block9 m c t (k123_is A)) fun r _ l hl => by rw [show 0 * 1024 + l = l by omega]; rfl
theorem lse_block : Holds3 (a := 128) (b := 1024) (iblk m c 6 t) (I.cur (row t) (col t)).l :=
  holds3_congr (block6 m c t (k127_is A)) fun r _ l hl => by beta_reduce; rw [show 0 * 1024 + l = l by omega]; rfl
theorem lse_block' : Holds3 (a := 128) (b := 1024) (iblk m c 10 t) (I.next (row t) (col t)).l :=
  holds3_congr (block10 m c t (k127_is A)) fun r _ l hl => by beta_reduce; rw [show 0 * 1024 + l = l by omega]; rfl
theorem dd_block : Holds3 (a := 128) (b := 1024) (iblk m c 7 t) (I.cur (row t) (col t)).d :=
  holds3_congr (block7 m c t (k131_is A)) fun r _ l hl => by beta_reduce; rw [show 0 * 1024 + l = l by omega]; rfl
theorem dd_block' : Holds3 (a := 128) (b := 1024) (iblk m c 11 t) (I.next (row t) (col t)).d :=
  holds3_congr (block11 m c t (k131_is A)) fun r _ l hl => by beta_reduce; rw [show 0 * 1024 + l = l by omega]; rfl

variable {la lb da db : FVec Ideal S1024x128 .f32}

theorem blocks_of {x y : FVec Ideal S1x128x1024 .f32} (hx : Holds3 x (I.cur (row t) (col t)).l) (hy : Holds3 y (I.cur (row t) (col t)).d)
    (O : Own x y la lb da db) : Blocks (grid0.coords t) (I.cur (row t) (col t)) (I.next (row t) (col t)) (iblk m c 0 t) (iblk m c 1 t)
      (X0_4 m c t) (iblk m c 5 t) (X0_8 m c t) (iblk m c 9 t) (iblk m c 10 t) (iblk m c 11 t) la lb da db where
  k := key_block m c A t
  v := value_block m c A t
  k' := key_block m c A t
  v' := value_block m c A t
  q := query_block m c A t
  o := cot_block m c A t
  q' := query_block' m c A t
  o' := cot_block' m c A t
  l' := lse_block' m c A t
  d' := dd_block' m c A t
  la := O.la ▸ colsA_holds (wideF_holds hx)
  lb := O.lb ▸ colsB_holds (wideF_holds hx)
  da := O.da ▸ colsA_holds (wideF_holds hy)
  db := O.db ▸ colsB_holds (wideF_holds hy)
  sees _ _ := Iff.rfl
  sees' _ _ := by rw [coords_col t]; exact Iff.rfl

/-! ## What a point leaves -/

variable {carry : FVec Ideal S128x1024 .f32}

theorem dv_point {x y : FVec Ideal S1x128x1024 .f32} (hx : Holds3 x (I.cur (row t) (col t)).l) (hy : Holds3 y (I.cur (row t) (col t)).d)
    (O : Own x y la lb da db) : Holds3 (outDV (grid0.coords t) (iblk m c 0 t) (X0_4 m c t) (iblk m c 5 t) (X0_8 m c t) (iblk m c 9 t) (iblk m c 10 t) la lb)
      fun u l => I.gradV (row t) (128 * col t + u) l :=
  holds3_congr (outDV_holds (blocks_of m c A t hx hy O)) fun u hu l hl => I.gradV_tiles (row t) (col t) (row_col t).2 hu hl

theorem dk_point {x y : FVec Ideal S1x128x1024 .f32} (hx : Holds3 x (I.cur (row t) (col t)).l) (hy : Holds3 y (I.cur (row t) (col t)).d)
    (O : Own x y la lb da db) : Holds3 (outDK (grid0.coords t) (iblk m c 0 t) (iblk m c 1 t) (iblk m c 2 t) (iblk m c 3 t) (X0_4 m c t) (iblk m c 5 t)
        (X0_8 m c t) (iblk m c 9 t) (iblk m c 10 t) (iblk m c 11 t) la lb da db)
      fun u l => I.gradK (row t) (128 * col t + u) l :=
  holds3_congr (outDK_holds (blocks_of m c A t hx hy O) (cos_block m c A t) (sin_block m c A t)) fun u hu l hl => by
    rw [I.dkr_tiles (row t) (col t) (row_col t).2 hu hl, I.dkr_tiles (row t) (col t) (row_col t).2 hu (by split_ifs <;> omega)]
    exact unrot_eq l (fun l => I.dkr (row t) (128 * col t + u) l) (I.ang (row t) (128 * col t + u)) _ _ rfl rfl

theorem dq_point {x y : FVec Ideal S1x128x1024 .f32} (hx : Holds3 x (I.cur (row t) (col t)).l) (hy : Holds3 y (I.cur (row t) (col t)).d)
    (O : Own x y la lb da db) (hr : Holds carry (I.carried (row t) (col t))) :
    Holds3 (outDQ (iblk m c 0 t) (iblk m c 1 t) (iblk m c 2 t) (iblk m c 3 t) (X0_4 m c t) (iblk m c 5 t) la lb da db carry)
      fun u l => I.gradQ (row t) (128 * col t + u) l :=
  holds3_congr (outDQ_holds (blocks_of m c A t hx hy O) (cos_block m c A t) (sin_block m c A t) hr) fun u hu l hl => by
    rw [I.dqr_tiles (row t) (col t) (row_col t).2 hu hl, I.dqr_tiles (row t) (col t) (row_col t).2 hu (by split_ifs <;> omega)]
    exact unrot_eq l (fun l => I.dqr (row t) (128 * col t + u) l) (I.ang (row t) (128 * col t + u)) _ _ (by rw [show l % 128 % 32 = l % 32 by omega])
      (by rw [show l % 128 % 32 = l % 32 by omega, show l % 128 / 32 % 2 = l / 32 % 2 by omega])

end Point

end Cert.KernelIdeal.Attn
end
-- ==== Proof.PointRun.lean ====
/-
  What the kernel's run leaves in its three results: the first key block of a batch row starts the carried buffers, the
  others go on from the block before, and every block of the results holds its part of the attention's gradients.
-/
module

public import proofs.«01_k».proof.Proof.PointTiles

@[expose] public section

set_option maxRecDepth 16384
set_option synthInstance.maxSize 4096

noncomputable section

namespace Cert.KernelIdeal.Attn

open Idealize.ShloMosaic Idealize.ShloMosaic.TcCoe Idealize.SL.Sem Cert.KernelIdeal Cert.KernelIdeal.Gen Cert.Attn

variable (m : (r : Loc nD τ sig) → Buf (Elt Ideal) r) (c : Dev nD)

/-! ## The carried buffers -/

theorem carry_at (t : Fin cfg0.N) : (outsAt0 m c t.val t.isLt).2.2.2.1 =
    nextDQ (grid0.coords t) (iblk m c 0 t) (iblk m c 1 t) (X0_8 m c t) (iblk m c 9 t) (iblk m c 10 t) (iblk m c 11 t) := by
  by_cases h : t.val % 16 = 0
  · rw [outsAt0_A m c t h h]
    dsimp only
    exact sout_A_0 (hc0 := (hcond0_0 t).mpr h) (hc1 := (hcond0_1 t).mpr h) ..
  · rw [outsAt0_B m c t h h]
    dsimp only
    exact sout_B_0 (hc0 := fun e => h ((hcond0_0 t).mp e)) (hc1 := fun e => h ((hcond0_1 t).mp e)) ..

theorem stats_at (t : Fin cfg0.N) : Stats (outsAt0 m c t.val t.isLt).2.2.2.2 (iblk m c 10 t) (iblk m c 11 t) := by
  by_cases h : t.val % 16 = 0
  · rw [outsAt0_A m c t h h]
    dsimp only
    exact sout_A_1 (hc0 := (hcond0_0 t).mpr h) (hc1 := (hcond0_1 t).mpr h) ..
  · rw [outsAt0_B m c t h h]
    dsimp only
    exact sout_B_1 (hc0 := fun e => h ((hcond0_0 t).mp e)) (hc1 := fun e => h ((hcond0_1 t).mp e)) ..

/-- The point before, in the same batch row. -/
abbrev prev (t : Fin cfg0.N) : Fin cfg0.N := ⟨t.val - 1, by have := t.isLt; omega⟩

theorem own_of_stats {s : FVec Ideal S2x2x1024x128 .f32} {x y : FVec Ideal S1x128x1024 .f32} (h : Stats (F := Ideal) s x y) :
    Own x y (get (F := Ideal) (View.ld (Val := Elt Ideal) s (slot 0 0))) (get (F := Ideal) (View.ld (Val := Elt Ideal) s (slot 0 1))) (get (F := Ideal) (View.ld (Val := Elt Ideal) s (slot 1 0)))
      (get (F := Ideal) (View.ld (Val := Elt Ideal) s (slot 1 1))) :=
  ⟨h.la, h.lb, h.da, h.db⟩
theorem own_first (x y : FVec Ideal S1x128x1024 .f32) : Own x y (colsA (wideF x)) (colsB (wideF x)) (colsA (wideF y)) (colsB (wideF y)) :=
  ⟨rfl, rfl, rfl, rfl⟩

theorem row_prev (t : Fin cfg0.N) (h : ¬t.val % 16 = 0) : row (prev t) = row t := by unfold row prev; show (t.val - 1) / 16 = _; omega
theorem col_prev (t : Fin cfg0.N) (h : ¬t.val % 16 = 0) : col (prev t) = col t - 1 := by unfold col prev; show (t.val - 1) % 16 = _; omega

section Point

variable {I : Ins} (A : Args I (arg0 m c) (arg1 m c) (arg2 m c) (arg3 m c) (arg4 m c) (arg5 m c)) (t : Fin cfg0.N)

include A

theorem next_prev (h : ¬t.val % 16 = 0) (X : ℕ → ℕ → ℕ → ℝ) (r l : ℕ) :
    X (row (prev t)) (128 * min (col (prev t) + 1) 15 + r) l = X (row t) (128 * col t + r) l := by
  rw [row_prev t h, col_prev t h, show min (col t - 1 + 1) 15 = col t by unfold col; omega]

theorem lse_prev (h : ¬t.val % 16 = 0) : Holds3 (a := 128) (b := 1024) (iblk m c 10 (prev t)) (I.cur (row t) (col t)).l :=
  holds3_congr (lse_block' m c A (prev t)) fun r _ l _ => next_prev m c A t h (fun b t l => I.lse b (l / 512) (l % 512 / 64) t) r l
theorem dd_prev (h : ¬t.val % 16 = 0) : Holds3 (a := 128) (b := 1024) (iblk m c 11 (prev t)) (I.cur (row t) (col t)).d :=
  holds3_congr (dd_block' m c A (prev t)) fun r _ l _ => next_prev m c A t h (fun b t l => I.dd b (l / 512) (l % 512 / 64) t) r l

theorem carried_first (h : t.val % 16 = 0) : Holds (zeroCarry (F := Ideal)) (I.carried (row t) (col t)) := by
  intro r l
  have e : I.carried (row t) (col t) r.val l.val = 0 := by unfold Ins.carried; exact if_pos h
  rw [e]
  pointwise [zeroCarry]
  exact EReal.coe_zero.symm
theorem carried_next (h : ¬t.val % 16 = 0) : Holds (outsAt0 m c (prev t).val (prev t).isLt).2.2.2.1 (I.carried (row t) (col t)) := by
  rw [carry_at m c (prev t)]
  refine holds_congr (nextDQ_holds (blocks_of m c A (prev t) (lse_block m c A (prev t)) (dd_block m c A (prev t)) (own_first _ _))) fun r _ l _ => ?_
  unfold Ins.carried
  rw [if_neg h, row_prev t h, col_prev t h]

theorem dv_at : Holds3 (a := 128) (b := 128) (outsAt0 m c t.val t.isLt).2.2.1 fun u l => I.gradV (row t) (128 * col t + u) l := by
  by_cases h : t.val % 16 = 0
  · rw [outsAt0_A m c t h h]
    dsimp only
    rw [out_A_14]
    exact dv_point m c A t (lse_block m c A t) (dd_block m c A t) (own_first _ _)
  · rw [outsAt0_B m c t h h]
    dsimp only
    rw [out_B_14]
    exact dv_point m c A t (lse_prev m c A t h) (dd_prev m c A t h) (own_of_stats (stats_at m c (prev t)))

theorem dk_at : Holds3 (a := 128) (b := 128) (outsAt0 m c t.val t.isLt).2.1 fun u l => I.gradK (row t) (128 * col t + u) l := by
  by_cases h : t.val % 16 = 0
  · rw [outsAt0_A m c t h h]
    dsimp only
    rw [out_A_13]
    exact dk_point m c A t (lse_block m c A t) (dd_block m c A t) (own_first _ _)
  · rw [outsAt0_B m c t h h]
    dsimp only
    rw [out_B_13]
    exact dk_point m c A t (lse_prev m c A t h) (dd_prev m c A t h) (own_of_stats (stats_at m c (prev t)))

theorem dq_at : Holds3 (a := 128) (b := 1024) (outsAt0 m c t.val t.isLt).1 fun u l => I.gradQ (row t) (128 * col t + u) l := by
  by_cases h : t.val % 16 = 0
  · rw [outsAt0_A m c t h h]
    dsimp only
    rw [out_A_12]
    exact dq_point m c A t (lse_block m c A t) (dd_block m c A t) (own_first _ _) (carried_first m c A t h)
  · rw [outsAt0_B m c t h h]
    dsimp only
    rw [out_B_12]
    exact dq_point m c A t (lse_prev m c A t h) (dd_prev m c A t h) (own_of_stats (stats_at m c (prev t))) (carried_next m c A t h)

/-! ## The results -/

omit A in
/-- The point that writes the block of query or key `t` of batch row `b`. -/
abbrev pointOf (b : Fin 2) (t : Fin 2048) : Fin cfg0.N := ⟨16 * b.val + t.val / 128, lt_of_lt_of_eq (by omega) N_0.symm⟩
omit A in
theorem point_of (b : Fin 2) (t : Fin 2048) : (pointOf b t).val < cfg0.N ∧ row (pointOf b t) = b.val ∧ col (pointOf b t) = t.val / 128 := by
  refine ⟨(pointOf b t).isLt, ?_, ?_⟩
  · show (16 * b.val + t.val / 128) / 16 = b.val; omega
  · show (16 * b.val + t.val / 128) % 16 = t.val / 128; omega

theorem g12_is : Is3 (n0 := 2) (n1 := 2048) (n2 := 1024) (Value.G12 m c) fun b t l => I.gradQ b t l := by
  intro b t l
  obtain ⟨hp, e0, e1⟩ := point_of b t
  have e := dq_at m c A (pointOf b t) ⟨t.val % 128, Nat.mod_lt _ (by decide)⟩ l
  have hn : Value.pt12Of (ix3 b t l) = (pointOf b t).val := by
    show 16 * (b.val / 1 - 0) + 1 * (t.val / 128 - 0) + 1 * (l.val / 1024 - 0) = 16 * b.val + t.val / 128
    have := l.isLt
    omega
  unfold Value.G12
  rw [dif_pos (hn.trans_lt (pointOf b t).isLt), Value.fold0_congr m c _ _ _ (((zero_add _).trans_lt (pointOf b t).isLt)) hn, ← Value.outsAt0_sweep m c _ (pointOf b t).isLt]
  refine Eq.trans (congrArg _ ?_) (e.trans (congrArg _ ?_))
  · funext a
    match a with
    | ⟨0, _⟩ => exact Fin.ext (Nat.mod_one _)
    | ⟨1, _⟩ => rfl
    | ⟨2, _⟩ => exact Fin.ext (Nat.mod_eq_of_lt l.isLt)
  · beta_reduce
    rw [e0, e1]
    exact congrArg (fun t => I.gradQ b.val t l.val) (Nat.div_add_mod t.val 128)

theorem g13_is : Is3 (n0 := 2) (n1 := 2048) (n2 := 128) (Value.G13 m c) fun b t l => I.gradK b t l := by
  intro b t l
  obtain ⟨hp, e0, e1⟩ := point_of b t
  have e := dk_at m c A (pointOf b t) ⟨t.val % 128, Nat.mod_lt _ (by decide)⟩ l
  have hn : Value.pt13Of (ix3 b t l) = (pointOf b t).val := by
    show 16 * (b.val / 1 - 0) + 1 * (t.val / 128 - 0) + 1 * (l.val / 128 - 0) = 16 * b.val + t.val / 128
    have := l.isLt
    omega
  unfold Value.G13
  rw [dif_pos (hn.trans_lt (pointOf b t).isLt), Value.fold0_congr m c _ _ _ (((zero_add _).trans_lt (pointOf b t).isLt)) hn, ← Value.outsAt0_sweep m c _ (pointOf b t).isLt]
  refine Eq.trans (congrArg _ ?_) (e.trans (congrArg _ ?_))
  · funext a
    match a with
    | ⟨0, _⟩ => exact Fin.ext (Nat.mod_one _)
    | ⟨1, _⟩ => rfl
    | ⟨2, _⟩ => exact Fin.ext (Nat.mod_eq_of_lt l.isLt)
  · beta_reduce
    rw [e0, e1]
    exact congrArg (fun t => I.gradK b.val t l.val) (Nat.div_add_mod t.val 128)

theorem g14_is : Is3 (n0 := 2) (n1 := 2048) (n2 := 128) (Value.G14 m c) fun b t l => I.gradV b t l := by
  intro b t l
  obtain ⟨hp, e0, e1⟩ := point_of b t
  have e := dv_at m c A (pointOf b t) ⟨t.val % 128, Nat.mod_lt _ (by decide)⟩ l
  have hn : Value.pt14Of (ix3 b t l) = (pointOf b t).val := by
    show 16 * (b.val / 1 - 0) + 1 * (t.val / 128 - 0) + 1 * (l.val / 128 - 0) = 16 * b.val + t.val / 128
    have := l.isLt
    omega
  unfold Value.G14
  rw [dif_pos (hn.trans_lt (pointOf b t).isLt), Value.fold0_congr m c _ _ _ (((zero_add _).trans_lt (pointOf b t).isLt)) hn, ← Value.outsAt0_sweep m c _ (pointOf b t).isLt]
  refine Eq.trans (congrArg _ ?_) (e.trans (congrArg _ ?_))
  · funext a
    match a with
    | ⟨0, _⟩ => exact Fin.ext (Nat.mod_one _)
    | ⟨1, _⟩ => rfl
    | ⟨2, _⟩ => exact Fin.ext (Nat.mod_eq_of_lt l.isLt)
  · beta_reduce
    rw [e0, e1]
    exact congrArg (fun t => I.gradV b.val t l.val) (Nat.div_add_mod t.val 128)

end Point

end Cert.KernelIdeal.Attn
end
-- ==== Proof.Ref.lean ====
/-
  The reference's three results at an index, over the reals.
-/
module

public import proofs.«01_k».proof.Proof.HostVals
public import proofs.«01_k».proof.Proof.Gen.ReferenceIdeal.Run

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem Idealize.ShloMosaic.StableHlo
open Cert.Attn Cert.KernelIdeal.Attn
open scoped BigOperators

/-! ## The gradient's steps -/

/-- The softmax's corrections, as the quotient's derivative writes them. -/
def qcorrs (o : FVec Ideal S2x2x8x2048x64 .f32) (d : FVec Ideal S2x2x8x2048 .f32) (n : FVec Ideal S2x2x8x2048x64 .f32) : FVec Ideal S2x2x8x2048 .f32 :=
  Host.reduceAdd (Host.negf (shapeCast S2x2x8x2048x1 (Host.reduceAdd (mulf (mulf o (broadcastInDim S2x2x8x2048x64 ![0, 1, 2, 3, 4] bcast_S2x2x8x2048x1_S2x2x8x2048x64_0_1_2_3_4
    (Host.divf (broadcastInDim S2x2x8x2048x1 ![] bcast_S_S2x2x8x2048x1 (constant S_ .f32 0x3F800000#32))
      (mulf (broadcastInDim S2x2x8x2048x1 ![0, 1, 2, 3] bcast_S2x2x8x2048_S2x2x8x2048x1_0_1_2_3 d) (broadcastInDim S2x2x8x2048x1 ![0, 1, 2, 3] bcast_S2x2x8x2048_S2x2x8x2048x1_0_1_2_3 d))))) n)
    (constant S_ .f32 0x00000000#32) reducesTo_S2x2x8x2048x64_S2x2x8x2048_d4 h_S_) shapeCasts_S2x2x8x2048_S2x2x8x2048x1)) (constant S_ .f32 0x00000000#32) reducesTo_S2x2x8x2048x1_S2x2x8x2048_d4 h_S_

/-- The cotangents of the scores. -/
def dscores (o : FVec Ideal S2x2x8x2048x64 .f32) (v : FVec Ideal S2x2048x2x64 .f32) (r : FVec Ideal S2x2x8x2048 .f32) (w : FVec Ideal S2x2x8x2048x2048 .f32) :
    FVec Ideal S2x2x8x2048x2048 .f32 :=
  mulf (addf (Host.dotGeneral dot_S2x2x8x2048x64_S2x2048x2x64_S2x2x8x2048x2048_4_3_23_1_01_02 none o v) (broadcastInDim S2x2x8x2048x2048 ![0, 1, 2, 3] bcast_S2x2x8x2048_S2x2x8x2048x2048_0_1_2_3 r)) w

/-- Which scores are their query's greatest. -/
def hits (x : FVec Ideal S2x2x8x2048x2048 .f32) (y : FVec Ideal S2x2x8x2048 .f32) : FVec Ideal S2x2x8x2048x2048 .f32 :=
  uitofp .f32 (cmpf .oeq x (broadcastInDim S2x2x8x2048x2048 ![0, 1, 2, 3, 4] bcast_S2x2x8x2048x1_S2x2x8x2048x2048_0_1_2_3_4 (shapeCast S2x2x8x2048x1 y shapeCasts_S2x2x8x2048_S2x2x8x2048x1)))

/-- The cotangents of the greatest scores. -/
def dtops (r e : FVec Ideal S2x2x8x2048 .f32) (z : FVec Ideal S2x2x8x2048x2048 .f32) : FVec Ideal S2x2x8x2048 .f32 :=
  addf (Host.negf (mulf r e)) (Host.reduceAdd (shapeCast S2x2x8x2048x1 (Host.reduceAdd (Host.negf z) (constant S_ .f32 0x00000000#32) reducesTo_S2x2x8x2048x2048_S2x2x8x2048_d4 h_S_) shapeCasts_S2x2x8x2048_S2x2x8x2048x1) (constant S_ .f32 0x00000000#32) reducesTo_S2x2x8x2048x1_S2x2x8x2048_d4 h_S_)

/-- The share of a greatest score in the greatest of it and the sink. -/
def shares (x : FVec Ideal S2x2x8x2048 .f32) (s : FVec Ideal S2x2x8x2048 .f32) : FVec Ideal S2x2x8x2048 .f32 :=
  select (cmpf .ogt x s) (broadcastInDim S2x2x8x2048 ![] bcast_S_S2x2x8x2048 (constant S_ .f32 0x3F800000#32)) (select (cmpf .oeq x s) (broadcastInDim S2x2x8x2048 ![] bcast_S_S2x2x8x2048 (constant S_ .f32 0x3F000000#32)) (broadcastInDim S2x2x8x2048 ![] bcast_S_S2x2x8x2048 (constant S_ .f32 0x00000000#32)))

/-- The cotangents of the scores, the greatest scores' among them, where the query sees, scaled; keys before queries. -/
def scaledScores (z : FVec Ideal S2x2x8x2048x2048 .f32) (y f : FVec Ideal S2x2x8x2048 .f32) (w : FVec Ideal S2x2x8x2048x2048 .f32) : FVec Ideal S2x2x2048x2048x8 .f32 :=
  transpose S2x2x2048x2048x8 [0, 1, 4, 3, 2] (mulf (select Cert.KernelIdeal.Attn.seen (addf z (mulf (broadcastInDim S2x2x8x2048x2048 ![0, 1, 2, 3] bcast_S2x2x8x2048_S2x2x8x2048x2048_0_1_2_3
    (Host.divf (mulf y f) (Host.reduceAdd w (constant S_ .f32 0x00000000#32) reducesTo_S2x2x8x2048x2048_S2x2x8x2048_d4 h_S_))) w)) (broadcastInDim S2x2x8x2048x2048 ![] bcast_S_S2x2x8x2048x2048 (constant S_ .f32 0x00000000#32))) (broadcastInDim S2x2x8x2048x2048 ![] bcast_S_S2x2x8x2048x2048 (constant S_ .f32 0x3E000000#32))) transposes_S2x2x8x2048x2048_S2x2x2048x2048x8_0_1_4_3_2

def keyDots (z : FVec Ideal S2x2x2048x2048x8 .f32) (q : FVec Ideal S2x2048x2x8x64 .f32) : FVec Ideal S2x2048x2x64 .f32 :=
  transpose S2x2048x2x64 [0, 2, 1, 3] (Host.dotGeneral dot_S2x2x2048x2048x8_S2x2048x2x8x64_S2x2x2048x64_34_13_2_4_01_02 none z q) transposes_S2x2x2048x64_S2x2048x2x64_0_2_1_3

def queryDots (z : FVec Ideal S2x2x2048x2048x8 .f32) (k : FVec Ideal S2x2048x2x64 .f32) : FVec Ideal S2x2048x16x64 .f32 :=
  shapeCast S2x2048x16x64 (transpose S2x2048x2x8x64 [0, 2, 1, 3, 4] (Host.dotGeneral dot_S2x2x2048x2048x8_S2x2048x2x64_S2x2x2048x8x64_2_1_34_3_01_02 none z k) transposes_S2x2x2048x8x64_S2x2048x2x8x64_0_2_1_3_4) shapeCasts_S2x2048x2x8x64_S2x2048x16x64

def valueDots (o : FVec Ideal S2x2x8x2048x64 .f32) (w : FVec Ideal S2x2x8x2048x2048 .f32) : FVec Ideal S2x2048x128 .bf16 :=
  truncf .bf16 (shapeCast S2x2048x128 (transpose S2x2048x2x64 [0, 3, 1, 2] (Host.dotGeneral dot_S2x2x8x2048x64_S2x2x8x2048x2048_S2x2x64x2048_23_23_4_4_01_01 none o w) transposes_S2x2x64x2048_S2x2048x2x64_0_3_1_2) shapeCasts_S2x2048x2x64_S2x2048x128) bitsLt_bf16_f32

def unropeQ (x : FVec Ideal S2x2048x16x64 .f32) (a : FVec Ideal S2x2048x32 .f32) : FVec Ideal S2x2048x1024 .bf16 :=
  truncf .bf16 (shapeCast S2x2048x1024 (addf
    (pad S2x2048x16x64 ![0, 0, 0, 32] ![0, 0, 0, 0] ![0, 0, 0, 0] (addf
      (mulf (extractStridedSlice S2x2048x16x32 ![0, 0, 0, 32] x slices_S2x2048x16x64_S2x2048x16x32_0_0_0_32) (wide16 (F := Ideal) (Host.cos a)))
      (mulf (Host.negf (extractStridedSlice S2x2048x16x32 ![0, 0, 0, 0] x slices_S2x2048x16x64_S2x2048x16x32_0_0_0_0)) (wide16 (F := Ideal) (Host.sin a))))
      (constant S_ .f32 0x00000000#32) pads_S2x2048x16x32_S2x2048x16x64_000_000_000_3200 h_S_)
    (pad S2x2048x16x64 ![0, 0, 0, 0] ![0, 0, 0, 32] ![0, 0, 0, 0] (addf
      (mulf (extractStridedSlice S2x2048x16x32 ![0, 0, 0, 32] x slices_S2x2048x16x64_S2x2048x16x32_0_0_0_32) (wide16 (F := Ideal) (Host.sin a)))
      (mulf (extractStridedSlice S2x2048x16x32 ![0, 0, 0, 0] x slices_S2x2048x16x64_S2x2048x16x32_0_0_0_0) (wide16 (F := Ideal) (Host.cos a))))
      (constant S_ .f32 0x00000000#32) pads_S2x2048x16x32_S2x2048x16x64_000_000_000_0320 h_S_)) shapeCasts_S2x2048x16x64_S2x2048x1024) bitsLt_bf16_f32

def unropeK (x : FVec Ideal S2x2048x2x64 .f32) (a : FVec Ideal S2x2048x32 .f32) : FVec Ideal S2x2048x128 .bf16 :=
  truncf .bf16 (shapeCast S2x2048x128 (addf
    (pad S2x2048x2x64 ![0, 0, 0, 32] ![0, 0, 0, 0] ![0, 0, 0, 0] (addf
      (mulf (extractStridedSlice S2x2048x2x32 ![0, 0, 0, 32] x slices_S2x2048x2x64_S2x2048x2x32_0_0_0_32) (wide2 (F := Ideal) (Host.cos a)))
      (mulf (Host.negf (extractStridedSlice S2x2048x2x32 ![0, 0, 0, 0] x slices_S2x2048x2x64_S2x2048x2x32_0_0_0_0)) (wide2 (F := Ideal) (Host.sin a))))
      (constant S_ .f32 0x00000000#32) pads_S2x2048x2x32_S2x2048x2x64_000_000_000_3200 h_S_)
    (pad S2x2048x2x64 ![0, 0, 0, 0] ![0, 0, 0, 32] ![0, 0, 0, 0] (addf
      (mulf (extractStridedSlice S2x2048x2x32 ![0, 0, 0, 32] x slices_S2x2048x2x64_S2x2048x2x32_0_0_0_32) (wide2 (F := Ideal) (Host.sin a)))
      (mulf (extractStridedSlice S2x2048x2x32 ![0, 0, 0, 0] x slices_S2x2048x2x64_S2x2048x2x32_0_0_0_0) (wide2 (F := Ideal) (Host.cos a))))
      (constant S_ .f32 0x00000000#32) pads_S2x2048x2x32_S2x2048x2x64_000_000_000_0320 h_S_)) shapeCasts_S2x2048x2x64_S2x2048x128) bitsLt_bf16_f32

/-! ## The reference's terms are these steps -/

section Terms
variable (V0 : Valuation τ sig (Elt Ideal))

theorem v30_eq : res_main_v30 V0 = queries (V0 (Proc.devRef .tc main_arg0)) (angles (F := Ideal) (V0 (Proc.devRef .tc main_arg3))) := rfl
theorem v60_eq : res_main_v60 V0 = keys (V0 (Proc.devRef .tc main_arg1)) (angles (F := Ideal) (V0 (Proc.devRef .tc main_arg3))) := rfl
theorem v61_eq : res_main_v61 V0 = values (V0 (Proc.devRef .tc main_arg2)) := rfl
theorem v75_eq : res_main_v75_0 V0 = masked (F := Ideal) (score (F := Ideal) (res_main_v30 V0) (res_main_v60 V0)) := rfl
theorem v78_eq : res_main_v78 V0 = tops (res_main_v75_0 V0) := rfl
theorem v82_eq : res_main_v82 V0 = hits (res_main_v75_0 V0) (res_main_v78 V0) := rfl
theorem v85_eq : res_main_v85 V0 = maximumf (res_main_v78 V0) (sinks (V0 (Proc.devRef .tc main_arg4))) := rfl
theorem v98_eq : res_main_v98 V0 = weights (res_main_v75_0 V0) (res_main_v85 V0) := rfl
theorem v102_eq : res_main_v102 V0 = Host.exp (subf (sinks (V0 (Proc.devRef .tc main_arg4))) (res_main_v85 V0)) := rfl
theorem v103_eq : res_main_v103 V0 = dens (res_main_v98 V0) (res_main_v102 V0) := rfl
theorem v104_eq : res_main_v104 V0 = nums (res_main_v98 V0) (res_main_v61 V0) := rfl
theorem v116_eq : res_main_v116 V0 = cots (V0 (Proc.devRef .tc main_arg5)) := rfl
theorem v124_eq : res_main_v124 V0 = Host.divf (res_main_v116 V0) (perLane (res_main_v103 V0)) := rfl
theorem v125_eq : res_main_v125 V0 = qcorrs (res_main_v116 V0) (res_main_v103 V0) (res_main_v104 V0) := rfl
theorem v133_eq : res_main_v133 V0 = dscores (res_main_v124 V0) (res_main_v61 V0) (res_main_v125 V0) (res_main_v98 V0) := rfl
theorem v147_eq : res_main_v147 V0 = scaledScores (res_main_v133 V0) (dtops (res_main_v125 V0) (res_main_v102 V0) (res_main_v133 V0))
    (shares (res_main_v78 V0) (sinks (V0 (Proc.devRef .tc main_arg4)))) (res_main_v82 V0) := rfl
theorem v151_eq : res_main_v151 V0 = keyDots (res_main_v147 V0) (res_main_v30 V0) := rfl
theorem v170_eq : res_main_v170 V0 = queryDots (res_main_v147 V0) (res_main_v60 V0) := rfl
end Terms

/-! ## The steps over the reals -/

section Steps
variable {I : Ins}

theorem qcorrs_is {o n : FVec Ideal S2x2x8x2048x64 .f32} {d : FVec Ideal S2x2x8x2048 .f32} (ho : Is5 o fun b h g t x => I.ct b t (h * 512 + g * 64 + x))
    (hd : Is4 d fun b h g t => I.D b h g t) (hn : Is5 n fun b h g t x => I.N b h g t x) : Is4 (qcorrs o d n) fun b h g t => I.rdd b h g t := by
  intro b h g t
  pointwise [qcorrs]
  have hD := (I.D_pos b h g t).ne'
  have e : Ideal.div 1 (d (ix4 b h g t) * d (ix4 b h g t)) = ((1 * (1 / (I.D b h g t * I.D b h g t)) : ℝ) : EReal) := by
    rw [hd, ← EReal.coe_mul, Ideal.div_coe (mul_ne_zero hD hD), EReal.coe_mul 1]; rfl
  rw [e, sum_eq_coe 64 _ (fun x => I.ct b t (h * 512 + g * 64 + x) * (1 * (1 / (I.D b h g t * I.D b h g t))) * I.N b h g t x)
    (fun x => by rw [ho, hn, ← EReal.coe_mul, ← EReal.coe_mul]), ← EReal.coe_neg, Fin.sum_univ_one]
  rfl

theorem dscores_is {o : FVec Ideal S2x2x8x2048x64 .f32} {v : FVec Ideal S2x2048x2x64 .f32} {r : FVec Ideal S2x2x8x2048 .f32} {w : FVec Ideal S2x2x8x2048x2048 .f32}
    (ho : Is5 o fun b h g t x => I.ct b t (h * 512 + g * 64 + x) * (1 / I.D b h g t)) (hv : Is4 v fun b t h d => I.v b t (h * 64 + d))
    (hr : Is4 r fun b h g t => I.rdd b h g t) (hw : Is5 w fun b h g t u => I.W b h g t u) : Is5 (dscores o v r w) fun b h g t u => I.rds b h g t u := by
  intro b h g t u
  pointwise [dscores]
  rw [sum_eq_coe 64 _ (fun x => I.ct b t (h * 512 + g * 64 + x) * (1 / I.D b h g t) * I.v b u (h * 64 + x))
    (fun x => by rw [ho, hv, ← EReal.coe_mul]), hr, hw, ← EReal.coe_add, ← EReal.coe_mul]
  rfl

/-- One at the keys of a query's greatest score, zero elsewhere. -/
def hit (I : Ins) (b h g t u : ℕ) : ℝ := if I.row b h g t u = ((I.top b h g t : ℝ) : EReal) then 1 else 0
theorem hits_is {x : FVec Ideal S2x2x8x2048x2048 .f32} {y : FVec Ideal S2x2x8x2048 .f32}
    (hx : ∀ (b : Fin 2) (h : Fin 2) (g : Fin 8) (t u : Fin 2048), x (ix5 b h g t u) = I.row b.val h.val g.val t.val u.val)
    (hy : Is4 y fun b h g t => I.top b h g t) : Is5 (hits x y) (hit I) := by
  intro b h g t u
  pointwise [hits]
  rw [hx, hy, hit]
  by_cases e : I.row b.val h.val g.val t.val u.val = ((I.top b h g t : ℝ) : EReal)
  · rw [if_pos e, decide_eq_true e]
    show (((BitVec.ofBool true).toNat : ℝ) : EReal) = _
    rw [show (BitVec.ofBool true).toNat = 1 from rfl, Nat.cast_one]
  · rw [if_neg e, decide_eq_false e]
    show (((BitVec.ofBool false).toNat : ℝ) : EReal) = _
    rw [show (BitVec.ofBool false).toNat = 0 from rfl, Nat.cast_zero]
theorem hit_sum_ne (b h g t : ℕ) (ht : t < 2048) : ∑ u ∈ Finset.range 2048, hit I b h g t u ≠ 0 := by
  obtain ⟨u, hu, e⟩ := I.top_attained b h g t ht
  have h1 : hit I b h g t u ≤ ∑ u ∈ Finset.range 2048, hit I b h g t u :=
    Finset.single_le_sum (f := fun u => hit I b h g t u) (fun u _ => by unfold hit; split_ifs <;> norm_num) (Finset.mem_range.mpr hu)
  rw [hit, if_pos e] at h1
  exact (lt_of_lt_of_le one_pos h1).ne'

theorem dtops_zero {r e : FVec Ideal S2x2x8x2048 .f32} {z : FVec Ideal S2x2x8x2048x2048 .f32} (hr : Is4 r fun b h g t => I.rdd b h g t)
    (he : Is4 e fun b h g t => I.E b h g t) (hz : Is5 z fun b h g t u => I.rds b h g t u) : Is4 (dtops r e z) fun _ _ _ _ => 0 := by
  intro b h g t
  pointwise [dtops]
  rw [sum_eq_coe 2048 _ (fun u => -I.rds b h g t u) (fun u => by rw [hz, ← EReal.coe_neg]), hr, he, ← EReal.coe_mul, ← EReal.coe_neg, Fin.sum_univ_one,
    ← EReal.coe_add]
  exact congrArg _ (I.max_zero b h g t)

theorem shares_real (x s : FVec Ideal S2x2x8x2048 .f32) (b : Fin 2) (h : Fin 2) (g : Fin 8) (t : Fin 2048) : ∃ r : ℝ, shares x s (ix4 b h g t) = (r : EReal) := by
  pointwise [shares]
  rw [ofBits_half]
  split_ifs
  · exact ⟨1, rfl⟩
  · exact ⟨1 / 2, rfl⟩
  · exact ⟨0, rfl⟩

theorem scaledScores_is {z w : FVec Ideal S2x2x8x2048x2048 .f32} {y f : FVec Ideal S2x2x8x2048 .f32} (hz : Is5 z fun b h g t u => I.rds b h g t u)
    (hy : Is4 y fun _ _ _ _ => 0) (hf : ∀ b h g t, ∃ r : ℝ, f (ix4 b h g t) = (r : EReal)) (hw : Is5 w (hit I)) :
    Is5 (scaledScores z y f w) fun b h u t g => I.DS b h g t u * (1 / 8) := by
  intro b h u t g
  pointwise [scaledScores, seen]
  obtain ⟨r, hr⟩ := hf b h g t
  rw [seen_word, sum_eq_coe 2048 _ (fun u => hit I b h g t u) (fun u => hw b h g t u), hr, hy, hw, hz, ← EReal.coe_mul,
    Ideal.div_coe (hit_sum_ne _ _ _ _ t.isLt), ← EReal.coe_mul, ← EReal.coe_mul, ← EReal.coe_add, ofBits_eighth, ← EReal.coe_mul]
  by_cases hv : Vis t.val u.val
  · rw [if_pos hv]
    refine congrArg (fun r : ℝ => (r : EReal)) ?_
    beta_reduce
    rw [I.rds_eq]; ring
  · rw [if_neg hv]
    beta_reduce
    rw [I.DS_zero _ _ _ _ _ hv]
    exact (EReal.coe_zero.symm.trans (congrArg _ (zero_mul _).symm))

theorem keyDots_is {z : FVec Ideal S2x2x2048x2048x8 .f32} {q : FVec Ideal S2x2048x2x8x64 .f32} (hz : Is5 z fun b h u t g => I.DS b h g t u * (1 / 8))
    (hq : Is5 q fun b t h g d => I.qr b t (h * 512 + g * 64 + d)) : Is4 (keyDots z q) fun b u h d => I.dkr b u (h * 64 + d) := by
  intro b u h d
  have hd := d.isLt
  pointwise [keyDots]
  rw [sum_eq_coe 2048 _ (fun t => ∑ g ∈ Finset.range 8, I.DS b h g t u * (1 / 8) * I.qr b t (h * 512 + g * 64 + d))
    (fun t => sum_eq_coe 8 _ _ fun g => by rw [hz, hq, ← EReal.coe_mul])]
  refine congrArg (fun r : ℝ => (r : EReal)) ?_
  unfold Ins.dkr
  beta_reduce
  rw [Finset.sum_comm, show (h.val * 64 + d.val) / 64 = h.val by omega, show (h.val * 64 + d.val) % 64 = d.val by omega]
  exact Finset.sum_congr rfl fun g _ => Finset.sum_congr rfl fun t _ => by ring

theorem queryDots_is {z : FVec Ideal S2x2x2048x2048x8 .f32} {k : FVec Ideal S2x2048x2x64 .f32} (hz : Is5 z fun b h u t g => I.DS b h g t u * (1 / 8))
    (hk : Is4 k fun b t h d => I.kr b t (h * 64 + d)) : Is4 (queryDots z k) fun b t n d => I.dqr b t (n * 64 + d) := by
  intro b t n d
  have hd := d.isLt
  pointwise [queryDots]
  rw [sum_eq_coe 2048 _ (fun u => I.DS b (n.val / 8) (n.val % 8) t u * (1 / 8) * I.kr b u (n.val / 8 * 64 + d)) (fun u => by rw [hz, hk, ← EReal.coe_mul])]
  refine congrArg (fun r : ℝ => (r : EReal)) ?_
  unfold Ins.dqr
  beta_reduce
  rw [show (n.val * 64 + d.val) / 512 = n.val / 8 by omega, show (n.val * 64 + d.val) % 512 / 64 = n.val % 8 by omega, show (n.val * 64 + d.val) % 64 = d.val by omega,
    Finset.sum_mul]
  exact Finset.sum_congr rfl fun u _ => by ring

theorem valueDots_is {o : FVec Ideal S2x2x8x2048x64 .f32} {w : FVec Ideal S2x2x8x2048x2048 .f32}
    (ho : Is5 o fun b h g t x => I.ct b t (h * 512 + g * 64 + x) * (1 / I.D b h g t)) (hw : Is5 w fun b h g t u => I.W b h g t u) :
    Is3 (valueDots o w) fun b u l => I.gradV b u l := by
  intro b u l
  pointwise [valueDots]
  rw [sum_eq_coe 8 _ (fun g => ∑ t ∈ Finset.range 2048, I.ct b t (l.val / 64 * 512 + g * 64 + l.val % 64) * (1 / I.D b (l.val / 64) g t) * I.W b (l.val / 64) g t u)
    (fun g => sum_eq_coe 2048 _ _ fun t => by rw [ho, hw, ← EReal.coe_mul])]
  refine congrArg (fun r : ℝ => (r : EReal)) ?_
  unfold Ins.gradV
  beta_reduce
  exact Finset.sum_congr rfl fun g _ => Finset.sum_congr rfl fun t _ => by rw [I.P_eq]; ring

/-- Both halves of a head rotated back, over the reals. -/
theorem unrot_hi_coe {x y c s : EReal} {X Y C S : ℝ} (hx : x = (X : EReal)) (hc : c = (C : EReal)) (hy : y = (Y : EReal)) (hs : s = (S : EReal)) :
    x * Ideal.cos c + -y * Ideal.sin s + 0 = ((X * Real.cos C - Y * Real.sin S : ℝ) : EReal) := by
  rw [hx, hc, hy, hs, Ideal.cos_coe, Ideal.sin_coe, ← EReal.coe_mul, ← EReal.coe_neg, ← EReal.coe_mul, ← EReal.coe_add, add_zero, neg_mul, ← sub_eq_add_neg]
theorem unrot_lo_coe {x y c s : EReal} {X Y C S : ℝ} (hx : x = (X : EReal)) (hc : c = (C : EReal)) (hy : y = (Y : EReal)) (hs : s = (S : EReal)) :
    0 + (y * Ideal.sin s + x * Ideal.cos c) = ((X * Real.cos C + Y * Real.sin S : ℝ) : EReal) := by
  rw [hx, hc, hy, hs, Ideal.cos_coe, Ideal.sin_coe, ← EReal.coe_mul, ← EReal.coe_mul, ← EReal.coe_add, zero_add, add_comm]
theorem unrot_lo (x a : ℕ → ℝ) {l l' p n n' : ℕ} (h : l % 64 < 32) (e : l' = l) (hp : p = l + 32) (hn : n = l % 32) (hn' : n' = l % 32) :
    x l' * Real.cos (a n) + x p * Real.sin (a n') = unrot x a l := by subst e hp hn hn'; exact (if_pos h).symm
theorem unrot_hi (x a : ℕ → ℝ) {l l' p n n' : ℕ} (h : ¬l % 64 < 32) (e : l' = l) (hp : p = l - 32) (hn : n = l % 32) (hn' : n' = l % 32) :
    x l' * Real.cos (a n) - x p * Real.sin (a n') = unrot x a l := by subst e hp hn hn'; exact (if_neg h).symm

theorem unropeK_is {x : FVec Ideal S2x2048x2x64 .f32} {a : FVec Ideal S2x2048x32 .f32} {X A : ℕ → ℕ → ℕ → ℝ} (hx : Is4 x fun b t h d => X b t (h * 64 + d))
    (ha : Is3 a A) : Is3 (unropeK x a) fun b t l => unrot (X b t) (A b t) l := by
  intro b t l
  have hl := l.isLt
  pointwise [unropeK, wide2]
  split_ifs with h h' h'
  · omega
  · refine (unrot_hi_coe (hx _ _ _ _) (ha _ _ _) (hx _ _ _ _) (ha _ _ _)).trans ?_
    refine congrArg (fun r : ℝ => (r : EReal)) ?_
    beta_reduce
    refine unrot_hi (X b.val t.val) (A b.val t.val) ?_ ?_ ?_ ?_ ?_ <;> first | omega | (simp only [] <;> omega)
  · refine (unrot_lo_coe (hx _ _ _ _) (ha _ _ _) (hx _ _ _ _) (ha _ _ _)).trans ?_
    refine congrArg (fun r : ℝ => (r : EReal)) ?_
    beta_reduce
    refine unrot_lo (X b.val t.val) (A b.val t.val) ?_ ?_ ?_ ?_ ?_ <;> first | omega | (simp only [] <;> omega)
  · omega

theorem unropeQ_is {x : FVec Ideal S2x2048x16x64 .f32} {a : FVec Ideal S2x2048x32 .f32} {X A : ℕ → ℕ → ℕ → ℝ} (hx : Is4 x fun b t h d => X b t (h * 64 + d))
    (ha : Is3 a A) : Is3 (unropeQ x a) fun b t l => unrot (X b t) (A b t) l := by
  intro b t l
  have hl := l.isLt
  pointwise [unropeQ, wide16]
  split_ifs with h h' h'
  · omega
  · refine (unrot_hi_coe (hx _ _ _ _) (ha _ _ _) (hx _ _ _ _) (ha _ _ _)).trans ?_
    refine congrArg (fun r : ℝ => (r : EReal)) ?_
    beta_reduce
    refine unrot_hi (X b.val t.val) (A b.val t.val) ?_ ?_ ?_ ?_ ?_ <;> first | omega | (simp only [] <;> omega)
  · refine (unrot_lo_coe (hx _ _ _ _) (ha _ _ _) (hx _ _ _ _) (ha _ _ _)).trans ?_
    refine congrArg (fun r : ℝ => (r : EReal)) ?_
    beta_reduce
    refine unrot_lo (X b.val t.val) (A b.val t.val) ?_ ?_ ?_ ?_ ?_ <;> first | omega | (simp only [] <;> omega)
  · omega
end Steps

/-! ## The results -/

section Results
variable {I : Ins} {V0 : Valuation τ sig (Elt Ideal)}
  (A : Args I (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)))

include A

theorem v30_is : Is5 (res_main_v30 V0) fun b t h g d => I.qr b t (h * 512 + g * 64 + d) := by
  rw [v30_eq]; exact queries_is A.q A.ang
theorem v60_is : Is4 (res_main_v60 V0) fun b t h d => I.kr b t (h * 64 + d) := by
  rw [v60_eq]; exact keys_is A.k A.ang
theorem v61_is : Is4 (res_main_v61 V0) fun b t h d => I.v b t (h * 64 + d) := by
  rw [v61_eq]; exact values_is A.v
theorem v75_at (b : Fin 2) (h : Fin 2) (g : Fin 8) (t u : Fin 2048) : (res_main_v75_0 V0 : FVec Ideal S2x2x8x2048x2048 .f32) (ix5 b h g t u) = I.row b.val h.val g.val t.val u.val := by
  rw [v75_eq]; exact masked_at (v30_is A) (v60_is A) b h g t u
theorem v78_is : Is4 (res_main_v78 V0) fun b h g t => I.top b h g t := by
  rw [v78_eq]; exact tops_is (v75_at A)
theorem v85_is : Is4 (res_main_v85 V0) fun b h g t => I.M b h g t := by
  rw [v85_eq]; exact bigs_is (v78_is A) (sinks_is A.sink)
theorem v98_is : Is5 (res_main_v98 V0) fun b h g t u => I.W b h g t u := by
  rw [v98_eq]; exact weights_is (v75_at A) (v85_is A)
theorem v102_is : Is4 (res_main_v102 V0) fun b h g t => I.E b h g t := by
  rw [v102_eq]; exact sinkWeights_is (v85_is A) (sinks_is A.sink)
theorem v103_is : Is4 (res_main_v103 V0) fun b h g t => I.D b h g t := by
  rw [v103_eq]; exact dens_is (v98_is A) (v102_is A)
theorem v104_is : Is5 (res_main_v104 V0) fun b h g t d => I.N b h g t d := by
  rw [v104_eq]; exact nums_is (v98_is A) (v61_is A)
theorem v116_is : Is5 (res_main_v116 V0) fun b h g t x => I.ct b t (h * 512 + g * 64 + x) := by
  rw [v116_eq]; exact cots_is A.ct
theorem v124_is : Is5 (res_main_v124 V0) fun b h g t x => I.ct b t (h * 512 + g * 64 + x) * (1 / I.D b h g t) := by
  rw [v124_eq]; exact quotient_is (v116_is A) (perLane_is (v103_is A)) fun b h g t _ => (I.D_pos b h g t).ne'
theorem v125_is : Is4 (res_main_v125 V0) fun b h g t => I.rdd b h g t := by
  rw [v125_eq]; exact qcorrs_is (v116_is A) (v103_is A) (v104_is A)
theorem v133_is : Is5 (res_main_v133 V0) fun b h g t u => I.rds b h g t u := by
  rw [v133_eq]; exact dscores_is (v124_is A) (v61_is A) (v125_is A) (v98_is A)
theorem v147_is : Is5 (res_main_v147 V0) fun b h u t g => I.DS b h g t u * (1 / 8) := by
  rw [v147_eq, v82_eq]
  exact scaledScores_is (v133_is A) (dtops_zero (v125_is A) (v102_is A) (v133_is A)) (shares_real _ _) (hits_is (v75_at A) (v78_is A))
theorem v151_is : Is4 (res_main_v151 V0) fun b u h d => I.dkr b u (h * 64 + d) := by
  rw [v151_eq]; exact keyDots_is (v147_is A) (v30_is A)
theorem v170_is : Is4 (res_main_v170 V0) fun b t n d => I.dqr b t (n * 64 + d) := by
  rw [v170_eq]; exact queryDots_is (v147_is A) (v60_is A)

/-- The queries' gradient. -/
theorem v188_is : Is3 (unropeQ (res_main_v170 V0) (angles (F := Ideal) (V0 (Proc.devRef .tc main_arg3)))) fun b t l => I.gradQ b t l :=
  unropeQ_is (X := fun b t l => I.dqr b t l) (v170_is A) A.ang
/-- The keys' gradient. -/
theorem v189_is : Is3 (unropeK (res_main_v151 V0) (angles (F := Ideal) (V0 (Proc.devRef .tc main_arg3)))) fun b t l => I.gradK b t l :=
  unropeK_is (X := fun b t l => I.dkr b t l) (v151_is A) A.ang
/-- The values' gradient. -/
theorem v190_is : Is3 (valueDots (res_main_v124 V0) (res_main_v98 V0)) fun b t l => I.gradV b t l :=
  valueDots_is (v124_is A) (v98_is A)
end Results

end Cert.ReferenceIdeal.Attn
end
-- ==== Proof.Finite.lean ====
/-
  What the precondition says of each element of the arrays it reads: it is a real number.
-/
module

public import proofs.«01_k».proof.Defs
public import Idealize.ShloMosaic.Lib.ReduceAll
public import Idealize.ShloMosaic.Lib.Affine
public import Idealize.ShloMosaic.Lib.WordCmp
public import Idealize.ShloMosaic.Lib.Pointwise

@[expose] public section

set_option maxRecDepth 16384

noncomputable section

namespace Cert.Attn

open Idealize.ShloMosaic Idealize.ShloMosaic.TcCoe Idealize.ShloMosaic.WordCmp Idealize.SL.Sem

instance : Subsingleton (Cert.Pre_finite.S_).Idx := ⟨fun a b => funext fun i => i.elim0⟩

/-- An element whose absolute value is below infinity is a real number. -/
theorem real_of_abs_lt {s : Shape} {x : FVec Ideal s .f32} {bnd : FVec Ideal s .f32} (hb : ∀ i, bnd i = Ideal.ofBits .f32 0x7F800000#32)
    {i : s.Idx} (h : cmpf .olt (Host.absf x) bnd i = 1#1) : (x i : EReal) ≠ ⊤ ∧ (x i : EReal) ≠ ⊥ := by
  have e : Ideal.cmp .olt (max (x i : EReal) (-(x i : EReal))) (bnd i) = 1#1 := h
  have htop : Ideal.ofBits .f32 0x7F800000#32 = ⊤ := by
    simp [Ideal.ofBits, Ideal.ieee]
  rw [hb, htop] at e
  have hl : max (x i : EReal) (-(x i : EReal)) < ⊤ := by
    by_contra hn
    simp [Ideal.cmp, hn] at e
  refine ⟨(max_lt_iff.mp hl).1.ne, fun hbot => ?_⟩
  have := (max_lt_iff.mp hl).2
  rw [hbot, EReal.neg_bot] at this
  exact lt_irrefl _ this

variable [Cert.Pre_finite.Facts]
open Cert.Pre_finite Cert.Pre_finite.Facts

/-- Every element of the five arrays the precondition reads is a real number. -/
theorem reals_of_pre {q : FVec Ideal S2x2048x1024 .f32} {k v : FVec Ideal S2x2048x128 .f32} {p : IVec S2x2048 32} {s : FVec Ideal S16 .f32}
    {ct : FVec Ideal S2x2048x1024 .f32} (h : Cert.Pre_finite.fn (F := Ideal) q k v p s ct = fun _ => 1#1) :
    (∀ i, (q i : EReal) ≠ ⊤ ∧ (q i : EReal) ≠ ⊥) ∧ (∀ i, (k i : EReal) ≠ ⊤ ∧ (k i : EReal) ≠ ⊥) ∧ (∀ i, (v i : EReal) ≠ ⊤ ∧ (v i : EReal) ≠ ⊥)
      ∧ (∀ i, (s i : EReal) ≠ ⊤ ∧ (s i : EReal) ≠ ⊥) ∧ ∀ i, (ct i : EReal) ≠ ⊤ ∧ (ct i : EReal) ≠ ⊥ := by
  have h0 := congrFun h fun i => i.elim0
  dsimp only [Cert.Pre_finite.fn, Cert.Pre_finite.fn_part1] at h0
  simp only [andi_at, IntOp.andi_eq_one] at h0
  obtain ⟨⟨⟨⟨hq, hk⟩, hv⟩, hs⟩, hct⟩ := h0
  refine ⟨fun i => real_of_abs_lt ?_ (Host.reduce_andi_all _ _ _ _ _ hq i), fun i => real_of_abs_lt ?_ (Host.reduce_andi_all _ _ _ _ _ hk i),
    fun i => real_of_abs_lt ?_ (Host.reduce_andi_all _ _ _ _ _ hv i), fun i => real_of_abs_lt ?_ (Host.reduce_andi_all _ _ _ _ _ hs i),
    fun i => real_of_abs_lt ?_ (Host.reduce_andi_all _ _ _ _ _ hct i)⟩ <;> intro _ <;> rfl

end Cert.Attn
end
-- ==== Proof.Claims.lean ====
/-
  The claims: each program ends with its arguments unchanged and its counters at zero, the named constant is the mask's
  value, and the kernel and the reference end with the same three gradients.
-/
module

public import proofs.«01_k».proof.Defs
public import proofs.«01_k».proof.Proof.PointRun
public import proofs.«01_k».proof.Proof.Ref
public import proofs.«01_k».proof.Proof.Finite
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite

@[expose] public section

set_option maxRecDepth 16384

noncomputable section

namespace Cert.AttnClaims

open Idealize.ShloMosaic Idealize.ShloMosaic.TcCoe Idealize.SL.Sem Cert.KernelIdeal.Attn Cert.Attn

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ

/-- The reference ends with its arguments unchanged; it has no counters. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The named constant is what the table says: the mask adds minus infinity. -/
theorem preserves : Cert.preserves_Kernel_KernelIdeal :=
  IdealRules.named_const.statement Cert.KernelIdeal.κ "mask" .f32 0xF149F2CA#32 ⊥ rfl

/-- Two arrays of three axes that hold the same reals are one array. -/
theorem is3_unique {n0 n1 n2 : ℕ} {x y : (⟨3, ![n0, n1, n2]⟩ : Shape).Idx → EReal} {X : ℕ → ℕ → ℕ → ℝ} (hx : Is3 x X) (hy : Is3 y X) : x = y := by
  funext i
  have e : i = ix3 (i 0) (i 1) (i 2) := eq_ix3 i
  rw [e]
  exact (hx _ _ _).trans (hy _ _ _).symm

/-- Arrays equal to the inputs' arrays hold the same inputs. -/
theorem args_congr {I : Ins} {q q' : FVec Ideal Cert.KernelIdeal.S2x2048x1024 .f32} {k k' v v' : FVec Ideal Cert.KernelIdeal.S2x2048x128 .f32}
    {p p' : IVec Cert.KernelIdeal.S2x2048 32} {s s' : FVec Ideal Cert.KernelIdeal.S16 .f32} {ct ct' : FVec Ideal Cert.KernelIdeal.S2x2048x1024 .f32}
    (hq : q' = q) (hk : k' = k) (hv : v' = v) (hp : p' = p) (hs : s' = s) (hct : ct' = ct) (A : Args I q k v p s ct) : Args I q' k' v' p' s' ct' := by
  subst hq hk hv hp hs hct
  exact A

section
open Cert.ReferenceIdeal Cert.ReferenceIdeal.Value Cert.ReferenceIdeal.Attn StableHlo

variable (m' : (ℓ : Loc Cert.ReferenceIdeal.nD Cert.ReferenceIdeal.τ Cert.ReferenceIdeal.sig) → Buf (Elt Ideal) ℓ) (c : Dev Cert.ReferenceIdeal.nD)

/-- The reference's three results, of its intermediate values. -/
theorem reference_run (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r => ∀ c : Dev Cert.ReferenceIdeal.nD,
      (r.2.mem ((c.tc : Thread Cert.ReferenceIdeal.nD Cert.ReferenceIdeal.τ).loc Cert.ReferenceIdeal.main_v188) = unropeQ (res_main_v170 (launchContents m' c)) (angles (F := Ideal) (launchContents m' c (Proc.devRef .tc Cert.ReferenceIdeal.main_arg3)))
      ∧ r.2.mem ((c.tc : Thread Cert.ReferenceIdeal.nD Cert.ReferenceIdeal.τ).loc Cert.ReferenceIdeal.main_v189) = unropeK (res_main_v151 (launchContents m' c)) (angles (F := Ideal) (launchContents m' c (Proc.devRef .tc Cert.ReferenceIdeal.main_arg3)))
      ∧ r.2.mem ((c.tc : Thread Cert.ReferenceIdeal.nD Cert.ReferenceIdeal.τ).loc Cert.ReferenceIdeal.main_v190) = valueDots (res_main_v124 (launchContents m' c)) (res_main_v98 (launchContents m' c)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  refine (θ_run Cert.ReferenceIdeal.defs _ _).mono (fun r h c => ?_) (Cert.ReferenceIdeal.Value.run (F := Ideal) m' ρ)
  obtain ⟨r0, r1, r2, hk⟩ := h c
  generalize launchContents m' c = V0 at r0 r1 r2 ⊢
  exact ⟨⟨r0, r1, r2⟩, hk⟩

end

variable (m : (ℓ : Loc Cert.KernelIdeal.nD Cert.KernelIdeal.τ Cert.KernelIdeal.sig) → Buf (Elt Ideal) ℓ)

/-- The attention's inputs, as device `c` holds them. -/
def inputs (c : Dev Cert.KernelIdeal.nD) : Ins :=
  insOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

theorem inputs_args (hpre : Cert.Pre_KernelIdeal_finite m) (c : Dev Cert.KernelIdeal.nD) :
    Args (inputs m c) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  obtain ⟨hq, hk, hv, hs, hct⟩ := Cert.Attn.reals_of_pre (hpre c)
  exact insOf_args (fun _ _ _ => hq _) (fun _ _ _ => hk _) (fun _ _ _ => hv _) (fun _ => hs _) (fun _ _ _ => hct _)

theorem arg0_is (c : Dev Cert.KernelIdeal.nD) : arg0 m c = m ((c.tc : Thread Cert.KernelIdeal.nD Cert.KernelIdeal.τ).loc Cert.KernelIdeal.main_arg0) :=
  Cert.KernelIdeal.Gen.V_main_arg0 m c
theorem arg1_is (c : Dev Cert.KernelIdeal.nD) : arg1 m c = m ((c.tc : Thread Cert.KernelIdeal.nD Cert.KernelIdeal.τ).loc Cert.KernelIdeal.main_arg1) :=
  Cert.KernelIdeal.Gen.V_main_arg1 m c
theorem arg2_is (c : Dev Cert.KernelIdeal.nD) : arg2 m c = m ((c.tc : Thread Cert.KernelIdeal.nD Cert.KernelIdeal.τ).loc Cert.KernelIdeal.main_arg2) :=
  Cert.KernelIdeal.Gen.V_main_arg2 m c
theorem arg3_is (c : Dev Cert.KernelIdeal.nD) : arg3 m c = m ((c.tc : Thread Cert.KernelIdeal.nD Cert.KernelIdeal.τ).loc Cert.KernelIdeal.main_arg3) :=
  Cert.KernelIdeal.Gen.V_main_arg3 m c
theorem arg4_is (c : Dev Cert.KernelIdeal.nD) : arg4 m c = m ((c.tc : Thread Cert.KernelIdeal.nD Cert.KernelIdeal.τ).loc Cert.KernelIdeal.main_arg4) :=
  Cert.KernelIdeal.Gen.V_main_arg4 m c
theorem arg5_is (c : Dev Cert.KernelIdeal.nD) : arg5 m c = m ((c.tc : Thread Cert.KernelIdeal.nD Cert.KernelIdeal.τ).loc Cert.KernelIdeal.main_arg5) :=
  Cert.KernelIdeal.Gen.V_main_arg5 m c

theorem kernel_args (hpre : Cert.Pre_KernelIdeal_finite m) (c : Dev Cert.KernelIdeal.nD) :
    Args (inputs m c) (arg0 m c) (arg1 m c) (arg2 m c) (arg3 m c) (arg4 m c) (arg5 m c) := by
  rw [arg0_is, arg1_is, arg2_is, arg3_is, arg4_is, arg5_is]
  exact inputs_args m hpre c

/-- The kernel and the reference end with equal gradients: both are the gradients of the attention's queries, keys and values
    over the reals. -/
theorem algebraic : Cert.algebraic_KernelIdeal_ReferenceIdeal_pre_finite := by
  intro m g m' g' hpre hagree
  refine ⟨fun c => Cert.KernelIdeal.Value.G12 m c, fun c => Cert.KernelIdeal.Value.G13 m c, fun c => Cert.KernelIdeal.Value.G14 m c,
    Cert.KernelIdeal.Value.run (F := Ideal) m g, (θ_run Cert.ReferenceIdeal.defs _ _).mono (fun r h (c : Dev Cert.KernelIdeal.nD) => ?_) (reference_run m' g')⟩
  have K := kernel_args m hpre c
  obtain ⟨h0, h1, h2, h3, h4, h5⟩ := hagree c
  have R : Args (inputs m c) (StableHlo.launchContents m' c (Proc.devRef .tc Cert.ReferenceIdeal.main_arg0)) (StableHlo.launchContents m' c (Proc.devRef .tc Cert.ReferenceIdeal.main_arg1))
      (StableHlo.launchContents m' c (Proc.devRef .tc Cert.ReferenceIdeal.main_arg2)) (StableHlo.launchContents m' c (Proc.devRef .tc Cert.ReferenceIdeal.main_arg3))
      (StableHlo.launchContents m' c (Proc.devRef .tc Cert.ReferenceIdeal.main_arg4)) (StableHlo.launchContents m' c (Proc.devRef .tc Cert.ReferenceIdeal.main_arg5)) :=
    args_congr h0 h1 h2 h3 h4 h5 (inputs_args m hpre c)
  have q := is3_unique (Cert.ReferenceIdeal.Attn.v188_is R) (g12_is m c K)
  have k := is3_unique (Cert.ReferenceIdeal.Attn.v189_is R) (g13_is m c K)
  have v := is3_unique (Cert.ReferenceIdeal.Attn.v190_is R) (g14_is m c K)
  obtain ⟨⟨r0, r1, r2⟩, hk⟩ := h c
  exact ⟨r0.trans q, r1.trans k, r2.trans v, hk⟩

end Cert.AttnClaims
end
-- ==== Proof.Blocks.lean ====
/-
  Reading a table at an index that is known by its coordinates, and where an index inside a block lies in the whole array.
-/
module

public import Idealize.ShloMosaic.Lib.ValueIdx
public import Idealize.ShloMosaic.Lib.Pointwise

@[expose] public section

namespace Cert.Blocks

open Idealize.ShloMosaic
open scoped BigOperators

/-- A table at an index, from the index's two coordinates. -/
theorem at2 {α : Type} {a b : ℕ} (f : (⟨2, ![a, b]⟩ : Shape).Idx → α) (i : (⟨2, ![a, b]⟩ : Shape).Idx) (x : Fin a) (y : Fin b) (hx : (i 0).val = x.val) (hy : (i 1).val = y.val) :
    f i = f (ix2 x y) := by
  refine congrArg f (funext fun k => ?_)
  match k with
  | ⟨0, _⟩ => exact Fin.ext hx
  | ⟨1, _⟩ => exact Fin.ext hy

/-- The same with three coordinates. -/
theorem at3 {α : Type} {a b d : ℕ} (f : (⟨3, ![a, b, d]⟩ : Shape).Idx → α) (i : (⟨3, ![a, b, d]⟩ : Shape).Idx) (x : Fin a) (y : Fin b) (z : Fin d) (hx : (i 0).val = x.val)
    (hy : (i 1).val = y.val) (hz : (i 2).val = z.val) : f i = f (ix3 x y z) := by
  refine congrArg f (funext fun k => ?_)
  match k with
  | ⟨0, _⟩ => exact Fin.ext hx
  | ⟨1, _⟩ => exact Fin.ext hy
  | ⟨2, _⟩ => exact Fin.ext hz

/-- The coordinates of an index inside a block, from the block's own. -/
theorem coord2 {n : Fin 2 → ℕ} {u v : ℕ} (h : n = ![u, v]) (s r s' r' : ℕ) : n 0 * s + 1 * r = u * s + r ∧ n 1 * s' + 1 * r' = v * s' + r' := by
  subst h
  exact ⟨by rw [Nat.one_mul]; rfl, by rw [Nat.one_mul]; rfl⟩

theorem hz2 : (![0, 0] : Fin 2 → Nat) = fun _ => 0 := funext fun a => by fin_cases a <;> rfl

/-- A table at an index inside a block, from the block's own index `n` and the index `u` gives inside the array. -/
theorem block_at {α : Type} {a b s s' p q : ℕ} {n : Fin 2 → ℕ} (h : n = ![p, q]) (f : (⟨2, ![a, b]⟩ : Shape).Idx → α)
    (u : (⟨2, ![s, s']⟩ : Shape).Idx → (⟨2, ![a, b]⟩ : Shape).Idx)
    (e : ∀ r k, (u (ix2 r k) 0).val = n 0 * s + 1 * r.val ∧ (u (ix2 r k) 1).val = n 1 * s' + 1 * k.val)
    (r : Fin s) (k : Fin s') (i : Fin a) (j : Fin b) (hi : i.val = p * s + r.val) (hj : j.val = q * s' + k.val) : f (u (ix2 r k)) = f (ix2 i j) :=
  at2 f _ i j ((e r k).1.trans ((coord2 h s r.val s' k.val).1.trans hi.symm)) ((e r k).2.trans ((coord2 h s r.val s' k.val).2.trans hj.symm))

/-- Of a product of one array's columns with another's, computed in blocks of rows: an element in row `i`, from what the point
that writes that row stores. The points' indices inside their blocks are `u`, the blocks' indices inside the arrays `n`. -/
theorem columns_product {K M N s t : ℕ} {n0 n1 n2 : Fin 2 → ℕ} (h0 : n0 = ![0, t]) (h1 : n1 = ![0, 0]) (h2 : n2 = ![t, 0])
    (f : (⟨2, ![K, M]⟩ : Shape).Idx → EReal) (g : (⟨2, ![K, N]⟩ : Shape).Idx → EReal) (o : (⟨2, ![M, N]⟩ : Shape).Idx → EReal)
    (uf : (⟨2, ![K, s]⟩ : Shape).Idx → (⟨2, ![K, M]⟩ : Shape).Idx) (ug : (⟨2, ![K, N]⟩ : Shape).Idx → (⟨2, ![K, N]⟩ : Shape).Idx)
    (uo : (⟨2, ![s, N]⟩ : Shape).Idx → (⟨2, ![M, N]⟩ : Shape).Idx)
    (ef : ∀ k r, (uf (ix2 k r) 0).val = n0 0 * K + 1 * k.val ∧ (uf (ix2 k r) 1).val = n0 1 * s + 1 * r.val)
    (eg : ∀ k j, (ug (ix2 k j) 0).val = n1 0 * K + 1 * k.val ∧ (ug (ix2 k j) 1).val = n1 1 * N + 1 * j.val)
    (eo : ∀ r j, (uo (ix2 r j) 0).val = n2 0 * s + 1 * r.val ∧ (uo (ix2 r j) 1).val = n2 1 * N + 1 * j.val)
    (r : Fin s) (i : Fin M) (j : Fin N) (hi : i.val = t * s + r.val)
    (h : o (uo (ix2 r j)) = ∑ k : Fin K, f (uf (ix2 k r)) * g (ug (ix2 k j))) :
    o (ix2 i j) = ∑ k : Fin K, f (ix2 k i) * g (ix2 k j) := by
  refine (block_at h2 o uo eo r j i j hi (by omega)).symm.trans (h.trans ?_)
  exact Finset.sum_congr rfl fun k _ => by rw [block_at h0 f uf ef k r k i (by omega) hi, block_at h1 g ug eg k j k j (by omega) (by omega)]

end Cert.Blocks
-- ==== Proof.GradX.lean ====
/-
  The gradient of the layer's input and of its modulation, one grid point at a time: what a point stores, and how the
  rows of the modulation's gradient go on from the point before.
-/
module

public import proofs.«01_k».proof.Proof.Gen.Kernel2Ideal.Frame
public import proofs.«01_k».proof.Proof.Gen.Kernel2Ideal.Value
public import Idealize.ShloMosaic.Lib.Pipeline.Value
public import Idealize.ShloMosaic.Lib.WritesUnit
public import Idealize.ShloMosaic.Lib.Tactic
public import Idealize.ShloMosaic.Lib.Pointwise

@[expose] public section

set_option maxRecDepth 16384

noncomputable section

namespace Cert.Kernel2Ideal.GradX

open Idealize.ShloMosaic Idealize.ShloMosaic.TcCoe Idealize.SL.Sem Cert.Kernel2Ideal Cert.Kernel2Ideal.Gen
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

section Run

variable {F : FTy → Type} [FloatOps F]

/-- Row `r` of a block of eight rows. -/
abbrev rowRect (r : ℕ) (h : ∀ a, (![0, r, 0] : Fin 3 → Nat) a + S1x1x1024.size a ≤ S1x8x1024.size a) : Rect S1x8x1024 :=
  Rect.unit (s := S1x8x1024) ![0, r, 0] S1x1x1024.size h
/-- Row `r` of the contents of a block of eight rows. -/
abbrev rowOf (x : Vec F S1x8x1024 .f32) (r : ℕ) (h : ∀ a, (![0, r, 0] : Fin 3 → Nat) a + S1x1x1024.size a ≤ S1x8x1024.size a) : Vec F S1x1x1024 .f32 :=
  View.ld x (rowRect r h)

variable (c : Dev nD) (i : grid0.Coords) (a3 : Memref sig .tc .vmem S512x7936 .bf16) (h3 : a3.IsWhole) (a4 : Memref sig .tc .vmem S7936x1024 .bf16) (h4 : a4.IsWhole)
  (a5 : Memref sig .tc .vmem S512x1024 .f32) (h5 : a5.IsWhole) (a6 : Memref sig .tc .vmem S512x1024 .f32) (h6 : a6.IsWhole) (a7 : Memref sig .tc .vmem S1x8x1024 .f32) (h7 : a7.IsWhole)
  (a8 : Memref sig .tc .vmem S512x1024 .f32) (h8 : a8.IsWhole) (a9 : Memref sig .tc .vmem S1x8x1024 .f32) (h9 : a9.IsWhole) (a10 : Memref sig .tc .vmem S8x128 .f32) (h10 : a10.IsWhole)
  (x0 : Vec F S512x7936 .bf16) (x1 : Vec F S7936x1024 .bf16) (x2 x3 : Vec F S512x1024 .f32) (x4 : Vec F S1x8x1024 .f32)

theorem out_A_5 (hc : cond0_0 i) :
    out0_A_5 c i a3 h3 a4 h4 a5 h5 a6 h6 a7 h7 a8 h8 a9 h9 a10 h10 hc x0 x1 x2 x3 x4 = k0_pay5 x0 x1 x2 (rowOf x4 1 inb_S1x8x1024_S1x1x1024_0_1_0) := by
  unfold out0_A_5
  rw [View.read_writes_eq_canon _ _ _ (cover0_A_5 c i a3 h3 a4 h4 a5 h5 a6 h6 a7 h7 a8 h8 a9 h9 a10 h10 hc x0 x1 x2 x3 x4)]
  unfold kernelRun0_A
  dsimp only
  rw [View.canon_unit_zero hz2]
  simp only [View.readAt_eq_ld, h3.read_unread, h4.read_unread, h5.read_unread, h7.read_unread, View.ld_unit_zero (S := S512x7936) hz2, View.ld_unit_zero (S := S7936x1024) hz2,
    View.ld_unit_zero (S := S512x1024) hz2]

theorem out_B_5 (hc : ¬cond0_0 i) (xo : Vec F S1x8x1024 .f32) :
    out0_B_5 c i a3 h3 a4 h4 a5 h5 a6 h6 a7 h7 a8 h8 a9 h9 a10 h10 hc x0 x1 x2 x3 x4 xo = k0_pay5 x0 x1 x2 (rowOf x4 1 inb_S1x8x1024_S1x1x1024_0_1_0) := by
  unfold out0_B_5
  rw [View.read_writes_eq_canon _ _ _ (cover0_B_5 c i a3 h3 a4 h4 a5 h5 a6 h6 a7 h7 a8 h8 a9 h9 a10 h10 hc x0 x1 x2 x3 x4 xo)]
  unfold kernelRun0_B
  dsimp only
  rw [View.canon_unit_zero hz2]
  simp only [View.readAt_eq_ld, h3.read_unread, h4.read_unread, h5.read_unread, h7.read_unread, View.ld_unit_zero (S := S512x7936) hz2, View.ld_unit_zero (S := S7936x1024) hz2,
    View.ld_unit_zero (S := S512x1024) hz2]

/-- What a point leaves of the modulation's rows when it finds `f` there. -/
abbrev rows (v : View sig .tc .vmem S1x8x1024 .f32) (f : v.ty.Contents (Elt F)) (x y : Vec F S1x1x1024 .f32) (L : List (View.Piece (Elt F) S1x8x1024 .f32)) : Vec F S1x8x1024 .f32 :=
  v.read (Elt F) (v.writes (Elt F) f (⟨rowRect 1 inb_S1x8x1024_S1x1x1024_0_1_0, y⟩ :: ⟨rowRect 0 inb_S1x8x1024_S1x1x1024_0_0_0, x⟩ :: L))

theorem rows_at0 (v : View sig .tc .vmem S1x8x1024 .f32) (f : v.ty.Contents (Elt F)) (x y : Vec F S1x1x1024 .f32) (L : List (View.Piece (Elt F) S1x8x1024 .f32)) (j : Fin 1024) :
    rows v f x y L (ix3 (0 : Fin 1) (0 : Fin 8) j) = x (ix3 (0 : Fin 1) (0 : Fin 1) j) := by
  unfold rows
  rw [View.read_writes_cons_unit_of_not_mem v f _ _ _ _ rfl 1 (Or.inl Nat.zero_lt_one)]
  refine View.read_writes_cons_unit_of_mem v f _ _ _ _ _ rfl fun a => ?_
  match a with
  | ⟨0, _⟩ => rfl
  | ⟨1, _⟩ => rfl
  | ⟨2, _⟩ => exact (Nat.zero_add _).symm

theorem rows_at1 (v : View sig .tc .vmem S1x8x1024 .f32) (f : v.ty.Contents (Elt F)) (x y : Vec F S1x1x1024 .f32) (L : List (View.Piece (Elt F) S1x8x1024 .f32)) (j : Fin 1024) :
    rows v f x y L (ix3 (0 : Fin 1) (1 : Fin 8) j) = y (ix3 (0 : Fin 1) (0 : Fin 1) j) := by
  unfold rows
  refine View.read_writes_cons_unit_of_mem v f _ _ _ _ _ rfl fun a => ?_
  match a with
  | ⟨0, _⟩ => rfl
  | ⟨1, _⟩ => rfl
  | ⟨2, _⟩ => exact (Nat.zero_add _).symm

theorem rows_at (v : View sig .tc .vmem S1x8x1024 .f32) (f : v.ty.Contents (Elt F)) (x y : Vec F S1x1x1024 .f32) (L : List (View.Piece (Elt F) S1x8x1024 .f32)) (r : Fin 8) (hr : 2 ≤ r.val) (j : Fin 1024) :
    rows v f x y L (ix3 (0 : Fin 1) r j) = v.read (Elt F) (v.writes (Elt F) f L) (ix3 (0 : Fin 1) r j) := by
  unfold rows
  rw [View.read_writes_cons_unit_of_not_mem v f _ _ _ _ rfl 1 (Or.inr (show 1 + 1 ≤ r.val by omega)),
    View.read_writes_cons_unit_of_not_mem v f _ _ _ _ rfl 1 (Or.inr (show 0 + 1 ≤ r.val by omega))]

theorem out_B_6 (hc : ¬cond0_0 i) (xo : Vec F S1x8x1024 .f32) :
    out0_B_6 c i a3 h3 a4 h4 a5 h5 a6 h6 a7 h7 a8 h8 a9 h9 a10 h10 hc x0 x1 x2 x3 x4 xo =
      rows a9.view (h9.unread xo) (k0_pay2 (k0_pay6 x0 x1 x3) (rowOf xo 0 inb_S1x8x1024_S1x1x1024_0_0_0)) (k0_pay3 (k0_pay7 x0 x1) (rowOf xo 1 inb_S1x8x1024_S1x1x1024_0_1_0)) [] := by
  unfold out0_B_6
  unfold kernelRun0_B
  dsimp only
  unfold kernelRun0_B.sl.r_1 kernelRun0_B.sl.v37 kernelRun0_B.sl.r
  simp only [View.readAt_eq_ld, h3.read_unread, h4.read_unread, h6.read_unread, h9.read_unread, View.ld_unit_zero (S := S512x7936) hz2, View.ld_unit_zero (S := S7936x1024) hz2,
    View.ld_unit_zero (S := S512x1024) hz2]

/-- The rows as the first point of a batch row finds them. -/
abbrev fresh : List (View.Piece (Elt F) S1x8x1024 .f32) :=
  [⟨Rect.unit (s := S1x8x1024) ![0, 0, 0] S1x8x1024.size inb_S1x8x1024_S1x8x1024_0_0_0, k0_pay1 (F := F)⟩]

theorem fresh_at (v : View sig .tc .vmem S1x8x1024 .f32) (f : v.ty.Contents (Elt F)) (y : S1x8x1024.Idx) :
    v.read (Elt F) (v.writes (Elt F) f fresh) y = k0_pay1 (F := F) y := by
  refine View.read_writes_cons_unit_of_mem v f _ _ _ _ y rfl fun a => ?_
  match a with
  | ⟨0, _⟩ => exact (Nat.zero_add _).symm
  | ⟨1, _⟩ => exact (Nat.zero_add _).symm
  | ⟨2, _⟩ => exact (Nat.zero_add _).symm

theorem fresh_row0 : a9.view.readCov (fresh (F := F)) (rowRect 0 inb_S1x8x1024_S1x1x1024_0_0_0).toLoadRect = rowOf (k0_pay1 (F := F)) 0 inb_S1x8x1024_S1x1x1024_0_0_0 :=
  funext fun j => fresh_at a9.view _ _

theorem fresh_row1 (x : Vec F S1x1x1024 .f32) :
    a9.view.readCov (⟨rowRect 0 inb_S1x8x1024_S1x1x1024_0_0_0, x⟩ :: fresh (F := F)) (rowRect 1 inb_S1x8x1024_S1x1x1024_0_1_0).toLoadRect = rowOf (k0_pay1 (F := F)) 1 inb_S1x8x1024_S1x1x1024_0_1_0 := by
  funext j
  refine Eq.trans (View.read_writes_cons_unit_of_not_mem a9.view _ _ _ _ _ rfl 1 (Or.inr ?_)) (fresh_at a9.view _ _)
  show 0 + 1 ≤ 1 + 1 * (j 1).val
  omega

theorem out_A_6 (hc : cond0_0 i) :
    out0_A_6 c i a3 h3 a4 h4 a5 h5 a6 h6 a7 h7 a8 h8 a9 h9 a10 h10 hc x0 x1 x2 x3 x4 =
      rows VO0_6 VO0_6.junk (k0_pay2 (k0_pay6 x0 x1 x3) (rowOf (k0_pay1 (F := F)) 0 inb_S1x8x1024_S1x1x1024_0_0_0))
        (k0_pay3 (k0_pay7 x0 x1) (rowOf (k0_pay1 (F := F)) 1 inb_S1x8x1024_S1x1x1024_0_1_0)) fresh := by
  unfold out0_A_6
  unfold kernelRun0_A
  dsimp only
  unfold kernelRun0_A.sl.r_1 kernelRun0_A.sl.v37 kernelRun0_A.sl.H6_2 kernelRun0_A.sl.r kernelRun0_A.sl.v31 kernelRun0_A.sl.H6_1
  simp only [View.readAt_eq_ld, h3.read_unread, h4.read_unread, h6.read_unread, View.ld_unit_zero (S := S512x7936) hz2, View.ld_unit_zero (S := S7936x1024) hz2,
    View.ld_unit_zero (S := S512x1024) hz2]
  refine Eq.trans (b := rows VO0_6 VO0_6.junk (k0_pay2 (k0_pay6 x0 x1 x3) (a9.view.readCov (fresh (F := F)) (rowRect 0 inb_S1x8x1024_S1x1x1024_0_0_0).toLoadRect))
    (k0_pay3 (k0_pay7 x0 x1) (a9.view.readCov (⟨rowRect 0 inb_S1x8x1024_S1x1x1024_0_0_0, k0_pay2 (k0_pay6 x0 x1 x3) (a9.view.readCov (fresh (F := F)) (rowRect 0 inb_S1x8x1024_S1x1x1024_0_0_0).toLoadRect)⟩ :: fresh (F := F)) (rowRect 1 inb_S1x8x1024_S1x1x1024_0_1_0).toLoadRect)) fresh) (by sl_kernel_rfl) ?_
  rw [fresh_row1, fresh_row0]

end Run

/-! ## The payloads, index by index -/

/-- An element of the product of a point's two blocks. -/
theorem du_at (x : FVec Ideal S512x7936 .bf16) (y : FVec Ideal S7936x1024 .bf16) (r : Fin 512) (j : Fin 1024) :
    (k0_pay4 (F := Ideal) x y) (ix2 r j) = ∑ k : Fin 7936, x (ix2 r k) * y (ix2 k j) := by
  pointwise [k0_pay4]

theorem dx_at (x : FVec Ideal S512x7936 .bf16) (y : FVec Ideal S7936x1024 .bf16) (d : FVec Ideal S512x1024 .f32) (g : FVec Ideal S1x1x1024 .f32) (r : Fin 512) (j : Fin 1024) :
    (k0_pay5 (F := Ideal) x y d g) (ix2 r j) = d (ix2 r j) + (k0_pay4 (F := Ideal) x y) (ix2 r j) * (1 + g (ix3 (0 : Fin 1) (0 : Fin 1) j)) := by
  pointwise [k0_pay5]

theorem dots_at (x : FVec Ideal S512x7936 .bf16) (y : FVec Ideal S7936x1024 .bf16) (v : FVec Ideal S512x1024 .f32) (g : FVec Ideal S1x1x1024 .f32) (j : Fin 1024) :
    (k0_pay2 (F := Ideal) (k0_pay6 x y v) g) (ix3 (0 : Fin 1) (0 : Fin 1) j) = g (ix3 (0 : Fin 1) (0 : Fin 1) j) + ∑ r : Fin 512, (k0_pay4 (F := Ideal) x y) (ix2 r j) * v (ix2 r j) := by
  pointwise [k0_pay2, k0_pay6]

theorem sums_at (x : FVec Ideal S512x7936 .bf16) (y : FVec Ideal S7936x1024 .bf16) (g : FVec Ideal S1x1x1024 .f32) (j : Fin 1024) :
    (k0_pay3 (F := Ideal) (k0_pay7 x y) g) (ix3 (0 : Fin 1) (0 : Fin 1) j) = g (ix3 (0 : Fin 1) (0 : Fin 1) j) + ∑ r : Fin 512, (k0_pay4 (F := Ideal) x y) (ix2 r j) := by
  pointwise [k0_pay3, k0_pay7]

theorem zeros_at (y : S1x8x1024.Idx) : (k0_pay1 (F := Ideal)) y = 0 := by
  pointwise [k0_pay1]

end Cert.Kernel2Ideal.GradX
end
-- ==== Proof.GradXRef.lean ====
/-
  The reference's gradients of the layer's input and of its modulation, index by index.
-/
module

public import proofs.«01_k».proof.Proof.Gen.Reference2Ideal.Run
public import Idealize.ShloMosaic.Lib.Tactic
public import Idealize.ShloMosaic.Lib.Pointwise

@[expose] public section

set_option maxRecDepth 16384

noncomputable section

namespace Cert.Reference2Ideal.GradX

open Idealize.ShloMosaic Idealize.ShloMosaic.TcCoe Idealize.SL.Sem Cert.Reference2Ideal Cert.Reference2Ideal.Gen
open scoped BigOperators

/-- The cotangent of the modulated activations. -/
def du (p : FVec Ideal S4096x7936 .bf16) (w : FVec Ideal S7936x1024 .bf16) : FVec Ideal S2x2048x1024 .f32 :=
  Host.dotGeneral dot_S2x2048x7936_S1024x7936_S2x2048x1024_2_1_01_0_n_n none (extf .f32 (shapeCast _ p shapeCasts_S4096x7936_S2x2048x7936) bitsLt_bf16_f32)
    (extf .f32 (transpose S1024x7936 [1, 0] w transposes_S7936x1024_S1024x7936_1_0) bitsLt_bf16_f32)

/-- The gradient of the layer's input. -/
def dx (p : FVec Ideal S4096x7936 .bf16) (w : FVec Ideal S7936x1024 .bf16) (d : FVec Ideal S4096x1024 .f32) (g : FVec Ideal S2x8x1024 .f32) : FVec Ideal S4096x1024 .f32 :=
  shapeCast _ (addf (shapeCast _ d shapeCasts_S4096x1024_S2x2048x1024) (mulf (du p w) (broadcastInDim S2x2048x1024 ![0, 1, 2] bcast_S2x1x1024_S2x2048x1024_0_1_2
    (addf (broadcastInDim S2x1x1024 ![] bcast_S_S2x1x1024 (constant S_ .f32 0x3F800000#32)) (extractStridedSlice S2x1x1024 ![0, 1, 0] g slices_S2x8x1024_S2x1x1024_0_1_0))))) shapeCasts_S2x2048x1024_S4096x1024

/-- The sums over the tokens of a batch row. -/
def sums (u : FVec Ideal S2x2048x1024 .f32) : FVec Ideal S2x1x1024 .f32 :=
  shapeCast _ (Host.reduceAdd u (constant S_ .f32 0x00000000#32) reducesTo_S2x2048x1024_S2x1024_d1 h_S_) shapeCasts_S2x1024_S2x1x1024

/-- The gradient of the modulation. -/
def dg (p : FVec Ideal S4096x7936 .bf16) (w : FVec Ideal S7936x1024 .bf16) (x : FVec Ideal S4096x1024 .f32) : FVec Ideal S2x8x1024 .f32 :=
  concatenate S2x8x1024 1 [⟨S2x1x1024, sums (mulf (shapeCast _ x shapeCasts_S4096x1024_S2x2048x1024) (du p w))⟩, ⟨S2x1x1024, sums (du p w)⟩,
    ⟨S2x6x1024, broadcastInDim S2x6x1024 ![] bcast_S_S2x6x1024 (constant S_ .f32 0x00000000#32)⟩] concatenates_S2x1x1024_S2x1x1024_S2x6x1024_S2x8x1024_d1

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = dx (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v26) = dg (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

variable (p : FVec Ideal S4096x7936 .bf16) (w : FVec Ideal S7936x1024 .bf16) (x d : FVec Ideal S4096x1024 .f32) (g : FVec Ideal S2x8x1024 .f32)

/-- The row of token `s` of batch row `b`. -/
abbrev tok (b : Fin 2) (s : Fin 2048) : Fin 4096 := ⟨b.val * 2048 + s.val, by omega⟩

theorem du_at (b : Fin 2) (s : Fin 2048) (j : Fin 1024) : du p w (ix3 b s j) = ∑ k : Fin 7936, p (ix2 (tok b s) k) * w (ix2 k j) := by
  pointwise [du]

theorem dx_at (i : Fin 4096) (j : Fin 1024) : dx p w d g (ix2 i j) =
    d (ix2 i j) + du p w (ix3 (⟨i.val / 2048, by omega⟩ : Fin 2) (⟨i.val % 2048, by omega⟩ : Fin 2048) j) * (1 + g (ix3 (⟨i.val / 2048, by omega⟩ : Fin 2) (1 : Fin 8) j)) := by
  pointwise [dx]

theorem sums_at (u : FVec Ideal S2x2048x1024 .f32) (b : Fin 2) (j : Fin 1024) : sums u (ix3 b (0 : Fin 1) j) = ∑ s : Fin 2048, u (ix3 b s j) := by
  pointwise [sums]

theorem dg_at0 (b : Fin 2) (j : Fin 1024) : dg p w x (ix3 b (0 : Fin 8) j) = ∑ s : Fin 2048, x (ix2 (tok b s) j) * du p w (ix3 b s j) := by
  pointwise [dg]
  rw [sums_at]
  refine Finset.sum_congr rfl fun s _ => ?_
  pointwise []

theorem dg_at1 (b : Fin 2) (j : Fin 1024) : dg p w x (ix3 b (1 : Fin 8) j) = ∑ s : Fin 2048, du p w (ix3 b s j) := by
  pointwise [dg]
  rw [sums_at]

theorem dg_at (b : Fin 2) (r : Fin 8) (h : 2 ≤ r.val) (j : Fin 1024) : dg p w x (ix3 b r j) = 0 := by
  pointwise [dg]
  rw [dif_neg (by omega), dif_neg (by omega)]

end Cert.Reference2Ideal.GradX
end
-- ==== Proof.GradXRun.lean ====
/-
  The gradients of the layer's input and of its modulation: what the kernel's run leaves in its two results, and that the
  reference leaves the same.
-/
module

public import proofs.«01_k».proof.Defs
public import proofs.«01_k».proof.Proof.Blocks
public import proofs.«01_k».proof.Proof.GradX
public import proofs.«01_k».proof.Proof.GradXRef
public import proofs.«01_k».proof.Proof.Gen.Kernel2.Frame

@[expose] public section

set_option maxRecDepth 16384

noncomputable section

namespace Cert.Kernel2Ideal.GradX

open Idealize.ShloMosaic Idealize.ShloMosaic.TcCoe Idealize.SL.Sem Cert.Kernel2Ideal Cert.Kernel2Ideal.Gen Cert.Blocks
open scoped BigOperators

variable (m : (r : Loc nD τ sig) → Buf (Elt Ideal) r) (c : Dev nD)

/-- The projection's cotangent. -/
abbrev cot : FVec Ideal S4096x7936 .bf16 := m ((c : Thread nD τ).loc main_arg0)
/-- The projection's weights. -/
abbrev wts : FVec Ideal S7936x1024 .bf16 := m ((c : Thread nD τ).loc main_arg1)
/-- The cotangent of the residual stream. -/
abbrev res : FVec Ideal S4096x1024 .f32 := m ((c : Thread nD τ).loc main_arg2)
/-- The normalised activations. -/
abbrev act : FVec Ideal S4096x1024 .f32 := m ((c : Thread nD τ).loc main_arg3)
/-- The modulation. -/
abbrev modn : FVec Ideal S2x8x1024 .f32 := m ((c : Thread nD τ).loc main_arg4)
/-- The cotangent of the modulated activations. -/
def dU (i : Fin 4096) (j : Fin 1024) : EReal := ∑ k : Fin 7936, cot m c (ix2 i k) * wts m c (ix2 k j)

/-! ## Where the blocks lie -/

theorem index_of : ∀ t : Fin cfg0.N, win0_0.index t = ![t.val, 0] ∧ win0_1.index t = ![0, 0] ∧ win0_2.index t = ![t.val, 0] ∧ win0_3.index t = ![t.val, 0]
    ∧ win0_4.index t = ![t.val / 4, 0, 0] ∧ win0_5.index t = ![t.val, 0] ∧ win0_6.index t = ![t.val / 4, 0, 0] := (by decide +kernel : ∀ t : Fin grid0.N, _)

theorem lt8 (t : Fin cfg0.N) : t.val < 8 := lt_of_lt_of_eq t.isLt N_0

/-- Row `r` of the block of point `t`. -/
abbrev tokOf (t : Fin cfg0.N) (r : Fin 512) : Fin 4096 := ⟨t.val * 512 + r.val, by have := lt8 t; omega⟩

variable (t : Fin cfg0.N)

theorem cot_at (r : Fin 512) (k : Fin 7936) : iblk m c 0 t (ix2 r k) = cot m c (ix2 (tokOf t r) k) :=
  at2 (cot m c) (((cfg0.win 0).blk t).view.emb (ix2 r k)) (tokOf t r) k (coord2 (index_of t).1 512 r.val 7936 k.val).1 ((coord2 (index_of t).1 512 r.val 7936 k.val).2.trans (by omega))
theorem wts_at (k : Fin 7936) (j : Fin 1024) : iblk m c 1 t (ix2 k j) = wts m c (ix2 k j) :=
  at2 (wts m c) (((cfg0.win 1).blk t).view.emb (ix2 k j)) k j ((coord2 (index_of t).2.1 7936 k.val 1024 j.val).1.trans (by omega)) ((coord2 (index_of t).2.1 7936 k.val 1024 j.val).2.trans (by omega))
theorem res_at (r : Fin 512) (j : Fin 1024) : iblk m c 2 t (ix2 r j) = res m c (ix2 (tokOf t r) j) :=
  at2 (res m c) (((cfg0.win 2).blk t).view.emb (ix2 r j)) (tokOf t r) j (coord2 (index_of t).2.2.1 512 r.val 1024 j.val).1 ((coord2 (index_of t).2.2.1 512 r.val 1024 j.val).2.trans (by omega))
theorem act_at (r : Fin 512) (j : Fin 1024) : iblk m c 3 t (ix2 r j) = act m c (ix2 (tokOf t r) j) :=
  at2 (act m c) (((cfg0.win 3).blk t).view.emb (ix2 r j)) (tokOf t r) j (coord2 (index_of t).2.2.2.1 512 r.val 1024 j.val).1 ((coord2 (index_of t).2.2.2.1 512 r.val 1024 j.val).2.trans (by omega))
/-- The batch row of a point. -/
abbrev rowAt : Fin 2 := ⟨t.val / 4, by have := lt8 t; omega⟩
theorem modn_at (j : Fin 1024) : rowOf (F := Ideal) (iblk m c 4 t) 1 inb_S1x8x1024_S1x1x1024_0_1_0 (ix3 (0 : Fin 1) (0 : Fin 1) j) = modn m c (ix3 (rowAt t) (1 : Fin 8) j) := by
  have e := (index_of t).2.2.2.2.1
  refine at3 (modn m c) (((cfg0.win 4).blk t).view.emb ((rowRect 1 inb_S1x8x1024_S1x1x1024_0_1_0).emb (ix3 (0 : Fin 1) (0 : Fin 1) j))) (rowAt t) 1 j ?_ ?_ ?_
  · show win0_4.index t 0 * 1 + 1 * (0 + 1 * 0) = t.val / 4
    rw [e]; show t.val / 4 * 1 + 1 * (0 + 1 * 0) = t.val / 4; omega
  · show win0_4.index t 1 * 8 + 1 * (1 + 1 * 0) = 1
    rw [e]; rfl
  · show win0_4.index t 2 * 1024 + 1 * (0 + 1 * j.val) = j.val
    rw [e]; show 0 * 1024 + 1 * (0 + 1 * j.val) = j.val; omega

theorem dU_block (r : Fin 512) (j : Fin 1024) : (k0_pay4 (F := Ideal) (iblk m c 0 t) (iblk m c 1 t)) (ix2 r j) = dU m c (tokOf t r) j := by
  refine (du_at (iblk m c 0 t) (iblk m c 1 t) r j).trans ?_
  unfold dU
  exact Finset.sum_congr rfl fun k _ => by rw [cot_at, wts_at]

/-! ## The gradient of the input -/

theorem out5_at (r : Fin 512) (j : Fin 1024) : (outsAt0 m c t.val t.isLt).1 (ix2 r j) =
    res m c (ix2 (tokOf t r) j) + dU m c (tokOf t r) j * (1 + modn m c (ix3 (rowAt t) (1 : Fin 8) j)) := by
  have e : (k0_pay5 (F := Ideal) (iblk m c 0 t) (iblk m c 1 t) (iblk m c 2 t) (rowOf (F := Ideal) (iblk m c 4 t) 1 inb_S1x8x1024_S1x1x1024_0_1_0)) (ix2 r j) =
      res m c (ix2 (tokOf t r) j) + dU m c (tokOf t r) j * (1 + modn m c (ix3 (rowAt t) (1 : Fin 8) j)) := by
    refine (dx_at (iblk m c 0 t) (iblk m c 1 t) (iblk m c 2 t) (rowOf (F := Ideal) (iblk m c 4 t) 1 inb_S1x8x1024_S1x1x1024_0_1_0) r j).trans ?_
    rw [res_at, dU_block, modn_at]
  by_cases h : t.val % 4 = 0
  · rw [outsAt0_A m c t h]
    dsimp only
    rw [out_A_5]
    exact e
  · rw [outsAt0_B m c t h]
    dsimp only
    rw [out_B_5]
    exact e

/-- The point that writes row `i`. -/
abbrev pointOf (i : Fin 4096) : Fin cfg0.N := ⟨i.val / 512, lt_of_lt_of_eq (by omega) N_0.symm⟩

theorem result5_at (i : Fin 4096) (j : Fin 1024) : (dats m 0 c).arrAt 5 cfg0.N (ix2 i j) =
    res m c (ix2 i j) + dU m c i j * (1 + modn m c (ix3 (⟨i.val / 2048, by omega⟩ : Fin 2) (1 : Fin 8) j)) := by
  have hr : i.val % 512 < 512 := Nat.mod_lt _ (by decide)
  have ht : tokOf (pointOf i) ⟨i.val % 512, hr⟩ = i := Fin.ext (by show i.val / 512 * 512 + i.val % 512 = i.val; omega)
  have hb : rowAt (pointOf i) = (⟨i.val / 2048, by omega⟩ : Fin 2) := Fin.ext (by show i.val / 512 / 4 = i.val / 2048; omega)
  have b := congrFun (Value.blocks5 m c (pointOf i) (by rw [flush0_5])) (ix2 ⟨i.val % 512, hr⟩ j)
  rw [Value.flushed5] at b
  have e := (index_of (pointOf i)).2.2.2.2.2.1
  refine Eq.trans (at2 ((dats m 0 c).arrAt 5 cfg0.N) (((cfg0.win 5).blk (pointOf i)).view.emb (ix2 ⟨i.val % 512, hr⟩ j)) i j ?_ ?_).symm (b.trans ((out5_at m c (pointOf i) ⟨i.val % 512, hr⟩ j).trans ?_))
  · exact (coord2 e 512 (i.val % 512) 1024 j.val).1.trans (by show i.val / 512 * 512 + i.val % 512 = i.val; omega)
  · exact (coord2 e 512 (i.val % 512) 1024 j.val).2.trans (by omega)
  · rw [ht, hb]

/-! ## The gradient of the modulation -/

/-- What token `s` adds to the gradient of the scale. -/
def term0 (j : Fin 1024) (s : ℕ) : EReal := if h : s < 4096 then dU m c ⟨s, h⟩ j * act m c (ix2 (⟨s, h⟩ : Fin 4096) j) else 0
/-- What token `s` adds to the gradient of the shift. -/
def term1 (j : Fin 1024) (s : ℕ) : EReal := if h : s < 4096 then dU m c ⟨s, h⟩ j else 0

theorem sum0 (j : Fin 1024) : ∑ r : Fin 512, (k0_pay4 (F := Ideal) (iblk m c 0 t) (iblk m c 1 t)) (ix2 r j) * iblk m c 3 t (ix2 r j) = ∑ s ∈ Finset.range 512, term0 m c j (t.val * 512 + s) := by
  rw [← Fin.sum_univ_eq_sum_range (fun s => term0 m c j (t.val * 512 + s)) 512]
  refine Finset.sum_congr rfl fun r _ => ?_
  rw [dU_block, act_at]
  unfold term0
  rw [dif_pos (tokOf t r).isLt]
theorem sum1 (j : Fin 1024) : ∑ r : Fin 512, (k0_pay4 (F := Ideal) (iblk m c 0 t) (iblk m c 1 t)) (ix2 r j) = ∑ s ∈ Finset.range 512, term1 m c j (t.val * 512 + s) := by
  rw [← Fin.sum_univ_eq_sum_range (fun s => term1 m c j (t.val * 512 + s)) 512]
  refine Finset.sum_congr rfl fun r _ => ?_
  rw [dU_block]
  unfold term1
  rw [dif_pos (tokOf t r).isLt]

/-- The modulation's gradient after point `n`: the sums over the tokens of its batch row up to the point's last. -/
def Sums (x : FVec Ideal S1x8x1024 .f32) (n : ℕ) : Prop :=
  ∀ j : Fin 1024, x (ix3 (0 : Fin 1) (0 : Fin 8) j) = ∑ s ∈ Finset.range ((n % 4 + 1) * 512), term0 m c j (n / 4 * 2048 + s)
    ∧ x (ix3 (0 : Fin 1) (1 : Fin 8) j) = ∑ s ∈ Finset.range ((n % 4 + 1) * 512), term1 m c j (n / 4 * 2048 + s)
    ∧ ∀ r : Fin 8, 2 ≤ r.val → x (ix3 (0 : Fin 1) r j) = 0

/-- A row of a block's contents. -/
theorem rowOf_at (x : FVec Ideal S1x8x1024 .f32) (r : Fin 8) (h : ∀ a, (![0, r.val, 0] : Fin 3 → Nat) a + S1x1x1024.size a ≤ S1x8x1024.size a) (j : Fin 1024) :
    rowOf (F := Ideal) x r.val h (ix3 (0 : Fin 1) (0 : Fin 1) j) = x (ix3 (0 : Fin 1) r j) := by
  refine at3 x ((rowRect r.val h).emb (ix3 (0 : Fin 1) (0 : Fin 1) j)) 0 r j rfl ?_ ?_
  · show r.val + 1 * 0 = r.val; omega
  · show 0 + 1 * j.val = j.val; omega

theorem split {f : ℕ → EReal} (n : ℕ) (h : ¬n % 4 = 0) :
    ∑ s ∈ Finset.range (((n - 1) % 4 + 1) * 512), f ((n - 1) / 4 * 2048 + s) + ∑ s ∈ Finset.range 512, f (n * 512 + s) = ∑ s ∈ Finset.range ((n % 4 + 1) * 512), f (n / 4 * 2048 + s) := by
  rw [show ((n - 1) % 4 + 1) * 512 = n % 4 * 512 by omega, show (n - 1) / 4 = n / 4 by omega, show (n % 4 + 1) * 512 = n % 4 * 512 + 512 by omega, Finset.sum_range_add]
  refine congrArg (_ + ·) (Finset.sum_congr rfl fun s _ => congrArg f ?_)
  omega

theorem first {f : ℕ → EReal} (n : ℕ) (h : n % 4 = 0) :
    (0 : EReal) + ∑ s ∈ Finset.range 512, f (n * 512 + s) = ∑ s ∈ Finset.range ((n % 4 + 1) * 512), f (n / 4 * 2048 + s) := by
  rw [zero_add, h, show (0 + 1) * 512 = 512 from rfl]
  refine Finset.sum_congr rfl fun s _ => congrArg f ?_
  omega

theorem sums_at_point : ∀ (n : ℕ) (hn : n < cfg0.N), Sums m c (outsAt0 m c n hn).2 n := by
  intro n
  induction n using Nat.strong_induction_on with
  | _ n ih =>
    intro hn j
    by_cases h : n % 4 = 0
    · rw [outsAt0_A m c ⟨n, hn⟩ h]
      dsimp only
      rw [out_A_6]
      refine ⟨?_, ?_, fun r hr => ?_⟩
      · rw [rows_at0]
        refine (dots_at (iblk m c 0 ⟨n, hn⟩) (iblk m c 1 ⟨n, hn⟩) (iblk m c 3 ⟨n, hn⟩) _ j).trans ?_
        rw [sum0, ← first n h]
        exact congrArg (· + _) (zeros_at _)
      · rw [rows_at1]
        refine (sums_at (iblk m c 0 ⟨n, hn⟩) (iblk m c 1 ⟨n, hn⟩) _ j).trans ?_
        rw [sum1, ← first n h]
        exact congrArg (· + _) (zeros_at _)
      · rw [rows_at _ _ _ _ _ r hr, fresh_at]
        exact zeros_at _
    · have hn' : n - 1 < cfg0.N := by omega
      have I := ih (n - 1) (by omega) hn' j
      rw [outsAt0_B m c ⟨n, hn⟩ h]
      dsimp only
      rw [out_B_6]
      refine ⟨?_, ?_, fun r hr => ?_⟩
      · rw [rows_at0]
        refine (dots_at (iblk m c 0 ⟨n, hn⟩) (iblk m c 1 ⟨n, hn⟩) (iblk m c 3 ⟨n, hn⟩) _ j).trans ?_
        rw [sum0, ← split n h, ← I.1]
        exact congrArg (· + _) (rowOf_at _ 0 inb_S1x8x1024_S1x1x1024_0_0_0 j)
      · rw [rows_at1]
        refine (sums_at (iblk m c 0 ⟨n, hn⟩) (iblk m c 1 ⟨n, hn⟩) _ j).trans ?_
        rw [sum1, ← split n h, ← I.2.1]
        exact congrArg (· + _) (rowOf_at _ 1 inb_S1x8x1024_S1x1x1024_0_1_0 j)
      · rw [rows_at _ _ _ _ _ r hr]
        exact (congrFun (Memref.IsWhole.read_unread _ _) _).trans (I.2.2 r hr)

/-- The last point of batch row `b`. -/
abbrev lastOf (b : Fin 2) : Fin cfg0.N := ⟨b.val * 4 + 3, lt_of_lt_of_eq (by omega) N_0.symm⟩

/-- The points that write the modulation's gradient write different blocks of it. -/
theorem disjoint6 : ∀ t t' : Fin cfg0.N, (cfg0.win 6).flush t = true → (cfg0.win 6).flush t' = true → t ≠ t' →
    Disjoint ((cfg0.win 6).blk t).view.set ((cfg0.win 6).blk t').view.set := by
  intro t t' h h' hne
  refine (cfg0.win 6).disjoint_blk fun e => hne (Fin.ext ?_)
  have e0 := congrFun (((index_of t).2.2.2.2.2.2.symm.trans e).trans (index_of t').2.2.2.2.2.2) 0
  have e1 : t.val / 4 = t'.val / 4 := e0
  have := (flush0_6 t).mp h
  have := (flush0_6 t').mp h'
  omega

theorem result6_at (b : Fin 2) (r : Fin 8) (j : Fin 1024) : (dats m 0 c).arrAt 6 cfg0.N (ix3 b r j) = (outsAt0 m c (lastOf b).val (lastOf b).isLt).2 (ix3 (0 : Fin 1) r j) := by
  have hf : (cfg0.win 6).flush (lastOf b) = true := (flush0_6 (lastOf b)).mpr (by show (b.val * 4 + 3) % 4 = 3; omega)
  have e := congrFun ((dats m 0 c).read_blk_arrAt_eq_flushed 6 disjoint6 cfg0.N (lastOf b) (lastOf b).isLt hf) (ix3 (0 : Fin 1) r j)
  rw [Value.flushed6] at e
  have i := (index_of (lastOf b)).2.2.2.2.2.2
  refine Eq.trans (at3 ((dats m 0 c).arrAt 6 cfg0.N) (((cfg0.win 6).blk (lastOf b)).view.emb (ix3 (0 : Fin 1) r j)) b r j ?_ ?_ ?_).symm e
  · show win0_6.index (lastOf b) 0 * 1 + 1 * 0 = b.val
    rw [i]; show (b.val * 4 + 3) / 4 * 1 + 1 * 0 = b.val; omega
  · show win0_6.index (lastOf b) 1 * 8 + 1 * r.val = r.val
    rw [i]; show 0 * 8 + 1 * r.val = r.val; omega
  · show win0_6.index (lastOf b) 2 * 1024 + 1 * j.val = j.val
    rw [i]; show 0 * 1024 + 1 * j.val = j.val; omega

/-- A batch row's sum, over its tokens. -/
theorem row_sum {f : ℕ → EReal} {g : Fin 2048 → EReal} (b : Fin 2) (h : ∀ s : Fin 2048, f (b.val * 2048 + s.val) = g s) :
    ∑ s ∈ Finset.range (((lastOf b).val % 4 + 1) * 512), f ((lastOf b).val / 4 * 2048 + s) = ∑ s : Fin 2048, g s := by
  have e0 : (lastOf b).val % 4 = 3 := by show (b.val * 4 + 3) % 4 = 3; omega
  have e1 : (lastOf b).val / 4 = b.val := by show (b.val * 4 + 3) / 4 = b.val; omega
  rw [e0, e1, show (3 + 1) * 512 = 2048 from rfl, ← Fin.sum_univ_eq_sum_range (fun s => f (b.val * 2048 + s)) 2048]
  exact Finset.sum_congr rfl fun s _ => h s

end Cert.Kernel2Ideal.GradX

namespace Cert.GradXClaims

open Idealize.ShloMosaic Idealize.ShloMosaic.TcCoe Idealize.SL.Sem Cert.Kernel2Ideal.GradX
open scoped BigOperators

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem preserves : Cert.preserves_Kernel2_Kernel2Ideal := trivial

variable (m : (ℓ : Loc Cert.Kernel2Ideal.nD Cert.Kernel2Ideal.τ Cert.Kernel2Ideal.sig) → Buf (Elt Ideal) ℓ) (c : Dev Cert.Kernel2Ideal.nD)

theorem du_is (b : Fin 2) (s : Fin 2048) (j : Fin 1024) :
    Cert.Reference2Ideal.GradX.du (cot m c) (wts m c) (ix3 b s j) = dU m c (Cert.Reference2Ideal.GradX.tok b s) j :=
  Cert.Reference2Ideal.GradX.du_at (cot m c) (wts m c) b s j

theorem dx_is : Cert.Reference2Ideal.GradX.dx (cot m c) (wts m c) (res m c) (modn m c) = (Cert.Kernel2Ideal.Gen.dats m 0 c).arrAt 5 Cert.Kernel2Ideal.cfg0.N := by
  funext i
  obtain ⟨a, j, rfl⟩ : ∃ (a : Fin 4096) (j : Fin 1024), i = ix2 a j := ⟨i 0, i 1, eq_ix2 i⟩
  refine (Cert.Reference2Ideal.GradX.dx_at (cot m c) (wts m c) (res m c) (modn m c) a j).trans (Eq.trans ?_ (result5_at m c a j).symm)
  rw [du_is, show Cert.Reference2Ideal.GradX.tok (⟨a.val / 2048, by omega⟩ : Fin 2) (⟨a.val % 2048, by omega⟩ : Fin 2048) = a from
    Fin.ext (by show a.val / 2048 * 2048 + a.val % 2048 = a.val; omega)]

theorem dg_is : Cert.Reference2Ideal.GradX.dg (cot m c) (wts m c) (act m c) = (Cert.Kernel2Ideal.Gen.dats m 0 c).arrAt 6 Cert.Kernel2Ideal.cfg0.N := by
  funext i
  obtain ⟨b, r, j, rfl⟩ : ∃ (b : Fin 2) (r : Fin 8) (j : Fin 1024), i = ix3 b r j := ⟨i 0, i 1, i 2, eq_ix3 i⟩
  refine Eq.trans ?_ (result6_at m c b r j).symm
  have S := sums_at_point m c (lastOf b).val (lastOf b).isLt j
  obtain rfl | rfl | h : r = 0 ∨ r = 1 ∨ 2 ≤ r.val := by
    revert r; decide
  · refine (Cert.Reference2Ideal.GradX.dg_at0 (cot m c) (wts m c) (act m c) b j).trans (Eq.trans ?_ S.1.symm)
    refine (row_sum b fun s => ?_).symm
    rw [du_is]
    unfold term0
    rw [dif_pos (Cert.Reference2Ideal.GradX.tok b s).isLt, mul_comm]
  · refine (Cert.Reference2Ideal.GradX.dg_at1 (cot m c) (wts m c) (act m c) b j).trans (Eq.trans ?_ S.2.1.symm)
    refine (row_sum b fun s => ?_).symm
    rw [du_is]
    unfold term1
    rw [dif_pos (Cert.Reference2Ideal.GradX.tok b s).isLt]
  · exact (Cert.Reference2Ideal.GradX.dg_at (cot m c) (wts m c) (act m c) b r h j).trans (S.2.2 r h).symm

/-- The kernel and the reference end with the same gradient of the input and the same gradient of the modulation. -/
theorem algebraic : Cert.algebraic_Kernel2Ideal_Reference2Ideal := by
  intro m g m' g' _ hagree
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    Cert.Kernel2Ideal.Value.run_blocks (F := Ideal) m g,
    (θ_run Cert.Reference2Ideal.defs _ _).mono (fun r h (c : Dev Cert.Kernel2Ideal.nD) => ?_) (Cert.Reference2Ideal.GradX.run' m' g')⟩
  obtain ⟨h0, h1, h2, h3, h4⟩ := hagree c
  obtain ⟨r0, r1, hk⟩ := h c
  refine ⟨r0.trans ?_, r1.trans ?_, hk⟩
  · rw [h0, h1, h2, h4]
    exact dx_is m c
  · rw [h0, h1, h3]
    exact dg_is m c

end Cert.GradXClaims
end
-- ==== Proof.Gates.lean ====
/-
  The gradient behind the merge of the two branches: each grid point multiplies a block of the output's gradient with a
  block of the merge's weights and takes the product through the two gates; the reference differentiates the merge.
-/
module

public import proofs.«01_k».proof.Defs
public import proofs.«01_k».proof.Proof.Blocks
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.Value
public import Idealize.ShloMosaic.Lib.Tactic
public import Idealize.ShloMosaic.Lib.Pointwise

@[expose] public section

set_option maxRecDepth 16384

noncomputable section

namespace Cert.Kernel3Ideal.Gates

open Idealize.ShloMosaic Idealize.ShloMosaic.TcCoe Idealize.SL.Sem Cert.Kernel3Ideal Cert.Kernel3Ideal.Gen Cert.Blocks
open scoped BigOperators

/-! ## One grid point -/

section Run

variable {F : FTy → Type} [FloatOps F]
variable (c : Dev nD) (i : grid0.Coords) (a3 : Memref sig .tc .vmem S1024x1024 .bf16) (h3 : a3.IsWhole) (a4 : Memref sig .tc .vmem S512x1024 .bf16) (h4 : a4.IsWhole) (a5 : Memref sig .tc .vmem S1024x512 .bf16) (h5 : a5.IsWhole) (a6 : Memref sig .tc .vmem S1024x512 .bf16) (h6 : a6.IsWhole) (a7 : Memref sig .tc .vmem S1024x512 .bf16) (h7 : a7.IsWhole) (a8 : Memref sig .tc .vmem S1024x512 .bf16) (h8 : a8.IsWhole) (a9 : Memref sig .tc .vmem S1024x512 .bf16) (h9 : a9.IsWhole) (a10 : Memref sig .tc .vmem S1024x512 .bf16) (h10 : a10.IsWhole) (a11 : Memref sig .tc .vmem S1024x512 .bf16) (h11 : a11.IsWhole) (a12 : Memref sig .tc .vmem S1024x512 .bf16) (h12 : a12.IsWhole) (a13 : Memref sig .tc .vmem S8x128 .f32) (h13 : a13.IsWhole)
  (x : Vec F S1024x1024 .bf16) (y : Vec F S512x1024 .bf16) (ga gb ya yb : Vec F S1024x512 .bf16)

/-- What a grid point stores as the gradient of the first branch. -/
theorem out_6 : out0_A_6 c i a3 h3 a4 h4 a5 h5 a6 h6 a7 h7 a8 h8 a9 h9 a10 h10 a11 h11 a12 h12 a13 h13 x y ga gb ya yb = k0_pay6 x y ga := by
  unfold out0_A_6
  rw [View.read_writes_eq_canon _ _ _ (cover0_A_6 c i a3 h3 a4 h4 a5 h5 a6 h6 a7 h7 a8 h8 a9 h9 a10 h10 a11 h11 a12 h12 a13 h13 x y ga gb ya yb)]
  unfold kernelRun0_A
  dsimp only
  rw [View.canon_unit_zero hz2]
  simp only [View.readAt_eq_ld, h3.read_unread, h4.read_unread, h5.read_unread, h6.read_unread, h7.read_unread, h8.read_unread, View.ld_unit_zero (S := S1024x1024) hz2,
    View.ld_unit_zero (S := S512x1024) hz2, View.ld_unit_zero (S := S1024x512) hz2]

/-- What a grid point stores as the gradient of the second branch. -/
theorem out_7 : out0_A_7 c i a3 h3 a4 h4 a5 h5 a6 h6 a7 h7 a8 h8 a9 h9 a10 h10 a11 h11 a12 h12 a13 h13 x y ga gb ya yb = k0_pay7 x y gb := by
  unfold out0_A_7
  rw [View.read_writes_eq_canon _ _ _ (cover0_A_7 c i a3 h3 a4 h4 a5 h5 a6 h6 a7 h7 a8 h8 a9 h9 a10 h10 a11 h11 a12 h12 a13 h13 x y ga gb ya yb)]
  unfold kernelRun0_A
  dsimp only
  rw [View.canon_unit_zero hz2]
  simp only [View.readAt_eq_ld, h3.read_unread, h4.read_unread, h5.read_unread, h6.read_unread, h7.read_unread, h8.read_unread, View.ld_unit_zero (S := S1024x1024) hz2,
    View.ld_unit_zero (S := S512x1024) hz2, View.ld_unit_zero (S := S1024x512) hz2]

/-- What a grid point stores as the gradient of the first gate's input. -/
theorem out_8 : out0_A_8 c i a3 h3 a4 h4 a5 h5 a6 h6 a7 h7 a8 h8 a9 h9 a10 h10 a11 h11 a12 h12 a13 h13 x y ga gb ya yb = k0_pay1 (k0_pay8 x y ga ya) (k0_pay9 ga) := by
  unfold out0_A_8
  rw [View.read_writes_eq_canon _ _ _ (cover0_A_8 c i a3 h3 a4 h4 a5 h5 a6 h6 a7 h7 a8 h8 a9 h9 a10 h10 a11 h11 a12 h12 a13 h13 x y ga gb ya yb)]
  unfold kernelRun0_A
  dsimp only
  rw [View.canon_unit_zero hz2]
  unfold kernelRun0_A.sl.r_2 kernelRun0_A.sl.r_3
  simp only [View.readAt_eq_ld, h3.read_unread, h4.read_unread, h5.read_unread, h6.read_unread, h7.read_unread, h8.read_unread, View.ld_unit_zero (S := S1024x1024) hz2,
    View.ld_unit_zero (S := S512x1024) hz2, View.ld_unit_zero (S := S1024x512) hz2]

/-- What a grid point stores as the gradient of the second gate's input. -/
theorem out_9 : out0_A_9 c i a3 h3 a4 h4 a5 h5 a6 h6 a7 h7 a8 h8 a9 h9 a10 h10 a11 h11 a12 h12 a13 h13 x y ga gb ya yb = k0_pay2 (k0_pay3 x y) (k0_pay5 gb) yb := by
  unfold out0_A_9
  rw [View.read_writes_eq_canon _ _ _ (cover0_A_9 c i a3 h3 a4 h4 a5 h5 a6 h6 a7 h7 a8 h8 a9 h9 a10 h10 a11 h11 a12 h12 a13 h13 x y ga gb ya yb)]
  unfold kernelRun0_A
  dsimp only
  rw [View.canon_unit_zero hz2]
  unfold kernelRun0_A.sl.r kernelRun0_A.sl.r_1
  simp only [View.readAt_eq_ld, h3.read_unread, h4.read_unread, h5.read_unread, h6.read_unread, h7.read_unread, h8.read_unread, View.ld_unit_zero (S := S1024x1024) hz2,
    View.ld_unit_zero (S := S512x1024) hz2, View.ld_unit_zero (S := S1024x512) hz2]

end Run

/-- The gate. -/
def sigmoid (x : EReal) : EReal := Ideal.div 1 (1 + Ideal.exp (-x))

section Payloads

variable (x : FVec Ideal S1024x1024 .bf16) (y : FVec Ideal S512x1024 .bf16) (ga gb ya yb : FVec Ideal S1024x512 .bf16) (r : Fin 1024) (j : Fin 512)

theorem prod_at : (k0_pay3 (F := Ideal) x y) (ix2 r j) = ∑ k : Fin 1024, x (ix2 r k) * y (ix2 j k) := by
  pointwise [k0_pay3]
theorem gate_at : (k0_pay4 (F := Ideal) ga) (ix2 r j) = sigmoid (ga (ix2 r j)) := by
  pointwise [k0_pay4]
  rw [zero_sub]
  rfl
theorem gate_at' : (k0_pay5 (F := Ideal) gb) (ix2 r j) = sigmoid (gb (ix2 r j)) := by
  pointwise [k0_pay5]
  rw [zero_sub]
  rfl
theorem pay6_at : (k0_pay6 (F := Ideal) x y ga) (ix2 r j) = (k0_pay3 (F := Ideal) x y) (ix2 r j) * sigmoid (ga (ix2 r j)) := by
  rw [← gate_at]
  pointwise [k0_pay6]
theorem pay7_at : (k0_pay7 (F := Ideal) x y gb) (ix2 r j) = (k0_pay3 (F := Ideal) x y) (ix2 r j) * sigmoid (gb (ix2 r j)) := by
  rw [← gate_at']
  pointwise [k0_pay7]
theorem pay8_at : (k0_pay1 (F := Ideal) (k0_pay8 x y ga ya) (k0_pay9 ga)) (ix2 r j) =
    (k0_pay3 (F := Ideal) x y) (ix2 r j) * ya (ix2 r j) * sigmoid (ga (ix2 r j)) * (1 - sigmoid (ga (ix2 r j))) := by
  rw [← gate_at]
  pointwise [k0_pay1, k0_pay8, k0_pay9]
theorem pay9_at : (k0_pay2 (F := Ideal) (k0_pay3 x y) (k0_pay5 gb) yb) (ix2 r j) =
    (k0_pay3 (F := Ideal) x y) (ix2 r j) * yb (ix2 r j) * sigmoid (gb (ix2 r j)) * (1 - sigmoid (gb (ix2 r j))) := by
  rw [← gate_at']
  pointwise [k0_pay2]

end Payloads

/-! ## The results, index by index -/

section Result

variable (m : (r : Loc nD τ sig) → Buf (Elt Ideal) r) (c : Dev nD)

/-- The gradient of the product's output. -/
abbrev dy : FVec Ideal S4096x1024 .bf16 := m ((c : Thread nD τ).loc main_arg0)
/-- The product's weights. -/
abbrev wts : FVec Ideal S1024x1024 .bf16 := m ((c : Thread nD τ).loc main_arg1)
/-- The inputs of the two gates, side by side. -/
abbrev gates : FVec Ideal S4096x2048 .bf16 := m ((c : Thread nD τ).loc main_arg2)
/-- The first branch. -/
abbrev ya : FVec Ideal S4096x1024 .bf16 := m ((c : Thread nD τ).loc main_arg3)
/-- The second branch. -/
abbrev yb : FVec Ideal S4096x1024 .bf16 := m ((c : Thread nD τ).loc main_arg4)
/-- The gradient of the merged branches. -/
def dm (i : Fin 4096) (j : Fin 1024) : EReal := ∑ k : Fin 1024, dy m c (ix2 i k) * wts m c (ix2 j k)
/-- The first gate's input. -/
def ga (i : Fin 4096) (j : Fin 1024) : EReal := gates m c (ix2 i (⟨j.val, by omega⟩ : Fin 2048))
/-- The second gate's input. -/
def gb (i : Fin 4096) (j : Fin 1024) : EReal := gates m c (ix2 i (⟨1024 + j.val, by omega⟩ : Fin 2048))

theorem index_in : ∀ t : Fin cfg0.N, win0_0.index t = ![t.val / 2, 0] ∧ win0_1.index t = ![t.val % 2, 0] ∧ win0_2.index t = ![t.val / 2, t.val % 2]
    ∧ win0_3.index t = ![t.val / 2, t.val % 2 + 2] := (by decide +kernel : ∀ t : Fin grid0.N, _)
theorem index_tile : ∀ t : Fin cfg0.N, win0_4.index t = ![t.val / 2, t.val % 2] ∧ win0_5.index t = ![t.val / 2, t.val % 2] ∧ win0_6.index t = ![t.val / 2, t.val % 2]
    ∧ win0_7.index t = ![t.val / 2, t.val % 2] ∧ win0_8.index t = ![t.val / 2, t.val % 2] ∧ win0_9.index t = ![t.val / 2, t.val % 2] := (by decide +kernel : ∀ t : Fin grid0.N, _)

theorem lt8 (t : Fin cfg0.N) : t.val < 8 := lt_of_lt_of_eq t.isLt N_0

/-- The row of the array at row `r` of the tile of point `t`. -/
abbrev row (t : Fin cfg0.N) (r : Fin 1024) : Fin 4096 := ⟨t.val / 2 * 1024 + r.val, by have := lt8 t; omega⟩
/-- The column of the array at column `j` of the tile of point `t`. -/
abbrev col (t : Fin cfg0.N) (j : Fin 512) : Fin 1024 := ⟨t.val % 2 * 512 + j.val, by omega⟩

/-- What holds at every index of every tile holds at every index. -/
theorem tiled (f : FVec Ideal S4096x1024 .bf16) (G : Fin 4096 → Fin 1024 → EReal) (h : ∀ (t : Fin cfg0.N) (r : Fin 1024) (j : Fin 512), f (ix2 (row t r) (col t j)) = G (row t r) (col t j))
    (i : Fin 4096) (j : Fin 1024) : f (ix2 i j) = G i j := by
  have e := h ⟨i.val / 1024 * 2 + j.val / 512, lt_of_lt_of_eq (by omega) N_0.symm⟩ ⟨i.val % 1024, Nat.mod_lt _ (by decide)⟩ ⟨j.val % 512, Nat.mod_lt _ (by decide)⟩
  have hi : row ⟨i.val / 1024 * 2 + j.val / 512, lt_of_lt_of_eq (by omega) N_0.symm⟩ ⟨i.val % 1024, Nat.mod_lt _ (by decide)⟩ = i :=
    Fin.ext (by show (i.val / 1024 * 2 + j.val / 512) / 2 * 1024 + i.val % 1024 = i.val; omega)
  have hj : col ⟨i.val / 1024 * 2 + j.val / 512, lt_of_lt_of_eq (by omega) N_0.symm⟩ ⟨j.val % 512, Nat.mod_lt _ (by decide)⟩ = j :=
    Fin.ext (by show (i.val / 1024 * 2 + j.val / 512) % 2 * 512 + j.val % 512 = j.val; omega)
  rwa [hi, hj] at e

variable (t : Fin cfg0.N)

theorem dy_at (r k : Fin 1024) : iblk m c 0 t (ix2 r k) = dy m c (ix2 (row t r) k) :=
  at2 (dy m c) (((cfg0.win 0).blk t).view.emb (ix2 r k)) (row t r) k (coord2 (index_in t).1 1024 r.val 1024 k.val).1 ((coord2 (index_in t).1 1024 r.val 1024 k.val).2.trans (by omega))
theorem wts_at (j : Fin 512) (k : Fin 1024) : iblk m c 1 t (ix2 j k) = wts m c (ix2 (col t j) k) :=
  at2 (wts m c) (((cfg0.win 1).blk t).view.emb (ix2 j k)) (col t j) k (coord2 (index_in t).2.1 512 j.val 1024 k.val).1 ((coord2 (index_in t).2.1 512 j.val 1024 k.val).2.trans (by omega))
theorem ga_at (r : Fin 1024) (j : Fin 512) : iblk m c 2 t (ix2 r j) = ga m c (row t r) (col t j) :=
  at2 (gates m c) (((cfg0.win 2).blk t).view.emb (ix2 r j)) (row t r) ⟨(col t j).val, by omega⟩ (coord2 (index_in t).2.2.1 1024 r.val 512 j.val).1 (coord2 (index_in t).2.2.1 1024 r.val 512 j.val).2
theorem gb_at (r : Fin 1024) (j : Fin 512) : iblk m c 3 t (ix2 r j) = gb m c (row t r) (col t j) :=
  at2 (gates m c) (((cfg0.win 3).blk t).view.emb (ix2 r j)) (row t r) ⟨1024 + (col t j).val, by omega⟩ (coord2 (index_in t).2.2.2 1024 r.val 512 j.val).1
    ((coord2 (index_in t).2.2.2 1024 r.val 512 j.val).2.trans (by show (t.val % 2 + 2) * 512 + j.val = 1024 + (t.val % 2 * 512 + j.val); omega))
theorem ya_at (r : Fin 1024) (j : Fin 512) : iblk m c 4 t (ix2 r j) = ya m c (ix2 (row t r) (col t j)) :=
  at2 (ya m c) (((cfg0.win 4).blk t).view.emb (ix2 r j)) (row t r) (col t j) (coord2 (index_tile t).1 1024 r.val 512 j.val).1 (coord2 (index_tile t).1 1024 r.val 512 j.val).2
theorem yb_at (r : Fin 1024) (j : Fin 512) : iblk m c 5 t (ix2 r j) = yb m c (ix2 (row t r) (col t j)) :=
  at2 (yb m c) (((cfg0.win 5).blk t).view.emb (ix2 r j)) (row t r) (col t j) (coord2 (index_tile t).2.1 1024 r.val 512 j.val).1 (coord2 (index_tile t).2.1 1024 r.val 512 j.val).2
theorem dm_at (r : Fin 1024) (j : Fin 512) : (k0_pay3 (F := Ideal) (iblk m c 0 t) (iblk m c 1 t)) (ix2 r j) = dm m c (row t r) (col t j) := by
  refine (prod_at (iblk m c 0 t) (iblk m c 1 t) r j).trans ?_
  unfold dm
  exact Finset.sum_congr rfl fun k _ => by rw [dy_at, wts_at]

theorem point_6 (r : Fin 1024) (j : Fin 512) : (k0_pay6 (F := Ideal) (iblk m c 0 t) (iblk m c 1 t) (iblk m c 2 t)) (ix2 r j) = dm m c (row t r) (col t j) * sigmoid (ga m c (row t r) (col t j)) := by
  refine (pay6_at (iblk m c 0 t) (iblk m c 1 t) (iblk m c 2 t) r j).trans ?_
  rw [dm_at, ga_at]

theorem point_7 (r : Fin 1024) (j : Fin 512) : (k0_pay7 (F := Ideal) (iblk m c 0 t) (iblk m c 1 t) (iblk m c 3 t)) (ix2 r j) = dm m c (row t r) (col t j) * sigmoid (gb m c (row t r) (col t j)) := by
  refine (pay7_at (iblk m c 0 t) (iblk m c 1 t) (iblk m c 3 t) r j).trans ?_
  rw [dm_at, gb_at]

theorem point_8 (r : Fin 1024) (j : Fin 512) : (k0_pay1 (F := Ideal) (k0_pay8 (iblk m c 0 t) (iblk m c 1 t) (iblk m c 2 t) (iblk m c 4 t)) (k0_pay9 (iblk m c 2 t))) (ix2 r j) = dm m c (row t r) (col t j) * ya m c (ix2 (row t r) (col t j)) * sigmoid (ga m c (row t r) (col t j)) * (1 - sigmoid (ga m c (row t r) (col t j))) := by
  refine (pay8_at (iblk m c 0 t) (iblk m c 1 t) (iblk m c 2 t) (iblk m c 4 t) r j).trans ?_
  rw [dm_at, ga_at, ya_at]

theorem point_9 (r : Fin 1024) (j : Fin 512) : (k0_pay2 (F := Ideal) (k0_pay3 (iblk m c 0 t) (iblk m c 1 t)) (k0_pay5 (iblk m c 3 t)) (iblk m c 5 t)) (ix2 r j) = dm m c (row t r) (col t j) * yb m c (ix2 (row t r) (col t j)) * sigmoid (gb m c (row t r) (col t j)) * (1 - sigmoid (gb m c (row t r) (col t j))) := by
  refine (pay9_at (iblk m c 0 t) (iblk m c 1 t) (iblk m c 3 t) (iblk m c 5 t) r j).trans ?_
  rw [dm_at, gb_at, yb_at]

/-- The gradient of the first branch, in the kernel's result. -/
theorem result_6 (i : Fin 4096) (j : Fin 1024) : (dats m 0 c).arrAt 6 cfg0.N (ix2 i j) = dm m c i j * sigmoid (ga m c i j) := by
  refine tiled ((dats m 0 c).arrAt 6 cfg0.N) (fun i j => dm m c i j * sigmoid (ga m c i j)) (fun t r j => ?_) i j
  have b := congrFun (Value.blocks6 m c t (by rw [flush0_6])) (ix2 r j)
  rw [Value.flushed6_A, out_6] at b
  have e := coord2 (index_tile t).2.2.1 1024 r.val 512 j.val
  refine (at2 ((dats m 0 c).arrAt 6 cfg0.N) (((cfg0.win 6).blk t).view.emb (ix2 r j)) (row t r) (col t j) e.1 e.2).symm.trans (b.trans ?_)
  exact point_6 m c t r j

/-- The gradient of the second branch, in the kernel's result. -/
theorem result_7 (i : Fin 4096) (j : Fin 1024) : (dats m 0 c).arrAt 7 cfg0.N (ix2 i j) = dm m c i j * sigmoid (gb m c i j) := by
  refine tiled ((dats m 0 c).arrAt 7 cfg0.N) (fun i j => dm m c i j * sigmoid (gb m c i j)) (fun t r j => ?_) i j
  have b := congrFun (Value.blocks7 m c t (by rw [flush0_7])) (ix2 r j)
  rw [Value.flushed7_A, out_7] at b
  have e := coord2 (index_tile t).2.2.2.1 1024 r.val 512 j.val
  refine (at2 ((dats m 0 c).arrAt 7 cfg0.N) (((cfg0.win 7).blk t).view.emb (ix2 r j)) (row t r) (col t j) e.1 e.2).symm.trans (b.trans ?_)
  exact point_7 m c t r j

/-- The gradient of the first gate's input, in the kernel's result. -/
theorem result_8 (i : Fin 4096) (j : Fin 1024) : (dats m 0 c).arrAt 8 cfg0.N (ix2 i j) = dm m c i j * ya m c (ix2 i j) * sigmoid (ga m c i j) * (1 - sigmoid (ga m c i j)) := by
  refine tiled ((dats m 0 c).arrAt 8 cfg0.N) (fun i j => dm m c i j * ya m c (ix2 i j) * sigmoid (ga m c i j) * (1 - sigmoid (ga m c i j))) (fun t r j => ?_) i j
  have b := congrFun (Value.blocks8 m c t (by rw [flush0_8])) (ix2 r j)
  rw [Value.flushed8_A, out_8] at b
  have e := coord2 (index_tile t).2.2.2.2.1 1024 r.val 512 j.val
  refine (at2 ((dats m 0 c).arrAt 8 cfg0.N) (((cfg0.win 8).blk t).view.emb (ix2 r j)) (row t r) (col t j) e.1 e.2).symm.trans (b.trans ?_)
  exact point_8 m c t r j

/-- The gradient of the second gate's input, in the kernel's result. -/
theorem result_9 (i : Fin 4096) (j : Fin 1024) : (dats m 0 c).arrAt 9 cfg0.N (ix2 i j) = dm m c i j * yb m c (ix2 i j) * sigmoid (gb m c i j) * (1 - sigmoid (gb m c i j)) := by
  refine tiled ((dats m 0 c).arrAt 9 cfg0.N) (fun i j => dm m c i j * yb m c (ix2 i j) * sigmoid (gb m c i j) * (1 - sigmoid (gb m c i j))) (fun t r j => ?_) i j
  have b := congrFun (Value.blocks9 m c t (by rw [flush0_9])) (ix2 r j)
  rw [Value.flushed9_A, out_9] at b
  have e := coord2 (index_tile t).2.2.2.2.2 1024 r.val 512 j.val
  refine (at2 ((dats m 0 c).arrAt 9 cfg0.N) (((cfg0.win 9).blk t).view.emb (ix2 r j)) (row t r) (col t j) e.1 e.2).symm.trans (b.trans ?_)
  exact point_9 m c t r j

end Result

end Cert.Kernel3Ideal.Gates

namespace Cert.Reference3Ideal.Gates

open Idealize.ShloMosaic Idealize.ShloMosaic.TcCoe Idealize.SL.Sem Cert.Reference3Ideal Cert.Reference3Ideal.Gen Cert.Kernel3Ideal.Gates
open scoped BigOperators

variable (dy : FVec Ideal S4096x1024 .bf16) (w : FVec Ideal S1024x1024 .bf16) (g : FVec Ideal S4096x2048 .bf16) (y : FVec Ideal S4096x1024 .bf16)

/-- The reference's first gate. -/
def gateA : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 g bitsLt_bf16_f32) slices_S4096x2048_S4096x1024_0_0))))
/-- The reference's second gate. -/
def gateB : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 g bitsLt_bf16_f32) slices_S4096x2048_S4096x1024_0_1024))))
/-- The reference's gradient of the merged branches. -/
def prod : FVec Ideal S4096x1024 .f32 :=
  Host.dotGeneral dot_S4096x1024_S1024x1024_S4096x1024_1_1_0_0_n_n none (extf .f32 dy bitsLt_bf16_f32) (extf .f32 w bitsLt_bf16_f32)
/-- The gradient of a branch behind the gate `s`. -/
def dbranch (s p : FVec Ideal S4096x1024 .f32) : FVec Ideal S4096x1024 .bf16 := truncf .bf16 (mulf s p) bitsLt_bf16_f32
/-- The gradient of a gate's input. -/
def dgate (s p : FVec Ideal S4096x1024 .f32) : FVec Ideal S4096x1024 .bf16 :=
  truncf .bf16 (mulf (mulf p (extf .f32 y bitsLt_bf16_f32)) (mulf s (subf (broadcastInDim S4096x1024 ![] bcast_S_S4096x1024 (constant S_ .f32 0x3F800000#32)) s))) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = dbranch (gateA (m ((c.tc : Thread nD τ).loc main_arg2))) (prod (m ((c.tc : Thread nD τ).loc main_arg0)) (m ((c.tc : Thread nD τ).loc main_arg1)))
      ∧ r.2.mem ((c.tc : Thread nD τ).loc main_v37) = dbranch (gateB (m ((c.tc : Thread nD τ).loc main_arg2))) (prod (m ((c.tc : Thread nD τ).loc main_arg0)) (m ((c.tc : Thread nD τ).loc main_arg1)))
      ∧ r.2.mem ((c.tc : Thread nD τ).loc main_v38) = dgate (m ((c.tc : Thread nD τ).loc main_arg3)) (gateA (m ((c.tc : Thread nD τ).loc main_arg2))) (prod (m ((c.tc : Thread nD τ).loc main_arg0)) (m ((c.tc : Thread nD τ).loc main_arg1)))
      ∧ r.2.mem ((c.tc : Thread nD τ).loc main_v39) = dgate (m ((c.tc : Thread nD τ).loc main_arg4)) (gateB (m ((c.tc : Thread nD τ).loc main_arg2))) (prod (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

theorem gateA_at (i : Fin 4096) (j : Fin 1024) : gateA g (ix2 i j) = sigmoid (g (ix2 i (⟨j.val, by omega⟩ : Fin 2048))) := by
  unfold sigmoid
  pointwise [gateA]
theorem gateB_at (i : Fin 4096) (j : Fin 1024) : gateB g (ix2 i j) = sigmoid (g (ix2 i (⟨1024 + j.val, by omega⟩ : Fin 2048))) := by
  unfold sigmoid
  pointwise [gateB]
theorem prod_at (i : Fin 4096) (j : Fin 1024) : prod dy w (ix2 i j) = ∑ k : Fin 1024, dy (ix2 i k) * w (ix2 j k) := by
  pointwise [prod]
theorem dbranch_at (s p : FVec Ideal S4096x1024 .f32) (i : Fin 4096) (j : Fin 1024) : dbranch s p (ix2 i j) = s (ix2 i j) * p (ix2 i j) := by
  pointwise [dbranch]
theorem dgate_at (s p : FVec Ideal S4096x1024 .f32) (i : Fin 4096) (j : Fin 1024) : dgate y s p (ix2 i j) = p (ix2 i j) * y (ix2 i j) * (s (ix2 i j) * (1 - s (ix2 i j))) := by
  pointwise [dgate]

end Cert.Reference3Ideal.Gates

namespace Cert.GatesClaims

open Idealize.ShloMosaic Idealize.ShloMosaic.TcCoe Idealize.SL.Sem Cert.Kernel3Ideal.Gates
open scoped BigOperators

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)
theorem preserves : Cert.preserves_Kernel3_Kernel3Ideal := trivial

/-- Two tables with the same elements are the same. -/
theorem table_ext {f g : FVec Ideal ⟨2, ![4096, 1024]⟩ .bf16} (h : ∀ (i : Fin 4096) (j : Fin 1024), f (ix2 i j) = g (ix2 i j)) : f = g := by
  funext i
  obtain ⟨a, b, rfl⟩ : ∃ (a : Fin 4096) (b : Fin 1024), i = ix2 a b := ⟨i 0, i 1, eq_ix2 i⟩
  exact h a b

/-- The kernel and the reference end with the same four gradients: of the two branches and of the two gates' inputs. -/
theorem algebraic : Cert.algebraic_Kernel3Ideal_Reference3Ideal := by
  intro m g m' g' _ hagree
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    fun c => (Cert.Kernel3Ideal.Gen.dats m 0 c).arrAt 8 Cert.Kernel3Ideal.cfg0.N, fun c => (Cert.Kernel3Ideal.Gen.dats m 0 c).arrAt 9 Cert.Kernel3Ideal.cfg0.N,
    Cert.Kernel3Ideal.Value.run_blocks (F := Ideal) m g,
    (θ_run Cert.Reference3Ideal.defs _ _).mono (fun r h (c : Dev Cert.Kernel3Ideal.nD) => ?_) (Cert.Reference3Ideal.Gates.run' m' g')⟩
  obtain ⟨h0, h1, h2, h3, h4⟩ := hagree c
  obtain ⟨r0, r1, r2, r3, hk⟩ := h c
  refine ⟨r0.trans ?_, r1.trans ?_, r2.trans ?_, r3.trans ?_, hk⟩
  · rw [h0, h1, h2]
    refine table_ext fun i j => (Cert.Reference3Ideal.Gates.dbranch_at _ _ i j).trans (Eq.trans ?_ (result_6 m c i j).symm)
    rw [Cert.Reference3Ideal.Gates.gateA_at, Cert.Reference3Ideal.Gates.prod_at, mul_comm]
    rfl
  · rw [h0, h1, h2]
    refine table_ext fun i j => (Cert.Reference3Ideal.Gates.dbranch_at _ _ i j).trans (Eq.trans ?_ (result_7 m c i j).symm)
    rw [Cert.Reference3Ideal.Gates.gateB_at, Cert.Reference3Ideal.Gates.prod_at, mul_comm]
    rfl
  · rw [h0, h1, h2, h3]
    refine table_ext fun i j => (Cert.Reference3Ideal.Gates.dgate_at _ _ _ i j).trans (Eq.trans ?_ (result_8 m c i j).symm)
    rw [Cert.Reference3Ideal.Gates.gateA_at, Cert.Reference3Ideal.Gates.prod_at, ← mul_assoc]
    rfl
  · rw [h0, h1, h2, h4]
    refine table_ext fun i j => (Cert.Reference3Ideal.Gates.dgate_at _ _ _ i j).trans (Eq.trans ?_ (result_9 m c i j).symm)
    rw [Cert.Reference3Ideal.Gates.gateB_at, Cert.Reference3Ideal.Gates.prod_at, ← mul_assoc]
    rfl

end Cert.GatesClaims
end
-- ==== Proof.RealOps.lean ====
/-
  Extended reals that are real numbers: sums, products, quotients and gates of such numbers are real numbers.
-/
module

public import Idealize.ShloMosaic.Lib.Pointwise
public import proofs.«01_k».proof.Proof.Reals

@[expose] public section

noncomputable section

namespace Cert.RealOps

open Idealize.ShloMosaic
open scoped BigOperators

/-- An extended real that is a real number. -/
def IsReal (x : EReal) : Prop := ∃ r : ℝ, x = (r : EReal)

theorem isReal_of {x : EReal} (h : x ≠ ⊤ ∧ x ≠ ⊥) : IsReal x := ⟨x.toReal, (EReal.coe_toReal h.1 h.2).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact isReal_add (h a) ih

/-- Sums of reals, taken among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient by a real number other than nought. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The gate, at a real number. -/
theorem isReal_gate {x : EReal} (hx : IsReal x) : IsReal (Ideal.div 1 (1 + Ideal.exp (-x))) := by
  obtain ⟨a, rfl⟩ := hx
  have e : (1 : EReal) + Ideal.exp (-(a : EReal)) = ((1 + Real.exp (-a) : ℝ) : EReal) := by
    rw [← EReal.coe_neg, EReal.coe_add, EReal.coe_one]
    rfl
  rw [e, ← EReal.coe_one]
  exact ⟨_, div_coe 1 _ (by positivity)⟩

end Cert.RealOps
end
-- ==== Proof.Silu.lean ====
/-
  The gradient behind the gated linear unit: each grid point multiplies a block of the output's gradient with a block of
  the down projection's weights and takes the product through the unit; the reference differentiates the unit.
-/
module

public import proofs.«01_k».proof.Defs
public import proofs.«01_k».proof.Proof.Blocks
public import proofs.«01_k».proof.Proof.RealOps
public import proofs.«01_k».proof.Proof.Finite
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_finite_swiglu
public import Idealize.ShloMosaic.Lib.Pipeline.Value
public import Idealize.ShloMosaic.Lib.WritesUnit
public import Idealize.ShloMosaic.Lib.Tactic
public import Idealize.ShloMosaic.Lib.Pointwise

@[expose] public section

set_option maxRecDepth 16384

noncomputable section

namespace Cert.Kernel4Ideal.Silu

open Idealize.ShloMosaic Idealize.ShloMosaic.TcCoe Idealize.SL.Sem Cert.Kernel4Ideal Cert.Kernel4Ideal.Gen Cert.Blocks
open scoped BigOperators

/-! ## One grid point -/

section Run

variable {F : FTy → Type} [FloatOps F]

/-- What a point leaves of its block: the gates' part, then the values' part. -/
abbrev halves (v : View sig .tc .vmem S512x2816 .bf16) (f : v.ty.Contents (Elt F)) (x y : Vec F S512x1408 .bf16) : Vec F S512x2816 .bf16 :=
  v.read (Elt F) (v.writes (Elt F) f [⟨Rect.unit (s := S512x2816) ![0, 1408] S512x1408.size inb_S512x2816_S512x1408_0_1408, y⟩, ⟨Rect.unit (s := S512x2816) ![0, 0] S512x1408.size inb_S512x2816_S512x1408_0_0, x⟩])

theorem halves_left (v : View sig .tc .vmem S512x2816 .bf16) (f : v.ty.Contents (Elt F)) (x y : Vec F S512x1408 .bf16) (r : Fin 512) (k : Fin 1408) :
    halves v f x y (ix2 r (⟨k.val, by omega⟩ : Fin 2816)) = x (ix2 r k) := by
  unfold halves
  rw [View.read_writes_cons_unit_of_not_mem v f _ _ _ _ rfl 1 (Or.inl (show k.val < 1408 from k.isLt))]
  refine View.read_writes_cons_unit_of_mem v f _ _ _ _ _ rfl fun a => ?_
  match a with
  | ⟨0, _⟩ => exact (Nat.zero_add _).symm
  | ⟨1, _⟩ => exact (Nat.zero_add _).symm

theorem halves_right (v : View sig .tc .vmem S512x2816 .bf16) (f : v.ty.Contents (Elt F)) (x y : Vec F S512x1408 .bf16) (r : Fin 512) (k : Fin 1408) :
    halves v f x y (ix2 r (⟨1408 + k.val, by omega⟩ : Fin 2816)) = y (ix2 r k) := by
  unfold halves
  refine View.read_writes_cons_unit_of_mem v f _ _ _ _ _ rfl fun a => ?_
  match a with
  | ⟨0, _⟩ => exact (Nat.zero_add _).symm
  | ⟨1, _⟩ => rfl

theorem out_eq (c : Dev nD) (i : grid0.Coords) (a3 : Memref sig .tc .vmem S512x1024 .bf16) (h3 : a3.IsWhole) (a4 : Memref sig .tc .vmem S1408x1024 .bf16)
    (h4 : a4.IsWhole) (a5 : Memref sig .tc .vmem S512x2816 .bf16) (h5 : a5.IsWhole) (a6 : Memref sig .tc .vmem S512x2816 .bf16) (h6 : a6.IsWhole)
    (a7 : Memref sig .tc .vmem S8x128 .f32) (h7 : a7.IsWhole) (x : Vec F S512x1024 .bf16) (y : Vec F S1408x1024 .bf16) (z : Vec F S512x2816 .bf16) :
    out0_A_3 c i a3 h3 a4 h4 a5 h5 a6 h6 a7 h7 x y z = halves VO0_3 VO0_3.junk (k0_pay5 x y z) (k0_pay6 x y z) := by
  unfold out0_A_3
  unfold kernelRun0_A
  dsimp only
  simp only [View.readAt_eq_ld, h3.read_unread, h4.read_unread, h5.read_unread, View.ld_unit_zero (S := S512x1024) hz2, View.ld_unit_zero (S := S1408x1024) hz2,
    View.ld_unit_zero (S := S512x2816) hz2]

end Run

/-- The gate. -/
def sigmoid (x : EReal) : EReal := Ideal.div 1 (1 + Ideal.exp (-x))

section Payloads

variable (x : FVec Ideal S512x1024 .bf16) (y : FVec Ideal S1408x1024 .bf16) (z : FVec Ideal S512x2816 .bf16) (r : Fin 512) (k : Fin 1408)

theorem prod_at : (k0_pay1 (F := Ideal) x y) (ix2 r k) = ∑ n : Fin 1024, x (ix2 r n) * y (ix2 k n) := by
  pointwise [k0_pay1]
theorem left_at : (k0_pay3 (F := Ideal) z) (ix2 r k) = z (ix2 r (⟨k.val, by omega⟩ : Fin 2816)) := by
  pointwise [k0_pay3, k0_pay2]
theorem gate_at : (k0_pay4 (F := Ideal) z) (ix2 r k) = sigmoid (z (ix2 r (⟨k.val, by omega⟩ : Fin 2816))) := by
  rw [← left_at z r k]
  pointwise [k0_pay4]
  rw [zero_sub]
  rfl
theorem pay5_at : (k0_pay5 (F := Ideal) x y z) (ix2 r k) = (k0_pay1 (F := Ideal) x y) (ix2 r k) * z (ix2 r (⟨1408 + k.val, by omega⟩ : Fin 2816))
    * ((k0_pay4 (F := Ideal) z) (ix2 r k) * (1 + (k0_pay3 (F := Ideal) z) (ix2 r k) * (1 - (k0_pay4 (F := Ideal) z) (ix2 r k)))) := by
  pointwise [k0_pay5, k0_pay2]
theorem pay6_at : (k0_pay6 (F := Ideal) x y z) (ix2 r k) = (k0_pay1 (F := Ideal) x y) (ix2 r k) * ((k0_pay3 (F := Ideal) z) (ix2 r k) * (k0_pay4 (F := Ideal) z) (ix2 r k)) := by
  pointwise [k0_pay6]

end Payloads

/-! ## The result, index by index -/

section Result

variable (m : (r : Loc nD τ sig) → Buf (Elt Ideal) r) (c : Dev nD)

/-- The gradient of the layer's output. -/
abbrev dy : FVec Ideal S4096x1024 .bf16 := m ((c : Thread nD τ).loc main_arg0)
/-- The down projection's weights. -/
abbrev wts : FVec Ideal S2816x1024 .bf16 := m ((c : Thread nD τ).loc main_arg1)
/-- The gates' and the values' inputs, as the program keeps them: half the gates, half the values, twice. -/
abbrev hid : FVec Ideal S4096x5632 .bf16 := m ((c : Thread nD τ).loc main_arg2)

/-- Where the gate `q` lies among the columns. -/
abbrev gcol (q : Fin 2816) : Fin 5632 := ⟨q.val / 1408 * 2816 + q.val % 1408, by omega⟩
/-- Where the value `q` lies among the columns. -/
abbrev ucol (q : Fin 2816) : Fin 5632 := ⟨q.val / 1408 * 2816 + 1408 + q.val % 1408, by omega⟩

/-- The gradient of the gated values. -/
def da (i : Fin 4096) (q : Fin 2816) : EReal := ∑ n : Fin 1024, dy m c (ix2 i n) * wts m c (ix2 q n)
/-- A gate's input. -/
def hg (i : Fin 4096) (q : Fin 2816) : EReal := hid m c (ix2 i (gcol q))
/-- A value. -/
def hu (i : Fin 4096) (q : Fin 2816) : EReal := hid m c (ix2 i (ucol q))

theorem index_of : ∀ t : Fin cfg0.N, win0_0.index t = ![t.val / 2, 0] ∧ win0_1.index t = ![t.val % 2, 0] ∧ win0_2.index t = ![t.val / 2, t.val % 2]
    ∧ win0_3.index t = ![t.val / 2, t.val % 2] := (by decide +kernel : ∀ t : Fin grid0.N, _)

variable (i : Fin 4096) (q : Fin 2816)

/-- The point that writes the columns of gate `q` in row `i`. -/
abbrev pt : Fin cfg0.N := ⟨i.val / 512 * 2 + q.val / 1408, lt_of_lt_of_eq (by omega) N_0.symm⟩
/-- The row inside that point's block. -/
abbrev rin : Fin 512 := ⟨i.val % 512, Nat.mod_lt _ (by decide)⟩
/-- The column inside half of that point's block. -/
abbrev kin : Fin 1408 := ⟨q.val % 1408, Nat.mod_lt _ (by decide)⟩

theorem ptrow : (pt i q).val / 2 = i.val / 512 := by show (i.val / 512 * 2 + q.val / 1408) / 2 = _; omega
theorem ptcol : (pt i q).val % 2 = q.val / 1408 := by show (i.val / 512 * 2 + q.val / 1408) % 2 = _; omega

theorem dy_at (n : Fin 1024) : iblk m c 0 (pt i q) (ix2 (rin i) n) = dy m c (ix2 i n) := by
  have e := coord2 (index_of (pt i q)).1 512 (rin i).val 1024 n.val
  rw [ptrow] at e
  exact at2 (dy m c) (((cfg0.win 0).blk (pt i q)).view.emb (ix2 (rin i) n)) i n (e.1.trans (by show i.val / 512 * 512 + i.val % 512 = i.val; omega)) (e.2.trans (by omega))
theorem wts_at (n : Fin 1024) : iblk m c 1 (pt i q) (ix2 (kin q) n) = wts m c (ix2 q n) := by
  have e := coord2 (index_of (pt i q)).2.1 1408 (kin q).val 1024 n.val
  rw [ptcol] at e
  exact at2 (wts m c) (((cfg0.win 1).blk (pt i q)).view.emb (ix2 (kin q) n)) q n (e.1.trans (by show q.val / 1408 * 1408 + q.val % 1408 = q.val; omega)) (e.2.trans (by omega))
theorem hg_at : iblk m c 2 (pt i q) (ix2 (rin i) (⟨(kin q).val, by omega⟩ : Fin 2816)) = hg m c i q := by
  have e := coord2 (index_of (pt i q)).2.2.1 512 (rin i).val 2816 (kin q).val
  rw [ptrow, ptcol] at e
  exact at2 (hid m c) (((cfg0.win 2).blk (pt i q)).view.emb (ix2 (rin i) (⟨(kin q).val, by omega⟩ : Fin 2816))) i (gcol q) (e.1.trans (by show i.val / 512 * 512 + i.val % 512 = i.val; omega)) e.2
theorem hu_at : iblk m c 2 (pt i q) (ix2 (rin i) (⟨1408 + (kin q).val, by omega⟩ : Fin 2816)) = hu m c i q := by
  have e := coord2 (index_of (pt i q)).2.2.1 512 (rin i).val 2816 (1408 + (kin q).val)
  rw [ptrow, ptcol] at e
  exact at2 (hid m c) (((cfg0.win 2).blk (pt i q)).view.emb (ix2 (rin i) (⟨1408 + (kin q).val, by omega⟩ : Fin 2816))) i (ucol q) (e.1.trans (by show i.val / 512 * 512 + i.val % 512 = i.val; omega))
    (e.2.trans (Nat.add_assoc _ _ _).symm)
theorem da_at : (k0_pay1 (F := Ideal) (iblk m c 0 (pt i q)) (iblk m c 1 (pt i q))) (ix2 (rin i) (kin q)) = da m c i q := by
  refine (prod_at (iblk m c 0 (pt i q)) (iblk m c 1 (pt i q)) (rin i) (kin q)).trans ?_
  unfold da
  exact Finset.sum_congr rfl fun n _ => by rw [dy_at, wts_at]

/-- The gradient of a gate's input, in the kernel's result. -/
theorem result_gate : (dats m 0 c).arrAt 3 cfg0.N (ix2 i (gcol q)) =
    da m c i q * hu m c i q * (sigmoid (hg m c i q) * (1 + hg m c i q * (1 - sigmoid (hg m c i q)))) := by
  have b := congrFun (Value.blocks3 m c (pt i q) (by rw [flush0_3])) (ix2 (rin i) (⟨(kin q).val, by omega⟩ : Fin 2816))
  rw [Value.flushed3_A, out_eq] at b
  have e := coord2 (index_of (pt i q)).2.2.2 512 (rin i).val 2816 (kin q).val
  rw [ptrow, ptcol] at e
  refine (at2 ((dats m 0 c).arrAt 3 cfg0.N) (((cfg0.win 3).blk (pt i q)).view.emb (ix2 (rin i) (⟨(kin q).val, by omega⟩ : Fin 2816))) i (gcol q)
    (e.1.trans (by show i.val / 512 * 512 + i.val % 512 = i.val; omega)) e.2).symm.trans (b.trans ?_)
  refine (halves_left VO0_3 VO0_3.junk _ _ (rin i) (kin q)).trans ((pay5_at (iblk m c 0 (pt i q)) (iblk m c 1 (pt i q)) (iblk m c 2 (pt i q)) (rin i) (kin q)).trans ?_)
  rw [da_at, hu_at, gate_at, left_at, hg_at]

/-- The gradient of a value, in the kernel's result. -/
theorem result_value : (dats m 0 c).arrAt 3 cfg0.N (ix2 i (ucol q)) = da m c i q * (hg m c i q * sigmoid (hg m c i q)) := by
  have b := congrFun (Value.blocks3 m c (pt i q) (by rw [flush0_3])) (ix2 (rin i) (⟨1408 + (kin q).val, by omega⟩ : Fin 2816))
  rw [Value.flushed3_A, out_eq] at b
  have e := coord2 (index_of (pt i q)).2.2.2 512 (rin i).val 2816 (1408 + (kin q).val)
  rw [ptrow, ptcol] at e
  refine (at2 ((dats m 0 c).arrAt 3 cfg0.N) (((cfg0.win 3).blk (pt i q)).view.emb (ix2 (rin i) (⟨1408 + (kin q).val, by omega⟩ : Fin 2816))) i (ucol q)
    (e.1.trans (by show i.val / 512 * 512 + i.val % 512 = i.val; omega)) (e.2.trans (Nat.add_assoc _ _ _).symm)).symm.trans (b.trans ?_)
  refine (halves_right VO0_3 VO0_3.junk _ _ (rin i) (kin q)).trans ((pay6_at (iblk m c 0 (pt i q)) (iblk m c 1 (pt i q)) (iblk m c 2 (pt i q)) (rin i) (kin q)).trans ?_)
  rw [da_at, gate_at, left_at, hg_at]

end Result

end Cert.Kernel4Ideal.Silu

namespace Cert.Reference4Ideal.Silu

open Idealize.ShloMosaic Idealize.ShloMosaic.TcCoe Idealize.SL.Sem Cert.Reference4Ideal Cert.Reference4Ideal.Gen Cert.Kernel4Ideal.Silu
open scoped BigOperators

variable (dy : FVec Ideal S4096x1024 .bf16) (w : FVec Ideal S2816x1024 .bf16) (h : FVec Ideal S4096x5632 .bf16)

/-- The reference's gates and values, one after the other. -/
def parted : FVec Ideal S2x4096x2816 .f32 :=
  shapeCast S2x4096x2816 (transpose S2x4096x2x1408 [2, 0, 1, 3] (shapeCast S4096x2x2x1408 (extf .f32 h bitsLt_bf16_f32) shapeCasts_S4096x5632_S4096x2x2x1408) transposes_S4096x2x2x1408_S2x4096x2x1408_2_0_1_3) shapeCasts_S2x4096x2x1408_S2x4096x2816
/-- The gates' inputs. -/
def gates : FVec Ideal S4096x2816 .f32 := shapeCast S4096x2816 (extractStridedSlice S1x4096x2816 ![0, 0, 0] (parted h) slices_S2x4096x2816_S1x4096x2816_0_0_0) shapeCasts_S1x4096x2816_S4096x2816
/-- The values. -/
def values : FVec Ideal S4096x2816 .f32 := shapeCast S4096x2816 (extractStridedSlice S1x4096x2816 ![1, 0, 0] (parted h) slices_S2x4096x2816_S1x4096x2816_1_0_0) shapeCasts_S1x4096x2816_S4096x2816
/-- The gate. -/
def sig : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf (gates h))))
/-- The gradient of the gated values. -/
def prod : FVec Ideal S4096x2816 .f32 := Host.dotGeneral dot_S4096x1024_S2816x1024_S4096x2816_1_1_0_0_n_n none (extf .f32 dy bitsLt_bf16_f32) (extf .f32 w bitsLt_bf16_f32)
/-- The gradient of the gates' inputs. -/
def dgate : FVec Ideal S4096x2816 .f32 :=
  addf (mulf (mulf (prod dy w) (values h)) (sig h)) (mulf (mulf (gates h) (mulf (prod dy w) (values h))) (mulf (sig h) (subf (broadcastInDim S4096x2816 ![] bcast_S_S4096x2816 (constant S_ .f32 0x3F800000#32)) (sig h))))
/-- The gradient of the values. -/
def dvalue : FVec Ideal S4096x2816 .f32 := mulf (mulf (gates h) (sig h)) (prod dy w)
/-- Two arrays, one after the other. -/
def both (x y : FVec Ideal S4096x2816 .f32) : FVec Ideal S2x4096x2816 .f32 :=
  concatenate S2x4096x2816 0 [⟨S1x4096x2816, (broadcastInDim S1x4096x2816 ![1, 2] bcast_S4096x2816_S1x4096x2816_1_2 x)⟩, ⟨S1x4096x2816, (broadcastInDim S1x4096x2816 ![1, 2] bcast_S4096x2816_S1x4096x2816_1_2 y)⟩] concatenates_S1x4096x2816_S1x4096x2816_S2x4096x2816_d0
/-- Their columns as the program keeps them. -/
def packed (z : FVec Ideal S2x4096x2816 .f32) : FVec Ideal S4096x5632 .bf16 :=
  truncf .bf16 (shapeCast S4096x5632 (transpose S4096x2x2x1408 [1, 2, 0, 3] (shapeCast S2x4096x2x1408 z shapeCasts_S2x4096x2816_S2x4096x2x1408) transposes_S2x4096x2x1408_S4096x2x2x1408_1_2_0_3) shapeCasts_S4096x2x2x1408_S4096x5632) bitsLt_bf16_f32

theorem res_eq (m : (ℓ : Loc nD τ Cert.Reference4Ideal.sig) → Buf (Elt Ideal) ℓ) (c : Dev nD) : Value.res_main_v23 m c =
    packed (both (dgate (m ((c.tc : Thread nD τ).loc main_arg0)) (m ((c.tc : Thread nD τ).loc main_arg1)) (m ((c.tc : Thread nD τ).loc main_arg2)))
      (dvalue (m ((c.tc : Thread nD τ).loc main_arg0)) (m ((c.tc : Thread nD τ).loc main_arg1)) (m ((c.tc : Thread nD τ).loc main_arg2)))) := by
  unfold Value.res_main_v23
  rfl

theorem parted_at (p : Fin 2) (i : Fin 4096) (q : Fin 2816) : parted h (ix3 p i q) = h (ix2 i (⟨q.val / 1408 * 2816 + p.val * 1408 + q.val % 1408, by omega⟩ : Fin 5632)) := by
  pointwise [parted]
theorem gates_at (i : Fin 4096) (q : Fin 2816) : gates h (ix2 i q) = h (ix2 i (gcol q)) := by
  have e : gates h (ix2 i q) = parted h (ix3 (0 : Fin 2) i q) := by pointwise [gates]
  rw [e, parted_at]
  exact congrArg h (congrArg (ix2 i) (Fin.ext (by show q.val / 1408 * 2816 + 0 * 1408 + q.val % 1408 = q.val / 1408 * 2816 + q.val % 1408; omega)))
theorem values_at (i : Fin 4096) (q : Fin 2816) : values h (ix2 i q) = h (ix2 i (ucol q)) := by
  have e : values h (ix2 i q) = parted h (ix3 (1 : Fin 2) i q) := by pointwise [values]
  rw [e, parted_at]
  exact congrArg h (congrArg (ix2 i) (Fin.ext (by show q.val / 1408 * 2816 + 1 * 1408 + q.val % 1408 = q.val / 1408 * 2816 + 1408 + q.val % 1408; omega)))
theorem sig_at (i : Fin 4096) (q : Fin 2816) : sig h (ix2 i q) = sigmoid (h (ix2 i (gcol q))) := by
  rw [← gates_at h i q]
  unfold sigmoid
  pointwise [sig]
theorem prod_at (i : Fin 4096) (q : Fin 2816) : prod dy w (ix2 i q) = ∑ n : Fin 1024, dy (ix2 i n) * w (ix2 q n) := by
  pointwise [prod]
theorem dgate_at (i : Fin 4096) (q : Fin 2816) : dgate dy w h (ix2 i q) = prod dy w (ix2 i q) * values h (ix2 i q) * sig h (ix2 i q)
    + gates h (ix2 i q) * (prod dy w (ix2 i q) * values h (ix2 i q)) * (sig h (ix2 i q) * (1 - sig h (ix2 i q))) := by
  pointwise [dgate]
theorem dvalue_at (i : Fin 4096) (q : Fin 2816) : dvalue dy w h (ix2 i q) = gates h (ix2 i q) * sig h (ix2 i q) * prod dy w (ix2 i q) := by
  pointwise [dvalue]
theorem both_0 (x y : FVec Ideal S4096x2816 .f32) (i : Fin 4096) (q : Fin 2816) : both x y (ix3 (0 : Fin 2) i q) = x (ix2 i q) := by
  pointwise [both]
theorem both_1 (x y : FVec Ideal S4096x2816 .f32) (i : Fin 4096) (q : Fin 2816) : both x y (ix3 (1 : Fin 2) i q) = y (ix2 i q) := by
  pointwise [both]
theorem packed_at (z : FVec Ideal S2x4096x2816 .f32) (i : Fin 4096) (j : Fin 5632) :
    packed z (ix2 i j) = z (ix3 (⟨j.val / 1408 % 2, by omega⟩ : Fin 2) i (⟨j.val / 2816 * 1408 + j.val % 1408, by omega⟩ : Fin 2816)) := by
  pointwise [packed]

theorem packed_gate (z : FVec Ideal S2x4096x2816 .f32) (i : Fin 4096) (q : Fin 2816) : packed z (ix2 i (gcol q)) = z (ix3 (0 : Fin 2) i q) := by
  refine (packed_at z i (gcol q)).trans (Cert.Blocks.at3 z _ 0 i q ?_ rfl ?_)
  · show (q.val / 1408 * 2816 + q.val % 1408) / 1408 % 2 = 0
    omega
  · show (q.val / 1408 * 2816 + q.val % 1408) / 2816 * 1408 + (q.val / 1408 * 2816 + q.val % 1408) % 1408 = q.val
    omega
theorem packed_value (z : FVec Ideal S2x4096x2816 .f32) (i : Fin 4096) (q : Fin 2816) : packed z (ix2 i (ucol q)) = z (ix3 (1 : Fin 2) i q) := by
  refine (packed_at z i (ucol q)).trans (Cert.Blocks.at3 z _ 1 i q ?_ rfl ?_)
  · show (q.val / 1408 * 2816 + 1408 + q.val % 1408) / 1408 % 2 = 1
    omega
  · show (q.val / 1408 * 2816 + 1408 + q.val % 1408) / 2816 * 1408 + (q.val / 1408 * 2816 + 1408 + q.val % 1408) % 1408 = q.val
    omega

end Cert.Reference4Ideal.Silu

namespace Cert.SiluClaims

open Idealize.ShloMosaic Idealize.ShloMosaic.TcCoe Idealize.SL.Sem Cert.Kernel4Ideal.Silu Cert.RealOps
open scoped BigOperators

theorem frame_p : Cert.quiescent_Kernel4 := fun m ρ _ => Cert.Kernel4.Gen.frame m ρ
theorem frame_pi : Cert.quiescent_Kernel4Ideal := fun m ρ _ => Cert.Kernel4Ideal.Gen.frame m ρ
theorem frame_pi_pre : Cert.quiescent_Kernel4Ideal_pre_finite_swiglu := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_ri_pre : Cert.quiescent_Reference4Ideal_pre_finite_swiglu := fun m ρ _ => frame_ri m ρ trivial
theorem preserves : Cert.preserves_Kernel4_Kernel4Ideal := trivial

section
open Cert.Pre_finite_swiglu Cert.Pre_finite_swiglu.Facts Idealize.ShloMosaic.WordCmp

instance : Subsingleton (Cert.Pre_finite_swiglu.S_).Idx := ⟨fun a b => funext fun i => i.elim0⟩

/-- Every element of the three arrays the precondition reads is a real number. -/
theorem reals_of_pre [Cert.Pre_finite_swiglu.Facts] {dy : FVec Ideal S4096x1024 .bf16} {w : FVec Ideal S2816x1024 .bf16} {h : FVec Ideal S4096x5632 .bf16}
    (hp : Cert.Pre_finite_swiglu.fn (F := Ideal) dy w h = fun _ => 1#1) :
    (∀ i, IsReal (dy i)) ∧ (∀ i, IsReal (w i)) ∧ ∀ i, IsReal (h i) := by
  have h0 := congrFun hp fun i => i.elim0
  dsimp only [Cert.Pre_finite_swiglu.fn] at h0
  simp only [andi_at, IntOp.andi_eq_one] at h0
  obtain ⟨⟨ha, hb⟩, hc⟩ := h0
  refine ⟨fun i => isReal_of (Cert.Attn.real_of_abs_lt (x := extf .f32 dy bitsLt_bf16_f32) ?_ (Host.reduce_andi_all _ _ _ _ _ ha i)),
    fun i => isReal_of (Cert.Attn.real_of_abs_lt (x := extf .f32 w bitsLt_bf16_f32) ?_ (Host.reduce_andi_all _ _ _ _ _ hb i)),
    fun i => isReal_of (Cert.Attn.real_of_abs_lt (x := extf .f32 h bitsLt_bf16_f32) ?_ (Host.reduce_andi_all _ _ _ _ _ hc i))⟩ <;> intro _ <;> rfl

end

/-- The two forms of the derivative of the gated linear unit agree on real numbers. -/
theorem silu_eq {d u g s : EReal} (hd : IsReal d) (hu : IsReal u) (hg : IsReal g) (hs : IsReal s) : d * u * s + g * (d * u) * (s * (1 - s)) = d * u * (s * (1 + g * (1 - s))) := by
  obtain ⟨d, rfl⟩ := hd
  obtain ⟨u, rfl⟩ := hu
  obtain ⟨g, rfl⟩ := hg
  obtain ⟨s, rfl⟩ := hs
  rw [← EReal.coe_one]
  simp only [← EReal.coe_mul, ← EReal.coe_add, ← EReal.coe_sub]
  exact congrArg _ (by ring)

/-- The kernel and the reference end with the same gradient, of the gates' inputs and of the values. -/
theorem algebraic : Cert.algebraic_Kernel4Ideal_Reference4Ideal_pre_finite_swiglu := by
  intro m g m' g' hpre hagree
  refine ⟨fun c => (Cert.Kernel4Ideal.Gen.dats m 0 c).arrAt 3 Cert.Kernel4Ideal.cfg0.N, Cert.Kernel4Ideal.Value.run_blocks (F := Ideal) m g,
    (θ_run Cert.Reference4Ideal.defs _ _).mono (fun r h (c : Dev Cert.Kernel4Ideal.nD) => ?_) (Cert.Reference4Ideal.Value.run (F := Ideal) m' g')⟩
  obtain ⟨h0, h1, h2⟩ := hagree c
  obtain ⟨r0, hk⟩ := h c
  refine ⟨r0.trans ?_, hk⟩
  obtain ⟨hd, hw, hh⟩ := reals_of_pre (hpre c)
  rw [Cert.Reference4Ideal.Silu.res_eq, h0, h1, h2]
  funext i
  obtain ⟨a, b, rfl⟩ : ∃ (a : Fin 4096) (b : Fin 5632), i = ix2 a b := ⟨i 0, i 1, eq_ix2 i⟩
  obtain ⟨q, rfl | rfl⟩ : ∃ q : Fin 2816, b = gcol q ∨ b = ucol q := by
    refine ⟨⟨b.val / 2816 * 1408 + b.val % 1408, by omega⟩, ?_⟩
    obtain hb | hb : b.val % 2816 < 1408 ∨ 1408 ≤ b.val % 2816 := by omega
    · exact Or.inl (Fin.ext (by show b.val = (b.val / 2816 * 1408 + b.val % 1408) / 1408 * 2816 + (b.val / 2816 * 1408 + b.val % 1408) % 1408; omega))
    · exact Or.inr (Fin.ext (by show b.val = (b.val / 2816 * 1408 + b.val % 1408) / 1408 * 2816 + 1408 + (b.val / 2816 * 1408 + b.val % 1408) % 1408; omega))
  · refine (Cert.Reference4Ideal.Silu.packed_gate _ a q).trans (Eq.trans ?_ (result_gate m c a q).symm)
    rw [Cert.Reference4Ideal.Silu.both_0, Cert.Reference4Ideal.Silu.dgate_at, Cert.Reference4Ideal.Silu.prod_at, Cert.Reference4Ideal.Silu.values_at,
      Cert.Reference4Ideal.Silu.sig_at, Cert.Reference4Ideal.Silu.gates_at]
    exact silu_eq (isReal_sum _ _ fun n => isReal_mul (hd _) (hw _)) (hh _) (hh _) (isReal_gate (hh _))
  · refine (Cert.Reference4Ideal.Silu.packed_value _ a q).trans (Eq.trans ?_ (result_value m c a q).symm)
    rw [Cert.Reference4Ideal.Silu.both_1, Cert.Reference4Ideal.Silu.dvalue_at, Cert.Reference4Ideal.Silu.prod_at, Cert.Reference4Ideal.Silu.sig_at, Cert.Reference4Ideal.Silu.gates_at]
    exact mul_comm _ _

end Cert.SiluClaims
end
-- ==== Proof.WGrad.lean ====
/-
  The gradient of the input projection's weights: every grid point multiplies its columns of the projection's cotangent
  with the whole activations, over all the tokens, and the reference transposes twice the same products.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Pipeline.Value
public import Idealize.ShloMosaic.Lib.Tactic
public import Idealize.ShloMosaic.Lib.Pointwise

@[expose] public section

set_option maxRecDepth 16384

noncomputable section

namespace Cert.Kernel5Ideal.Wgrad

open Idealize.ShloMosaic Idealize.ShloMosaic.TcCoe Idealize.SL.Sem Cert.Kernel5Ideal Cert.Kernel5Ideal.Gen
open scoped BigOperators

/-! ## One grid point -/

theorem hz2 : (![0, 0] : Fin 2 → Nat) = fun _ => 0 := funext fun a => by fin_cases a <;> rfl

section Run

variable {F : FTy → Type} [FloatOps F]

/-- A grid point stores the product of its two blocks. -/
theorem out_eq (c : Dev nD) (i : grid0.Coords) (a3 : Memref sig .tc .vmem S4096x256 .bf16) (h3 : a3.IsWhole) (a4 : Memref sig .tc .vmem S4096x1024 .bf16)
    (h4 : a4.IsWhole) (a5 : Memref sig .tc .vmem S256x1024 .bf16) (h5 : a5.IsWhole) (a6 : Memref sig .tc .vmem S8x128 .f32) (h6 : a6.IsWhole)
    (x : Vec F S4096x256 .bf16) (y : Vec F S4096x1024 .bf16) : out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz2]
  simp only [View.readAt_eq_ld, h3.read_unread, h4.read_unread, View.ld_unit_zero (S := S4096x256) hz2, View.ld_unit_zero (S := S4096x1024) hz2]

end Run

theorem product_at (x : FVec Ideal S4096x256 .bf16) (y : FVec Ideal S4096x1024 .bf16) (i : Fin 256) (j : Fin 1024) :
    (k0_pay1 (F := Ideal) x y) (ix2 i j) = ∑ k : Fin 4096, x (ix2 k i) * y (ix2 k j) := by
  pointwise [k0_pay1]

/-! ## The result, index by index -/

section Result

variable (m : (r : Loc nD τ sig) → Buf (Elt Ideal) r) (c : Dev nD)

/-- The projection's cotangent. -/
abbrev dy : FVec Ideal S4096x7936 .bf16 := m ((c : Thread nD τ).loc main_arg0)
/-- The activations. -/
abbrev act : FVec Ideal S4096x1024 .bf16 := m ((c : Thread nD τ).loc main_arg1)

theorem index_of : ∀ t : Fin cfg0.N, win0_0.index t = ![0, t.val] ∧ win0_1.index t = ![0, 0] ∧ win0_2.index t = ![t.val, 0] :=
  (by decide +kernel : ∀ t : Fin grid0.N, _)

/-- The point that writes row `i`. -/
abbrev pointOf (i : Fin 7936) : Fin cfg0.N := ⟨i.val / 256, lt_of_lt_of_eq (by omega) N_0.symm⟩

theorem block0_at (t : Fin cfg0.N) (k : Fin 4096) (r : Fin 256) (i : Fin 7936) (h : i.val = t.val * 256 + r.val) :
    iblk m c 0 t (ix2 k r) = dy m c (ix2 k i) := by
  have e := (index_of t).1
  refine congrArg (dy m c) (funext fun a => ?_)
  match a with
  | ⟨0, _⟩ =>
    refine Fin.ext ?_
    show win0_0.index t 0 * 4096 + 1 * k.val = k.val
    rw [e]; show 0 * 4096 + 1 * k.val = k.val; omega
  | ⟨1, _⟩ =>
    refine Fin.ext ?_
    show win0_0.index t 1 * 256 + 1 * r.val = i.val
    rw [e]; show t.val * 256 + 1 * r.val = i.val; omega

theorem block1_at (t : Fin cfg0.N) (k : Fin 4096) (j : Fin 1024) : iblk m c 1 t (ix2 k j) = act m c (ix2 k j) := by
  have e := (index_of t).2.1
  refine congrArg (act m c) (funext fun a => ?_)
  match a with
  | ⟨0, _⟩ =>
    refine Fin.ext ?_
    show win0_1.index t 0 * 4096 + 1 * k.val = k.val
    rw [e]; show 0 * 4096 + 1 * k.val = k.val; omega
  | ⟨1, _⟩ =>
    refine Fin.ext ?_
    show win0_1.index t 1 * 1024 + 1 * j.val = j.val
    rw [e]; show 0 * 1024 + 1 * j.val = j.val; omega

/-- Every element of the result is the product of a column of the cotangent with a column of the activations. -/
theorem result_at (i : Fin 7936) (j : Fin 1024) :
    (dats m 0 c).arrAt 2 cfg0.N (ix2 i j) = ∑ k : Fin 4096, dy m c (ix2 k i) * act m c (ix2 k j) := by
  have hr : i.val % 256 < 256 := Nat.mod_lt _ (by decide)
  have b := congrFun (Value.blocks2 m c (pointOf i) (by rw [flush0_2])) (ix2 ⟨i.val % 256, hr⟩ j)
  rw [Value.flushed2_A, out_eq] at b
  refine Eq.trans (congrArg ((dats m 0 c).arrAt 2 cfg0.N) (funext fun a => ?_)) (b.trans ((product_at (iblk m c 0 (pointOf i)) (iblk m c 1 (pointOf i)) ⟨i.val % 256, hr⟩ j).trans ?_))
  · have e := (index_of (pointOf i)).2.2
    match a with
    | ⟨0, _⟩ =>
      refine Fin.ext ?_
      show i.val = win0_2.index (pointOf i) 0 * 256 + 1 * (i.val % 256)
      rw [e]; show i.val = i.val / 256 * 256 + 1 * (i.val % 256); omega
    | ⟨1, _⟩ =>
      refine Fin.ext ?_
      show j.val = win0_2.index (pointOf i) 1 * 1024 + 1 * j.val
      rw [e]; show j.val = 0 * 1024 + 1 * j.val; omega
  · refine Finset.sum_congr rfl fun k _ => ?_
    rw [block0_at m c (pointOf i) k ⟨i.val % 256, hr⟩ i (by show i.val = i.val / 256 * 256 + i.val % 256; omega), block1_at]

end Result

end Cert.Kernel5Ideal.Wgrad

namespace Cert.WgradClaims

open Idealize.ShloMosaic Idealize.ShloMosaic.TcCoe Idealize.SL.Sem
open scoped BigOperators

section
open Cert.Reference5Ideal Cert.Reference5Ideal.Gen

/-- Every element of the reference's result is that product too. -/
theorem reference_at (x : FVec Ideal S4096x7936 .bf16) (y : FVec Ideal S4096x1024 .bf16) (i : Fin 7936) (j : Fin 1024) :
    truncf .bf16 (transpose S7936x1024 [1, 0] (transpose S1024x7936 [1, 0] (Host.dotGeneral dot_S4096x7936_S4096x1024_S7936x1024_0_0_1_1_n_n none (extf .f32 x bitsLt_bf16_f32) (extf .f32 y bitsLt_bf16_f32)) transposes_S7936x1024_S1024x7936_1_0) transposes_S1024x7936_S7936x1024_1_0) bitsLt_bf16_f32 (ix2 i j)
      = ∑ k : Fin 4096, x (ix2 k i) * y (ix2 k j) := by
  pointwise []

end

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem preserves : Cert.preserves_Kernel5_Kernel5Ideal := trivial

/-- The kernel and the reference end with the same gradient of the weights. -/
theorem algebraic : Cert.algebraic_Kernel5Ideal_Reference5Ideal := by
  intro m g m' g' _ hagree
  refine ⟨fun c => (Cert.Kernel5Ideal.Gen.dats m 0 c).arrAt 2 Cert.Kernel5Ideal.cfg0.N, Cert.Kernel5Ideal.Value.run_blocks (F := Ideal) m g,
    (θ_run Cert.Reference5Ideal.defs _ _).mono (fun r h (c : Dev Cert.Kernel5Ideal.nD) => ?_) (Cert.Reference5Ideal.Value.run (F := Ideal) m' g')⟩
  obtain ⟨h0, h1⟩ := hagree c
  obtain ⟨r0, hk⟩ := h c
  refine ⟨r0.trans ?_, hk⟩
  rw [h0, h1]
  funext i
  obtain ⟨a, b, rfl⟩ : ∃ (a : Fin 7936) (b : Fin 1024), i = ix2 a b := ⟨i 0, i 1, eq_ix2 i⟩
  exact (reference_at _ _ a b).trans (Cert.Kernel5Ideal.Wgrad.result_at m c a b).symm

end Cert.WgradClaims
end
-- ==== Proof.WGradMlp.lean ====
/-
  The gradients of the weights behind the input projection: every grid point multiplies 256 columns of one array with the
  whole of another, over all the tokens; the references transpose the same products.
-/
module

public import proofs.«01_k».proof.Defs
public import proofs.«01_k».proof.Proof.Blocks
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem Cert.Blocks
open scoped BigOperators

namespace Cert.Kernel7Ideal.Wgrad

open Cert.Kernel7Ideal Cert.Kernel7Ideal.Gen

/-- A grid point stores the product of its two blocks. -/
theorem out_eq {F : FTy → Type} [FloatOps F] (c : Dev nD) (i : grid0.Coords) (a3 : Memref sig .tc .vmem S4096x256 .bf16) (h3 : a3.IsWhole)
    (a4 : Memref sig .tc .vmem S4096x1024 .bf16) (h4 : a4.IsWhole) (a5 : Memref sig .tc .vmem S256x1024 .bf16) (h5 : a5.IsWhole)
    (a6 : Memref sig .tc .vmem S8x128 .f32) (h6 : a6.IsWhole) (x : Vec F S4096x256 .bf16) (y : Vec F S4096x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz2]
  simp only [View.readAt_eq_ld, h3.read_unread, h4.read_unread, View.ld_unit_zero (S := S4096x256) hz2, View.ld_unit_zero (S := S4096x1024) hz2]

theorem product_at (x : FVec Ideal S4096x256 .bf16) (y : FVec Ideal S4096x1024 .bf16) (i : Fin 256) (j : Fin 1024) :
    (k0_pay1 (F := Ideal) x y) (ix2 i j) = ∑ k : Fin 4096, x (ix2 k i) * y (ix2 k j) := by
  pointwise [k0_pay1]

theorem index_of : ∀ t : Fin cfg0.N, win0_0.index t = ![0, t.val] ∧ win0_1.index t = ![0, 0] ∧ win0_2.index t = ![t.val, 0] :=
  (by decide +kernel : ∀ t : Fin grid0.N, _)

variable (m : (r : Loc nD τ sig) → Buf (Elt Ideal) r) (c : Dev nD)

/-- The gradient of the gates' and the values' inputs. -/
abbrev dh : FVec Ideal S4096x5632 .bf16 := m ((c : Thread nD τ).loc main_arg0)
/-- The layer's normalised input. -/
abbrev inp : FVec Ideal S4096x1024 .bf16 := m ((c : Thread nD τ).loc main_arg1)

/-- Every element of the result is the product of a column of the gradient with a column of the input. -/
theorem result_at (i : Fin 5632) (j : Fin 1024) :
    (dats m 0 c).arrAt 2 cfg0.N (ix2 i j) = ∑ k : Fin 4096, dh m c (ix2 k i) * inp m c (ix2 k j) := by
  let t : Fin cfg0.N := ⟨i.val / 256, lt_of_lt_of_eq (by omega) N_0.symm⟩
  have b := congrFun (Value.blocks2 m c t (by rw [flush0_2])) (ix2 (⟨i.val % 256, by omega⟩ : Fin 256) j)
  rw [Value.flushed2_A, out_eq] at b
  exact columns_product (index_of t).1 (index_of t).2.1 (index_of t).2.2 (dh m c) (inp m c) ((dats m 0 c).arrAt 2 cfg0.N) ((cfg0.win 0).blk t).view.emb
    ((cfg0.win 1).blk t).view.emb ((cfg0.win 2).blk t).view.emb (fun _ _ => ⟨rfl, rfl⟩) (fun _ _ => ⟨rfl, rfl⟩) (fun _ _ => ⟨rfl, rfl⟩)
    ⟨i.val % 256, by omega⟩ i j (by show i.val = i.val / 256 * 256 + i.val % 256; omega) (b.trans (product_at (iblk m c 0 t) (iblk m c 1 t) _ j))

end Cert.Kernel7Ideal.Wgrad

namespace Cert.Kernel8Ideal.Wgrad

open Cert.Kernel8Ideal Cert.Kernel8Ideal.Gen

/-- A grid point stores the product of its two blocks. -/
theorem out_eq {F : FTy → Type} [FloatOps F] (c : Dev nD) (i : grid0.Coords) (a3 : Memref sig .tc .vmem S4096x256 .bf16) (h3 : a3.IsWhole)
    (a4 : Memref sig .tc .vmem S4096x1024 .bf16) (h4 : a4.IsWhole) (a5 : Memref sig .tc .vmem S256x1024 .bf16) (h5 : a5.IsWhole)
    (a6 : Memref sig .tc .vmem S8x128 .f32) (h6 : a6.IsWhole) (x : Vec F S4096x256 .bf16) (y : Vec F S4096x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz2]
  simp only [View.readAt_eq_ld, h3.read_unread, h4.read_unread, View.ld_unit_zero (S := S4096x256) hz2, View.ld_unit_zero (S := S4096x1024) hz2]

theorem product_at (x : FVec Ideal S4096x256 .bf16) (y : FVec Ideal S4096x1024 .bf16) (i : Fin 256) (j : Fin 1024) :
    (k0_pay1 (F := Ideal) x y) (ix2 i j) = ∑ k : Fin 4096, x (ix2 k i) * y (ix2 k j) := by
  pointwise [k0_pay1]

theorem index_of : ∀ t : Fin cfg0.N, win0_0.index t = ![0, t.val] ∧ win0_1.index t = ![0, 0] ∧ win0_2.index t = ![t.val, 0] :=
  (by decide +kernel : ∀ t : Fin grid0.N, _)

variable (m : (r : Loc nD τ sig) → Buf (Elt Ideal) r) (c : Dev nD)

/-- The gated values. -/
abbrev act : FVec Ideal S4096x2816 .bf16 := m ((c : Thread nD τ).loc main_arg0)
/-- The gradient of the layer's output. -/
abbrev dy : FVec Ideal S4096x1024 .bf16 := m ((c : Thread nD τ).loc main_arg1)

/-- Every element of the result is the product of a column of the gated values with a column of the gradient. -/
theorem result_at (i : Fin 2816) (j : Fin 1024) :
    (dats m 0 c).arrAt 2 cfg0.N (ix2 i j) = ∑ k : Fin 4096, act m c (ix2 k i) * dy m c (ix2 k j) := by
  let t : Fin cfg0.N := ⟨i.val / 256, lt_of_lt_of_eq (by omega) N_0.symm⟩
  have b := congrFun (Value.blocks2 m c t (by rw [flush0_2])) (ix2 (⟨i.val % 256, by omega⟩ : Fin 256) j)
  rw [Value.flushed2_A, out_eq] at b
  exact columns_product (index_of t).1 (index_of t).2.1 (index_of t).2.2 (act m c) (dy m c) ((dats m 0 c).arrAt 2 cfg0.N) ((cfg0.win 0).blk t).view.emb
    ((cfg0.win 1).blk t).view.emb ((cfg0.win 2).blk t).view.emb (fun _ _ => ⟨rfl, rfl⟩) (fun _ _ => ⟨rfl, rfl⟩) (fun _ _ => ⟨rfl, rfl⟩)
    ⟨i.val % 256, by omega⟩ i j (by show i.val = i.val / 256 * 256 + i.val % 256; omega) (b.trans (product_at (iblk m c 0 t) (iblk m c 1 t) _ j))

end Cert.Kernel8Ideal.Wgrad

namespace Cert.Kernel6Ideal.Wgrad

open Cert.Kernel6Ideal Cert.Kernel6Ideal.Gen

/-- A grid point stores the product of its two blocks. -/
theorem out_eq {F : FTy → Type} [FloatOps F] (c : Dev nD) (i : grid0.Coords) (a3 : Memref sig .tc .vmem S4096x256 .bf16) (h3 : a3.IsWhole)
    (a4 : Memref sig .tc .vmem S4096x1024 .bf16) (h4 : a4.IsWhole) (a5 : Memref sig .tc .vmem S256x1024 .bf16) (h5 : a5.IsWhole)
    (a6 : Memref sig .tc .vmem S8x128 .f32) (h6 : a6.IsWhole) (x : Vec F S4096x256 .bf16) (y : Vec F S4096x1024 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz2]
  simp only [View.readAt_eq_ld, h3.read_unread, h4.read_unread, View.ld_unit_zero (S := S4096x256) hz2, View.ld_unit_zero (S := S4096x1024) hz2]

theorem product_at (x : FVec Ideal S4096x256 .bf16) (y : FVec Ideal S4096x1024 .bf16) (i : Fin 256) (j : Fin 1024) :
    (k0_pay1 (F := Ideal) x y) (ix2 i j) = ∑ k : Fin 4096, x (ix2 k i) * y (ix2 k j) := by
  pointwise [k0_pay1]

theorem index_of : ∀ t : Fin cfg0.N, win0_0.index t = ![0, t.val] ∧ win0_1.index t = ![0, 0] ∧ win0_2.index t = ![t.val, 0] :=
  (by decide +kernel : ∀ t : Fin grid0.N, _)

variable (m : (r : Loc nD τ sig) → Buf (Elt Ideal) r) (c : Dev nD)

/-- The product's input: the merged branches. -/
abbrev inp : FVec Ideal S4096x1024 .bf16 := m ((c : Thread nD τ).loc main_arg0)
/-- The gradient of the product. -/
abbrev dy : FVec Ideal S4096x1024 .bf16 := m ((c : Thread nD τ).loc main_arg1)

/-- Every element of the result is the product of a column of the input with a column of the gradient. -/
theorem result_at (i j : Fin 1024) :
    (dats m 0 c).arrAt 2 cfg0.N (ix2 i j) = ∑ k : Fin 4096, inp m c (ix2 k i) * dy m c (ix2 k j) := by
  let t : Fin cfg0.N := ⟨i.val / 256, lt_of_lt_of_eq (by omega) N_0.symm⟩
  have b := congrFun (Value.blocks2 m c t (by rw [flush0_2])) (ix2 (⟨i.val % 256, by omega⟩ : Fin 256) j)
  rw [Value.flushed2_A, out_eq] at b
  exact columns_product (index_of t).1 (index_of t).2.1 (index_of t).2.2 (inp m c) (dy m c) ((dats m 0 c).arrAt 2 cfg0.N) ((cfg0.win 0).blk t).view.emb
    ((cfg0.win 1).blk t).view.emb ((cfg0.win 2).blk t).view.emb (fun _ _ => ⟨rfl, rfl⟩) (fun _ _ => ⟨rfl, rfl⟩) (fun _ _ => ⟨rfl, rfl⟩)
    ⟨i.val % 256, by omega⟩ i j (by show i.val = i.val / 256 * 256 + i.val % 256; omega) (b.trans (product_at (iblk m c 0 t) (iblk m c 1 t) _ j))

end Cert.Kernel6Ideal.Wgrad

namespace Cert.Kernel9Ideal.Wgrad

open Cert.Kernel9Ideal Cert.Kernel9Ideal.Gen

/-- A grid point stores the product of its two blocks. -/
theorem out_eq {F : FTy → Type} [FloatOps F] (c : Dev nD) (i : grid0.Coords) (a3 : Memref sig .tc .vmem S4096x256 .bf16) (h3 : a3.IsWhole)
    (a4 : Memref sig .tc .vmem S4096x512 .bf16) (h4 : a4.IsWhole) (a5 : Memref sig .tc .vmem S256x512 .bf16) (h5 : a5.IsWhole)
    (a6 : Memref sig .tc .vmem S8x128 .f32) (h6 : a6.IsWhole) (x : Vec F S4096x256 .bf16) (y : Vec F S4096x512 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz2]
  simp only [View.readAt_eq_ld, h3.read_unread, h4.read_unread, View.ld_unit_zero (S := S4096x256) hz2, View.ld_unit_zero (S := S4096x512) hz2]

theorem product_at (x : FVec Ideal S4096x256 .bf16) (y : FVec Ideal S4096x512 .bf16) (i : Fin 256) (j : Fin 512) :
    (k0_pay1 (F := Ideal) x y) (ix2 i j) = ∑ k : Fin 4096, x (ix2 k i) * y (ix2 k j) := by
  pointwise [k0_pay1]

theorem index_of : ∀ t : Fin cfg0.N, win0_0.index t = ![0, t.val] ∧ win0_1.index t = ![0, 0] ∧ win0_2.index t = ![t.val, 0] :=
  (by decide +kernel : ∀ t : Fin grid0.N, _)

variable (m : (r : Loc nD τ sig) → Buf (Elt Ideal) r) (c : Dev nD)

/-- The gradient of the second branch. -/
abbrev dyb : FVec Ideal S4096x1024 .bf16 := m ((c : Thread nD τ).loc main_arg0)
/-- The second branch's merged heads. -/
abbrev ob : FVec Ideal S4096x512 .bf16 := m ((c : Thread nD τ).loc main_arg1)

/-- Every element of the result is the product of a column of the gradient with a column of the heads. -/
theorem result_at (i : Fin 1024) (j : Fin 512) :
    (dats m 0 c).arrAt 2 cfg0.N (ix2 i j) = ∑ k : Fin 4096, dyb m c (ix2 k i) * ob m c (ix2 k j) := by
  let t : Fin cfg0.N := ⟨i.val / 256, lt_of_lt_of_eq (by omega) N_0.symm⟩
  have b := congrFun (Value.blocks2 m c t (by rw [flush0_2])) (ix2 (⟨i.val % 256, by omega⟩ : Fin 256) j)
  rw [Value.flushed2_A, out_eq] at b
  exact columns_product (index_of t).1 (index_of t).2.1 (index_of t).2.2 (dyb m c) (ob m c) ((dats m 0 c).arrAt 2 cfg0.N) ((cfg0.win 0).blk t).view.emb
    ((cfg0.win 1).blk t).view.emb ((cfg0.win 2).blk t).view.emb (fun _ _ => ⟨rfl, rfl⟩) (fun _ _ => ⟨rfl, rfl⟩) (fun _ _ => ⟨rfl, rfl⟩)
    ⟨i.val % 256, by omega⟩ i j (by show i.val = i.val / 256 * 256 + i.val % 256; omega) (b.trans (product_at (iblk m c 0 t) (iblk m c 1 t) _ j))

end Cert.Kernel9Ideal.Wgrad

namespace Cert.GateUpWgradClaims

section
open Cert.Reference7Ideal Cert.Reference7Ideal.Gen

/-- Every element of the reference's result is that product too. -/
theorem reference_at (x : FVec Ideal S4096x5632 .bf16) (y : FVec Ideal S4096x1024 .bf16) (i : Fin 5632) (j : Fin 1024) :
    truncf .bf16 (transpose S5632x1024 [1, 0] (transpose S1024x5632 [1, 0] (Host.dotGeneral dot_S4096x5632_S4096x1024_S5632x1024_0_0_1_1_n_n none (extf .f32 x bitsLt_bf16_f32) (extf .f32 y bitsLt_bf16_f32)) transposes_S5632x1024_S1024x5632_1_0) transposes_S1024x5632_S5632x1024_1_0) bitsLt_bf16_f32 (ix2 i j)
      = ∑ k : Fin 4096, x (ix2 k i) * y (ix2 k j) := by
  pointwise []

end

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem preserves : Cert.preserves_Kernel7_Kernel7Ideal := trivial

/-- The kernel and the reference end with the same gradient of the gate's and the values' weights. -/
theorem algebraic : Cert.algebraic_Kernel7Ideal_Reference7Ideal := by
  intro m g m' g' _ hagree
  refine ⟨fun c => (Cert.Kernel7Ideal.Gen.dats m 0 c).arrAt 2 Cert.Kernel7Ideal.cfg0.N, Cert.Kernel7Ideal.Value.run_blocks (F := Ideal) m g,
    (θ_run Cert.Reference7Ideal.defs _ _).mono (fun r h (c : Dev Cert.Kernel7Ideal.nD) => ?_) (Cert.Reference7Ideal.Value.run (F := Ideal) m' g')⟩
  obtain ⟨h0, h1⟩ := hagree c
  obtain ⟨r0, hk⟩ := h c
  refine ⟨r0.trans ?_, hk⟩
  rw [h0, h1]
  funext i
  obtain ⟨a, b, rfl⟩ : ∃ (a : Fin 5632) (b : Fin 1024), i = ix2 a b := ⟨i 0, i 1, eq_ix2 i⟩
  exact (reference_at _ _ a b).trans (Cert.Kernel7Ideal.Wgrad.result_at m c a b).symm

end Cert.GateUpWgradClaims

namespace Cert.DownWgradClaims

section
open Cert.Reference8Ideal Cert.Reference8Ideal.Gen

/-- Every element of the reference's result is that product, its factors the other way round. -/
theorem reference_at (x : FVec Ideal S4096x2816 .bf16) (y : FVec Ideal S4096x1024 .bf16) (i : Fin 2816) (j : Fin 1024) :
    truncf .bf16 (transpose S2816x1024 [1, 0] (Host.dotGeneral dot_S4096x1024_S4096x2816_S1024x2816_0_0_1_1_n_n none (extf .f32 y bitsLt_bf16_f32) (extf .f32 x bitsLt_bf16_f32)) transposes_S1024x2816_S2816x1024_1_0) bitsLt_bf16_f32 (ix2 i j)
      = ∑ k : Fin 4096, y (ix2 k j) * x (ix2 k i) := by
  pointwise []

end

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem preserves : Cert.preserves_Kernel8_Kernel8Ideal := trivial

/-- The kernel and the reference end with the same gradient of the down projection's weights. -/
theorem algebraic : Cert.algebraic_Kernel8Ideal_Reference8Ideal := by
  intro m g m' g' _ hagree
  refine ⟨fun c => (Cert.Kernel8Ideal.Gen.dats m 0 c).arrAt 2 Cert.Kernel8Ideal.cfg0.N, Cert.Kernel8Ideal.Value.run_blocks (F := Ideal) m g,
    (θ_run Cert.Reference8Ideal.defs _ _).mono (fun r h (c : Dev Cert.Kernel8Ideal.nD) => ?_) (Cert.Reference8Ideal.Value.run (F := Ideal) m' g')⟩
  obtain ⟨h0, h1⟩ := hagree c
  obtain ⟨r0, hk⟩ := h c
  refine ⟨r0.trans ?_, hk⟩
  rw [h0, h1]
  funext i
  obtain ⟨a, b, rfl⟩ : ∃ (a : Fin 2816) (b : Fin 1024), i = ix2 a b := ⟨i 0, i 1, eq_ix2 i⟩
  refine (reference_at _ _ a b).trans (Eq.trans ?_ (Cert.Kernel8Ideal.Wgrad.result_at m c a b).symm)
  exact Finset.sum_congr rfl fun k _ => mul_comm _ _

end Cert.DownWgradClaims

namespace Cert.OutWgradClaims

section
open Cert.Reference6Ideal Cert.Reference6Ideal.Gen

/-- Every element of the reference's result is that product, its factors the other way round. -/
theorem reference_at (x y : FVec Ideal S4096x1024 .bf16) (i j : Fin 1024) :
    truncf .bf16 (transpose S1024x1024 [1, 0] (Host.dotGeneral dot_S4096x1024_S4096x1024_S1024x1024_0_0_1_1_n_n none (extf .f32 y bitsLt_bf16_f32) (extf .f32 x bitsLt_bf16_f32)) transposes_S1024x1024_S1024x1024_1_0) bitsLt_bf16_f32 (ix2 i j)
      = ∑ k : Fin 4096, y (ix2 k j) * x (ix2 k i) := by
  pointwise []

end

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem preserves : Cert.preserves_Kernel6_Kernel6Ideal := trivial

/-- The kernel and the reference end with the same gradient of the product's weights. -/
theorem algebraic : Cert.algebraic_Kernel6Ideal_Reference6Ideal := by
  intro m g m' g' _ hagree
  refine ⟨fun c => (Cert.Kernel6Ideal.Gen.dats m 0 c).arrAt 2 Cert.Kernel6Ideal.cfg0.N, Cert.Kernel6Ideal.Value.run_blocks (F := Ideal) m g,
    (θ_run Cert.Reference6Ideal.defs _ _).mono (fun r h (c : Dev Cert.Kernel6Ideal.nD) => ?_) (Cert.Reference6Ideal.Value.run (F := Ideal) m' g')⟩
  obtain ⟨h0, h1⟩ := hagree c
  obtain ⟨r0, hk⟩ := h c
  refine ⟨r0.trans ?_, hk⟩
  rw [h0, h1]
  funext i
  obtain ⟨a, b, rfl⟩ : ∃ a b : Fin 1024, i = ix2 a b := ⟨i 0, i 1, eq_ix2 i⟩
  refine (reference_at _ _ a b).trans (Eq.trans ?_ (Cert.Kernel6Ideal.Wgrad.result_at m c a b).symm)
  exact Finset.sum_congr rfl fun k _ => mul_comm _ _

end Cert.OutWgradClaims

namespace Cert.BranchBWgradClaims

section
open Cert.Reference9Ideal Cert.Reference9Ideal.Gen

/-- Every element of the reference's result is that product too. -/
theorem reference_at (x : FVec Ideal S4096x1024 .bf16) (y : FVec Ideal S4096x512 .bf16) (i : Fin 1024) (j : Fin 512) :
    truncf .bf16 (transpose S1024x512 [1, 0] (transpose S512x1024 [1, 0] (Host.dotGeneral dot_S4096x1024_S4096x512_S1024x512_0_0_1_1_n_n none (extf .f32 x bitsLt_bf16_f32) (extf .f32 y bitsLt_bf16_f32)) transposes_S1024x512_S512x1024_1_0) transposes_S512x1024_S1024x512_1_0) bitsLt_bf16_f32 (ix2 i j)
      = ∑ k : Fin 4096, x (ix2 k i) * y (ix2 k j) := by
  pointwise []

end

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
theorem preserves : Cert.preserves_Kernel9_Kernel9Ideal := trivial

/-- The kernel and the reference end with the same gradient of the second branch's weights. -/
theorem algebraic : Cert.algebraic_Kernel9Ideal_Reference9Ideal := by
  intro m g m' g' _ hagree
  refine ⟨fun c => (Cert.Kernel9Ideal.Gen.dats m 0 c).arrAt 2 Cert.Kernel9Ideal.cfg0.N, Cert.Kernel9Ideal.Value.run_blocks (F := Ideal) m g,
    (θ_run Cert.Reference9Ideal.defs _ _).mono (fun r h (c : Dev Cert.Kernel9Ideal.nD) => ?_) (Cert.Reference9Ideal.Value.run (F := Ideal) m' g')⟩
  obtain ⟨h0, h1⟩ := hagree c
  obtain ⟨r0, hk⟩ := h c
  refine ⟨r0.trans ?_, hk⟩
  rw [h0, h1]
  funext i
  obtain ⟨a, b, rfl⟩ : ∃ (a : Fin 1024) (b : Fin 512), i = ix2 a b := ⟨i 0, i 1, eq_ix2 i⟩
  exact (reference_at _ _ a b).trans (Cert.Kernel9Ideal.Wgrad.result_at m c a b).symm

end Cert.BranchBWgradClaims
end
-- ==== Proof.GateUp.lean ====
/-
  The gate and up projection with the gated linear unit behind it: each grid point multiplies a block of the input with half
  of the weights and gates one half of the product with the other.
-/
module

public import proofs.«01_k».proof.Defs
public import proofs.«01_k».proof.Proof.Blocks
public import proofs.«01_k».proof.Proof.Silu
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem Cert.Blocks
open scoped BigOperators

namespace Cert.Kernel10Ideal.GateUp

open Cert.Kernel10Ideal Cert.Kernel10Ideal.Gen Cert.Kernel4Ideal.Silu

section Run

variable {F : FTy → Type} [FloatOps F] (c : Dev nD) (i : grid0.Coords) (a3 : Memref sig .tc .vmem S512x1024 .bf16) (h3 : a3.IsWhole)
  (a4 : Memref sig .tc .vmem S2816x1024 .bf16) (h4 : a4.IsWhole) (a5 : Memref sig .tc .vmem S512x2816 .bf16) (h5 : a5.IsWhole)
  (a6 : Memref sig .tc .vmem S512x1408 .bf16) (h6 : a6.IsWhole) (a7 : Memref sig .tc .vmem S8x128 .f32) (h7 : a7.IsWhole)
  (x : Vec F S512x1024 .bf16) (y : Vec F S2816x1024 .bf16)

/-- A grid point stores the product of its two blocks. -/
theorem out2_eq : out0_A_2 c i a3 h3 a4 h4 a5 h5 a6 h6 a7 h7 x y = k0_pay2 x y := by
  unfold out0_A_2
  rw [View.read_writes_eq_canon _ _ _ (cover0_A_2 c i a3 h3 a4 h4 a5 h5 a6 h6 a7 h7 x y)]
  unfold kernelRun0_A
  dsimp only
  rw [View.canon_unit_zero hz2]
  simp only [View.readAt_eq_ld, h3.read_unread, h4.read_unread, View.ld_unit_zero (S := S512x1024) hz2, View.ld_unit_zero (S := S2816x1024) hz2]

/-- And the gated values. -/
theorem out3_eq : out0_A_3 c i a3 h3 a4 h4 a5 h5 a6 h6 a7 h7 x y = k0_pay3 x y := by
  unfold out0_A_3
  rw [View.read_writes_eq_canon _ _ _ (cover0_A_3 c i a3 h3 a4 h4 a5 h5 a6 h6 a7 h7 x y)]
  unfold kernelRun0_A
  dsimp only
  rw [View.canon_unit_zero hz2]
  simp only [View.readAt_eq_ld, h3.read_unread, h4.read_unread, View.ld_unit_zero (S := S512x1024) hz2, View.ld_unit_zero (S := S2816x1024) hz2]

end Run

section Payloads

variable (x : FVec Ideal S512x1024 .bf16) (y : FVec Ideal S2816x1024 .bf16) (r : Fin 512)

theorem prod_at (k : Fin 2816) : (k0_pay1 (F := Ideal) x y) (ix2 r k) = ∑ n : Fin 1024, x (ix2 r n) * y (ix2 k n) := by
  pointwise [k0_pay1]
theorem pay2_at (k : Fin 2816) : (k0_pay2 (F := Ideal) x y) (ix2 r k) = (k0_pay1 (F := Ideal) x y) (ix2 r k) := by
  pointwise [k0_pay2]
theorem pay3_at (k : Fin 1408) : (k0_pay3 (F := Ideal) x y) (ix2 r k) =
    (k0_pay1 (F := Ideal) x y) (ix2 r (⟨k.val, by omega⟩ : Fin 2816)) * sigmoid ((k0_pay1 (F := Ideal) x y) (ix2 r (⟨k.val, by omega⟩ : Fin 2816)))
      * (k0_pay1 (F := Ideal) x y) (ix2 r (⟨1408 + k.val, by omega⟩ : Fin 2816)) := by
  pointwise [k0_pay3]
  rw [zero_sub]
  rfl

end Payloads

section Result

variable (m : (r : Loc nD τ sig) → Buf (Elt Ideal) r) (c : Dev nD)

/-- The layer's input. -/
abbrev inp : FVec Ideal S4096x1024 .bf16 := m ((c : Thread nD τ).loc main_arg0)
/-- The weights, transposed, their rows as the program keeps them. -/
abbrev wts : FVec Ideal S5632x1024 .bf16 := m ((c : Thread nD τ).loc main_arg1)
/-- The product. -/
def hid (i : Fin 4096) (j : Fin 5632) : EReal := ∑ n : Fin 1024, inp m c (ix2 i n) * wts m c (ix2 j n)

theorem index_of : ∀ t : Fin cfg0.N, win0_0.index t = ![t.val / 2, 0] ∧ win0_1.index t = ![t.val % 2, 0] ∧ win0_2.index t = ![t.val / 2, t.val % 2]
    ∧ win0_3.index t = ![t.val / 2, t.val % 2] := (by decide +kernel : ∀ t : Fin grid0.N, _)

/-- What a point computes of the product, in row `r` and column `k` of its block. -/
theorem hid_at (t : Fin cfg0.N) (r : Fin 512) (k : Fin 2816) (i : Fin 4096) (j : Fin 5632) (hi : i.val = t.val / 2 * 512 + r.val)
    (hj : j.val = t.val % 2 * 2816 + k.val) : (k0_pay1 (F := Ideal) (iblk m c 0 t) (iblk m c 1 t)) (ix2 r k) = hid m c i j := by
  refine (prod_at (iblk m c 0 t) (iblk m c 1 t) r k).trans ?_
  unfold hid
  refine Finset.sum_congr rfl fun n _ => ?_
  exact congrArg₂ (· * ·) (block_at (index_of t).1 (inp m c) ((cfg0.win 0).blk t).view.emb (fun _ _ => ⟨rfl, rfl⟩) r n i n hi (by omega))
    (block_at (index_of t).2.1 (wts m c) ((cfg0.win 1).blk t).view.emb (fun _ _ => ⟨rfl, rfl⟩) k n j n hj (by omega))

/-- The product, in the kernel's first result. -/
theorem result_hid (i : Fin 4096) (j : Fin 5632) : (dats m 0 c).arrAt 2 cfg0.N (ix2 i j) = hid m c i j := by
  let t : Fin cfg0.N := ⟨i.val / 512 * 2 + j.val / 2816, lt_of_lt_of_eq (by omega) N_0.symm⟩
  have ht : t.val = i.val / 512 * 2 + j.val / 2816 := rfl
  have b := congrFun (Value.blocks2 m c t (by rw [flush0_2])) (ix2 (⟨i.val % 512, by omega⟩ : Fin 512) (⟨j.val % 2816, by omega⟩ : Fin 2816))
  rw [Value.flushed2_A, out2_eq] at b
  have hi : i.val = t.val / 2 * 512 + i.val % 512 := by omega
  have hj : j.val = t.val % 2 * 2816 + j.val % 2816 := by omega
  exact (block_at (index_of t).2.2.1 ((dats m 0 c).arrAt 2 cfg0.N) ((cfg0.win 2).blk t).view.emb (fun _ _ => ⟨rfl, rfl⟩) _ _ i j hi hj).symm.trans
    (b.trans ((pay2_at (iblk m c 0 t) (iblk m c 1 t) _ _).trans (hid_at m c t _ _ i j hi hj)))

/-- The gated values, in the kernel's second result. -/
theorem result_act (i : Fin 4096) (q : Fin 2816) : (dats m 0 c).arrAt 3 cfg0.N (ix2 i q) =
    hid m c i (gcol q) * sigmoid (hid m c i (gcol q)) * hid m c i (ucol q) := by
  let t : Fin cfg0.N := ⟨i.val / 512 * 2 + q.val / 1408, lt_of_lt_of_eq (by omega) N_0.symm⟩
  have ht : t.val = i.val / 512 * 2 + q.val / 1408 := rfl
  have b := congrFun (Value.blocks3 m c t (by rw [flush0_3])) (ix2 (⟨i.val % 512, by omega⟩ : Fin 512) (⟨q.val % 1408, by omega⟩ : Fin 1408))
  rw [Value.flushed3_A, out3_eq] at b
  have hi : i.val = t.val / 2 * 512 + i.val % 512 := by omega
  have hq : q.val = t.val % 2 * 1408 + q.val % 1408 := by omega
  refine (block_at (index_of t).2.2.2 ((dats m 0 c).arrAt 3 cfg0.N) ((cfg0.win 3).blk t).view.emb (fun _ _ => ⟨rfl, rfl⟩) _ _ i q hi hq).symm.trans
    (b.trans ((pay3_at (iblk m c 0 t) (iblk m c 1 t) _ _).trans ?_))
  rw [hid_at m c t _ _ i (gcol q) hi (by show q.val / 1408 * 2816 + q.val % 1408 = t.val % 2 * 2816 + q.val % 1408; omega),
    hid_at m c t _ _ i (ucol q) hi (by show q.val / 1408 * 2816 + 1408 + q.val % 1408 = t.val % 2 * 2816 + (1408 + q.val % 1408); omega)]

end Result

end Cert.Kernel10Ideal.GateUp

namespace Cert.GateUpClaims

section
open Cert.Reference10Ideal Cert.Reference10Ideal.Gen Cert.Reference4Ideal.Silu Cert.Kernel4Ideal.Silu

/-- The reference's product. -/
def prod (x : FVec Ideal S4096x1024 .bf16) (y : FVec Ideal S5632x1024 .bf16) : FVec Ideal S4096x5632 .bf16 :=
  truncf .bf16 (Host.dotGeneral dot_S4096x1024_S5632x1024_S4096x5632_1_1_0_0_n_n none (extf .f32 x bitsLt_bf16_f32) (extf .f32 y bitsLt_bf16_f32)) bitsLt_bf16_f32

theorem prod_at (x : FVec Ideal S4096x1024 .bf16) (y : FVec Ideal S5632x1024 .bf16) (i : Fin 4096) (j : Fin 5632) :
    prod x y (ix2 i j) = ∑ n : Fin 1024, x (ix2 i n) * y (ix2 j n) := by
  pointwise [prod]

/-- The reference's gated values. -/
def act (h : FVec Ideal S4096x5632 .bf16) : FVec Ideal S4096x2816 .bf16 := truncf .bf16 (mulf (mulf (gates h) (sig h)) (values h)) bitsLt_bf16_f32

theorem act_at (h : FVec Ideal S4096x5632 .bf16) (i : Fin 4096) (q : Fin 2816) :
    act h (ix2 i q) = h (ix2 i (gcol q)) * sigmoid (h (ix2 i (gcol q))) * h (ix2 i (ucol q)) := by
  have e : act h (ix2 i q) = gates h (ix2 i q) * sig h (ix2 i q) * values h (ix2 i q) := by pointwise [act]
  rw [e, gates_at, sig_at, values_at]

end

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)
theorem preserves : Cert.preserves_Kernel10_Kernel10Ideal := trivial

/-- The kernel and the reference end with the same product and the same gated values. -/
theorem algebraic : Cert.algebraic_Kernel10Ideal_Reference10Ideal := by
  intro m g m' g' _ hagree
  refine ⟨fun c => (Cert.Kernel10Ideal.Gen.dats m 0 c).arrAt 2 Cert.Kernel10Ideal.cfg0.N, fun c => (Cert.Kernel10Ideal.Gen.dats m 0 c).arrAt 3 Cert.Kernel10Ideal.cfg0.N,
    Cert.Kernel10Ideal.Value.run_blocks (F := Ideal) m g,
    (θ_run Cert.Reference10Ideal.defs _ _).mono (fun r h (c : Dev Cert.Kernel10Ideal.nD) => ?_) (Cert.Reference10Ideal.Value.run (F := Ideal) m' g')⟩
  obtain ⟨h0, h1⟩ := hagree c
  obtain ⟨r0, r1, hk⟩ := h c
  refine ⟨r0.trans ?_, r1.trans ?_, hk⟩
  · rw [h0, h1]
    funext i
    obtain ⟨a, b, rfl⟩ : ∃ (a : Fin 4096) (b : Fin 5632), i = ix2 a b := ⟨i 0, i 1, eq_ix2 i⟩
    exact (prod_at _ _ a b).trans (Cert.Kernel10Ideal.GateUp.result_hid m c a b).symm
  · rw [h0, h1]
    funext i
    obtain ⟨a, b, rfl⟩ : ∃ (a : Fin 4096) (b : Fin 2816), i = ix2 a b := ⟨i 0, i 1, eq_ix2 i⟩
    refine (act_at (prod (Cert.Kernel10Ideal.GateUp.inp m c) (Cert.Kernel10Ideal.GateUp.wts m c)) a b).trans (Eq.trans ?_ (Cert.Kernel10Ideal.GateUp.result_act m c a b).symm)
    rw [prod_at, prod_at]
    rfl

end Cert.GateUpClaims
end
-- ==== Proof.Products.lean ====
/-
  Two products of the forward pass: the gates' columns of the input projection and the first branch's projection.
-/
module

public import proofs.«01_k».proof.Defs
public import proofs.«01_k».proof.Proof.Blocks
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem Cert.Blocks
open scoped BigOperators

namespace Cert.Kernel11Ideal.Product

open Cert.Kernel11Ideal Cert.Kernel11Ideal.Gen

/-- A grid point stores the product of its two blocks. -/
theorem out_eq {F : FTy → Type} [FloatOps F] (c : Dev nD) (i : grid0.Coords) (a2 : Memref sig .tc .vmem S2048x1024 .bf16) (h2 : a2.IsWhole)
    (a3 : Memref sig .tc .vmem S256x1024 .bf16) (h3 : a3.IsWhole) (a4 : Memref sig .tc .vmem S2048x128 .f32) (h4 : a4.IsWhole)
    (a5 : Memref sig .tc .vmem S2048x128 .f32) (h5 : a5.IsWhole) (a6 : Memref sig .tc .vmem S2048x256 .bf16) (h6 : a6.IsWhole) (hc0 : ¬cond0_0 i) (hc1 : cond0_1 i)
    (x : Vec F S2048x1024 .bf16) (y : Vec F S256x1024 .bf16) (u v : Vec F S2048x128 .f32) :
    out0_A_4 c i a2 h2 a3 h3 a4 h4 a5 h5 a6 h6 hc0 hc1 x y u v = k0_pay3 x y := by
  unfold out0_A_4
  rw [View.read_writes_eq_canon _ _ _ (cover0_A_4 c i a2 h2 a3 h3 a4 h4 a5 h5 a6 h6 hc0 hc1 x y u v)]
  unfold kernelRun0_A
  dsimp only
  rw [View.canon_unit_zero hz2]
  simp only [View.readAt_eq_ld, h2.read_unread, h3.read_unread, View.ld_unit_zero (S := S2048x1024) hz2, View.ld_unit_zero (S := S256x1024) hz2]

theorem product_at (x : FVec Ideal S2048x1024 .bf16) (y : FVec Ideal S256x1024 .bf16) (r : Fin 2048) (k : Fin 256) :
    (k0_pay3 (F := Ideal) x y) (ix2 r k) = ∑ n : Fin 1024, x (ix2 r n) * y (ix2 k n) := by
  pointwise [k0_pay3, k0_pay1]

theorem index_of : ∀ t : Fin cfg0.N, win0_0.index t = ![t.val / 8, 0] ∧ win0_1.index t = ![t.val % 8 + 23, 0] ∧ win0_4.index t = ![t.val / 8, t.val % 8] :=
  (by decide +kernel : ∀ t : Fin grid0.N, _)

variable (m : (r : Loc nD τ sig) → Buf (Elt Ideal) r) (c : Dev nD)

/-- The projection's input. -/
abbrev inp : FVec Ideal S4096x1024 .bf16 := m ((c : Thread nD τ).loc main_arg0)
/-- The projection's weights, transposed. -/
abbrev wts : FVec Ideal S7936x1024 .bf16 := m ((c : Thread nD τ).loc main_arg1)

/-- Every element of the result is the product of a row of the input with a row of the weights. -/
theorem result_at (i : Fin 4096) (j : Fin 2048) :
    (dats m 0 c).arrAt 4 cfg0.N (ix2 i j) = ∑ n : Fin 1024, inp m c (ix2 i n) * wts m c (ix2 (⟨5888 + j.val, by omega⟩ : Fin 7936) n) := by
  let t : Fin cfg0.N := ⟨i.val / 2048 * 8 + j.val / 256, lt_of_lt_of_eq (by omega) N_0.symm⟩
  have ht : t.val = i.val / 2048 * 8 + j.val / 256 := rfl
  have b := congrFun (Value.blocks4 m c t (by rw [flush0_4])) (ix2 (⟨i.val % 2048, by omega⟩ : Fin 2048) (⟨j.val % 256, by omega⟩ : Fin 256))
  rw [Value.flushed4_A, out_eq] at b
  have hi : i.val = t.val / 8 * 2048 + i.val % 2048 := by omega
  refine (block_at (index_of t).2.2 ((dats m 0 c).arrAt 4 cfg0.N) ((cfg0.win 4).blk t).view.emb (fun _ _ => ⟨rfl, rfl⟩) _ _ i j hi
    (by show j.val = t.val % 8 * 256 + j.val % 256; omega)).symm.trans (b.trans ((product_at (iblk m c 0 t) (iblk m c 1 t) _ _).trans ?_))
  refine Finset.sum_congr rfl fun n _ => ?_
  exact congrArg₂ (· * ·) (block_at (index_of t).1 (inp m c) ((cfg0.win 0).blk t).view.emb (fun _ _ => ⟨rfl, rfl⟩) _ n i n hi (by omega))
    (block_at (index_of t).2.1 (wts m c) ((cfg0.win 1).blk t).view.emb (fun _ _ => ⟨rfl, rfl⟩) _ n _ n
      (by show 5888 + j.val = (t.val % 8 + 23) * 256 + j.val % 256; omega) (by omega))

end Cert.Kernel11Ideal.Product

namespace Cert.Kernel12Ideal.Product

open Cert.Kernel12Ideal Cert.Kernel12Ideal.Gen

/-- A grid point stores the product of its two blocks. -/
theorem out_eq {F : FTy → Type} [FloatOps F] (c : Dev nD) (i : grid0.Coords) (a3 : Memref sig .tc .vmem S1024x1024 .bf16) (h3 : a3.IsWhole)
    (a4 : Memref sig .tc .vmem S1024x512 .bf16) (h4 : a4.IsWhole) (a5 : Memref sig .tc .vmem S1024x512 .bf16) (h5 : a5.IsWhole)
    (a6 : Memref sig .tc .vmem S8x128 .f32) (h6 : a6.IsWhole) (x : Vec F S1024x1024 .bf16) (y : Vec F S1024x512 .bf16) :
    out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero hz2]
  simp only [View.readAt_eq_ld, h3.read_unread, h4.read_unread, View.ld_unit_zero (S := S1024x1024) hz2, View.ld_unit_zero (S := S1024x512) hz2]

theorem product_at (x : FVec Ideal S1024x1024 .bf16) (y : FVec Ideal S1024x512 .bf16) (r : Fin 1024) (k : Fin 512) :
    (k0_pay1 (F := Ideal) x y) (ix2 r k) = ∑ n : Fin 1024, x (ix2 r n) * y (ix2 n k) := by
  pointwise [k0_pay1]

theorem index_of : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (r : Loc nD τ sig) → Buf (Elt Ideal) r) (c : Dev nD)

/-- The attention's output. -/
abbrev inp : FVec Ideal S4096x1024 .bf16 := m ((c : Thread nD τ).loc main_arg0)
/-- The branch's weights. -/
abbrev wts : FVec Ideal S1024x1024 .bf16 := m ((c : Thread nD τ).loc main_arg1)

/-- Every element of the result is the product of a row of the input with a column of the weights. -/
theorem result_at (i : Fin 4096) (j : Fin 1024) :
    (dats m 0 c).arrAt 2 cfg0.N (ix2 i j) = ∑ n : Fin 1024, inp m c (ix2 i n) * wts m c (ix2 n j) := by
  let t : Fin cfg0.N := ⟨i.val / 1024 * 2 + j.val / 512, lt_of_lt_of_eq (by omega) N_0.symm⟩
  have ht : t.val = i.val / 1024 * 2 + j.val / 512 := rfl
  have b := congrFun (Value.blocks2 m c t (by rw [flush0_2])) (ix2 (⟨i.val % 1024, by omega⟩ : Fin 1024) (⟨j.val % 512, by omega⟩ : Fin 512))
  rw [Value.flushed2_A, out_eq] at b
  have hi : i.val = t.val / 2 * 1024 + i.val % 1024 := by omega
  have hj : j.val = t.val % 2 * 512 + j.val % 512 := by omega
  refine (block_at (index_of t).2.2 ((dats m 0 c).arrAt 2 cfg0.N) ((cfg0.win 2).blk t).view.emb (fun _ _ => ⟨rfl, rfl⟩) _ _ i j hi hj).symm.trans
    (b.trans ((product_at (iblk m c 0 t) (iblk m c 1 t) _ _).trans ?_))
  refine Finset.sum_congr rfl fun n _ => ?_
  exact congrArg₂ (· * ·) (block_at (index_of t).1 (inp m c) ((cfg0.win 0).blk t).view.emb (fun _ _ => ⟨rfl, rfl⟩) _ n i n hi (by omega))
    (block_at (index_of t).2.1 (wts m c) ((cfg0.win 1).blk t).view.emb (fun _ _ => ⟨rfl, rfl⟩) n _ n j (by omega) hj)

end Cert.Kernel12Ideal.Product

namespace Cert.GatesForwardClaims

section
open Cert.Reference11Ideal Cert.Reference11Ideal.Gen

/-- Every element of the reference's result is that product too. -/
theorem reference_at (x : FVec Ideal S4096x1024 .bf16) (y : FVec Ideal S7936x1024 .bf16) (i : Fin 4096) (j : Fin 2048) :
    truncf .bf16 (extractStridedSlice S4096x2048 ![0, 5888] (Host.dotGeneral dot_S4096x1024_S7936x1024_S4096x7936_1_1_0_0_n_n none (extf .f32 x bitsLt_bf16_f32) (extf .f32 y bitsLt_bf16_f32)) slices_S4096x7936_S4096x2048_0_5888) bitsLt_bf16_f32 (ix2 i j)
      = ∑ n : Fin 1024, x (ix2 i n) * y (ix2 (⟨5888 + j.val, by omega⟩ : Fin 7936) n) := by
  pointwise []

end

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem preserves : Cert.preserves_Kernel11_Kernel11Ideal := trivial

/-- The kernel and the reference end with the same gates' inputs. -/
theorem algebraic : Cert.algebraic_Kernel11Ideal_Reference11Ideal := by
  intro m g m' g' _ hagree
  refine ⟨fun c => (Cert.Kernel11Ideal.Gen.dats m 0 c).arrAt 4 Cert.Kernel11Ideal.cfg0.N, Cert.Kernel11Ideal.Value.run_blocks (F := Ideal) m g,
    (θ_run Cert.Reference11Ideal.defs _ _).mono (fun r h (c : Dev Cert.Kernel11Ideal.nD) => ?_) (Cert.Reference11Ideal.Value.run (F := Ideal) m' g')⟩
  obtain ⟨h0, h1, _⟩ := hagree c
  obtain ⟨r0, hk⟩ := h c
  refine ⟨r0.trans ?_, hk⟩
  rw [h0, h1]
  funext i
  obtain ⟨a, b, rfl⟩ : ∃ (a : Fin 4096) (b : Fin 2048), i = ix2 a b := ⟨i 0, i 1, eq_ix2 i⟩
  exact (reference_at _ _ a b).trans (Cert.Kernel11Ideal.Product.result_at m c a b).symm

end Cert.GatesForwardClaims

namespace Cert.BranchAClaims

section
open Cert.Reference12Ideal Cert.Reference12Ideal.Gen

/-- Every element of the reference's result is that product too. -/
theorem reference_at (x : FVec Ideal S4096x1024 .bf16) (y : FVec Ideal S1024x1024 .bf16) (i : Fin 4096) (j : Fin 1024) :
    truncf .bf16 (Host.dotGeneral dot_S4096x1024_S1024x1024_S4096x1024_1_0_0_1_n_n none (extf .f32 x bitsLt_bf16_f32) (extf .f32 y bitsLt_bf16_f32)) bitsLt_bf16_f32 (ix2 i j)
      = ∑ n : Fin 1024, x (ix2 i n) * y (ix2 n j) := by
  pointwise []

end

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
theorem preserves : Cert.preserves_Kernel12_Kernel12Ideal := trivial

/-- The kernel and the reference end with the same branch. -/
theorem algebraic : Cert.algebraic_Kernel12Ideal_Reference12Ideal := by
  intro m g m' g' _ hagree
  refine ⟨fun c => (Cert.Kernel12Ideal.Gen.dats m 0 c).arrAt 2 Cert.Kernel12Ideal.cfg0.N, Cert.Kernel12Ideal.Value.run_blocks (F := Ideal) m g,
    (θ_run Cert.Reference12Ideal.defs _ _).mono (fun r h (c : Dev Cert.Kernel12Ideal.nD) => ?_) (Cert.Reference12Ideal.Value.run (F := Ideal) m' g')⟩
  obtain ⟨h0, h1⟩ := hagree c
  obtain ⟨r0, hk⟩ := h c
  refine ⟨r0.trans ?_, hk⟩
  rw [h0, h1]
  funext i
  obtain ⟨a, b, rfl⟩ : ∃ (a : Fin 4096) (b : Fin 1024), i = ix2 a b := ⟨i 0, i 1, eq_ix2 i⟩
  exact (reference_at _ _ a b).trans (Cert.Kernel12Ideal.Product.result_at m c a b).symm

end Cert.BranchAClaims
end
-- ==== Proof.OutNorm.lean ====
/-
  The output projection with the residual sum and the layer norm behind it, and the modulation of the normalised rows.
-/
module

public import proofs.«01_k».proof.Defs
public import proofs.«01_k».proof.Proof.Blocks
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem Cert.Blocks
open scoped BigOperators

namespace Cert.OutNorm

/-- The mean of a row of 1024 numbers. -/
def mean (f : Fin 1024 → EReal) : EReal := Ideal.div (∑ k : Fin 1024, f k) (Ideal.ofBits .f32 0x44800000#32)
/-- A row less its mean. -/
def cent (f : Fin 1024 → EReal) (j : Fin 1024) : EReal := f j - mean f
/-- A row's inverse deviation. -/
def inv (f : Fin 1024 → EReal) : EReal := Ideal.rsqrt (mean (fun k => cent f k * cent f k) + Ideal.ofBits .f32 0x3727C5AC#32)
/-- A row's layer norm. -/
def norm (f g b : Fin 1024 → EReal) (j : Fin 1024) : EReal := cent f j * inv f * g j + b j
/-- The residual sum: a row of the layer's input and a row of the branch's output, scaled. -/
def resid (x y s : Fin 1024 → EReal) (j : Fin 1024) : EReal := Ideal.ofBits .f32 0x3F9837F0#32 * x j + (1 + s j) * y j

end Cert.OutNorm

namespace Cert.Kernel13Ideal.OutNorm

open Cert.Kernel13Ideal Cert.Kernel13Ideal.Gen

theorem hz3 : (![0, 0, 0] : Fin 3 → Nat) = fun _ => 0 := funext fun a => by fin_cases a <;> rfl

section Run

variable {F : FTy → Type} [FloatOps F]

/-- Row `r` of a block of eight rows. -/
abbrev rowRect (r : ℕ) (h : ∀ a, (![0, r, 0] : Fin 3 → Nat) a + S1x1x1024.size a ≤ S1x8x1024.size a) : Rect S1x8x1024 :=
  Rect.unit (s := S1x8x1024) ![0, r, 0] S1x1x1024.size h
/-- Row `r` of the contents of a block of eight rows. -/
abbrev rowOf (x : Vec F S1x8x1024 .f32) (r : ℕ) (h : ∀ a, (![0, r, 0] : Fin 3 → Nat) a + S1x1x1024.size a ≤ S1x8x1024.size a) : Vec F S1x1x1024 .f32 :=
  View.ld x (rowRect r h)

variable (c : Dev nD) (i : grid0.Coords) (a3 : Memref sig .tc .vmem S512x1024 .bf16) (h3 : a3.IsWhole) (a4 : Memref sig .tc .vmem S1024x1024 .bf16) (h4 : a4.IsWhole)
  (a5 : Memref sig .tc .vmem S512x1024 .f32) (h5 : a5.IsWhole) (a6 : Memref sig .tc .vmem S1x8x1024 .f32) (h6 : a6.IsWhole) (a7 : Memref sig .tc .vmem S1x1024 .f32) (h7 : a7.IsWhole)
  (a8 : Memref sig .tc .vmem S1x1024 .f32) (h8 : a8.IsWhole) (a9 : Memref sig .tc .vmem S512x1024 .f32) (h9 : a9.IsWhole) (a10 : Memref sig .tc .vmem S512x1024 .f32) (h10 : a10.IsWhole)
  (a11 : Memref sig .tc .vmem S512x1024 .bf16) (h11 : a11.IsWhole) (a12 : Memref sig .tc .vmem S8x128 .f32) (h12 : a12.IsWhole)
  (x0 : Vec F S512x1024 .bf16) (x1 : Vec F S1024x1024 .bf16) (x2 : Vec F S512x1024 .f32) (x3 : Vec F S1x8x1024 .f32) (x4 x5 : Vec F S1x1024 .f32)

/-- A grid point stores the product of its blocks, -/
theorem out6_eq : out0_A_6 c i a3 h3 a4 h4 a5 h5 a6 h6 a7 h7 a8 h8 a9 h9 a10 h10 a11 h11 a12 h12 x0 x1 x2 x3 x4 x5 = k0_pay2 x0 x1 := by
  unfold out0_A_6
  rw [View.read_writes_eq_canon _ _ _ (cover0_A_6 c i a3 h3 a4 h4 a5 h5 a6 h6 a7 h7 a8 h8 a9 h9 a10 h10 a11 h11 a12 h12 x0 x1 x2 x3 x4 x5)]
  unfold kernelRun0_A
  dsimp only
  rw [View.canon_unit_zero hz2]
  unfold kernelRun0_A.sl.r
  simp only [View.readAt_eq_ld, h3.read_unread, h4.read_unread, View.ld_unit_zero (S := S512x1024) hz2, View.ld_unit_zero (S := S1024x1024) hz2]

/-- the normalised rows, -/
theorem out7_eq : out0_A_7 c i a3 h3 a4 h4 a5 h5 a6 h6 a7 h7 a8 h8 a9 h9 a10 h10 a11 h11 a12 h12 x0 x1 x2 x3 x4 x5 =
    k0_pay3 x0 x1 x2 (rowOf x3 2 inb_S1x8x1024_S1x1x1024_0_2_0) x4 x5 := by
  unfold out0_A_7
  rw [View.read_writes_eq_canon _ _ _ (cover0_A_7 c i a3 h3 a4 h4 a5 h5 a6 h6 a7 h7 a8 h8 a9 h9 a10 h10 a11 h11 a12 h12 x0 x1 x2 x3 x4 x5)]
  unfold kernelRun0_A
  dsimp only
  rw [View.canon_unit_zero hz2]
  unfold kernelRun0_A.sl.r_1
  simp only [View.readAt_eq_ld, h3.read_unread, h4.read_unread, h5.read_unread, h6.read_unread, h7.read_unread, h8.read_unread, View.ld_unit_zero (S := S512x1024) hz2,
    View.ld_unit_zero (S := S1024x1024) hz2, View.ld_unit_zero (S := S1x1024) hz2]

/-- and the normalised rows, modulated. -/
theorem out8_eq : out0_A_8 c i a3 h3 a4 h4 a5 h5 a6 h6 a7 h7 a8 h8 a9 h9 a10 h10 a11 h11 a12 h12 x0 x1 x2 x3 x4 x5 =
    k0_pay1 (k0_pay3 x0 x1 x2 (rowOf x3 2 inb_S1x8x1024_S1x1x1024_0_2_0) x4 x5) (rowOf x3 4 inb_S1x8x1024_S1x1x1024_0_4_0) (rowOf x3 3 inb_S1x8x1024_S1x1x1024_0_3_0) := by
  unfold out0_A_8
  rw [View.read_writes_eq_canon _ _ _ (cover0_A_8 c i a3 h3 a4 h4 a5 h5 a6 h6 a7 h7 a8 h8 a9 h9 a10 h10 a11 h11 a12 h12 x0 x1 x2 x3 x4 x5)]
  unfold kernelRun0_A
  dsimp only
  rw [View.canon_unit_zero hz2]
  unfold kernelRun0_A.sl.r_1
  simp only [View.readAt_eq_ld, h3.read_unread, h4.read_unread, h5.read_unread, h6.read_unread, h7.read_unread, h8.read_unread, View.ld_unit_zero (S := S512x1024) hz2,
    View.ld_unit_zero (S := S1024x1024) hz2, View.ld_unit_zero (S := S1x1024) hz2]

end Run

/-! ## The payloads, row by row -/

/-- The residual sums. -/
def residB (y x : FVec Ideal S512x1024 .f32) (s : FVec Ideal S1x1x1024 .f32) : FVec Ideal S512x1024 .f32 :=
  addf (mulf (broadcast S512x1024 (Scalar.ofBits .f32 0x3F9837F0#32)) x)
    (mulf (broadcastTo S512x1024 (addf (broadcast S1x1024 (Scalar.ofBits .f32 0x3F800000#32)) (shapeCast S1x1024 s shapeCasts_S1x1x1024_S1x1024)) broadcasts_S1x1024_S512x1024) y)
/-- The means of the rows. -/
def meanB (p : FVec Ideal S512x1024 .f32) : FVec Ideal S512x1 .f32 :=
  divf (shapeCast S512x1 (multiReduction .add [1] S512 p 0x00000000#32 reduces_S512x1024_S512 (.inl rfl) rfl) shapeCasts_S512_S512x1) (broadcast S512x1 (Scalar.ofBits .f32 0x44800000#32))
/-- The rows less their means. -/
def centB (p : FVec Ideal S512x1024 .f32) : FVec Ideal S512x1024 .f32 := subf p (broadcastTo S512x1024 (meanB p) broadcasts_S512x1_S512x1024)
/-- The squares of the rows less their means. -/
def sqB (p : FVec Ideal S512x1024 .f32) : FVec Ideal S512x1024 .f32 := mulf (centB p) (centB p)
/-- The rows' inverse deviations. -/
def invB (p : FVec Ideal S512x1024 .f32) : FVec Ideal S512x1 .f32 := rsqrt (addf (meanB (sqB p)) (broadcast S512x1 (Scalar.ofBits .f32 0x3727C5AC#32)))
/-- The rows' layer norms. -/
def normB (p : FVec Ideal S512x1024 .f32) (g b : FVec Ideal S1x1024 .f32) : FVec Ideal S512x1024 .f32 :=
  addf (mulf (mulf (centB p) (broadcastTo S512x1024 (invB p) broadcasts_S512x1_S512x1024)) (broadcastTo S512x1024 g broadcasts_S1x1024_S512x1024)) (broadcastTo S512x1024 b broadcasts_S1x1024_S512x1024)

theorem pay3_eq (v0 : FVec Ideal S512x1024 .bf16) (v1 : FVec Ideal S1024x1024 .bf16) (v3 : FVec Ideal S512x1024 .f32) (v6 : FVec Ideal S1x1x1024 .f32) (v29 v32 : FVec Ideal S1x1024 .f32) :
    k0_pay3 (F := Ideal) v0 v1 v3 v6 v29 v32 = normB (residB (k0_pay2 v0 v1) v3 v6) v29 v32 := rfl

theorem product_at (x : FVec Ideal S512x1024 .bf16) (y : FVec Ideal S1024x1024 .bf16) (r : Fin 512) (j : Fin 1024) :
    (k0_pay2 (F := Ideal) x y) (ix2 r j) = ∑ n : Fin 1024, x (ix2 r n) * y (ix2 n j) := by
  pointwise [k0_pay2]

theorem residB_at (y x : FVec Ideal S512x1024 .f32) (s : FVec Ideal S1x1x1024 .f32) (r : Fin 512) (j : Fin 1024) :
    residB y x s (ix2 r j) = Cert.OutNorm.resid (fun k => x (ix2 r k)) (fun k => y (ix2 r k)) (fun k => s (ix3 (0 : Fin 1) (0 : Fin 1) k)) j := by
  unfold Cert.OutNorm.resid
  pointwise [residB]

variable (p : FVec Ideal S512x1024 .f32) (g b : FVec Ideal S1x1024 .f32) (r : Fin 512)

theorem meanB_at : meanB p (ix2 r (0 : Fin 1)) = Cert.OutNorm.mean (fun k => p (ix2 r k)) := by
  unfold Cert.OutNorm.mean
  pointwise [meanB]
theorem centB_at (j : Fin 1024) : centB p (ix2 r j) = Cert.OutNorm.cent (fun k => p (ix2 r k)) j := by
  unfold Cert.OutNorm.cent
  rw [← meanB_at p r]
  pointwise [centB]
theorem sqB_at (j : Fin 1024) : sqB p (ix2 r j) = centB p (ix2 r j) * centB p (ix2 r j) := by
  pointwise [sqB]
theorem invB_at : invB p (ix2 r (0 : Fin 1)) = Cert.OutNorm.inv (fun k => p (ix2 r k)) := by
  have e : invB p (ix2 r (0 : Fin 1)) = Ideal.rsqrt (meanB (sqB p) (ix2 r (0 : Fin 1)) + Ideal.ofBits .f32 0x3727C5AC#32) := by pointwise [invB]
  rw [e, meanB_at]
  unfold Cert.OutNorm.inv
  simp only [sqB_at, centB_at]
theorem normB_at (j : Fin 1024) : normB p g b (ix2 r j) =
    Cert.OutNorm.norm (fun k => p (ix2 r k)) (fun k => g (ix2 (0 : Fin 1) k)) (fun k => b (ix2 (0 : Fin 1) k)) j := by
  unfold Cert.OutNorm.norm
  rw [← centB_at p r j, ← invB_at p r]
  pointwise [normB]

theorem pay1_at (s t : FVec Ideal S1x1x1024 .f32) (j : Fin 1024) : (k0_pay1 (F := Ideal) p s t) (ix2 r j) =
    p (ix2 r j) * (1 + s (ix3 (0 : Fin 1) (0 : Fin 1) j)) + t (ix3 (0 : Fin 1) (0 : Fin 1) j) := by
  pointwise [k0_pay1]

/-! ## The kernel's results -/

section Result

variable (m : (r : Loc nD τ sig) → Buf (Elt Ideal) r) (c : Dev nD)

/-- The branches' output. -/
abbrev inp : FVec Ideal S4096x1024 .bf16 := m ((c : Thread nD τ).loc main_arg0)
/-- The output projection's weights. -/
abbrev wts : FVec Ideal S1024x1024 .bf16 := m ((c : Thread nD τ).loc main_arg1)
/-- The layer's input. -/
abbrev xin : FVec Ideal S4096x1024 .f32 := m ((c : Thread nD τ).loc main_arg2)
/-- The modulation. -/
abbrev modn : FVec Ideal S2x8x1024 .f32 := m ((c : Thread nD τ).loc main_arg3)
/-- The layer norm's scale. -/
abbrev scl : FVec Ideal S1x1024 .f32 := m ((c : Thread nD τ).loc main_arg4)
/-- The layer norm's shift. -/
abbrev shf : FVec Ideal S1x1024 .f32 := m ((c : Thread nD τ).loc main_arg5)

/-- The batch row of a token. -/
abbrev batch (i : Fin 4096) : Fin 2 := ⟨i.val / 2048, by omega⟩
/-- The projection. -/
def Y (i : Fin 4096) (j : Fin 1024) : EReal := ∑ n : Fin 1024, inp m c (ix2 i n) * wts m c (ix2 n j)
/-- The residual sum. -/
def P (i : Fin 4096) : Fin 1024 → EReal := Cert.OutNorm.resid (fun k => xin m c (ix2 i k)) (Y m c i) (fun k => modn m c (ix3 (batch i) (2 : Fin 8) k))
/-- The normalised rows. -/
def H (i : Fin 4096) : Fin 1024 → EReal := Cert.OutNorm.norm (P m c i) (fun k => scl m c (ix2 (0 : Fin 1) k)) (fun k => shf m c (ix2 (0 : Fin 1) k))
/-- The normalised rows, modulated. -/
def U (i : Fin 4096) (j : Fin 1024) : EReal := H m c i j * (1 + modn m c (ix3 (batch i) (4 : Fin 8) j)) + modn m c (ix3 (batch i) (3 : Fin 8) j)

theorem index_of : ∀ t : Fin cfg0.N, win0_0.index t = ![t.val, 0] ∧ win0_1.index t = ![0, 0] ∧ win0_2.index t = ![t.val, 0] ∧ win0_3.index t = ![t.val / 4, 0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- The point that writes row `i`. -/
abbrev pointOf (i : Fin 4096) : Fin cfg0.N := ⟨i.val / 512, lt_of_lt_of_eq (by omega) N_0.symm⟩
/-- The row of `i` in its block. -/
abbrev inBlock (i : Fin 4096) : Fin 512 := ⟨i.val % 512, by omega⟩
theorem pointOf_row (i : Fin 4096) : i.val = (pointOf i).val * 512 + (inBlock i).val := by
  show i.val = i.val / 512 * 512 + i.val % 512
  omega

section Block

variable (t : Fin cfg0.N) (r : Fin 512) (i : Fin 4096) (hi : i.val = t.val * 512 + r.val)

include hi

theorem Y_at (j : Fin 1024) : (k0_pay2 (F := Ideal) (iblk m c 0 t) (iblk m c 1 t)) (ix2 r j) = Y m c i j := by
  refine (product_at (iblk m c 0 t) (iblk m c 1 t) r j).trans ?_
  unfold Y
  refine Finset.sum_congr rfl fun n _ => ?_
  exact congrArg₂ (· * ·) (block_at (index_of t).1 (inp m c) ((cfg0.win 0).blk t).view.emb (fun _ _ => ⟨rfl, rfl⟩) r n i n hi (by omega))
    (block_at (index_of t).2.1 (wts m c) ((cfg0.win 1).blk t).view.emb (fun _ _ => ⟨rfl, rfl⟩) n j n j (by omega) (by omega))

/-- A row of the modulation's block. -/
theorem modn_at (q : Fin 8) (h : ∀ a, (![0, q.val, 0] : Fin 3 → Nat) a + S1x1x1024.size a ≤ S1x8x1024.size a) (j : Fin 1024) :
    rowOf (F := Ideal) (iblk m c 3 t) q.val h (ix3 (0 : Fin 1) (0 : Fin 1) j) = modn m c (ix3 (batch i) q j) := by
  have e := (index_of t).2.2.2.1
  refine at3 (modn m c) (((cfg0.win 3).blk t).view.emb ((rowRect q.val h).emb (ix3 (0 : Fin 1) (0 : Fin 1) j))) (batch i) q j ?_ ?_ ?_
  · show win0_3.index t 0 * 1 + 1 * (0 + 1 * 0) = i.val / 2048
    rw [e]; show t.val / 4 * 1 + 1 * (0 + 1 * 0) = i.val / 2048; omega
  · show win0_3.index t 1 * 8 + 1 * (q.val + 1 * 0) = q.val
    rw [e]; show 0 * 8 + 1 * (q.val + 1 * 0) = q.val; omega
  · show win0_3.index t 2 * 1024 + 1 * (0 + 1 * j.val) = j.val
    rw [e]; show 0 * 1024 + 1 * (0 + 1 * j.val) = j.val; omega

theorem P_at : (fun k => residB (k0_pay2 (F := Ideal) (iblk m c 0 t) (iblk m c 1 t)) (iblk m c 2 t) (rowOf (F := Ideal) (iblk m c 3 t) 2 inb_S1x8x1024_S1x1x1024_0_2_0) (ix2 r k)) = P m c i := by
  funext k
  refine (residB_at _ (iblk m c 2 t) _ r k).trans ?_
  unfold P
  rw [show (fun k => (iblk m c 2 t : FVec Ideal S512x1024 .f32) (ix2 r k)) = fun k => xin m c (ix2 i k) from funext fun k =>
      block_at (index_of t).2.2.1 (xin m c) ((cfg0.win 2).blk t).view.emb (fun _ _ => ⟨rfl, rfl⟩) r k i k hi (by omega),
    funext (Y_at m c t r i hi), show (fun k => rowOf (F := Ideal) (iblk m c 3 t) 2 inb_S1x8x1024_S1x1x1024_0_2_0 (ix3 (0 : Fin 1) (0 : Fin 1) k)) = fun k => modn m c (ix3 (batch i) (2 : Fin 8) k) from
      funext (modn_at m c t r i hi 2 inb_S1x8x1024_S1x1x1024_0_2_0)]

theorem H_at (j : Fin 1024) : (k0_pay3 (F := Ideal) (iblk m c 0 t) (iblk m c 1 t) (iblk m c 2 t) (rowOf (F := Ideal) (iblk m c 3 t) 2 inb_S1x8x1024_S1x1x1024_0_2_0) (iblk m c 4 t) (iblk m c 5 t)) (ix2 r j)
    = H m c i j := by
  rw [pay3_eq]
  refine (normB_at _ (iblk m c 4 t) (iblk m c 5 t) r j).trans ?_
  unfold H
  rw [P_at m c t r i hi,
    show (fun k => (iblk m c 4 t : FVec Ideal S1x1024 .f32) (ix2 (0 : Fin 1) k)) = fun k => scl m c (ix2 (0 : Fin 1) k) from funext fun k =>
      block_at (index_of t).2.2.2.2.1 (scl m c) ((cfg0.win 4).blk t).view.emb (fun _ _ => ⟨rfl, rfl⟩) 0 k 0 k rfl (by omega),
    show (fun k => (iblk m c 5 t : FVec Ideal S1x1024 .f32) (ix2 (0 : Fin 1) k)) = fun k => shf m c (ix2 (0 : Fin 1) k) from funext fun k =>
      block_at (index_of t).2.2.2.2.2.1 (shf m c) ((cfg0.win 5).blk t).view.emb (fun _ _ => ⟨rfl, rfl⟩) 0 k 0 k rfl (by omega)]

theorem U_at (j : Fin 1024) : (k0_pay1 (F := Ideal) (k0_pay3 (iblk m c 0 t) (iblk m c 1 t) (iblk m c 2 t) (rowOf (F := Ideal) (iblk m c 3 t) 2 inb_S1x8x1024_S1x1x1024_0_2_0) (iblk m c 4 t) (iblk m c 5 t))
      (rowOf (F := Ideal) (iblk m c 3 t) 4 inb_S1x8x1024_S1x1x1024_0_4_0) (rowOf (F := Ideal) (iblk m c 3 t) 3 inb_S1x8x1024_S1x1x1024_0_3_0)) (ix2 r j) = U m c i j := by
  refine (pay1_at _ r _ _ j).trans ?_
  unfold U
  rw [H_at m c t r i hi j]
  exact congrArg₂ (· + ·) (congrArg (fun e => H m c i j * (1 + e)) (modn_at m c t r i hi 4 inb_S1x8x1024_S1x1x1024_0_4_0 j)) (modn_at m c t r i hi 3 inb_S1x8x1024_S1x1x1024_0_3_0 j)

end Block

variable (i : Fin 4096)

theorem result6_at (j : Fin 1024) : (dats m 0 c).arrAt 6 cfg0.N (ix2 i j) = Y m c i j := by
  have b := congrFun (Value.blocks6 m c (pointOf i) (by rw [flush0_6])) (ix2 (inBlock i) j)
  rw [Value.flushed6_A, out6_eq] at b
  exact (block_at (index_of (pointOf i)).2.2.2.2.2.2.1 ((dats m 0 c).arrAt 6 cfg0.N) ((cfg0.win 6).blk (pointOf i)).view.emb (fun _ _ => ⟨rfl, rfl⟩) _ j i j (pointOf_row i)
    (by omega)).symm.trans (b.trans (Y_at m c (pointOf i) (inBlock i) i (pointOf_row i) j))

theorem result7_at (j : Fin 1024) : (dats m 0 c).arrAt 7 cfg0.N (ix2 i j) = H m c i j := by
  have b := congrFun (Value.blocks7 m c (pointOf i) (by rw [flush0_7])) (ix2 (inBlock i) j)
  rw [Value.flushed7_A, out7_eq] at b
  exact (block_at (index_of (pointOf i)).2.2.2.2.2.2.2.1 ((dats m 0 c).arrAt 7 cfg0.N) ((cfg0.win 7).blk (pointOf i)).view.emb (fun _ _ => ⟨rfl, rfl⟩) _ j i j (pointOf_row i)
    (by omega)).symm.trans (b.trans (H_at m c (pointOf i) (inBlock i) i (pointOf_row i) j))

theorem result8_at (j : Fin 1024) : (dats m 0 c).arrAt 8 cfg0.N (ix2 i j) = U m c i j := by
  have b := congrFun (Value.blocks8 m c (pointOf i) (by rw [flush0_8])) (ix2 (inBlock i) j)
  rw [Value.flushed8_A, out8_eq] at b
  exact (block_at (index_of (pointOf i)).2.2.2.2.2.2.2.2 ((dats m 0 c).arrAt 8 cfg0.N) ((cfg0.win 8).blk (pointOf i)).view.emb (fun _ _ => ⟨rfl, rfl⟩) _ j i j (pointOf_row i)
    (by omega)).symm.trans (b.trans (U_at m c (pointOf i) (inBlock i) i (pointOf_row i) j))

end Result

end Cert.Kernel13Ideal.OutNorm

namespace Cert.Reference13Ideal.OutNorm

open Cert.Reference13Ideal Cert.Reference13Ideal.Gen

/-- The projection. -/
def prod (a : FVec Ideal S4096x1024 .bf16) (w : FVec Ideal S1024x1024 .bf16) : FVec Ideal S2x2048x1024 .f32 :=
  Host.dotGeneral dot_S2x2048x1024_S1024x1024_S2x2048x1024_2_0_01_1_n_n none (extf .f32 (shapeCast _ a shapeCasts_S4096x1024_S2x2048x1024) bitsLt_bf16_f32) (extf .f32 w bitsLt_bf16_f32)
/-- The residual sums. -/
def residR (y : FVec Ideal S2x2048x1024 .f32) (x : FVec Ideal S4096x1024 .f32) (m : FVec Ideal S2x8x1024 .f32) : FVec Ideal S2x2048x1024 .f32 :=
  addf (mulf (broadcastInDim S2x2048x1024 ![] bcast_S_S2x2048x1024 (constant S_ .f32 0x3F9837F0#32)) (shapeCast _ x shapeCasts_S4096x1024_S2x2048x1024))
    (mulf (broadcastInDim S2x2048x1024 ![0, 1, 2] bcast_S2x1x1024_S2x2048x1024_0_1_2 (addf (broadcastInDim S2x1x1024 ![] bcast_S_S2x1x1024 (constant S_ .f32 0x3F800000#32))
      (extractStridedSlice S2x1x1024 ![0, 2, 0] m slices_S2x8x1024_S2x1x1024_0_2_0))) y)
/-- The means of the rows. -/
def meanR (p : FVec Ideal S2x2048x1024 .f32) : FVec Ideal S2x2048x1 .f32 :=
  Host.divf (broadcastInDim S2x2048x1 ![0, 1] bcast_S2x2048_S2x2048x1_0_1 (Host.reduceAdd p (constant S_ .f32 0x00000000#32) reducesTo_S2x2048x1024_S2x2048_d2 h_S_))
    (broadcastInDim S2x2048x1 ![] bcast_S_S2x2048x1 (constant S_ .f32 0x44800000#32))
/-- The rows less their means. -/
def centR (p : FVec Ideal S2x2048x1024 .f32) : FVec Ideal S2x2048x1024 .f32 := subf p (broadcastInDim S2x2048x1024 ![0, 1, 2] bcast_S2x2048x1_S2x2048x1024_0_1_2 (meanR p))
/-- The squares of the rows less their means. -/
def sqR (p : FVec Ideal S2x2048x1024 .f32) : FVec Ideal S2x2048x1024 .f32 := mulf (centR p) (centR p)
/-- The rows' inverse deviations. -/
def invR (p : FVec Ideal S2x2048x1024 .f32) : FVec Ideal S2x2048x1 .f32 :=
  Host.rsqrt (addf (meanR (sqR p)) (broadcastInDim S2x2048x1 ![] bcast_S_S2x2048x1 (constant S_ .f32 0x3727C5AC#32)))
/-- The rows' layer norms. -/
def normR (p : FVec Ideal S2x2048x1024 .f32) (g b : FVec Ideal S1x1024 .f32) : FVec Ideal S2x2048x1024 .f32 :=
  addf (mulf (mulf (centR p) (broadcastInDim S2x2048x1024 ![0, 1, 2] bcast_S2x2048x1_S2x2048x1024_0_1_2 (invR p)))
      (broadcastInDim S2x2048x1024 ![0, 1, 2] bcast_S1x1x1024_S2x2048x1024_0_1_2 (broadcastInDim S1x1x1024 ![1, 2] bcast_S1x1024_S1x1x1024_1_2 g)))
    (broadcastInDim S2x2048x1024 ![0, 1, 2] bcast_S1x1x1024_S2x2048x1024_0_1_2 (broadcastInDim S1x1x1024 ![1, 2] bcast_S1x1024_S1x1x1024_1_2 b))
/-- The layer norms, modulated. -/
def modulated (h : FVec Ideal S2x2048x1024 .f32) (m : FVec Ideal S2x8x1024 .f32) : FVec Ideal S4096x1024 .bf16 :=
  truncf .bf16 (shapeCast _ (addf (mulf h (broadcastInDim S2x2048x1024 ![0, 1, 2] bcast_S2x1x1024_S2x2048x1024_0_1_2
      (addf (broadcastInDim S2x1x1024 ![] bcast_S_S2x1x1024 (constant S_ .f32 0x3F800000#32)) (extractStridedSlice S2x1x1024 ![0, 4, 0] m slices_S2x8x1024_S2x1x1024_0_4_0))))
    (broadcastInDim S2x2048x1024 ![0, 1, 2] bcast_S2x1x1024_S2x2048x1024_0_1_2 (extractStridedSlice S2x1x1024 ![0, 3, 0] m slices_S2x8x1024_S2x1x1024_0_3_0))) shapeCasts_S2x2048x1024_S4096x1024) bitsLt_bf16_f32
/-- The rows of both batch rows, one after the other. -/
def flat (h : FVec Ideal S2x2048x1024 .f32) : FVec Ideal S4096x1024 .f32 := shapeCast _ h shapeCasts_S2x2048x1024_S4096x1024

section
variable (m : (ℓ : Loc nD τ sig) → Buf (Elt Ideal) ℓ) (c : Dev nD)
/-- The reference's residual sums. -/
def sums : FVec Ideal S2x2048x1024 .f32 :=
  residR (prod (m ((c.tc : Thread nD τ).loc main_arg0)) (m ((c.tc : Thread nD τ).loc main_arg1))) (m ((c.tc : Thread nD τ).loc main_arg2)) (m ((c.tc : Thread nD τ).loc main_arg3))
theorem out1_eq : Value.res_main_v44 (F := Ideal) m c = flat (normR (sums m c) (m ((c.tc : Thread nD τ).loc main_arg4)) (m ((c.tc : Thread nD τ).loc main_arg5))) := rfl
theorem out2_eq : Value.res_main_v46 (F := Ideal) m c =
    modulated (normR (sums m c) (m ((c.tc : Thread nD τ).loc main_arg4)) (m ((c.tc : Thread nD τ).loc main_arg5))) (m ((c.tc : Thread nD τ).loc main_arg3)) := rfl
end

/-- The row of token `s` of batch row `b`. -/
abbrev tok (b : Fin 2) (s : Fin 2048) : Fin 4096 := ⟨b.val * 2048 + s.val, by omega⟩

variable (b : Fin 2) (s : Fin 2048) (j : Fin 1024)

theorem prod_at (a : FVec Ideal S4096x1024 .bf16) (w : FVec Ideal S1024x1024 .bf16) : prod a w (ix3 b s j) = ∑ n : Fin 1024, a (ix2 (tok b s) n) * w (ix2 n j) := by
  pointwise [prod]
theorem residR_at (y : FVec Ideal S2x2048x1024 .f32) (x : FVec Ideal S4096x1024 .f32) (m : FVec Ideal S2x8x1024 .f32) :
    residR y x m (ix3 b s j) = Cert.OutNorm.resid (fun k => x (ix2 (tok b s) k)) (fun k => y (ix3 b s k)) (fun k => m (ix3 b (2 : Fin 8) k)) j := by
  unfold Cert.OutNorm.resid
  pointwise [residR]

section
variable (p : FVec Ideal S2x2048x1024 .f32)
theorem meanR_at : meanR p (ix3 b s (0 : Fin 1)) = Cert.OutNorm.mean (fun k => p (ix3 b s k)) := by
  unfold Cert.OutNorm.mean
  pointwise [meanR]
theorem centR_at : centR p (ix3 b s j) = Cert.OutNorm.cent (fun k => p (ix3 b s k)) j := by
  unfold Cert.OutNorm.cent
  rw [← meanR_at b s p]
  pointwise [centR]
theorem sqR_at : sqR p (ix3 b s j) = centR p (ix3 b s j) * centR p (ix3 b s j) := by
  pointwise [sqR]
theorem invR_at : invR p (ix3 b s (0 : Fin 1)) = Cert.OutNorm.inv (fun k => p (ix3 b s k)) := by
  have e : invR p (ix3 b s (0 : Fin 1)) = Ideal.rsqrt (meanR (sqR p) (ix3 b s (0 : Fin 1)) + Ideal.ofBits .f32 0x3727C5AC#32) := by pointwise [invR]
  rw [e, meanR_at]
  unfold Cert.OutNorm.inv
  simp only [sqR_at, centR_at]
theorem normR_at (g d : FVec Ideal S1x1024 .f32) : normR p g d (ix3 b s j) =
    Cert.OutNorm.norm (fun k => p (ix3 b s k)) (fun k => g (ix2 (0 : Fin 1) k)) (fun k => d (ix2 (0 : Fin 1) k)) j := by
  unfold Cert.OutNorm.norm
  rw [← centR_at b s j p, ← invR_at b s p]
  pointwise [normR]
theorem flat_at (i : Fin 4096) : flat p (ix2 i j) = p (ix3 (⟨i.val / 2048, by omega⟩ : Fin 2) (⟨i.val % 2048, by omega⟩ : Fin 2048) j) := by
  pointwise [flat]
theorem modulated_at (m : FVec Ideal S2x8x1024 .f32) (i : Fin 4096) : modulated p m (ix2 i j) =
    p (ix3 (⟨i.val / 2048, by omega⟩ : Fin 2) (⟨i.val % 2048, by omega⟩ : Fin 2048) j) * (1 + m (ix3 (⟨i.val / 2048, by omega⟩ : Fin 2) (4 : Fin 8) j))
      + m (ix3 (⟨i.val / 2048, by omega⟩ : Fin 2) (3 : Fin 8) j) := by
  pointwise [modulated]
end

end Cert.Reference13Ideal.OutNorm

namespace Cert.OutNormClaims

open Cert.Kernel13Ideal.OutNorm Cert.Reference13Ideal.OutNorm

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)
theorem preserves : Cert.preserves_Kernel13_Kernel13Ideal := trivial

section
variable (m : (ℓ : Loc Cert.Kernel13Ideal.nD Cert.Kernel13Ideal.τ Cert.Kernel13Ideal.sig) → Buf (Elt Ideal) ℓ) (c : Dev Cert.Kernel13Ideal.nD) (i : Fin 4096) (j : Fin 1024)

theorem tok_eq : tok (⟨i.val / 2048, by omega⟩ : Fin 2) (⟨i.val % 2048, by omega⟩ : Fin 2048) = i := Fin.ext (by show i.val / 2048 * 2048 + i.val % 2048 = i.val; omega)

theorem prod_is : prod (inp m c) (wts m c) (ix3 (⟨i.val / 2048, by omega⟩ : Fin 2) (⟨i.val % 2048, by omega⟩ : Fin 2048) j) = Y m c i j := by
  rw [prod_at, tok_eq]
  rfl
theorem sums_is : (fun k => residR (prod (inp m c) (wts m c)) (xin m c) (modn m c) (ix3 (⟨i.val / 2048, by omega⟩ : Fin 2) (⟨i.val % 2048, by omega⟩ : Fin 2048) k)) = P m c i := by
  funext k
  rw [residR_at, tok_eq, funext (prod_is m c i)]
  rfl
theorem norm_is : normR (residR (prod (inp m c) (wts m c)) (xin m c) (modn m c)) (scl m c) (shf m c) (ix3 (⟨i.val / 2048, by omega⟩ : Fin 2) (⟨i.val % 2048, by omega⟩ : Fin 2048) j) = H m c i j := by
  rw [normR_at, sums_is]
  rfl
end

/-- The kernel and the reference end with the same projection, the same normalised rows and the same modulated rows. -/
theorem algebraic : Cert.algebraic_Kernel13Ideal_Reference13Ideal := by
  intro m g m' g' _ hagree
  refine ⟨fun c => (Cert.Kernel13Ideal.Gen.dats m 0 c).arrAt 6 Cert.Kernel13Ideal.cfg0.N, fun c => (Cert.Kernel13Ideal.Gen.dats m 0 c).arrAt 7 Cert.Kernel13Ideal.cfg0.N,
    fun c => (Cert.Kernel13Ideal.Gen.dats m 0 c).arrAt 8 Cert.Kernel13Ideal.cfg0.N, Cert.Kernel13Ideal.Value.run_blocks (F := Ideal) m g,
    (θ_run Cert.Reference13Ideal.defs _ _).mono (fun r h (c : Dev Cert.Kernel13Ideal.nD) => ?_) (Cert.Reference13Ideal.Value.run (F := Ideal) m' g')⟩
  obtain ⟨h0, h1, h2, h3, h4, h5⟩ := hagree c
  obtain ⟨r0, r1, r2, hk⟩ := h c
  refine ⟨r0.trans ?_, r1.trans ((out1_eq m' c).trans ?_), r2.trans ((out2_eq m' c).trans ?_), hk⟩
  · rw [h0, h1]
    funext i
    obtain ⟨a, b, rfl⟩ : ∃ (a : Fin 4096) (b : Fin 1024), i = ix2 a b := ⟨i 0, i 1, eq_ix2 i⟩
    exact (flat_at b (prod (inp m c) (wts m c)) a).trans ((prod_is m c a b).trans (result6_at m c a b).symm)
  · unfold sums
    rw [h0, h1, h2, h3, h4, h5]
    funext i
    obtain ⟨a, b, rfl⟩ : ∃ (a : Fin 4096) (b : Fin 1024), i = ix2 a b := ⟨i 0, i 1, eq_ix2 i⟩
    exact (flat_at b _ a).trans ((norm_is m c a b).trans (result7_at m c a b).symm)
  · unfold sums
    rw [h0, h1, h2, h3, h4, h5]
    funext i
    obtain ⟨a, b, rfl⟩ : ∃ (a : Fin 4096) (b : Fin 1024), i = ix2 a b := ⟨i 0, i 1, eq_ix2 i⟩
    refine (modulated_at b _ (modn m c) a).trans (Eq.trans ?_ (result8_at m c a b).symm)
    rw [norm_is m c a b]
    rfl

end Cert.OutNormClaims
end
-- ==== Proof.Rope.lean ====
/-
  The rotation of pairs of lanes by their angles: as the two lanes' sums and differences, and as a row's product with
  the matrix that swaps the halves of each head.
-/
module

public import proofs.«01_k».proof.Proof.Blocks
public import proofs.«01_k».proof.Proof.BodyAt
public import proofs.«01_k».proof.Proof.HostReads
public import proofs.«01_k».proof.Proof.Gen.Kernel14Ideal.Skeleton

@[expose] public section

set_option maxRecDepth 16384

noncomputable section

open Idealize.ShloMosaic Idealize.SL.Sem Cert.Blocks
open scoped BigOperators

namespace Cert.Rope

/-- The lane a lane is paired with. -/
def other (l : ℕ) : ℕ := if l % 64 < 32 then l + 32 else l - 32
/-- The sine a lane takes of its partner. -/
def signed (S : ℕ → EReal) (l : ℕ) : EReal := if l / 32 % 2 = 0 then -S (l % 32) else S (l % 32)
/-- Lane `l` of the row `f`, rotated by the cosines `C` and the sines `S`. -/
def turned (f C S : ℕ → EReal) (l : ℕ) : EReal :=
  if l % 64 < 32 then f l * C (l % 32) - f (l + 32) * S (l % 32) else f l * C (l % 32) + f (l - 32) * S (l % 32)

theorem turned_eq (f C S : ℕ → EReal) (l : ℕ) : f l * C (l % 32) + f (other l) * signed S l = turned f C S l := by
  unfold turned other signed
  by_cases h : l % 64 < 32
  · rw [if_pos h, if_pos h, if_pos (show l / 32 % 2 = 0 by omega), mul_neg, sub_eq_add_neg]
  · rw [if_neg h, if_neg h, if_neg (show ¬l / 32 % 2 = 0 by omega)]

/-- A rotation of lanes that start at a head. -/
theorem turned_shift (f C S : ℕ → EReal) (k l o : ℕ) (ho : o = k * 64 + l) : turned (fun l => f (k * 64 + l)) C S l = turned f C S o := by
  subst ho
  unfold turned
  rw [show (k * 64 + l) % 64 = l % 64 by omega, show (k * 64 + l) % 32 = l % 32 by omega]
  by_cases h : l % 64 < 32
  · rw [if_pos h, if_pos h]
    exact congrArg (fun e => f (k * 64 + l) * C (l % 32) - f e * S (l % 32)) (by omega)
  · rw [if_neg h, if_neg h]
    exact congrArg (fun e => f (k * 64 + l) * C (l % 32) + f e * S (l % 32)) (by omega)

/-- The array `x` is the table `X`. -/
def Is {a b : ℕ} (x : (⟨2, ![a, b]⟩ : Shape).Idx → EReal) (X : ℕ → ℕ → EReal) : Prop :=
  ∀ (r : Fin a) (l : Fin b), x (ix2 r l) = X r.val l.val

/-- The angles' cosines, by token and lane. -/
def cosAt (T : (⟨3, ![2, 2048, 32]⟩ : Shape).Idx → EReal) (i a : ℕ) : EReal :=
  Ideal.cos (T (ix3 (⟨i / 2048 % 2, Nat.mod_lt _ (by decide)⟩ : Fin 2) (⟨i % 2048, Nat.mod_lt _ (by decide)⟩ : Fin 2048) (⟨a % 32, Nat.mod_lt _ (by decide)⟩ : Fin 32)))
/-- The angles' sines, by token and lane. -/
def sinAt (T : (⟨3, ![2, 2048, 32]⟩ : Shape).Idx → EReal) (i a : ℕ) : EReal :=
  Ideal.sin (T (ix3 (⟨i / 2048 % 2, Nat.mod_lt _ (by decide)⟩ : Fin 2) (⟨i % 2048, Nat.mod_lt _ (by decide)⟩ : Fin 2048) (⟨a % 32, Nat.mod_lt _ (by decide)⟩ : Fin 32)))

theorem cosAt_eq (T : (⟨3, ![2, 2048, 32]⟩ : Shape).Idx → EReal) (i a : ℕ) (b : Fin 2) (t : Fin 2048) (d : Fin 32) (hi : i = b.val * 2048 + t.val) (ha : a % 32 = d.val) :
    cosAt T i a = Ideal.cos (T (ix3 b t d)) :=
  congrArg Ideal.cos (at3 T _ b t d (show i / 2048 % 2 = b.val by omega) (show i % 2048 = t.val by omega) ha)
theorem sinAt_eq (T : (⟨3, ![2, 2048, 32]⟩ : Shape).Idx → EReal) (i a : ℕ) (b : Fin 2) (t : Fin 2048) (d : Fin 32) (hi : i = b.val * 2048 + t.val) (ha : a % 32 = d.val) :
    sinAt T i a = Ideal.sin (T (ix3 b t d)) :=
  congrArg Ideal.sin (at3 T _ b t d (show i / 2048 % 2 = b.val by omega) (show i % 2048 = t.val by omega) ha)

/-- A row of `u` times a row of `w`. -/
def proj (u : (⟨2, ![4096, 1024]⟩ : Shape).Idx → EReal) (w : (⟨2, ![7936, 1024]⟩ : Shape).Idx → EReal) (i j : ℕ) : EReal :=
  ∑ n : Fin 1024, u (ix2 (⟨i % 4096, Nat.mod_lt _ (by decide)⟩ : Fin 4096) n) * w (ix2 (⟨j % 7936, Nat.mod_lt _ (by decide)⟩ : Fin 7936) n)

theorem proj_eq (u : (⟨2, ![4096, 1024]⟩ : Shape).Idx → EReal) (w : (⟨2, ![7936, 1024]⟩ : Shape).Idx → EReal) (a b : ℕ) (i : Fin 4096) (j : Fin 7936) (hi : a = i.val) (hj : b = j.val) :
    (∑ n : Fin 1024, u (ix2 i n) * w (ix2 j n)) = proj u w a b := by
  subst hi hj
  unfold proj
  refine Finset.sum_congr rfl fun n _ => congrArg₂ (· * ·) (congrArg (fun e => u (ix2 e n)) (Fin.ext ?_)) (congrArg (fun e => w (ix2 e n)) (Fin.ext ?_))
  · exact (Nat.mod_eq_of_lt i.isLt).symm
  · exact (Nat.mod_eq_of_lt j.isLt).symm

/-- The projection's element: rotated in the `h` columns from column `o` on, as it is in the columns behind them. -/
def elem (u : (⟨2, ![4096, 1024]⟩ : Shape).Idx → EReal) (w : (⟨2, ![7936, 1024]⟩ : Shape).Idx → EReal) (T : (⟨3, ![2, 2048, 32]⟩ : Shape).Idx → EReal)
    (o h i j : ℕ) : EReal :=
  if j < h then turned (proj u w i) (cosAt T i) (sinAt T i) (o + j) else proj u w i (o + j)

end Cert.Rope

/-! ## The operations of a grid point -/

namespace Cert.Kernel14Ideal.Rope

open Cert.Kernel14Ideal Cert.Kernel14Ideal.Gen Cert.Rope
open Cert.KernelIdeal.Attn (swapMat loQuarter_at swap_word joinTable angles)

/-- A block of two heads, rotated. -/
def turnB (x c s : FVec Ideal S2048x128 .f32) : FVec Ideal S2048x128 .f32 :=
  addf (mulf x c) (mulf (broadcast S2048x128 (Scalar.ofBits .f32 0x3F800000#32))
    (mulf (matmul dot_S2048x128_S128x128_S2048x128_1_0_0_1_n_n none (truncf .bf16 x bitsLt_bf16_f32) (swapMat (F := Ideal)) (constant S2048x128 .f32 0x00000000#32)) s))

theorem turnB_at (x c s : FVec Ideal S2048x128 .f32) {X C N : ℕ → ℕ → EReal} (hx : Is x X) (hc : Is c C) (hs : Is s N) :
    Is (turnB x c s) fun r l => X r l * C r l + X r (other l) * N r l := by
  intro r l
  have hl := l.isLt
  pointwise [turnB, swapMat]
  simp only [loQuarter_at, swap_word]
  obtain ⟨k, hk⟩ : ∃ k : Fin 128, k.val = (if l.val % 64 < 32 then l.val + 32 else l.val - 32) :=
    ⟨⟨if l.val % 64 < 32 then l.val + 32 else l.val - 32, by split_ifs <;> omega⟩, rfl⟩
  rw [Finset.sum_eq_single k]
  · rw [if_pos hk]
    rw [show Scalar.select 1#1 (x (ix2 r k)) 0 = x (ix2 r k) from rfl, hx, hx, hc, hs]
    unfold other
    rw [← hk]
  · intro y _ hy
    rw [if_neg fun e => hy (Fin.ext (e.trans hk.symm))]; rfl
  · intro hh; exact absurd (Finset.mem_univ k) hh

/-- The lower two heads of a block of four. -/
def lower (v : FVec Ideal S2048x256 .f32) : FVec Ideal S2048x128 .f32 := extractStridedSlice S2048x128 ![0, 0] v slices_S2048x256_o0_0_S2048x128
/-- The upper two heads of a block of four. -/
def upper (v : FVec Ideal S2048x256 .f32) : FVec Ideal S2048x128 .f32 := extractStridedSlice S2048x128 ![0, 128] v slices_S2048x256_o0_128_S2048x128
/-- Two blocks of two heads, side by side. -/
def beside (a b : FVec Ideal S2048x128 .f32) : FVec Ideal S2048x256 .f32 :=
  concatenate S2048x256 1 [⟨S2048x128, a⟩, ⟨S2048x128, b⟩] concatenates_S2048x128_S2048x128_S2048x256_d1
/-- A table's block, cast to its own shape. -/
def same (t : FVec Ideal S2048x128 .f32) : FVec Ideal S2048x128 .f32 := shapeCast S2048x128 t shapeCasts_S2048x128_S2048x128

theorem lower_at (v : FVec Ideal S2048x256 .f32) {X : ℕ → ℕ → EReal} (h : Is v X) : Is (lower v) fun r l => X r (0 * 64 + l) := by
  intro r l
  pointwise [lower]
  rw [h]
theorem upper_at (v : FVec Ideal S2048x256 .f32) {X : ℕ → ℕ → EReal} (h : Is v X) : Is (upper v) fun r l => X r (2 * 64 + l) := by
  intro r l
  pointwise [upper]
  rw [h]
theorem same_at (t : FVec Ideal S2048x128 .f32) {X : ℕ → ℕ → EReal} (h : Is t X) : Is (same t) X := by
  intro r l
  pointwise [same]
  exact h r l
theorem beside_at (a b : FVec Ideal S2048x128 .f32) {X : ℕ → ℕ → EReal} (ha : Is a fun r l => X r l) (hb : Is b fun r l => X r (128 + l)) : Is (beside a b) X := by
  intro r l
  have hl := l.isLt
  pointwise [beside]
  by_cases h : l.val < 128
  · rw [dif_pos h, ha]
  · rw [dif_neg h, hb]
    exact congrArg (X r.val) (by first | omega | (simp only []; omega))

variable (v : FVec Ideal S2048x256 .f32) (c s : FVec Ideal S2048x128 .f32) {X C S : ℕ → ℕ → EReal} (hv : Is v X) (hc : Is c fun r l => C r (l % 32)) (hs : Is s fun r => signed (S r))

include hv hc hs

theorem lower_turned : Is (turnB (lower v) (same c) (same s)) fun r l => turned (X r) (C r) (S r) l := fun r l =>
  (turnB_at _ _ _ (lower_at v hv) (same_at c hc) (same_at s hs) r l).trans
    ((turned_eq (fun l => X r.val (0 * 64 + l)) (C r.val) (S r.val) l.val).trans (turned_shift (X r.val) (C r.val) (S r.val) 0 l.val _ (by omega)))
theorem upper_turned : Is (turnB (upper v) (same c) (same s)) fun r l => turned (X r) (C r) (S r) (128 + l) := fun r l =>
  (turnB_at _ _ _ (upper_at v hv) (same_at c hc) (same_at s hs) r l).trans
    ((turned_eq (fun l => X r.val (2 * 64 + l)) (C r.val) (S r.val) l.val).trans (turned_shift (X r.val) (C r.val) (S r.val) 2 l.val _ (by omega)))

/-- A block of four heads, rotated. -/
theorem both_turned : Is (beside (turnB (lower v) (same c) (same s)) (turnB (upper v) (same c) (same s))) fun r l => turned (X r) (C r) (S r) l :=
  beside_at _ _ (lower_turned v c s hv hc hs) (upper_turned v c s hv hc hs)

end Cert.Kernel14Ideal.Rope

namespace Cert.Kernel14Ideal.Rope

open Cert.Kernel14Ideal Cert.Kernel14Ideal.Gen Cert.Rope
open Cert.KernelIdeal.Attn (swapMat loQuarter_at swap_word joinTable angles)

/-! ## The tables -/

/-- The cosines' table, in rows of 128 lanes. -/
def cosTab (T : FVec Ideal S2x2048x32 .f32) : FVec Ideal S4096x128 .f32 :=
  shapeCast S4096x128 (joinTable (F := Ideal) (Host.cos T) (Host.cos T) (Host.cos T) (Host.cos T)) shapeCasts_S2x2048x128_S4096x128
/-- The signed sines' table, in rows of 128 lanes. -/
def sinTab (T : FVec Ideal S2x2048x32 .f32) : FVec Ideal S4096x128 .f32 :=
  shapeCast S4096x128 (joinTable (F := Ideal) (Host.negf (Host.sin T)) (Host.sin T) (Host.negf (Host.sin T)) (Host.sin T)) shapeCasts_S2x2048x128_S4096x128

/-- Four tables side by side, two alternating. -/
theorem join_at (x y : FVec Ideal S2x2048x32 .f32) (b : Fin 2) (t : Fin 2048) (l : Fin 128) (a : Fin 32) (ha : l.val % 32 = a.val) :
    joinTable (F := Ideal) x y x y (ix3 b t l) = if l.val / 32 % 2 = 0 then x (ix3 b t a) else y (ix3 b t a) := by
  have hl := l.isLt
  pointwise [joinTable]
  by_cases h0 : l.val < 32
  · rw [dif_pos h0, if_pos (show l.val / 32 % 2 = 0 by omega)]
    exact congrArg (fun k => x (ix3 b t k)) (Fin.ext (by first | omega | (simp only []; omega)))
  rw [dif_neg h0]
  by_cases h1 : l.val - 32 < 32
  · rw [dif_pos h1, if_neg (show ¬l.val / 32 % 2 = 0 by omega)]
    exact congrArg (fun k => y (ix3 b t k)) (Fin.ext (by first | omega | (simp only []; omega)))
  rw [dif_neg h1]
  by_cases h2 : l.val - 32 - 32 < 32
  · rw [dif_pos h2, if_pos (show l.val / 32 % 2 = 0 by omega)]
    exact congrArg (fun k => x (ix3 b t k)) (Fin.ext (by first | omega | (simp only []; omega)))
  · rw [dif_neg h2, if_neg (show ¬l.val / 32 % 2 = 0 by omega)]
    exact congrArg (fun k => y (ix3 b t k)) (Fin.ext (by first | omega | (simp only []; omega)))

/-- The rows of both batch rows, one after the other. -/
theorem flat_at (y : FVec Ideal S2x2048x128 .f32) (i : Fin 4096) (l : Fin 128) : (shapeCast S4096x128 y shapeCasts_S2x2048x128_S4096x128 : FVec Ideal S4096x128 .f32) (ix2 i l) =
    y (ix3 (⟨i.val / 2048, by omega⟩ : Fin 2) (⟨i.val % 2048, by omega⟩ : Fin 2048) l) := by
  pointwise []

theorem cosTab_at (T : FVec Ideal S2x2048x32 .f32) : Is (cosTab T) fun i l => cosAt T i (l % 32) := by
  intro i l
  have hi := i.isLt
  unfold cosTab
  rw [flat_at, join_at _ _ _ _ l ⟨l.val % 32, Nat.mod_lt _ (by decide)⟩ rfl, ite_self]
  exact (cosAt_eq T _ _ _ _ _ (by simp only []; omega) (by simp only []; omega)).symm

theorem sinTab_at (T : FVec Ideal S2x2048x32 .f32) : Is (sinTab T) fun i => signed (sinAt T i) := by
  intro i l
  have hi := i.isLt
  unfold sinTab signed
  rw [flat_at, join_at _ _ _ _ l ⟨l.val % 32, Nat.mod_lt _ (by decide)⟩ rfl]
  dsimp only
  rw [sinAt_eq T i.val (l.val % 32) ⟨i.val / 2048, by omega⟩ ⟨i.val % 2048, by omega⟩ ⟨l.val % 32, Nat.mod_lt _ (by decide)⟩ (by simp only []; omega) (by simp only []; omega)]
  rfl

end Cert.Kernel14Ideal.Rope

end
-- ==== Proof.RopeRef.lean ====
/-
  The references of the projections with rotated queries and keys, element by element.
-/
module

public import proofs.«01_k».proof.Proof.Rope
public import proofs.«01_k».proof.Proof.Gen.Reference14Ideal.Run
public import proofs.«01_k».proof.Proof.Gen.Reference15Ideal.Run

@[expose] public section

set_option maxRecDepth 16384

noncomputable section

open Idealize.ShloMosaic Idealize.SL.Sem Cert.Blocks
open scoped BigOperators

namespace Cert.Rope

theorem turn_lo {f C S : ℕ → EReal} {l : ℕ} {y z c s : EReal} (h : l % 64 < 32) (hy : y = f l) (hz : z = f (l + 32)) (hc : c = C (l % 32)) (hs : s = S (l % 32)) :
    y * c - z * s = turned f C S l := by
  subst hy hz hc hs; exact (if_pos h).symm
theorem turn_hi {f C S : ℕ → EReal} {l : ℕ} {y z c s : EReal} (h : ¬l % 64 < 32) (hy : y = f l) (hz : z = f (l - 32)) (hc : c = C (l % 32)) (hs : s = S (l % 32)) :
    y * c + z * s = turned f C S l := by
  subst hy hz hc hs; exact (if_neg h).symm

/-- A table's element at other names of its row and lane. -/
theorem Is.at {a b : ℕ} {x : (⟨2, ![a, b]⟩ : Shape).Idx → EReal} {X : ℕ → ℕ → EReal} (h : Is x X) {r : Fin a} {l : Fin b} {i j : ℕ} (hi : r.val = i) (hj : l.val = j) : x (ix2 r l) = X i j := by
  subst hi hj; exact h r l

end Cert.Rope

namespace Cert.Reference14Ideal.Rope

open Cert.Reference14Ideal Cert.Reference14Ideal.Gen Cert.Rope
open Cert.KernelIdeal.Attn (angles rope16 rope2 wide16 wide2 join16 join2)

/-- The projection. -/
def prodR (u : FVec Ideal S4096x1024 .bf16) (w : FVec Ideal S7936x1024 .bf16) : FVec Ideal S4096x7936 .f32 :=
  Host.dotGeneral dot_S4096x1024_S7936x1024_S4096x7936_1_1_0_0_n_n none (extf .f32 u bitsLt_bf16_f32) (extf .f32 w bitsLt_bf16_f32)
theorem prodR_at (u : FVec Ideal S4096x1024 .bf16) (w : FVec Ideal S7936x1024 .bf16) : Is (prodR u w) (proj u w) := by
  intro i j
  refine Eq.trans ?_ (proj_eq u w i.val j.val i j rfl rfl)
  pointwise [prodR]

/-- The query heads, rotated. -/
def heads16 (y : FVec Ideal S4096x1024 .f32) (T : FVec Ideal S2x2048x32 .f32) : FVec Ideal S4096x1024 .f32 :=
  shapeCast S4096x1024 (rope16 (F := Ideal) (shapeCast S2x2048x16x64 y shapeCasts_S4096x1024_S2x2048x16x64) T) shapeCasts_S2x2048x16x64_S4096x1024
/-- The key heads, rotated. -/
def heads2 (y : FVec Ideal S4096x128 .f32) (T : FVec Ideal S2x2048x32 .f32) : FVec Ideal S4096x128 .f32 :=
  shapeCast S4096x128 (rope2 (F := Ideal) (shapeCast S2x2048x2x64 y shapeCasts_S4096x128_S2x2048x2x64) T) shapeCasts_S2x2048x2x64_S4096x128

theorem heads16_at {y : FVec Ideal S4096x1024 .f32} {X : ℕ → ℕ → EReal} (T : FVec Ideal S2x2048x32 .f32) (hy : Is y X) :
    Is (heads16 y T) fun i l => turned (X i) (cosAt T i) (sinAt T i) l := by
  intro i l
  have hi := i.isLt
  have hl := l.isLt
  pointwise [heads16, rope16, join16, wide16]
  by_cases h : l.val % 64 < 32
  · rw [dif_pos h]
    refine turn_lo h (hy.at ?_ ?_) (hy.at ?_ ?_) (cosAt_eq T i.val (l.val % 32) _ _ _ ?_ ?_).symm (sinAt_eq T i.val (l.val % 32) _ _ _ ?_ ?_).symm <;> first | omega | (simp only []; omega)
  · rw [dif_neg h]
    refine turn_hi h (hy.at ?_ ?_) (hy.at ?_ ?_) (cosAt_eq T i.val (l.val % 32) _ _ _ ?_ ?_).symm (sinAt_eq T i.val (l.val % 32) _ _ _ ?_ ?_).symm <;> first | omega | (simp only []; omega)

theorem heads2_at {y : FVec Ideal S4096x128 .f32} {X : ℕ → ℕ → EReal} (T : FVec Ideal S2x2048x32 .f32) (hy : Is y X) :
    Is (heads2 y T) fun i l => turned (X i) (cosAt T i) (sinAt T i) l := by
  intro i l
  have hi := i.isLt
  have hl := l.isLt
  pointwise [heads2, rope2, join2, wide2]
  by_cases h : l.val % 64 < 32
  · rw [dif_pos h]
    refine turn_lo h (hy.at ?_ ?_) (hy.at ?_ ?_) (cosAt_eq T i.val (l.val % 32) _ _ _ ?_ ?_).symm (sinAt_eq T i.val (l.val % 32) _ _ _ ?_ ?_).symm <;> first | omega | (simp only []; omega)
  · rw [dif_neg h]
    refine turn_hi h (hy.at ?_ ?_) (hy.at ?_ ?_) (cosAt_eq T i.val (l.val % 32) _ _ _ ?_ ?_).symm (sinAt_eq T i.val (l.val % 32) _ _ _ ?_ ?_).symm <;> first | omega | (simp only []; omega)

/-- The columns of the queries, the keys and the values. -/
def cols (p : FVec Ideal S4096x7936 .f32) : FVec Ideal S4096x1280 .f32 := extractStridedSlice S4096x1280 ![0, 0] p slices_S4096x7936_S4096x1280_0_0
/-- The queries. -/
def qs (p : FVec Ideal S4096x1280 .f32) : FVec Ideal S4096x1024 .f32 := extractStridedSlice S4096x1024 ![0, 0] p slices_S4096x1280_S4096x1024_0_0
/-- The keys. -/
def ks (p : FVec Ideal S4096x1280 .f32) : FVec Ideal S4096x128 .f32 := extractStridedSlice S4096x128 ![0, 1024] p slices_S4096x1280_S4096x128_0_1024
/-- The values. -/
def vs (p : FVec Ideal S4096x1280 .f32) : FVec Ideal S4096x128 .f32 := extractStridedSlice S4096x128 ![0, 1152] p slices_S4096x1280_S4096x128_0_1152
/-- Queries, keys and values side by side, narrowed. -/
def joined (a : FVec Ideal S4096x1024 .f32) (b d : FVec Ideal S4096x128 .f32) : FVec Ideal S4096x1280 .bf16 :=
  truncf .bf16 (concatenate S4096x1280 1 [⟨S4096x1024, a⟩, ⟨S4096x128, b⟩, ⟨S4096x128, d⟩] concatenates_S4096x1024_S4096x128_S4096x128_S4096x1280_d1 : FVec Ideal S4096x1280 .f32) bitsLt_bf16_f32

section
variable {p : FVec Ideal S4096x7936 .f32} {X : ℕ → ℕ → EReal} (hp : Is p X)
include hp
theorem qs_at : Is (qs (cols p)) fun i l => X i l := by
  intro i l
  pointwise [qs, cols]
  refine hp.at ?_ ?_ <;> first | rfl | omega | (simp only []; omega)
theorem ks_at : Is (ks (cols p)) fun i l => X i (16 * 64 + l) := by
  intro i l
  pointwise [ks, cols]
  refine hp.at ?_ ?_ <;> first | rfl | omega | (simp only []; omega)
theorem vs_at : Is (vs (cols p)) fun i l => X i (1152 + l) := by
  intro i l
  pointwise [vs, cols]
  refine hp.at ?_ ?_ <;> first | rfl | omega | (simp only []; omega)
end

theorem joined_at {a : FVec Ideal S4096x1024 .f32} {b d : FVec Ideal S4096x128 .f32} {X : ℕ → ℕ → EReal} (ha : Is a fun i l => X i l) (hb : Is b fun i l => X i (1024 + l))
    (hd : Is d fun i l => X i (1152 + l)) : Is (joined a b d) X := by
  intro i l
  have hl := l.isLt
  pointwise [joined]
  by_cases h : l.val < 1024
  · rw [dif_pos h]
    exact ha _ _
  rw [dif_neg h]
  by_cases h' : l.val - 1024 < 128
  · rw [dif_pos h', hb]
    exact congrArg (X i.val) (by first | omega | (simp only []; omega))
  · rw [dif_neg h', hd]
    exact congrArg (X i.val) (by first | omega | (simp only []; omega))

/-- What the reference ends with. -/
def outR (u : FVec Ideal S4096x1024 .bf16) (w : FVec Ideal S7936x1024 .bf16) (T : FVec Ideal S2x2048x32 .f32) : FVec Ideal S4096x1280 .bf16 :=
  joined (heads16 (qs (cols (prodR u w))) T) (heads2 (ks (cols (prodR u w))) T) (vs (cols (prodR u w)))

theorem out_eq (m : (ℓ : Loc nD τ sig) → Buf (Elt Ideal) ℓ) (c : Dev nD) : Value.res_main_v70 (F := Ideal) m c =
    outR (m ((c.tc : Thread nD τ).loc main_arg0)) (m ((c.tc : Thread nD τ).loc main_arg1)) (angles (F := Ideal) (m ((c.tc : Thread nD τ).loc main_arg2))) := rfl

theorem outR_at (u : FVec Ideal S4096x1024 .bf16) (w : FVec Ideal S7936x1024 .bf16) (T : FVec Ideal S2x2048x32 .f32) : Is (outR u w T) (elem u w T 0 1152) := by
  refine joined_at (fun i l => (heads16_at T (qs_at (prodR_at u w)) i l).trans ?_) (fun i l => (heads2_at T (ks_at (prodR_at u w)) i l).trans ?_) (fun i l => (vs_at (prodR_at u w) i l).trans ?_)
  · have hl := l.isLt
    unfold elem; dsimp only
    rw [if_pos (by omega), Nat.zero_add]
  · have hl := l.isLt
    unfold elem; dsimp only
    rw [if_pos (by omega)]
    exact turned_shift (proj u w i.val) (cosAt T i.val) (sinAt T i.val) 16 l.val _ (by omega)
  · unfold elem; dsimp only
    rw [if_neg (by omega), Nat.zero_add]

end Cert.Reference14Ideal.Rope

namespace Cert.Reference15Ideal.Rope

open Cert.Reference15Ideal Cert.Reference15Ideal.Gen Cert.Rope
open Cert.KernelIdeal.Attn (angles)
open Cert.Reference14Ideal.Rope (prodR prodR_at)

/-- A table of the rotation, for each of 24 heads. -/
def wide24 (t : FVec Ideal S2x2048x32 .f32) : FVec Ideal S2x2048x24x32 .f32 :=
  broadcastInDim S2x2048x24x32 ![0, 1, 2, 3] bcast_S2x2048x1x32_S2x2048x24x32_0_1_2_3 (broadcastInDim S2x2048x1x32 ![0, 1, 3] bcast_S2x2048x32_S2x2048x1x32_0_1_3 t)
/-- The lower halves of 24 heads. -/
def lo24 (x : FVec Ideal S2x2048x24x64 .f32) : FVec Ideal S2x2048x24x32 .f32 := extractStridedSlice S2x2048x24x32 ![0, 0, 0, 0] x slices_S2x2048x24x64_S2x2048x24x32_0_0_0_0
/-- The upper halves of 24 heads. -/
def hi24 (x : FVec Ideal S2x2048x24x64 .f32) : FVec Ideal S2x2048x24x32 .f32 := extractStridedSlice S2x2048x24x32 ![0, 0, 0, 32] x slices_S2x2048x24x64_S2x2048x24x32_0_0_0_32
/-- The rotation of 24 heads. -/
def rope24 (x : FVec Ideal S2x2048x24x64 .f32) (t : FVec Ideal S2x2048x32 .f32) : FVec Ideal S2x2048x24x64 .f32 :=
  concatenate S2x2048x24x64 3 [⟨S2x2048x24x32, (subf (mulf (lo24 x) (wide24 (Host.cos t))) (mulf (hi24 x) (wide24 (Host.sin t))) : FVec Ideal S2x2048x24x32 .f32)⟩,
    ⟨S2x2048x24x32, (addf (mulf (hi24 x) (wide24 (Host.cos t))) (mulf (lo24 x) (wide24 (Host.sin t))) : FVec Ideal S2x2048x24x32 .f32)⟩] concatenates_S2x2048x24x32_S2x2048x24x32_S2x2048x24x64_d3
/-- 24 heads, rotated. -/
def heads24 (y : FVec Ideal S4096x1536 .f32) (T : FVec Ideal S2x2048x32 .f32) : FVec Ideal S4096x1536 .f32 :=
  shapeCast S4096x1536 (rope24 (shapeCast S2x2048x24x64 y shapeCasts_S4096x1536_S2x2048x24x64) T) shapeCasts_S2x2048x24x64_S4096x1536

theorem heads24_at {y : FVec Ideal S4096x1536 .f32} {X : ℕ → ℕ → EReal} (T : FVec Ideal S2x2048x32 .f32) (hy : Is y X) :
    Is (heads24 y T) fun i l => turned (X i) (cosAt T i) (sinAt T i) l := by
  intro i l
  have hi := i.isLt
  have hl := l.isLt
  pointwise [heads24, rope24, lo24, hi24, wide24]
  by_cases h : l.val % 64 < 32
  · rw [dif_pos h]
    refine turn_lo h (hy.at ?_ ?_) (hy.at ?_ ?_) (cosAt_eq T i.val (l.val % 32) _ _ _ ?_ ?_).symm (sinAt_eq T i.val (l.val % 32) _ _ _ ?_ ?_).symm <;> first | omega | (simp only []; omega)
  · rw [dif_neg h]
    refine turn_hi h (hy.at ?_ ?_) (hy.at ?_ ?_) (cosAt_eq T i.val (l.val % 32) _ _ _ ?_ ?_).symm (sinAt_eq T i.val (l.val % 32) _ _ _ ?_ ?_).symm <;> first | omega | (simp only []; omega)

/-- The columns of the queries, the keys and the values. -/
def cols (p : FVec Ideal S4096x7936 .f32) : FVec Ideal S4096x4608 .f32 := extractStridedSlice S4096x4608 ![0, 1280] p slices_S4096x7936_S4096x4608_0_1280
/-- The queries. -/
def qs (p : FVec Ideal S4096x4608 .f32) : FVec Ideal S4096x1536 .f32 := extractStridedSlice S4096x1536 ![0, 0] p slices_S4096x4608_S4096x1536_0_0
/-- The keys. -/
def ks (p : FVec Ideal S4096x4608 .f32) : FVec Ideal S4096x1536 .f32 := extractStridedSlice S4096x1536 ![0, 1536] p slices_S4096x4608_S4096x1536_0_1536
/-- The values. -/
def vs (p : FVec Ideal S4096x4608 .f32) : FVec Ideal S4096x1536 .f32 := extractStridedSlice S4096x1536 ![0, 3072] p slices_S4096x4608_S4096x1536_0_3072
/-- Queries, keys and values side by side. -/
def joined (a b d : FVec Ideal S4096x1536 .f32) : FVec Ideal S4096x4608 .f32 :=
  concatenate S4096x4608 1 [⟨S4096x1536, a⟩, ⟨S4096x1536, b⟩, ⟨S4096x1536, d⟩] concatenates_S4096x1536_S4096x1536_S4096x1536_S4096x4608_d1

section
variable {p : FVec Ideal S4096x7936 .f32} {X : ℕ → ℕ → EReal} (hp : Is p X)
include hp
theorem qs_at : Is (qs (cols p)) fun i l => X i (20 * 64 + l) := by
  intro i l
  pointwise [qs, cols]
  refine hp.at ?_ ?_ <;> first | rfl | omega | (simp only []; omega)
theorem ks_at : Is (ks (cols p)) fun i l => X i (44 * 64 + l) := by
  intro i l
  pointwise [ks, cols]
  refine hp.at ?_ ?_ <;> first | rfl | omega | (simp only []; omega)
theorem vs_at : Is (vs (cols p)) fun i l => X i (1280 + (3072 + l)) := by
  intro i l
  pointwise [vs, cols]
  refine hp.at ?_ ?_ <;> first | rfl | omega | (simp only []; omega)
end

theorem joined_at {a b d : FVec Ideal S4096x1536 .f32} {X : ℕ → ℕ → EReal} (ha : Is a fun i l => X i l) (hb : Is b fun i l => X i (1536 + l))
    (hd : Is d fun i l => X i (3072 + l)) : Is (joined a b d) X := by
  intro i l
  have hl := l.isLt
  pointwise [joined]
  by_cases h : l.val < 1536
  · rw [dif_pos h]
    exact ha _ _
  rw [dif_neg h]
  by_cases h' : l.val - 1536 < 1536
  · rw [dif_pos h', hb]
    exact congrArg (X i.val) (by first | omega | (simp only []; omega))
  · rw [dif_neg h', hd]
    exact congrArg (X i.val) (by first | omega | (simp only []; omega))

/-- What the reference ends with. -/
def outR (u : FVec Ideal S4096x1024 .bf16) (w : FVec Ideal S7936x1024 .bf16) (T : FVec Ideal S2x2048x32 .f32) : FVec Ideal S4096x4608 .f32 :=
  joined (heads24 (qs (cols (prodR u w))) T) (heads24 (ks (cols (prodR u w))) T) (vs (cols (prodR u w)))

theorem out_eq (m : (ℓ : Loc nD τ sig) → Buf (Elt Ideal) ℓ) (c : Dev nD) : Value.res_main_v69 (F := Ideal) m c =
    outR (m ((c.tc : Thread nD τ).loc main_arg0)) (m ((c.tc : Thread nD τ).loc main_arg1)) (angles (F := Ideal) (m ((c.tc : Thread nD τ).loc main_arg2))) := rfl

theorem outR_at (u : FVec Ideal S4096x1024 .bf16) (w : FVec Ideal S7936x1024 .bf16) (T : FVec Ideal S2x2048x32 .f32) : Is (outR u w T) (elem u w T 1280 3072) := by
  refine joined_at (fun i l => (heads24_at T (qs_at (prodR_at u w)) i l).trans ?_) (fun i l => (heads24_at T (ks_at (prodR_at u w)) i l).trans ?_) (fun i l => (vs_at (prodR_at u w) i l).trans ?_)
  · have hl := l.isLt
    unfold elem; dsimp only
    rw [if_pos (by omega)]
    exact turned_shift (proj u w i.val) (cosAt T i.val) (sinAt T i.val) 20 l.val _ (by omega)
  · have hl := l.isLt
    unfold elem; dsimp only
    rw [if_pos (by omega)]
    exact turned_shift (proj u w i.val) (cosAt T i.val) (sinAt T i.val) 44 l.val _ (by omega)
  · unfold elem; dsimp only
    rw [if_neg (by omega)]

end Cert.Reference15Ideal.Rope

end
-- ==== Proof.RopeRun.lean ====
/-
  The projections with rotated queries and keys: what their grid points store, and that it is what their references
  end with.
-/
module

public import proofs.«01_k».proof.Defs
public import proofs.«01_k».proof.Proof.RopeRef
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Kernel15.Frame
public import proofs.«01_k».proof.Proof.Gen.Kernel15Ideal.Frame
public import proofs.«01_k».proof.Proof.Gen.Kernel15Ideal.Value
public import Idealize.ShloMosaic.Lib.Pipeline.Value
public import Idealize.ShloMosaic.Lib.StableHlo.ReadAt

@[expose] public section

set_option maxRecDepth 16384

noncomputable section

open Idealize.ShloMosaic Idealize.ShloMosaic.TcCoe Idealize.SL.Sem Cert.Blocks
open scoped BigOperators

namespace Cert.Kernel14Ideal.Rope

open Cert.Kernel14Ideal Cert.Kernel14Ideal.Gen Cert.Rope
open Cert.KernelIdeal.Attn (angles)

/-! ## A block of the projection -/

theorem mul_at (x : FVec Ideal S2048x1024 .bf16) (y : FVec Ideal S256x1024 .bf16) (r : Fin 2048) (l : Fin 256) :
    (k0_pay1 (F := Ideal) x y) (ix2 r l) = ∑ n : Fin 1024, x (ix2 r n) * y (ix2 l n) := by
  pointwise [k0_pay1]

section
variable {u : FVec Ideal S4096x1024 .bf16} {w : FVec Ideal S7936x1024 .bf16} {T : FVec Ideal S2x2048x32 .f32} {v : FVec Ideal S2048x256 .f32} {c s : FVec Ideal S2048x128 .f32} {a k : ℕ}
  (hv : Is v fun r l => proj u w (a + r) (k * 64 + l)) (hc : Is c fun r l => cosAt T (a + r) (l % 32)) (hs : Is s fun r => signed (sinAt T (a + r)))

include hv hc hs

/-- A block of four rotated heads, from head `k` on. -/
theorem four_heads : Is (beside (turnB (lower v) (same c) (same s)) (turnB (upper v) (same c) (same s))) fun r l =>
    turned (proj u w (a + r)) (cosAt T (a + r)) (sinAt T (a + r)) (k * 64 + l) := fun r l =>
  (both_turned (C := fun r => cosAt T (a + r)) (S := fun r => sinAt T (a + r)) v c s hv hc hs r l).trans
    (turned_shift (proj u w (a + r.val)) (cosAt T (a + r.val)) (sinAt T (a + r.val)) k l.val _ rfl)
/-- A block of two rotated heads, from head `k` on. -/
theorem two_heads : Is (turnB (lower v) (same c) (same s)) fun r l => turned (proj u w (a + r)) (cosAt T (a + r)) (sinAt T (a + r)) (k * 64 + l) := fun r l =>
  (lower_turned (C := fun r => cosAt T (a + r)) (S := fun r => sinAt T (a + r)) v c s hv hc hs r l).trans
    (turned_shift (proj u w (a + r.val)) (cosAt T (a + r.val)) (sinAt T (a + r.val)) k l.val _ rfl)
end

/-! ## What a grid point stores -/

theorem payA_eq (v : FVec Ideal S2048x256 .f32) (x y : FVec Ideal S2048x128 .f32) : (k0_pay2 (F := Ideal) (k0_pay5 x) (k0_pay6 y) (k0_pay7 v x y) (k0_pay8 v) : S2048x256.Idx → EReal) =
    beside (turnB (lower v) (same x) (same y)) (turnB (upper v) (same x) (same y)) := rfl
theorem pay3_eq (x : FVec Ideal S2048x1024 .bf16) (y : FVec Ideal S256x1024 .bf16) : (k0_pay3 (F := Ideal) x y : S2048x128.Idx → EReal) = upper (k0_pay1 x y) := rfl
theorem pay9_eq (v : FVec Ideal S2048x256 .f32) (x y : FVec Ideal S2048x128 .f32) : (k0_pay9 (F := Ideal) v x y : S2048x128.Idx → EReal) = turnB (lower v) (same x) (same y) := rfl

/-- A store of 128 lanes, from lane `o` on, lies in the table it is part of. -/
theorem lies {z : FVec Ideal S2048x128 .f32} {X : ℕ → ℕ → EReal} {o : ℕ} (h : Is z fun r l => X r (o + l)) (f : (⟨2, ![2048, 128]⟩ : Shape).Idx → S2048x256.Idx)
    (h0 : ∀ x, (f x 0).val = 0 + 1 * (x 0).val) (h1 : ∀ x, (f x 1).val = o + 1 * (x 1).val) (x : (⟨2, ![2048, 128]⟩ : Shape).Idx) : z x = X (f x 0).val (f x 1).val := by
  obtain ⟨a, b, rfl⟩ : ∃ (a : Fin 2048) (b : Fin 128), x = ix2 a b := ⟨x 0, x 1, eq_ix2 x⟩
  rw [h0, h1, h a b]
  exact congrArg₂ X (by simp only [ix2]; omega) (by simp only [ix2]; omega)

section Run

variable (c : Dev nD) (i : grid0.Coords) (a2 : Memref sig .tc .vmem S2048x1024 .bf16) (h2 : a2.IsWhole) (a3 : Memref sig .tc .vmem S256x1024 .bf16) (h3 : a3.IsWhole)
  (a4 : Memref sig .tc .vmem S2048x128 .f32) (h4 : a4.IsWhole) (a5 : Memref sig .tc .vmem S2048x128 .f32) (h5 : a5.IsWhole) (a6 : Memref sig .tc .vmem S2048x256 .bf16) (h6 : a6.IsWhole)
  (x0 : Vec Ideal S2048x1024 .bf16) (x1 : Vec Ideal S256x1024 .bf16) (x2 x3 : Vec Ideal S2048x128 .f32)

/-- A point of the rotated heads stores four of them. -/
theorem outA_eq (g0 : cond0_0 i) (g1 : ¬cond0_1 i) (g2 : ¬cond0_2 i) : out0_A_4 c i a2 h2 a3 h3 a4 h4 a5 h5 a6 h6 g0 g1 g2 x0 x1 x2 x3 =
    k0_pay2 (k0_pay5 x2) (k0_pay6 x3) (k0_pay7 (k0_pay1 x0 x1) x2 x3) (k0_pay8 (k0_pay1 x0 x1)) := by
  unfold out0_A_4
  rw [View.read_writes_eq_canon _ _ _ (cover0_A_4 c i a2 h2 a3 h3 a4 h4 a5 h5 a6 h6 g0 g1 g2 x0 x1 x2 x3)]
  unfold kernelRun0_A
  dsimp only
  rw [View.canon_unit_zero hz2]
  unfold kernelRun0_A.sl.r kernelRun0_A.sl.r_1 kernelRun0_A.sl.r_2 kernelRun0_A.sl.r_3
  simp only [View.readAt_eq_ld, h2.read_unread, h3.read_unread, h4.read_unread, h5.read_unread, View.ld_unit_zero (S := S2048x1024) hz2, View.ld_unit_zero (S := S256x1024) hz2,
    View.ld_unit_zero (S := S2048x128) hz2]

/-- The last point of a row stores two rotated heads and the values. -/
theorem outB_is (g0 : ¬cond0_0 i) (g1 : cond0_1 i) (g2 : ¬cond0_2 i) {X : ℕ → ℕ → EReal}
    (hl : Is (turnB (lower (k0_pay1 x0 x1)) (same x2) (same x3)) fun r l => X r l) (hu : Is (upper (k0_pay1 x0 x1)) fun r l => X r (128 + l)) :
    Is (out0_B_4 c i a2 h2 a3 h3 a4 h4 a5 h5 a6 h6 g0 g1 g2 x0 x1 x2 x3) X := by
  intro r l
  have hl' : Is (turnB (lower (k0_pay1 x0 x1)) (same x2) (same x3)) fun r l => X r (0 + l) := fun r l => (hl r l).trans (congrArg (X r.val) (Nat.zero_add l.val).symm)
  unfold out0_B_4
  rw [View.read_writes_eq_canon _ _ _ (cover0_B_4 c i a2 h2 a3 h3 a4 h4 a5 h5 a6 h6 g0 g1 g2 x0 x1 x2 x3)]
  refine View.canon_apply_of_pieces (fun y => X (y 0).val (y 1).val) _ ?_ (ix2 r l) (cover0_B_4 c i a2 h2 a3 h3 a4 h4 a5 h5 a6 h6 g0 g1 g2 x0 x1 x2 x3 (ix2 r l))
  unfold kernelRun0_B
  dsimp only
  unfold kernelRun0_B.sl.r
  simp only [View.readAt_eq_ld, h2.read_unread, h3.read_unread, h4.read_unread, h5.read_unread, View.ld_unit_zero (S := S2048x1024) hz2, View.ld_unit_zero (S := S256x1024) hz2,
    View.ld_unit_zero (S := S2048x128) hz2]
  rw [show (k0_pay3 (F := Ideal) x0 x1) = upper (k0_pay1 x0 x1) from pay3_eq x0 x1, show (k0_pay9 (F := Ideal) (k0_pay1 x0 x1) x2 x3) = turnB (lower (k0_pay1 x0 x1)) (same x2) (same x3) from pay9_eq _ x2 x3]
  intro p hp x
  rcases List.mem_cons.mp hp with rfl | hp
  · exact lies (o := 128) hu _ (fun _ => rfl) (fun _ => rfl) x
  · obtain rfl := List.mem_singleton.mp hp
    exact lies (o := 0) hl' _ (fun _ => rfl) (fun _ => rfl) x

end Run

/-! ## The kernel's result -/

section Result

variable (m : (r : Loc nD τ sig) → Buf (Elt Ideal) r) (c : Dev nD)

/-- The normalised input. -/
abbrev inp : FVec Ideal S4096x1024 .bf16 := V m c main_arg0
/-- The weights. -/
abbrev wts : FVec Ideal S7936x1024 .bf16 := V m c main_arg1
/-- The angles. -/
abbrev ang : FVec Ideal S2x2048x32 .f32 := angles (F := Ideal) (m ((c : Thread nD τ).loc main_arg2))

theorem cos_eq : (V m c main_v18 : FVec Ideal S4096x128 .f32) = cosTab (ang m c) := by
  show StableHlo.after hostOps0 (fun b => m (c, b)) main_v18 = _
  after_reads_simp
  all_goals rfl
theorem sin_eq : (V m c main_v19 : FVec Ideal S4096x128 .f32) = sinTab (ang m c) := by
  show StableHlo.after hostOps0 (fun b => m (c, b)) main_v19 = _
  after_reads_simp
  all_goals rfl

theorem index_of : ∀ t : Fin cfg0.N, win0_0.index t = ![t.val / 5, 0] ∧ win0_1.index t = ![t.val % 5, 0] ∧ win0_2.index t = ![t.val / 5, 0] ∧ win0_3.index t = ![t.val / 5, 0]
    ∧ win0_4.index t = ![t.val / 5, t.val % 5] :=
  (by decide +kernel : ∀ t : Fin grid0.N, _)

section Block

variable (t : Fin cfg0.N)

theorem lt_N : t.val < 10 := lt_of_lt_of_eq t.isLt N_0

theorem prod_is : Is (k0_pay1 (F := Ideal) (iblk m c 0 t) (iblk m c 1 t)) fun r l => proj (inp m c) (wts m c) (t.val / 5 * 2048 + r) (t.val % 5 * 4 * 64 + l) := by
  intro r l
  have ht := lt_N t
  have hr := r.isLt
  have hl := l.isLt
  refine (mul_at (iblk m c 0 t) (iblk m c 1 t) r l).trans (Eq.trans (Finset.sum_congr rfl fun n _ => ?_) (proj_eq (inp m c) (wts m c) _ _ ⟨t.val / 5 * 2048 + r.val, by omega⟩ ⟨t.val % 5 * 4 * 64 + l.val, by omega⟩ rfl rfl))
  exact congrArg₂ (· * ·) (block_at (index_of t).1 (inp m c) ((cfg0.win 0).blk t).view.emb (fun _ _ => ⟨rfl, rfl⟩) r n _ n rfl (by omega))
    (block_at (index_of t).2.1 (wts m c) ((cfg0.win 1).blk t).view.emb (fun _ _ => ⟨rfl, rfl⟩) l n _ n (by simp only []; omega) (by omega))

theorem cos_is : Is (iblk m c 2 t : FVec Ideal S2048x128 .f32) fun r l => cosAt (ang m c) (t.val / 5 * 2048 + r) (l % 32) := by
  intro r l
  have ht := lt_N t
  have hr := r.isLt
  refine (block_at (index_of t).2.2.1 (V m c main_v18) ((cfg0.win 2).blk t).view.emb (fun _ _ => ⟨rfl, rfl⟩) r l ⟨t.val / 5 * 2048 + r.val, by omega⟩ l rfl (by omega)).trans ?_
  rw [cos_eq]
  exact cosTab_at (ang m c) _ l
theorem sin_is : Is (iblk m c 3 t : FVec Ideal S2048x128 .f32) fun r => signed (sinAt (ang m c) (t.val / 5 * 2048 + r)) := by
  intro r l
  have ht := lt_N t
  have hr := r.isLt
  refine (block_at (index_of t).2.2.2.1 (V m c main_v19) ((cfg0.win 3).blk t).view.emb (fun _ _ => ⟨rfl, rfl⟩) r l ⟨t.val / 5 * 2048 + r.val, by omega⟩ l rfl (by omega)).trans ?_
  rw [sin_eq]
  exact sinTab_at (ang m c) _ l

/-- What a point writes back. -/
theorem flushed_is : Is ((dats m 0 c).flushed 4 t : S2048x256.Idx → EReal) fun r l => elem (inp m c) (wts m c) (ang m c) 0 1152 (t.val / 5 * 2048 + r) (t.val % 5 * 256 + l) := by
  intro r l
  have ht := lt_N t
  have hl := l.isLt
  have p := prod_is m c t
  have q := cos_is m c t
  have s := sin_is m c t
  by_cases h : t.val % 5 = 4
  · rw [Value.flushed4_B m c t (by omega) h]
    refine (outB_is c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)
      _ _ _ (X := fun r l => elem (inp m c) (wts m c) (ang m c) 0 1152 (t.val / 5 * 2048 + r) (t.val % 5 * 256 + l)) ?_ ?_ r l)
    · intro r l
      have hl := l.isLt
      refine (two_heads p q s r l).trans ?_
      unfold elem; dsimp only
      rw [if_pos (by omega), Nat.zero_add, show t.val % 5 * 4 * 64 = t.val % 5 * 256 by omega]
    · intro r l
      refine (upper_at _ p r l).trans ?_
      unfold elem; dsimp only
      rw [if_neg (by omega), Nat.zero_add, show t.val % 5 * 4 * 64 = t.val % 5 * 256 by omega]
  · rw [Value.flushed4_A m c t (by omega) h, outA_eq, payA_eq]
    refine (four_heads p q s r l).trans ?_
    unfold elem; dsimp only
    rw [if_pos (by omega), Nat.zero_add, show t.val % 5 * 4 * 64 = t.val % 5 * 256 by omega]

end Block

/-- The point that writes row `i`, column `j`. -/
abbrev pointOf (i : Fin 4096) (j : Fin 1280) : Fin cfg0.N := ⟨i.val / 2048 * 5 + j.val / 256, lt_of_lt_of_eq (by omega) N_0.symm⟩

theorem result_at : Is ((dats m 0 c).arrAt 4 cfg0.N : S4096x1280.Idx → EReal) (elem (inp m c) (wts m c) (ang m c) 0 1152) := by
  intro i j
  have hi := i.isLt
  have hj := j.isLt
  have e : (pointOf i j).val = i.val / 2048 * 5 + j.val / 256 := rfl
  have b := congrFun (Value.blocks4 m c (pointOf i j) (by rw [flush0_4])) (ix2 (⟨i.val % 2048, by omega⟩ : Fin 2048) (⟨j.val % 256, by omega⟩ : Fin 256))
  refine (block_at (index_of (pointOf i j)).2.2.2.2 ((dats m 0 c).arrAt 4 cfg0.N) ((cfg0.win 4).blk (pointOf i j)).view.emb (fun _ _ => ⟨rfl, rfl⟩) _ _ i j (by simp only []; omega)
    (by simp only []; omega)).symm.trans (b.trans ((flushed_is m c (pointOf i j) _ _).trans ?_))
  exact congrArg₂ (elem (inp m c) (wts m c) (ang m c) 0 1152) (by simp only []; omega) (by simp only []; omega)

end Result

end Cert.Kernel14Ideal.Rope

namespace Cert.ProjAClaims

open Cert.Rope

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
theorem preserves : Cert.preserves_Kernel14_Kernel14Ideal := trivial

/-- The kernel and the reference end with the same queries, keys and values. -/
theorem algebraic : Cert.algebraic_Kernel14Ideal_Reference14Ideal := by
  intro m g m' g' _ hagree
  refine ⟨fun c => (Cert.Kernel14Ideal.Gen.dats m 0 c).arrAt 4 Cert.Kernel14Ideal.cfg0.N, Cert.Kernel14Ideal.Value.run_blocks (F := Ideal) m g,
    (θ_run Cert.Reference14Ideal.defs _ _).mono (fun r h (c : Dev Cert.Kernel14Ideal.nD) => ?_) (Cert.Reference14Ideal.Value.run (F := Ideal) m' g')⟩
  obtain ⟨h0, h1, h2⟩ := hagree c
  obtain ⟨r0, hk⟩ := h c
  refine ⟨r0.trans ((Cert.Reference14Ideal.Rope.out_eq m' c).trans ?_), hk⟩
  rw [h0, h1, h2]
  funext i
  obtain ⟨a, b, rfl⟩ : ∃ (a : Fin 4096) (b : Fin 1280), i = ix2 a b := ⟨i 0, i 1, eq_ix2 i⟩
  have k := Cert.Kernel14Ideal.Rope.result_at m c a b
  unfold Cert.Kernel14Ideal.Rope.inp Cert.Kernel14Ideal.Rope.wts at k
  rw [Cert.Kernel14Ideal.Gen.V_main_arg0, Cert.Kernel14Ideal.Gen.V_main_arg1] at k
  exact (Cert.Reference14Ideal.Rope.outR_at _ _ _ a b).trans k.symm

end Cert.ProjAClaims

namespace Cert.Kernel15Ideal.Rope

open Cert.Kernel15Ideal Cert.Kernel15Ideal.Gen Cert.Rope
open Cert.KernelIdeal.Attn (angles)
open Cert.Kernel14Ideal.Rope (beside turnB lower upper same cosTab sinTab cosTab_at sinTab_at four_heads mul_at)

section Run

variable (c : Dev nD) (i : grid0.Coords) (a2 : Memref sig .tc .vmem S2048x1024 .bf16) (h2 : a2.IsWhole) (a3 : Memref sig .tc .vmem S256x1024 .bf16) (h3 : a3.IsWhole)
  (a4 : Memref sig .tc .vmem S2048x128 .f32) (h4 : a4.IsWhole) (a5 : Memref sig .tc .vmem S2048x128 .f32) (h5 : a5.IsWhole) (a6 : Memref sig .tc .vmem S2048x256 .f32) (h6 : a6.IsWhole)
  (x0 : Vec Ideal S2048x1024 .bf16) (x1 : Vec Ideal S256x1024 .bf16) (x2 x3 : Vec Ideal S2048x128 .f32)

/-- A point of the rotated heads stores four of them. -/
theorem outA_eq (g0 : cond0_0 i) (g1 : ¬cond0_1 i) : out0_A_4 c i a2 h2 a3 h3 a4 h4 a5 h5 a6 h6 g0 g1 x0 x1 x2 x3 =
    k0_pay2 (k0_pay3 x2) (k0_pay4 x3) (k0_pay5 (k0_pay1 x0 x1) x2 x3) (k0_pay6 (k0_pay1 x0 x1)) := by
  unfold out0_A_4
  rw [View.read_writes_eq_canon _ _ _ (cover0_A_4 c i a2 h2 a3 h3 a4 h4 a5 h5 a6 h6 g0 g1 x0 x1 x2 x3)]
  unfold kernelRun0_A
  dsimp only
  rw [View.canon_unit_zero hz2]
  unfold kernelRun0_A.sl.r kernelRun0_A.sl.r_1 kernelRun0_A.sl.r_2 kernelRun0_A.sl.r_3
  simp only [View.readAt_eq_ld, h2.read_unread, h3.read_unread, h4.read_unread, h5.read_unread, View.ld_unit_zero (S := S2048x1024) hz2, View.ld_unit_zero (S := S256x1024) hz2,
    View.ld_unit_zero (S := S2048x128) hz2]

/-- A point of the values stores its block of the projection. -/
theorem outB_eq (g0 : ¬cond0_0 i) (g1 : cond0_1 i) : out0_B_4 c i a2 h2 a3 h3 a4 h4 a5 h5 a6 h6 g0 g1 x0 x1 x2 x3 = k0_pay1 x0 x1 := by
  unfold out0_B_4
  rw [View.read_writes_eq_canon _ _ _ (cover0_B_4 c i a2 h2 a3 h3 a4 h4 a5 h5 a6 h6 g0 g1 x0 x1 x2 x3)]
  unfold kernelRun0_B
  dsimp only
  rw [View.canon_unit_zero hz2]
  simp only [View.readAt_eq_ld, h2.read_unread, h3.read_unread, View.ld_unit_zero (S := S2048x1024) hz2, View.ld_unit_zero (S := S256x1024) hz2]

end Run

theorem payA_eq (v : FVec Ideal S2048x256 .f32) (x y : FVec Ideal S2048x128 .f32) : (k0_pay2 (F := Ideal) (k0_pay3 x) (k0_pay4 y) (k0_pay5 v x y) (k0_pay6 v) : S2048x256.Idx → EReal) =
    beside (turnB (lower v) (same x) (same y)) (turnB (upper v) (same x) (same y)) := rfl

section Result

variable (m : (r : Loc nD τ sig) → Buf (Elt Ideal) r) (c : Dev nD)

/-- The normalised input. -/
abbrev inp : FVec Ideal S4096x1024 .bf16 := V m c main_arg0
/-- The weights. -/
abbrev wts : FVec Ideal S7936x1024 .bf16 := V m c main_arg1
/-- The angles. -/
abbrev ang : FVec Ideal S2x2048x32 .f32 := angles (F := Ideal) (m ((c : Thread nD τ).loc main_arg2))

theorem cos_eq : (V m c main_v18 : FVec Ideal S4096x128 .f32) = cosTab (ang m c) := by
  show StableHlo.after hostOps0 (fun b => m (c, b)) main_v18 = _
  after_reads_simp
  all_goals rfl
theorem sin_eq : (V m c main_v19 : FVec Ideal S4096x128 .f32) = sinTab (ang m c) := by
  show StableHlo.after hostOps0 (fun b => m (c, b)) main_v19 = _
  after_reads_simp
  all_goals rfl

theorem index_of : ∀ t : Fin cfg0.N, win0_0.index t = ![t.val / 18, 0] ∧ win0_1.index t = ![t.val % 18 + 5, 0] ∧ win0_2.index t = ![t.val / 18, 0] ∧ win0_3.index t = ![t.val / 18, 0]
    ∧ win0_4.index t = ![t.val / 18, t.val % 18] :=
  (by decide +kernel : ∀ t : Fin grid0.N, _)

section Block

variable (t : Fin cfg0.N)

theorem lt_N : t.val < 36 := lt_of_lt_of_eq t.isLt N_0

theorem prod_is : Is (k0_pay1 (F := Ideal) (iblk m c 0 t) (iblk m c 1 t)) fun r l => proj (inp m c) (wts m c) (t.val / 18 * 2048 + r) ((t.val % 18 + 5) * 4 * 64 + l) := by
  intro r l
  have ht := lt_N t
  have hr := r.isLt
  have hl := l.isLt
  refine (mul_at (iblk m c 0 t) (iblk m c 1 t) r l).trans (Eq.trans (Finset.sum_congr rfl fun n _ => ?_) (proj_eq (inp m c) (wts m c) _ _ ⟨t.val / 18 * 2048 + r.val, by omega⟩ ⟨(t.val % 18 + 5) * 4 * 64 + l.val, by omega⟩ rfl rfl))
  exact congrArg₂ (· * ·) (block_at (index_of t).1 (inp m c) ((cfg0.win 0).blk t).view.emb (fun _ _ => ⟨rfl, rfl⟩) r n _ n rfl (by omega))
    (block_at (index_of t).2.1 (wts m c) ((cfg0.win 1).blk t).view.emb (fun _ _ => ⟨rfl, rfl⟩) l n _ n (by simp only []; omega) (by omega))

theorem cos_is : Is (iblk m c 2 t : FVec Ideal S2048x128 .f32) fun r l => cosAt (ang m c) (t.val / 18 * 2048 + r) (l % 32) := by
  intro r l
  have ht := lt_N t
  have hr := r.isLt
  refine (block_at (index_of t).2.2.1 (V m c main_v18) ((cfg0.win 2).blk t).view.emb (fun _ _ => ⟨rfl, rfl⟩) r l ⟨t.val / 18 * 2048 + r.val, by omega⟩ l rfl (by omega)).trans ?_
  rw [cos_eq]
  exact cosTab_at (ang m c) _ l
theorem sin_is : Is (iblk m c 3 t : FVec Ideal S2048x128 .f32) fun r => signed (sinAt (ang m c) (t.val / 18 * 2048 + r)) := by
  intro r l
  have ht := lt_N t
  have hr := r.isLt
  refine (block_at (index_of t).2.2.2.1 (V m c main_v19) ((cfg0.win 3).blk t).view.emb (fun _ _ => ⟨rfl, rfl⟩) r l ⟨t.val / 18 * 2048 + r.val, by omega⟩ l rfl (by omega)).trans ?_
  rw [sin_eq]
  exact sinTab_at (ang m c) _ l

/-- What a point writes back. -/
theorem flushed_is : Is ((dats m 0 c).flushed 4 t : S2048x256.Idx → EReal) fun r l => elem (inp m c) (wts m c) (ang m c) 1280 3072 (t.val / 18 * 2048 + r) (t.val % 18 * 256 + l) := by
  intro r l
  have ht := lt_N t
  have hl := l.isLt
  have p := prod_is m c t
  by_cases h : t.val % 18 ≤ 11
  · rw [Value.flushed4_A m c t h (by omega), outA_eq, payA_eq]
    refine (four_heads p (cos_is m c t) (sin_is m c t) r l).trans ?_
    unfold elem; dsimp only
    rw [if_pos (by omega), show (t.val % 18 + 5) * 4 * 64 + l.val = 1280 + (t.val % 18 * 256 + l.val) by omega]
  · rw [Value.flushed4_B m c t h (by omega), outB_eq]
    refine (p r l).trans ?_
    unfold elem; dsimp only
    rw [if_neg (by omega), show (t.val % 18 + 5) * 4 * 64 + l.val = 1280 + (t.val % 18 * 256 + l.val) by omega]

end Block

/-- The point that writes row `i`, column `j`. -/
abbrev pointOf (i : Fin 4096) (j : Fin 4608) : Fin cfg0.N := ⟨i.val / 2048 * 18 + j.val / 256, lt_of_lt_of_eq (by omega) N_0.symm⟩

theorem result_at : Is ((dats m 0 c).arrAt 4 cfg0.N : S4096x4608.Idx → EReal) (elem (inp m c) (wts m c) (ang m c) 1280 3072) := by
  intro i j
  have hi := i.isLt
  have hj := j.isLt
  have e : (pointOf i j).val = i.val / 2048 * 18 + j.val / 256 := rfl
  have b := congrFun (Value.blocks4 m c (pointOf i j) (by rw [flush0_4])) (ix2 (⟨i.val % 2048, by omega⟩ : Fin 2048) (⟨j.val % 256, by omega⟩ : Fin 256))
  refine (block_at (index_of (pointOf i j)).2.2.2.2 ((dats m 0 c).arrAt 4 cfg0.N) ((cfg0.win 4).blk (pointOf i j)).view.emb (fun _ _ => ⟨rfl, rfl⟩) _ _ i j (by simp only []; omega)
    (by simp only []; omega)).symm.trans (b.trans ((flushed_is m c (pointOf i j) _ _).trans ?_))
  exact congrArg₂ (elem (inp m c) (wts m c) (ang m c) 1280 3072) (by simp only []; omega) (by simp only []; omega)

end Result

end Cert.Kernel15Ideal.Rope

namespace Cert.ProjBClaims

open Cert.Rope

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)
theorem preserves : Cert.preserves_Kernel15_Kernel15Ideal := trivial

/-- The kernel and the reference end with the same queries, keys and values. -/
theorem algebraic : Cert.algebraic_Kernel15Ideal_Reference15Ideal := by
  intro m g m' g' _ hagree
  refine ⟨fun c => (Cert.Kernel15Ideal.Gen.dats m 0 c).arrAt 4 Cert.Kernel15Ideal.cfg0.N, Cert.Kernel15Ideal.Value.run_blocks (F := Ideal) m g,
    (θ_run Cert.Reference15Ideal.defs _ _).mono (fun r h (c : Dev Cert.Kernel15Ideal.nD) => ?_) (Cert.Reference15Ideal.Value.run (F := Ideal) m' g')⟩
  obtain ⟨h0, h1, h2⟩ := hagree c
  obtain ⟨r0, hk⟩ := h c
  refine ⟨r0.trans ((Cert.Reference15Ideal.Rope.out_eq m' c).trans ?_), hk⟩
  rw [h0, h1, h2]
  funext i
  obtain ⟨a, b, rfl⟩ : ∃ (a : Fin 4096) (b : Fin 4608), i = ix2 a b := ⟨i 0, i 1, eq_ix2 i⟩
  have k := Cert.Kernel15Ideal.Rope.result_at m c a b
  unfold Cert.Kernel15Ideal.Rope.inp Cert.Kernel15Ideal.Rope.wts at k
  rw [Cert.Kernel15Ideal.Gen.V_main_arg0, Cert.Kernel15Ideal.Gen.V_main_arg1] at k
  exact (Cert.Reference15Ideal.Rope.outR_at _ _ _ a b).trans k.symm

end Cert.ProjBClaims

end
-- ==== Proof.lean ====
/-
  The claims of the statement, put together from the modules that prove them, one call of the version after the other.
-/
module

public import proofs.«01_k».proof.Defs
public import proofs.«01_k».proof.Proof.Claims
public import proofs.«01_k».proof.Proof.GradXRun
public import proofs.«01_k».proof.Proof.Gates
public import proofs.«01_k».proof.Proof.Silu
public import proofs.«01_k».proof.Proof.WGrad
public import proofs.«01_k».proof.Proof.WGradMlp
public import proofs.«01_k».proof.Proof.GateUp
public import proofs.«01_k».proof.Proof.Products
public import proofs.«01_k».proof.Proof.OutNorm
public import proofs.«01_k».proof.Proof.RopeRun
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Pre_finite
public import proofs.«01_k».proof.Proof.Gen.Pre_finite_swiglu
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts, Cert.Pre_finite_swiglu.Gen.facts,
  AttnClaims.frame_p, AttnClaims.frame_pi, AttnClaims.frame_pi_pre, AttnClaims.frame_ri, AttnClaims.frame_ri_pre,
  GradXClaims.frame_p, GradXClaims.frame_pi, GradXClaims.frame_ri,
  GatesClaims.frame_p, GatesClaims.frame_pi, GatesClaims.frame_ri,
  SiluClaims.frame_p, SiluClaims.frame_pi, SiluClaims.frame_pi_pre, SiluClaims.frame_ri, SiluClaims.frame_ri_pre,
  WgradClaims.frame_p, WgradClaims.frame_pi, WgradClaims.frame_ri,
  OutWgradClaims.frame_p, OutWgradClaims.frame_pi, OutWgradClaims.frame_ri,
  GateUpWgradClaims.frame_p, GateUpWgradClaims.frame_pi, GateUpWgradClaims.frame_ri,
  DownWgradClaims.frame_p, DownWgradClaims.frame_pi, DownWgradClaims.frame_ri,
  BranchBWgradClaims.frame_p, BranchBWgradClaims.frame_pi, BranchBWgradClaims.frame_ri,
  GateUpClaims.frame_p, GateUpClaims.frame_pi, GateUpClaims.frame_ri,
  GatesForwardClaims.frame_p, GatesForwardClaims.frame_pi, GatesForwardClaims.frame_ri,
  BranchAClaims.frame_p, BranchAClaims.frame_pi, BranchAClaims.frame_ri,
  OutNormClaims.frame_p, OutNormClaims.frame_pi, OutNormClaims.frame_ri,
  ProjAClaims.frame_p, ProjAClaims.frame_pi, ProjAClaims.frame_ri,
  ProjBClaims.frame_p, ProjBClaims.frame_pi, ProjBClaims.frame_ri,
  AttnClaims.preserves, AttnClaims.algebraic,
  GradXClaims.preserves, GradXClaims.algebraic,
  GatesClaims.preserves, GatesClaims.algebraic,
  SiluClaims.preserves, SiluClaims.algebraic,
  WgradClaims.preserves, WgradClaims.algebraic,
  OutWgradClaims.preserves, OutWgradClaims.algebraic,
  GateUpWgradClaims.preserves, GateUpWgradClaims.algebraic,
  DownWgradClaims.preserves, DownWgradClaims.algebraic,
  BranchBWgradClaims.preserves, BranchBWgradClaims.algebraic,
  GateUpClaims.preserves, GateUpClaims.algebraic,
  GatesForwardClaims.preserves, GatesForwardClaims.algebraic,
  BranchAClaims.preserves, BranchAClaims.algebraic,
  OutNormClaims.preserves, OutNormClaims.algebraic,
  ProjAClaims.preserves, ProjAClaims.algebraic,
  ProjBClaims.preserves, ProjBClaims.algebraic⟩

end Cert.Proof

end
